-- ==== Defs.lean ====
def Pre_Dn3 (m : (ℓ : Loc Cert.Dn3.nD Cert.Dn3.τ Cert.Dn3.sig) → Buf (Elt Bits) ℓ) : Prop :=
  True

def Pre_Dn3Ideal (m : (ℓ : Loc Cert.Dn3Ideal.nD Cert.Dn3Ideal.τ Cert.Dn3Ideal.sig) → Buf (Elt Ideal) ℓ) : Prop :=
  True

def Pre_Dn3Ideal_finite_dn3 [hPre_finite_dn3 : Cert.Pre_finite_dn3.Facts] (m : (ℓ : Loc Cert.Dn3Ideal.nD Cert.Dn3Ideal.τ Cert.Dn3Ideal.sig) → Buf (Elt Ideal) ℓ) : Prop :=
  ∀ c : Dev Cert.Dn3Ideal.nD,
    (Cert.Pre_finite_dn3.fn (F := Ideal) (m ((c.tc : Thread Cert.Dn3Ideal.nD Cert.Dn3Ideal.τ).loc Cert.Dn3Ideal.main_arg0)) (m ((c.tc : Thread Cert.Dn3Ideal.nD Cert.Dn3Ideal.τ).loc Cert.Dn3Ideal.main_arg1)) (m ((c.tc : Thread Cert.Dn3Ideal.nD Cert.Dn3Ideal.τ).loc Cert.Dn3Ideal.main_arg2)) (m ((c.tc : Thread Cert.Dn3Ideal.nD Cert.Dn3Ideal.τ).loc Cert.Dn3Ideal.main_arg3)) (m ((c.tc : Thread Cert.Dn3Ideal.nD Cert.Dn3Ideal.τ).loc Cert.Dn3Ideal.main_arg4))).1 = (fun _ => 1#1)
    ∧ (Cert.Pre_finite_dn3.fn (F := Ideal) (m ((c.tc : Thread Cert.Dn3Ideal.nD Cert.Dn3Ideal.τ).loc Cert.Dn3Ideal.main_arg0)) (m ((c.tc : Thread Cert.Dn3Ideal.nD Cert.Dn3Ideal.τ).loc Cert.Dn3Ideal.main_arg1)) (m ((c.tc : Thread Cert.Dn3Ideal.nD Cert.Dn3Ideal.τ).loc Cert.Dn3Ideal.main_arg2)) (m ((c.tc : Thread Cert.Dn3Ideal.nD Cert.Dn3Ideal.τ).loc Cert.Dn3Ideal.main_arg3)) (m ((c.tc : Thread Cert.Dn3Ideal.nD Cert.Dn3Ideal.τ).loc Cert.Dn3Ideal.main_arg4))).2.1 = (fun _ => 1#1)
    ∧ (Cert.Pre_finite_dn3.fn (F := Ideal) (m ((c.tc : Thread Cert.Dn3Ideal.nD Cert.Dn3Ideal.τ).loc Cert.Dn3Ideal.main_arg0)) (m ((c.tc : Thread Cert.Dn3Ideal.nD Cert.Dn3Ideal.τ).loc Cert.Dn3Ideal.main_arg1)) (m ((c.tc : Thread Cert.Dn3Ideal.nD Cert.Dn3Ideal.τ).loc Cert.Dn3Ideal.main_arg2)) (m ((c.tc : Thread Cert.Dn3Ideal.nD Cert.Dn3Ideal.τ).loc Cert.Dn3Ideal.main_arg3)) (m ((c.tc : Thread Cert.Dn3Ideal.nD Cert.Dn3Ideal.τ).loc Cert.Dn3Ideal.main_arg4))).2.2.1 = (fun _ => 1#1)
    ∧ (Cert.Pre_finite_dn3.fn (F := Ideal) (m ((c.tc : Thread Cert.Dn3Ideal.nD Cert.Dn3Ideal.τ).loc Cert.Dn3Ideal.main_arg0)) (m ((c.tc : Thread Cert.Dn3Ideal.nD Cert.Dn3Ideal.τ).loc Cert.Dn3Ideal.main_arg1)) (m ((c.tc : Thread Cert.Dn3Ideal.nD Cert.Dn3Ideal.τ).loc Cert.Dn3Ideal.main_arg2)) (m ((c.tc : Thread Cert.Dn3Ideal.nD Cert.Dn3Ideal.τ).loc Cert.Dn3Ideal.main_arg3)) (m ((c.tc : Thread Cert.Dn3Ideal.nD Cert.Dn3Ideal.τ).loc Cert.Dn3Ideal.main_arg4))).2.2.2 = (fun _ => 1#1)

def Pre_Dn3RefIdeal (m : (ℓ : Loc Cert.Dn3RefIdeal.nD Cert.Dn3RefIdeal.τ Cert.Dn3RefIdeal.sig) → Buf (Elt Ideal) ℓ) : Prop :=
  True

def Pre_Dn3RefIdeal_finite_dn3 [hPre_finite_dn3 : Cert.Pre_finite_dn3.Facts] (m : (ℓ : Loc Cert.Dn3RefIdeal.nD Cert.Dn3RefIdeal.τ Cert.Dn3RefIdeal.sig) → Buf (Elt Ideal) ℓ) : Prop :=
  ∀ c : Dev Cert.Dn3RefIdeal.nD,
    (Cert.Pre_finite_dn3.fn (F := Ideal) (m ((c.tc : Thread Cert.Dn3RefIdeal.nD Cert.Dn3RefIdeal.τ).loc Cert.Dn3RefIdeal.main_arg0)) (m ((c.tc : Thread Cert.Dn3RefIdeal.nD Cert.Dn3RefIdeal.τ).loc Cert.Dn3RefIdeal.main_arg1)) (m ((c.tc : Thread Cert.Dn3RefIdeal.nD Cert.Dn3RefIdeal.τ).loc Cert.Dn3RefIdeal.main_arg2)) (m ((c.tc : Thread Cert.Dn3RefIdeal.nD Cert.Dn3RefIdeal.τ).loc Cert.Dn3RefIdeal.main_arg3)) (m ((c.tc : Thread Cert.Dn3RefIdeal.nD Cert.Dn3RefIdeal.τ).loc Cert.Dn3RefIdeal.main_arg4))).1 = (fun _ => 1#1)
    ∧ (Cert.Pre_finite_dn3.fn (F := Ideal) (m ((c.tc : Thread Cert.Dn3RefIdeal.nD Cert.Dn3RefIdeal.τ).loc Cert.Dn3RefIdeal.main_arg0)) (m ((c.tc : Thread Cert.Dn3RefIdeal.nD Cert.Dn3RefIdeal.τ).loc Cert.Dn3RefIdeal.main_arg1)) (m ((c.tc : Thread Cert.Dn3RefIdeal.nD Cert.Dn3RefIdeal.τ).loc Cert.Dn3RefIdeal.main_arg2)) (m ((c.tc : Thread Cert.Dn3RefIdeal.nD Cert.Dn3RefIdeal.τ).loc Cert.Dn3RefIdeal.main_arg3)) (m ((c.tc : Thread Cert.Dn3RefIdeal.nD Cert.Dn3RefIdeal.τ).loc Cert.Dn3RefIdeal.main_arg4))).2.1 = (fun _ => 1#1)
    ∧ (Cert.Pre_finite_dn3.fn (F := Ideal) (m ((c.tc : Thread Cert.Dn3RefIdeal.nD Cert.Dn3RefIdeal.τ).loc Cert.Dn3RefIdeal.main_arg0)) (m ((c.tc : Thread Cert.Dn3RefIdeal.nD Cert.Dn3RefIdeal.τ).loc Cert.Dn3RefIdeal.main_arg1)) (m ((c.tc : Thread Cert.Dn3RefIdeal.nD Cert.Dn3RefIdeal.τ).loc Cert.Dn3RefIdeal.main_arg2)) (m ((c.tc : Thread Cert.Dn3RefIdeal.nD Cert.Dn3RefIdeal.τ).loc Cert.Dn3RefIdeal.main_arg3)) (m ((c.tc : Thread Cert.Dn3RefIdeal.nD Cert.Dn3RefIdeal.τ).loc Cert.Dn3RefIdeal.main_arg4))).2.2.1 = (fun _ => 1#1)
    ∧ (Cert.Pre_finite_dn3.fn (F := Ideal) (m ((c.tc : Thread Cert.Dn3RefIdeal.nD Cert.Dn3RefIdeal.τ).loc Cert.Dn3RefIdeal.main_arg0)) (m ((c.tc : Thread Cert.Dn3RefIdeal.nD Cert.Dn3RefIdeal.τ).loc Cert.Dn3RefIdeal.main_arg1)) (m ((c.tc : Thread Cert.Dn3RefIdeal.nD Cert.Dn3RefIdeal.τ).loc Cert.Dn3RefIdeal.main_arg2)) (m ((c.tc : Thread Cert.Dn3RefIdeal.nD Cert.Dn3RefIdeal.τ).loc Cert.Dn3RefIdeal.main_arg3)) (m ((c.tc : Thread Cert.Dn3RefIdeal.nD Cert.Dn3RefIdeal.τ).loc Cert.Dn3RefIdeal.main_arg4))).2.2.2 = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_att [hPre_finite_att : Cert.Pre_finite_att.Facts] (m : (ℓ : Loc Cert.AttIdeal.nD Cert.AttIdeal.τ Cert.AttIdeal.sig) → Buf (Elt Ideal) ℓ) : Prop :=
  ∀ c : Dev Cert.AttIdeal.nD,
    (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).1 = (fun _ => 1#1)
    ∧ (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.1 = (fun _ => 1#1)
    ∧ (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.2.1 = (fun _ => 1#1)
    ∧ (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.2.2.1 = (fun _ => 1#1)
    ∧ (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4))).2.2.2.2 = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite_att [hPre_finite_att : Cert.Pre_finite_att.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).1 = (fun _ => 1#1)
    ∧ (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.1 = (fun _ => 1#1)
    ∧ (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.2.1 = (fun _ => 1#1)
    ∧ (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.2.2.1 = (fun _ => 1#1)
    ∧ (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4))).2.2.2.2 = (fun _ => 1#1)

def Pre_Dhf (m : (ℓ : Loc Cert.Dhf.nD Cert.Dhf.τ Cert.Dhf.sig) → Buf (Elt Bits) ℓ) : Prop :=
  True

def Pre_DhfIdeal (m : (ℓ : Loc Cert.DhfIdeal.nD Cert.DhfIdeal.τ Cert.DhfIdeal.sig) → Buf (Elt Ideal) ℓ) : Prop :=
  True

def Pre_DhfIdeal_finite_dhf [hPre_finite_dhf : Cert.Pre_finite_dhf.Facts] (m : (ℓ : Loc Cert.DhfIdeal.nD Cert.DhfIdeal.τ Cert.DhfIdeal.sig) → Buf (Elt Ideal) ℓ) : Prop :=
  ∀ c : Dev Cert.DhfIdeal.nD,
    (Cert.Pre_finite_dhf.fn (F := Ideal) (m ((c.tc : Thread Cert.DhfIdeal.nD Cert.DhfIdeal.τ).loc Cert.DhfIdeal.main_arg0)) (m ((c.tc : Thread Cert.DhfIdeal.nD Cert.DhfIdeal.τ).loc Cert.DhfIdeal.main_arg1)) (m ((c.tc : Thread Cert.DhfIdeal.nD Cert.DhfIdeal.τ).loc Cert.DhfIdeal.main_arg2)) (m ((c.tc : Thread Cert.DhfIdeal.nD Cert.DhfIdeal.τ).loc Cert.DhfIdeal.main_arg3)) (m ((c.tc : Thread Cert.DhfIdeal.nD Cert.DhfIdeal.τ).loc Cert.DhfIdeal.main_arg4))).1 = (fun _ => 1#1)
    ∧ (Cert.Pre_finite_dhf.fn (F := Ideal) (m ((c.tc : Thread Cert.DhfIdeal.nD Cert.DhfIdeal.τ).loc Cert.DhfIdeal.main_arg0)) (m ((c.tc : Thread Cert.DhfIdeal.nD Cert.DhfIdeal.τ).loc Cert.DhfIdeal.main_arg1)) (m ((c.tc : Thread Cert.DhfIdeal.nD Cert.DhfIdeal.τ).loc Cert.DhfIdeal.main_arg2)) (m ((c.tc : Thread Cert.DhfIdeal.nD Cert.DhfIdeal.τ).loc Cert.DhfIdeal.main_arg3)) (m ((c.tc : Thread Cert.DhfIdeal.nD Cert.DhfIdeal.τ).loc Cert.DhfIdeal.main_arg4))).2.1 = (fun _ => 1#1)
    ∧ (Cert.Pre_finite_dhf.fn (F := Ideal) (m ((c.tc : Thread Cert.DhfIdeal.nD Cert.DhfIdeal.τ).loc Cert.DhfIdeal.main_arg0)) (m ((c.tc : Thread Cert.DhfIdeal.nD Cert.DhfIdeal.τ).loc Cert.DhfIdeal.main_arg1)) (m ((c.tc : Thread Cert.DhfIdeal.nD Cert.DhfIdeal.τ).loc Cert.DhfIdeal.main_arg2)) (m ((c.tc : Thread Cert.DhfIdeal.nD Cert.DhfIdeal.τ).loc Cert.DhfIdeal.main_arg3)) (m ((c.tc : Thread Cert.DhfIdeal.nD Cert.DhfIdeal.τ).loc Cert.DhfIdeal.main_arg4))).2.2.1 = (fun _ => 1#1)
    ∧ (Cert.Pre_finite_dhf.fn (F := Ideal) (m ((c.tc : Thread Cert.DhfIdeal.nD Cert.DhfIdeal.τ).loc Cert.DhfIdeal.main_arg0)) (m ((c.tc : Thread Cert.DhfIdeal.nD Cert.DhfIdeal.τ).loc Cert.DhfIdeal.main_arg1)) (m ((c.tc : Thread Cert.DhfIdeal.nD Cert.DhfIdeal.τ).loc Cert.DhfIdeal.main_arg2)) (m ((c.tc : Thread Cert.DhfIdeal.nD Cert.DhfIdeal.τ).loc Cert.DhfIdeal.main_arg3)) (m ((c.tc : Thread Cert.DhfIdeal.nD Cert.DhfIdeal.τ).loc Cert.DhfIdeal.main_arg4))).2.2.2 = (fun _ => 1#1)

def Pre_DhfRefIdeal (m : (ℓ : Loc Cert.DhfRefIdeal.nD Cert.DhfRefIdeal.τ Cert.DhfRefIdeal.sig) → Buf (Elt Ideal) ℓ) : Prop :=
  True

def Pre_DhfRefIdeal_finite_dhf [hPre_finite_dhf : Cert.Pre_finite_dhf.Facts] (m : (ℓ : Loc Cert.DhfRefIdeal.nD Cert.DhfRefIdeal.τ Cert.DhfRefIdeal.sig) → Buf (Elt Ideal) ℓ) : Prop :=
  ∀ c : Dev Cert.DhfRefIdeal.nD,
    (Cert.Pre_finite_dhf.fn (F := Ideal) (m ((c.tc : Thread Cert.DhfRefIdeal.nD Cert.DhfRefIdeal.τ).loc Cert.DhfRefIdeal.main_arg0)) (m ((c.tc : Thread Cert.DhfRefIdeal.nD Cert.DhfRefIdeal.τ).loc Cert.DhfRefIdeal.main_arg1)) (m ((c.tc : Thread Cert.DhfRefIdeal.nD Cert.DhfRefIdeal.τ).loc Cert.DhfRefIdeal.main_arg2)) (m ((c.tc : Thread Cert.DhfRefIdeal.nD Cert.DhfRefIdeal.τ).loc Cert.DhfRefIdeal.main_arg3)) (m ((c.tc : Thread Cert.DhfRefIdeal.nD Cert.DhfRefIdeal.τ).loc Cert.DhfRefIdeal.main_arg4))).1 = (fun _ => 1#1)
    ∧ (Cert.Pre_finite_dhf.fn (F := Ideal) (m ((c.tc : Thread Cert.DhfRefIdeal.nD Cert.DhfRefIdeal.τ).loc Cert.DhfRefIdeal.main_arg0)) (m ((c.tc : Thread Cert.DhfRefIdeal.nD Cert.DhfRefIdeal.τ).loc Cert.DhfRefIdeal.main_arg1)) (m ((c.tc : Thread Cert.DhfRefIdeal.nD Cert.DhfRefIdeal.τ).loc Cert.DhfRefIdeal.main_arg2)) (m ((c.tc : Thread Cert.DhfRefIdeal.nD Cert.DhfRefIdeal.τ).loc Cert.DhfRefIdeal.main_arg3)) (m ((c.tc : Thread Cert.DhfRefIdeal.nD Cert.DhfRefIdeal.τ).loc Cert.DhfRefIdeal.main_arg4))).2.1 = (fun _ => 1#1)
    ∧ (Cert.Pre_finite_dhf.fn (F := Ideal) (m ((c.tc : Thread Cert.DhfRefIdeal.nD Cert.DhfRefIdeal.τ).loc Cert.DhfRefIdeal.main_arg0)) (m ((c.tc : Thread Cert.DhfRefIdeal.nD Cert.DhfRefIdeal.τ).loc Cert.DhfRefIdeal.main_arg1)) (m ((c.tc : Thread Cert.DhfRefIdeal.nD Cert.DhfRefIdeal.τ).loc Cert.DhfRefIdeal.main_arg2)) (m ((c.tc : Thread Cert.DhfRefIdeal.nD Cert.DhfRefIdeal.τ).loc Cert.DhfRefIdeal.main_arg3)) (m ((c.tc : Thread Cert.DhfRefIdeal.nD Cert.DhfRefIdeal.τ).loc Cert.DhfRefIdeal.main_arg4))).2.2.1 = (fun _ => 1#1)
    ∧ (Cert.Pre_finite_dhf.fn (F := Ideal) (m ((c.tc : Thread Cert.DhfRefIdeal.nD Cert.DhfRefIdeal.τ).loc Cert.DhfRefIdeal.main_arg0)) (m ((c.tc : Thread Cert.DhfRefIdeal.nD Cert.DhfRefIdeal.τ).loc Cert.DhfRefIdeal.main_arg1)) (m ((c.tc : Thread Cert.DhfRefIdeal.nD Cert.DhfRefIdeal.τ).loc Cert.DhfRefIdeal.main_arg2)) (m ((c.tc : Thread Cert.DhfRefIdeal.nD Cert.DhfRefIdeal.τ).loc Cert.DhfRefIdeal.main_arg3)) (m ((c.tc : Thread Cert.DhfRefIdeal.nD Cert.DhfRefIdeal.τ).loc Cert.DhfRefIdeal.main_arg4))).2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6))).2.2.2.2.2.2 = (fun _ => 1#1)

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mo (m : (ℓ : Loc Cert.Mo.nD Cert.Mo.τ Cert.Mo.sig) → Buf (Elt Bits) ℓ) : Prop :=
  True

def Pre_MoIdeal (m : (ℓ : Loc Cert.MoIdeal.nD Cert.MoIdeal.τ Cert.MoIdeal.sig) → Buf (Elt Ideal) ℓ) : Prop :=
  True

def Pre_MoRefIdeal (m : (ℓ : Loc Cert.MoRefIdeal.nD Cert.MoRefIdeal.τ Cert.MoRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Dn3 [hDn3 : Cert.Dn3.Facts] : Prop :=
  ∀ (m : (ℓ : Loc Cert.Dn3.nD Cert.Dn3.τ Cert.Dn3.sig) → Buf (Elt Bits) ℓ) (g : Dev Cert.Dn3.nD → PrngReg), Pre_Dn3 m →
    θ_run (Cert.Dn3.defs (F := Bits)) (onTc (τ := Cert.Dn3.τ) (Cert.Dn3.main (F := Bits))) ⟨m, fun _ => 0, g⟩ (fun r => (∀ c : Dev Cert.Dn3.nD,
      r.2.mem ((c.tc : Thread Cert.Dn3.nD Cert.Dn3.τ).loc Cert.Dn3.main_arg0) = m ((c.tc : Thread Cert.Dn3.nD Cert.Dn3.τ).loc Cert.Dn3.main_arg0)
      ∧ r.2.mem ((c.tc : Thread Cert.Dn3.nD Cert.Dn3.τ).loc Cert.Dn3.main_arg1) = m ((c.tc : Thread Cert.Dn3.nD Cert.Dn3.τ).loc Cert.Dn3.main_arg1)
      ∧ r.2.mem ((c.tc : Thread Cert.Dn3.nD Cert.Dn3.τ).loc Cert.Dn3.main_arg2) = m ((c.tc : Thread Cert.Dn3.nD Cert.Dn3.τ).loc Cert.Dn3.main_arg2)
      ∧ r.2.mem ((c.tc : Thread Cert.Dn3.nD Cert.Dn3.τ).loc Cert.Dn3.main_arg3) = m ((c.tc : Thread Cert.Dn3.nD Cert.Dn3.τ).loc Cert.Dn3.main_arg3)
      ∧ r.2.mem ((c.tc : Thread Cert.Dn3.nD Cert.Dn3.τ).loc Cert.Dn3.main_arg4) = m ((c.tc : Thread Cert.Dn3.nD Cert.Dn3.τ).loc Cert.Dn3.main_arg4))
      ∧ r.2.sem = fun _ => 0)

def quiescent_Dn3Ideal [hDn3Ideal : Cert.Dn3Ideal.Facts] : Prop :=
  ∀ (m : (ℓ : Loc Cert.Dn3Ideal.nD Cert.Dn3Ideal.τ Cert.Dn3Ideal.sig) → Buf (Elt Ideal) ℓ) (g : Dev Cert.Dn3Ideal.nD → PrngReg), Pre_Dn3Ideal m →
    θ_run (Cert.Dn3Ideal.defs (F := Ideal)) (onTc (τ := Cert.Dn3Ideal.τ) (Cert.Dn3Ideal.main (F := Ideal))) ⟨m, fun _ => 0, g⟩ (fun r => (∀ c : Dev Cert.Dn3Ideal.nD,
      r.2.mem ((c.tc : Thread Cert.Dn3Ideal.nD Cert.Dn3Ideal.τ).loc Cert.Dn3Ideal.main_arg0) = m ((c.tc : Thread Cert.Dn3Ideal.nD Cert.Dn3Ideal.τ).loc Cert.Dn3Ideal.main_arg0)
      ∧ r.2.mem ((c.tc : Thread Cert.Dn3Ideal.nD Cert.Dn3Ideal.τ).loc Cert.Dn3Ideal.main_arg1) = m ((c.tc : Thread Cert.Dn3Ideal.nD Cert.Dn3Ideal.τ).loc Cert.Dn3Ideal.main_arg1)
      ∧ r.2.mem ((c.tc : Thread Cert.Dn3Ideal.nD Cert.Dn3Ideal.τ).loc Cert.Dn3Ideal.main_arg2) = m ((c.tc : Thread Cert.Dn3Ideal.nD Cert.Dn3Ideal.τ).loc Cert.Dn3Ideal.main_arg2)
      ∧ r.2.mem ((c.tc : Thread Cert.Dn3Ideal.nD Cert.Dn3Ideal.τ).loc Cert.Dn3Ideal.main_arg3) = m ((c.tc : Thread Cert.Dn3Ideal.nD Cert.Dn3Ideal.τ).loc Cert.Dn3Ideal.main_arg3)
      ∧ r.2.mem ((c.tc : Thread Cert.Dn3Ideal.nD Cert.Dn3Ideal.τ).loc Cert.Dn3Ideal.main_arg4) = m ((c.tc : Thread Cert.Dn3Ideal.nD Cert.Dn3Ideal.τ).loc Cert.Dn3Ideal.main_arg4))
      ∧ r.2.sem = fun _ => 0)

def quiescent_Dn3Ideal_pre_finite_dn3 [hDn3Ideal : Cert.Dn3Ideal.Facts] [hPre_finite_dn3 : Cert.Pre_finite_dn3.Facts] : Prop :=
  ∀ (m : (ℓ : Loc Cert.Dn3Ideal.nD Cert.Dn3Ideal.τ Cert.Dn3Ideal.sig) → Buf (Elt Ideal) ℓ) (g : Dev Cert.Dn3Ideal.nD → PrngReg), Pre_Dn3Ideal_finite_dn3 m →
    θ_run (Cert.Dn3Ideal.defs (F := Ideal)) (onTc (τ := Cert.Dn3Ideal.τ) (Cert.Dn3Ideal.main (F := Ideal))) ⟨m, fun _ => 0, g⟩ (fun r => (∀ c : Dev Cert.Dn3Ideal.nD,
      r.2.mem ((c.tc : Thread Cert.Dn3Ideal.nD Cert.Dn3Ideal.τ).loc Cert.Dn3Ideal.main_arg0) = m ((c.tc : Thread Cert.Dn3Ideal.nD Cert.Dn3Ideal.τ).loc Cert.Dn3Ideal.main_arg0)
      ∧ r.2.mem ((c.tc : Thread Cert.Dn3Ideal.nD Cert.Dn3Ideal.τ).loc Cert.Dn3Ideal.main_arg1) = m ((c.tc : Thread Cert.Dn3Ideal.nD Cert.Dn3Ideal.τ).loc Cert.Dn3Ideal.main_arg1)
      ∧ r.2.mem ((c.tc : Thread Cert.Dn3Ideal.nD Cert.Dn3Ideal.τ).loc Cert.Dn3Ideal.main_arg2) = m ((c.tc : Thread Cert.Dn3Ideal.nD Cert.Dn3Ideal.τ).loc Cert.Dn3Ideal.main_arg2)
      ∧ r.2.mem ((c.tc : Thread Cert.Dn3Ideal.nD Cert.Dn3Ideal.τ).loc Cert.Dn3Ideal.main_arg3) = m ((c.tc : Thread Cert.Dn3Ideal.nD Cert.Dn3Ideal.τ).loc Cert.Dn3Ideal.main_arg3)
      ∧ r.2.mem ((c.tc : Thread Cert.Dn3Ideal.nD Cert.Dn3Ideal.τ).loc Cert.Dn3Ideal.main_arg4) = m ((c.tc : Thread Cert.Dn3Ideal.nD Cert.Dn3Ideal.τ).loc Cert.Dn3Ideal.main_arg4))
      ∧ r.2.sem = fun _ => 0)

def quiescent_Dn3RefIdeal [hDn3RefIdeal : Cert.Dn3RefIdeal.Facts] : Prop :=
  ∀ (m : (ℓ : Loc Cert.Dn3RefIdeal.nD Cert.Dn3RefIdeal.τ Cert.Dn3RefIdeal.sig) → Buf (Elt Ideal) ℓ) (g : Dev Cert.Dn3RefIdeal.nD → PrngReg), Pre_Dn3RefIdeal m →
    θ_run (Cert.Dn3RefIdeal.defs (F := Ideal)) (onTc (τ := Cert.Dn3RefIdeal.τ) (Cert.Dn3RefIdeal.main (F := Ideal))) ⟨m, fun _ => 0, g⟩ (fun r => (∀ c : Dev Cert.Dn3RefIdeal.nD,
      r.2.mem ((c.tc : Thread Cert.Dn3RefIdeal.nD Cert.Dn3RefIdeal.τ).loc Cert.Dn3RefIdeal.main_arg0) = m ((c.tc : Thread Cert.Dn3RefIdeal.nD Cert.Dn3RefIdeal.τ).loc Cert.Dn3RefIdeal.main_arg0)
      ∧ r.2.mem ((c.tc : Thread Cert.Dn3RefIdeal.nD Cert.Dn3RefIdeal.τ).loc Cert.Dn3RefIdeal.main_arg1) = m ((c.tc : Thread Cert.Dn3RefIdeal.nD Cert.Dn3RefIdeal.τ).loc Cert.Dn3RefIdeal.main_arg1)
      ∧ r.2.mem ((c.tc : Thread Cert.Dn3RefIdeal.nD Cert.Dn3RefIdeal.τ).loc Cert.Dn3RefIdeal.main_arg2) = m ((c.tc : Thread Cert.Dn3RefIdeal.nD Cert.Dn3RefIdeal.τ).loc Cert.Dn3RefIdeal.main_arg2)
      ∧ r.2.mem ((c.tc : Thread Cert.Dn3RefIdeal.nD Cert.Dn3RefIdeal.τ).loc Cert.Dn3RefIdeal.main_arg3) = m ((c.tc : Thread Cert.Dn3RefIdeal.nD Cert.Dn3RefIdeal.τ).loc Cert.Dn3RefIdeal.main_arg3)
      ∧ r.2.mem ((c.tc : Thread Cert.Dn3RefIdeal.nD Cert.Dn3RefIdeal.τ).loc Cert.Dn3RefIdeal.main_arg4) = m ((c.tc : Thread Cert.Dn3RefIdeal.nD Cert.Dn3RefIdeal.τ).loc Cert.Dn3RefIdeal.main_arg4))
      ∧ r.2.sem = fun _ => 0)

def quiescent_Dn3RefIdeal_pre_finite_dn3 [hDn3RefIdeal : Cert.Dn3RefIdeal.Facts] [hPre_finite_dn3 : Cert.Pre_finite_dn3.Facts] : Prop :=
  ∀ (m : (ℓ : Loc Cert.Dn3RefIdeal.nD Cert.Dn3RefIdeal.τ Cert.Dn3RefIdeal.sig) → Buf (Elt Ideal) ℓ) (g : Dev Cert.Dn3RefIdeal.nD → PrngReg), Pre_Dn3RefIdeal_finite_dn3 m →
    θ_run (Cert.Dn3RefIdeal.defs (F := Ideal)) (onTc (τ := Cert.Dn3RefIdeal.τ) (Cert.Dn3RefIdeal.main (F := Ideal))) ⟨m, fun _ => 0, g⟩ (fun r => (∀ c : Dev Cert.Dn3RefIdeal.nD,
      r.2.mem ((c.tc : Thread Cert.Dn3RefIdeal.nD Cert.Dn3RefIdeal.τ).loc Cert.Dn3RefIdeal.main_arg0) = m ((c.tc : Thread Cert.Dn3RefIdeal.nD Cert.Dn3RefIdeal.τ).loc Cert.Dn3RefIdeal.main_arg0)
      ∧ r.2.mem ((c.tc : Thread Cert.Dn3RefIdeal.nD Cert.Dn3RefIdeal.τ).loc Cert.Dn3RefIdeal.main_arg1) = m ((c.tc : Thread Cert.Dn3RefIdeal.nD Cert.Dn3RefIdeal.τ).loc Cert.Dn3RefIdeal.main_arg1)
      ∧ r.2.mem ((c.tc : Thread Cert.Dn3RefIdeal.nD Cert.Dn3RefIdeal.τ).loc Cert.Dn3RefIdeal.main_arg2) = m ((c.tc : Thread Cert.Dn3RefIdeal.nD Cert.Dn3RefIdeal.τ).loc Cert.Dn3RefIdeal.main_arg2)
      ∧ r.2.mem ((c.tc : Thread Cert.Dn3RefIdeal.nD Cert.Dn3RefIdeal.τ).loc Cert.Dn3RefIdeal.main_arg3) = m ((c.tc : Thread Cert.Dn3RefIdeal.nD Cert.Dn3RefIdeal.τ).loc Cert.Dn3RefIdeal.main_arg3)
      ∧ r.2.mem ((c.tc : Thread Cert.Dn3RefIdeal.nD Cert.Dn3RefIdeal.τ).loc Cert.Dn3RefIdeal.main_arg4) = m ((c.tc : Thread Cert.Dn3RefIdeal.nD Cert.Dn3RefIdeal.τ).loc Cert.Dn3RefIdeal.main_arg4))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttIdeal_pre_finite_att [hAttIdeal : Cert.AttIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_att m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_AttRefIdeal_pre_finite_att [hAttRefIdeal : Cert.AttRefIdeal.Facts] [hPre_finite_att : Cert.Pre_finite_att.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite_att m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_Dhf [hDhf : Cert.Dhf.Facts] : Prop :=
  ∀ (m : (ℓ : Loc Cert.Dhf.nD Cert.Dhf.τ Cert.Dhf.sig) → Buf (Elt Bits) ℓ) (g : Dev Cert.Dhf.nD → PrngReg), Pre_Dhf m →
    θ_run (Cert.Dhf.defs (F := Bits)) (onTc (τ := Cert.Dhf.τ) (Cert.Dhf.main (F := Bits))) ⟨m, fun _ => 0, g⟩ (fun r => (∀ c : Dev Cert.Dhf.nD,
      r.2.mem ((c.tc : Thread Cert.Dhf.nD Cert.Dhf.τ).loc Cert.Dhf.main_arg0) = m ((c.tc : Thread Cert.Dhf.nD Cert.Dhf.τ).loc Cert.Dhf.main_arg0)
      ∧ r.2.mem ((c.tc : Thread Cert.Dhf.nD Cert.Dhf.τ).loc Cert.Dhf.main_arg1) = m ((c.tc : Thread Cert.Dhf.nD Cert.Dhf.τ).loc Cert.Dhf.main_arg1)
      ∧ r.2.mem ((c.tc : Thread Cert.Dhf.nD Cert.Dhf.τ).loc Cert.Dhf.main_arg2) = m ((c.tc : Thread Cert.Dhf.nD Cert.Dhf.τ).loc Cert.Dhf.main_arg2)
      ∧ r.2.mem ((c.tc : Thread Cert.Dhf.nD Cert.Dhf.τ).loc Cert.Dhf.main_arg3) = m ((c.tc : Thread Cert.Dhf.nD Cert.Dhf.τ).loc Cert.Dhf.main_arg3)
      ∧ r.2.mem ((c.tc : Thread Cert.Dhf.nD Cert.Dhf.τ).loc Cert.Dhf.main_arg4) = m ((c.tc : Thread Cert.Dhf.nD Cert.Dhf.τ).loc Cert.Dhf.main_arg4))
      ∧ r.2.sem = fun _ => 0)

def quiescent_DhfIdeal [hDhfIdeal : Cert.DhfIdeal.Facts] : Prop :=
  ∀ (m : (ℓ : Loc Cert.DhfIdeal.nD Cert.DhfIdeal.τ Cert.DhfIdeal.sig) → Buf (Elt Ideal) ℓ) (g : Dev Cert.DhfIdeal.nD → PrngReg), Pre_DhfIdeal m →
    θ_run (Cert.DhfIdeal.defs (F := Ideal)) (onTc (τ := Cert.DhfIdeal.τ) (Cert.DhfIdeal.main (F := Ideal))) ⟨m, fun _ => 0, g⟩ (fun r => (∀ c : Dev Cert.DhfIdeal.nD,
      r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
      ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1)
      ∧ r.2.mem ((c.tc : Thread Cert.DhfIdeal.nD Cert.DhfIdeal.τ).loc Cert.DhfIdeal.main_arg2) = m ((c.tc : Thread Cert.DhfIdeal.nD Cert.DhfIdeal.τ).loc Cert.DhfIdeal.main_arg2)
      ∧ r.2.mem ((c.tc : Thread Cert.DhfIdeal.nD Cert.DhfIdeal.τ).loc Cert.DhfIdeal.main_arg3) = m ((c.tc : Thread Cert.DhfIdeal.nD Cert.DhfIdeal.τ).loc Cert.DhfIdeal.main_arg3)
      ∧ r.2.mem ((c.tc : Thread Cert.DhfIdeal.nD Cert.DhfIdeal.τ).loc Cert.DhfIdeal.main_arg4) = m ((c.tc : Thread Cert.DhfIdeal.nD Cert.DhfIdeal.τ).loc Cert.DhfIdeal.main_arg4))
      ∧ r.2.sem = fun _ => 0)

def quiescent_DhfIdeal_pre_finite_dhf [hDhfIdeal : Cert.DhfIdeal.Facts] [hPre_finite_dhf : Cert.Pre_finite_dhf.Facts] : Prop :=
  ∀ (m : (ℓ : Loc Cert.DhfIdeal.nD Cert.DhfIdeal.τ Cert.DhfIdeal.sig) → Buf (Elt Ideal) ℓ) (g : Dev Cert.DhfIdeal.nD → PrngReg), Pre_DhfIdeal_finite_dhf m →
    θ_run (Cert.DhfIdeal.defs (F := Ideal)) (onTc (τ := Cert.DhfIdeal.τ) (Cert.DhfIdeal.main (F := Ideal))) ⟨m, fun _ => 0, g⟩ (fun r => (∀ c : Dev Cert.DhfIdeal.nD,
      r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
      ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1)
      ∧ r.2.mem ((c.tc : Thread Cert.DhfIdeal.nD Cert.DhfIdeal.τ).loc Cert.DhfIdeal.main_arg2) = m ((c.tc : Thread Cert.DhfIdeal.nD Cert.DhfIdeal.τ).loc Cert.DhfIdeal.main_arg2)
      ∧ r.2.mem ((c.tc : Thread Cert.DhfIdeal.nD Cert.DhfIdeal.τ).loc Cert.DhfIdeal.main_arg3) = m ((c.tc : Thread Cert.DhfIdeal.nD Cert.DhfIdeal.τ).loc Cert.DhfIdeal.main_arg3)
      ∧ r.2.mem ((c.tc : Thread Cert.DhfIdeal.nD Cert.DhfIdeal.τ).loc Cert.DhfIdeal.main_arg4) = m ((c.tc : Thread Cert.DhfIdeal.nD Cert.DhfIdeal.τ).loc Cert.DhfIdeal.main_arg4))
      ∧ r.2.sem = fun _ => 0)

def quiescent_DhfRefIdeal [hDhfRefIdeal : Cert.DhfRefIdeal.Facts] : Prop :=
  ∀ (m : (ℓ : Loc Cert.DhfRefIdeal.nD Cert.DhfRefIdeal.τ Cert.DhfRefIdeal.sig) → Buf (Elt Ideal) ℓ) (g : Dev Cert.DhfRefIdeal.nD → PrngReg), Pre_DhfRefIdeal m →
    θ_run (Cert.DhfRefIdeal.defs (F := Ideal)) (onTc (τ := Cert.DhfRefIdeal.τ) (Cert.DhfRefIdeal.main (F := Ideal))) ⟨m, fun _ => 0, g⟩ (fun r => (∀ c : Dev Cert.DhfRefIdeal.nD,
      r.2.mem ((c.tc : Thread Cert.DhfRefIdeal.nD Cert.DhfRefIdeal.τ).loc Cert.DhfRefIdeal.main_arg0) = m ((c.tc : Thread Cert.DhfRefIdeal.nD Cert.DhfRefIdeal.τ).loc Cert.DhfRefIdeal.main_arg0)
      ∧ r.2.mem ((c.tc : Thread Cert.DhfRefIdeal.nD Cert.DhfRefIdeal.τ).loc Cert.DhfRefIdeal.main_arg1) = m ((c.tc : Thread Cert.DhfRefIdeal.nD Cert.DhfRefIdeal.τ).loc Cert.DhfRefIdeal.main_arg1)
      ∧ r.2.mem ((c.tc : Thread Cert.DhfRefIdeal.nD Cert.DhfRefIdeal.τ).loc Cert.DhfRefIdeal.main_arg2) = m ((c.tc : Thread Cert.DhfRefIdeal.nD Cert.DhfRefIdeal.τ).loc Cert.DhfRefIdeal.main_arg2)
      ∧ r.2.mem ((c.tc : Thread Cert.DhfRefIdeal.nD Cert.DhfRefIdeal.τ).loc Cert.DhfRefIdeal.main_arg3) = m ((c.tc : Thread Cert.DhfRefIdeal.nD Cert.DhfRefIdeal.τ).loc Cert.DhfRefIdeal.main_arg3)
      ∧ r.2.mem ((c.tc : Thread Cert.DhfRefIdeal.nD Cert.DhfRefIdeal.τ).loc Cert.DhfRefIdeal.main_arg4) = m ((c.tc : Thread Cert.DhfRefIdeal.nD Cert.DhfRefIdeal.τ).loc Cert.DhfRefIdeal.main_arg4))
      ∧ r.2.sem = fun _ => 0)

def quiescent_DhfRefIdeal_pre_finite_dhf [hDhfRefIdeal : Cert.DhfRefIdeal.Facts] [hPre_finite_dhf : Cert.Pre_finite_dhf.Facts] : Prop :=
  ∀ (m : (ℓ : Loc Cert.DhfRefIdeal.nD Cert.DhfRefIdeal.τ Cert.DhfRefIdeal.sig) → Buf (Elt Ideal) ℓ) (g : Dev Cert.DhfRefIdeal.nD → PrngReg), Pre_DhfRefIdeal_finite_dhf m →
    θ_run (Cert.DhfRefIdeal.defs (F := Ideal)) (onTc (τ := Cert.DhfRefIdeal.τ) (Cert.DhfRefIdeal.main (F := Ideal))) ⟨m, fun _ => 0, g⟩ (fun r => (∀ c : Dev Cert.DhfRefIdeal.nD,
      r.2.mem ((c.tc : Thread Cert.DhfRefIdeal.nD Cert.DhfRefIdeal.τ).loc Cert.DhfRefIdeal.main_arg0) = m ((c.tc : Thread Cert.DhfRefIdeal.nD Cert.DhfRefIdeal.τ).loc Cert.DhfRefIdeal.main_arg0)
      ∧ r.2.mem ((c.tc : Thread Cert.DhfRefIdeal.nD Cert.DhfRefIdeal.τ).loc Cert.DhfRefIdeal.main_arg1) = m ((c.tc : Thread Cert.DhfRefIdeal.nD Cert.DhfRefIdeal.τ).loc Cert.DhfRefIdeal.main_arg1)
      ∧ r.2.mem ((c.tc : Thread Cert.DhfRefIdeal.nD Cert.DhfRefIdeal.τ).loc Cert.DhfRefIdeal.main_arg2) = m ((c.tc : Thread Cert.DhfRefIdeal.nD Cert.DhfRefIdeal.τ).loc Cert.DhfRefIdeal.main_arg2)
      ∧ r.2.mem ((c.tc : Thread Cert.DhfRefIdeal.nD Cert.DhfRefIdeal.τ).loc Cert.DhfRefIdeal.main_arg3) = m ((c.tc : Thread Cert.DhfRefIdeal.nD Cert.DhfRefIdeal.τ).loc Cert.DhfRefIdeal.main_arg3)
      ∧ r.2.mem ((c.tc : Thread Cert.DhfRefIdeal.nD Cert.DhfRefIdeal.τ).loc Cert.DhfRefIdeal.main_arg4) = m ((c.tc : Thread Cert.DhfRefIdeal.nD Cert.DhfRefIdeal.τ).loc Cert.DhfRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Mo [hMo : Cert.Mo.Facts] : Prop :=
  ∀ (m : (ℓ : Loc Cert.Mo.nD Cert.Mo.τ Cert.Mo.sig) → Buf (Elt Bits) ℓ) (g : Dev Cert.Mo.nD → PrngReg), Pre_Mo m →
    θ_run (Cert.Mo.defs (F := Bits)) (onTc (τ := Cert.Mo.τ) (Cert.Mo.main (F := Bits))) ⟨m, fun _ => 0, g⟩ (fun r => (∀ c : Dev Cert.Mo.nD,
      r.2.mem ((c.tc : Thread Cert.Mo.nD Cert.Mo.τ).loc Cert.Mo.main_arg0) = m ((c.tc : Thread Cert.Mo.nD Cert.Mo.τ).loc Cert.Mo.main_arg0)
      ∧ r.2.mem ((c.tc : Thread Cert.Mo.nD Cert.Mo.τ).loc Cert.Mo.main_arg1) = m ((c.tc : Thread Cert.Mo.nD Cert.Mo.τ).loc Cert.Mo.main_arg1)
      ∧ r.2.mem ((c.tc : Thread Cert.Mo.nD Cert.Mo.τ).loc Cert.Mo.main_arg2) = m ((c.tc : Thread Cert.Mo.nD Cert.Mo.τ).loc Cert.Mo.main_arg2)
      ∧ r.2.mem ((c.tc : Thread Cert.Mo.nD Cert.Mo.τ).loc Cert.Mo.main_arg3) = m ((c.tc : Thread Cert.Mo.nD Cert.Mo.τ).loc Cert.Mo.main_arg3)
      ∧ r.2.mem ((c.tc : Thread Cert.Mo.nD Cert.Mo.τ).loc Cert.Mo.main_arg4) = m ((c.tc : Thread Cert.Mo.nD Cert.Mo.τ).loc Cert.Mo.main_arg4))
      ∧ r.2.sem = fun _ => 0)

def quiescent_MoIdeal [hMoIdeal : Cert.MoIdeal.Facts] : Prop :=
  ∀ (m : (ℓ : Loc Cert.MoIdeal.nD Cert.MoIdeal.τ Cert.MoIdeal.sig) → Buf (Elt Ideal) ℓ) (g : Dev Cert.MoIdeal.nD → PrngReg), Pre_MoIdeal m →
    θ_run (Cert.MoIdeal.defs (F := Ideal)) (onTc (τ := Cert.MoIdeal.τ) (Cert.MoIdeal.main (F := Ideal))) ⟨m, fun _ => 0, g⟩ (fun r => (∀ c : Dev Cert.MoIdeal.nD,
      r.2.mem ((c.tc : Thread Cert.MoIdeal.nD Cert.MoIdeal.τ).loc Cert.MoIdeal.main_arg0) = m ((c.tc : Thread Cert.MoIdeal.nD Cert.MoIdeal.τ).loc Cert.MoIdeal.main_arg0)
      ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
      ∧ r.2.mem ((c.tc : Thread Cert.MoIdeal.nD Cert.MoIdeal.τ).loc Cert.MoIdeal.main_arg2) = m ((c.tc : Thread Cert.MoIdeal.nD Cert.MoIdeal.τ).loc Cert.MoIdeal.main_arg2)
      ∧ r.2.mem ((c.tc : Thread Cert.MoIdeal.nD Cert.MoIdeal.τ).loc Cert.MoIdeal.main_arg3) = m ((c.tc : Thread Cert.MoIdeal.nD Cert.MoIdeal.τ).loc Cert.MoIdeal.main_arg3)
      ∧ r.2.mem ((c.tc : Thread Cert.MoIdeal.nD Cert.MoIdeal.τ).loc Cert.MoIdeal.main_arg4) = m ((c.tc : Thread Cert.MoIdeal.nD Cert.MoIdeal.τ).loc Cert.MoIdeal.main_arg4))
      ∧ r.2.sem = fun _ => 0)

def quiescent_MoRefIdeal [hMoRefIdeal : Cert.MoRefIdeal.Facts] : Prop :=
  ∀ (m : (ℓ : Loc Cert.MoRefIdeal.nD Cert.MoRefIdeal.τ Cert.MoRefIdeal.sig) → Buf (Elt Ideal) ℓ) (g : Dev Cert.MoRefIdeal.nD → PrngReg), Pre_MoRefIdeal m →
    θ_run (Cert.MoRefIdeal.defs (F := Ideal)) (onTc (τ := Cert.MoRefIdeal.τ) (Cert.MoRefIdeal.main (F := Ideal))) ⟨m, fun _ => 0, g⟩ (fun r => (∀ c : Dev Cert.MoRefIdeal.nD,
      r.2.mem ((c.tc : Thread Cert.MoRefIdeal.nD Cert.MoRefIdeal.τ).loc Cert.MoRefIdeal.main_arg0) = m ((c.tc : Thread Cert.MoRefIdeal.nD Cert.MoRefIdeal.τ).loc Cert.MoRefIdeal.main_arg0)
      ∧ r.2.mem ((c.tc : Thread Cert.MoRefIdeal.nD Cert.MoRefIdeal.τ).loc Cert.MoRefIdeal.main_arg1) = m ((c.tc : Thread Cert.MoRefIdeal.nD Cert.MoRefIdeal.τ).loc Cert.MoRefIdeal.main_arg1)
      ∧ r.2.mem ((c.tc : Thread Cert.MoRefIdeal.nD Cert.MoRefIdeal.τ).loc Cert.MoRefIdeal.main_arg2) = m ((c.tc : Thread Cert.MoRefIdeal.nD Cert.MoRefIdeal.τ).loc Cert.MoRefIdeal.main_arg2)
      ∧ r.2.mem ((c.tc : Thread Cert.MoRefIdeal.nD Cert.MoRefIdeal.τ).loc Cert.MoRefIdeal.main_arg3) = m ((c.tc : Thread Cert.MoRefIdeal.nD Cert.MoRefIdeal.τ).loc Cert.MoRefIdeal.main_arg3)
      ∧ r.2.mem ((c.tc : Thread Cert.MoRefIdeal.nD Cert.MoRefIdeal.τ).loc Cert.MoRefIdeal.main_arg4) = m ((c.tc : Thread Cert.MoRefIdeal.nD Cert.MoRefIdeal.τ).loc Cert.MoRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def preserves_Dn3_Dn3Ideal : Prop :=
  True

def algebraic_Dn3Ideal_Dn3RefIdeal_pre_finite_dn3 [hDn3Ideal : Cert.Dn3Ideal.Facts] [hDn3RefIdeal : Cert.Dn3RefIdeal.Facts] [hPre_finite_dn3 : Cert.Pre_finite_dn3.Facts] : Prop :=
  ∀ (m : (ℓ : Loc Cert.Dn3Ideal.nD Cert.Dn3Ideal.τ Cert.Dn3Ideal.sig) → Buf (Elt Ideal) ℓ) (g : Dev Cert.Dn3Ideal.nD → PrngReg)
    (m' : (ℓ : Loc Cert.Dn3RefIdeal.nD Cert.Dn3RefIdeal.τ Cert.Dn3RefIdeal.sig) → Buf (Elt Ideal) ℓ) (g' : Dev Cert.Dn3RefIdeal.nD → PrngReg), Pre_Dn3Ideal_finite_dn3 m →
    (∀ c : Dev Cert.Dn3Ideal.nD,
      m' ((c.tc : Thread Cert.Dn3RefIdeal.nD Cert.Dn3RefIdeal.τ).loc Cert.Dn3RefIdeal.main_arg0) = m ((c.tc : Thread Cert.Dn3Ideal.nD Cert.Dn3Ideal.τ).loc Cert.Dn3Ideal.main_arg0)
      ∧ m' ((c.tc : Thread Cert.Dn3RefIdeal.nD Cert.Dn3RefIdeal.τ).loc Cert.Dn3RefIdeal.main_arg1) = m ((c.tc : Thread Cert.Dn3Ideal.nD Cert.Dn3Ideal.τ).loc Cert.Dn3Ideal.main_arg1)
      ∧ m' ((c.tc : Thread Cert.Dn3RefIdeal.nD Cert.Dn3RefIdeal.τ).loc Cert.Dn3RefIdeal.main_arg2) = m ((c.tc : Thread Cert.Dn3Ideal.nD Cert.Dn3Ideal.τ).loc Cert.Dn3Ideal.main_arg2)
      ∧ m' ((c.tc : Thread Cert.Dn3RefIdeal.nD Cert.Dn3RefIdeal.τ).loc Cert.Dn3RefIdeal.main_arg3) = m ((c.tc : Thread Cert.Dn3Ideal.nD Cert.Dn3Ideal.τ).loc Cert.Dn3Ideal.main_arg3)
      ∧ m' ((c.tc : Thread Cert.Dn3RefIdeal.nD Cert.Dn3RefIdeal.τ).loc Cert.Dn3RefIdeal.main_arg4) = m ((c.tc : Thread Cert.Dn3Ideal.nD Cert.Dn3Ideal.τ).loc Cert.Dn3Ideal.main_arg4)) →
    ∃ (v0 : (c : Dev Cert.Dn3Ideal.nD) → Buf (Elt Ideal) ((c.tc : Thread Cert.Dn3Ideal.nD Cert.Dn3Ideal.τ).loc Cert.Dn3Ideal.main_v2_0)) (v1 : (c : Dev Cert.Dn3Ideal.nD) → Buf (Elt Ideal) ((c.tc : Thread Cert.Dn3Ideal.nD Cert.Dn3Ideal.τ).loc Cert.Dn3Ideal.main_v2_1)),
      θ_run (Cert.Dn3Ideal.defs (F := Ideal)) (onTc (τ := Cert.Dn3Ideal.τ) (Cert.Dn3Ideal.main (F := Ideal))) ⟨m, fun _ => 0, g⟩ (fun r => ∀ c : Dev Cert.Dn3Ideal.nD,
          r.2.mem ((c.tc : Thread Cert.Dn3Ideal.nD Cert.Dn3Ideal.τ).loc Cert.Dn3Ideal.main_v2_0) = v0 c
          ∧ r.2.mem ((c.tc : Thread Cert.Dn3Ideal.nD Cert.Dn3Ideal.τ).loc Cert.Dn3Ideal.main_v2_1) = v1 c
          ∧ r.2.mem ((c.tc : Thread Cert.Dn3Ideal.nD Cert.Dn3Ideal.τ).loc Cert.Dn3Ideal.main_arg0) = m ((c.tc : Thread Cert.Dn3Ideal.nD Cert.Dn3Ideal.τ).loc Cert.Dn3Ideal.main_arg0)
          ∧ r.2.mem ((c.tc : Thread Cert.Dn3Ideal.nD Cert.Dn3Ideal.τ).loc Cert.Dn3Ideal.main_arg1) = m ((c.tc : Thread Cert.Dn3Ideal.nD Cert.Dn3Ideal.τ).loc Cert.Dn3Ideal.main_arg1)
          ∧ r.2.mem ((c.tc : Thread Cert.Dn3Ideal.nD Cert.Dn3Ideal.τ).loc Cert.Dn3Ideal.main_arg2) = m ((c.tc : Thread Cert.Dn3Ideal.nD Cert.Dn3Ideal.τ).loc Cert.Dn3Ideal.main_arg2)
          ∧ r.2.mem ((c.tc : Thread Cert.Dn3Ideal.nD Cert.Dn3Ideal.τ).loc Cert.Dn3Ideal.main_arg3) = m ((c.tc : Thread Cert.Dn3Ideal.nD Cert.Dn3Ideal.τ).loc Cert.Dn3Ideal.main_arg3)
          ∧ r.2.mem ((c.tc : Thread Cert.Dn3Ideal.nD Cert.Dn3Ideal.τ).loc Cert.Dn3Ideal.main_arg4) = m ((c.tc : Thread Cert.Dn3Ideal.nD Cert.Dn3Ideal.τ).loc Cert.Dn3Ideal.main_arg4))
      ∧ θ_run (Cert.Dn3RefIdeal.defs (F := Ideal)) (onTc (τ := Cert.Dn3RefIdeal.τ) (Cert.Dn3RefIdeal.main (F := Ideal))) ⟨m', fun _ => 0, g'⟩ (fun r => ∀ c : Dev Cert.Dn3RefIdeal.nD,
          r.2.mem ((c.tc : Thread Cert.Dn3RefIdeal.nD Cert.Dn3RefIdeal.τ).loc Cert.Dn3RefIdeal.main_v36) = v0 c
          ∧ r.2.mem ((c.tc : Thread Cert.Dn3RefIdeal.nD Cert.Dn3RefIdeal.τ).loc Cert.Dn3RefIdeal.main_v19) = v1 c
          ∧ r.2.mem ((c.tc : Thread Cert.Dn3RefIdeal.nD Cert.Dn3RefIdeal.τ).loc Cert.Dn3RefIdeal.main_arg0) = m' ((c.tc : Thread Cert.Dn3RefIdeal.nD Cert.Dn3RefIdeal.τ).loc Cert.Dn3RefIdeal.main_arg0)
          ∧ r.2.mem ((c.tc : Thread Cert.Dn3RefIdeal.nD Cert.Dn3RefIdeal.τ).loc Cert.Dn3RefIdeal.main_arg1) = m' ((c.tc : Thread Cert.Dn3RefIdeal.nD Cert.Dn3RefIdeal.τ).loc Cert.Dn3RefIdeal.main_arg1)
          ∧ r.2.mem ((c.tc : Thread Cert.Dn3RefIdeal.nD Cert.Dn3RefIdeal.τ).loc Cert.Dn3RefIdeal.main_arg2) = m' ((c.tc : Thread Cert.Dn3RefIdeal.nD Cert.Dn3RefIdeal.τ).loc Cert.Dn3RefIdeal.main_arg2)
          ∧ r.2.mem ((c.tc : Thread Cert.Dn3RefIdeal.nD Cert.Dn3RefIdeal.τ).loc Cert.Dn3RefIdeal.main_arg3) = m' ((c.tc : Thread Cert.Dn3RefIdeal.nD Cert.Dn3RefIdeal.τ).loc Cert.Dn3RefIdeal.main_arg3)
          ∧ r.2.mem ((c.tc : Thread Cert.Dn3RefIdeal.nD Cert.Dn3RefIdeal.τ).loc Cert.Dn3RefIdeal.main_arg4) = m' ((c.tc : Thread Cert.Dn3RefIdeal.nD Cert.Dn3RefIdeal.τ).loc Cert.Dn3RefIdeal.main_arg4))

def preserves_Att_AttIdeal : Prop :=
  True

def algebraic_AttIdeal_AttRefIdeal_pre_finite_att [hAttIdeal : Cert.AttIdeal.Facts] [hAttRefIdeal : Cert.AttRefIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite_att m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)
      ∧ m' ((c.tc : Thread Cert.AttRefIdeal.nD Cert.AttRefIdeal.τ).loc Cert.AttRefIdeal.main_arg4) = m ((c.tc : Thread Cert.AttIdeal.nD Cert.AttIdeal.τ).loc Cert.AttIdeal.main_arg4)) →
    ∃ (v0 : (c : Dev Cert.AttIdeal.nD) → Buf (Elt Ideal) ((c.tc : Thread Cert.AttIdeal.nD Cert.AttIdeal.τ).loc Cert.AttIdeal.main_v33_0)) (v1 : (c : Dev Cert.AttIdeal.nD) → Buf (Elt Ideal) ((c.tc : Thread Cert.AttIdeal.nD Cert.AttIdeal.τ).loc Cert.AttIdeal.main_v33_1)) (v2 : (c : Dev Cert.AttIdeal.nD) → Buf (Elt Ideal) ((c.tc : Thread Cert.AttIdeal.nD Cert.AttIdeal.τ).loc Cert.AttIdeal.main_v33_2)) (v3 : (c : Dev Cert.AttIdeal.nD) → Buf (Elt Ideal) ((c.tc : Thread Cert.AttIdeal.nD Cert.AttIdeal.τ).loc Cert.AttIdeal.main_v32)) (v4 : (c : Dev Cert.AttIdeal.nD) → Buf (Elt Ideal) ((c.tc : Thread Cert.AttIdeal.nD Cert.AttIdeal.τ).loc Cert.AttIdeal.main_v22_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v33_0) = v0 c
          ∧ r.2.mem ((c.tc : Thread Cert.AttIdeal.nD Cert.AttIdeal.τ).loc Cert.AttIdeal.main_v33_1) = v1 c
          ∧ r.2.mem ((c.tc : Thread Cert.AttIdeal.nD Cert.AttIdeal.τ).loc Cert.AttIdeal.main_v33_2) = v2 c
          ∧ r.2.mem ((c.tc : Thread Cert.AttIdeal.nD Cert.AttIdeal.τ).loc Cert.AttIdeal.main_v32) = v3 c
          ∧ r.2.mem ((c.tc : Thread Cert.AttIdeal.nD Cert.AttIdeal.τ).loc Cert.AttIdeal.main_v22_1) = v4 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
          ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v86) = v0 c
          ∧ r.2.mem ((c.tc : Thread Cert.AttRefIdeal.nD Cert.AttRefIdeal.τ).loc Cert.AttRefIdeal.main_v88) = v1 c
          ∧ r.2.mem ((c.tc : Thread Cert.AttRefIdeal.nD Cert.AttRefIdeal.τ).loc Cert.AttRefIdeal.main_v90) = v2 c
          ∧ r.2.mem ((c.tc : Thread Cert.AttRefIdeal.nD Cert.AttRefIdeal.τ).loc Cert.AttRefIdeal.main_v91) = v3 c
          ∧ r.2.mem ((c.tc : Thread Cert.AttRefIdeal.nD Cert.AttRefIdeal.τ).loc Cert.AttRefIdeal.main_v84) = v4 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3)
          ∧ r.2.mem ((c.tc : Thread Cert.AttRefIdeal.nD Cert.AttRefIdeal.τ).loc Cert.AttRefIdeal.main_arg4) = m' ((c.tc : Thread Cert.AttRefIdeal.nD Cert.AttRefIdeal.τ).loc Cert.AttRefIdeal.main_arg4))

def preserves_Dhf_DhfIdeal : Prop :=
  True

def algebraic_DhfIdeal_DhfRefIdeal_pre_finite_dhf [hDhfIdeal : Cert.DhfIdeal.Facts] [hDhfRefIdeal : Cert.DhfRefIdeal.Facts] [hPre_finite_dhf : Cert.Pre_finite_dhf.Facts] : Prop :=
  ∀ (m : (ℓ : Loc Cert.DhfIdeal.nD Cert.DhfIdeal.τ Cert.DhfIdeal.sig) → Buf (Elt Ideal) ℓ) (g : Dev Cert.DhfIdeal.nD → PrngReg)
    (m' : (ℓ : Loc Cert.DhfRefIdeal.nD Cert.DhfRefIdeal.τ Cert.DhfRefIdeal.sig) → Buf (Elt Ideal) ℓ) (g' : Dev Cert.DhfRefIdeal.nD → PrngReg), Pre_DhfIdeal_finite_dhf m →
    (∀ c : Dev Cert.DhfIdeal.nD,
      m' ((c.tc : Thread Cert.DhfRefIdeal.nD Cert.DhfRefIdeal.τ).loc Cert.DhfRefIdeal.main_arg0) = m ((c.tc : Thread Cert.DhfIdeal.nD Cert.DhfIdeal.τ).loc Cert.DhfIdeal.main_arg0)
      ∧ m' ((c.tc : Thread Cert.DhfRefIdeal.nD Cert.DhfRefIdeal.τ).loc Cert.DhfRefIdeal.main_arg1) = m ((c.tc : Thread Cert.DhfIdeal.nD Cert.DhfIdeal.τ).loc Cert.DhfIdeal.main_arg1)
      ∧ m' ((c.tc : Thread Cert.DhfRefIdeal.nD Cert.DhfRefIdeal.τ).loc Cert.DhfRefIdeal.main_arg2) = m ((c.tc : Thread Cert.DhfIdeal.nD Cert.DhfIdeal.τ).loc Cert.DhfIdeal.main_arg2)
      ∧ m' ((c.tc : Thread Cert.DhfRefIdeal.nD Cert.DhfRefIdeal.τ).loc Cert.DhfRefIdeal.main_arg3) = m ((c.tc : Thread Cert.DhfIdeal.nD Cert.DhfIdeal.τ).loc Cert.DhfIdeal.main_arg3)
      ∧ m' ((c.tc : Thread Cert.DhfRefIdeal.nD Cert.DhfRefIdeal.τ).loc Cert.DhfRefIdeal.main_arg4) = m ((c.tc : Thread Cert.DhfIdeal.nD Cert.DhfIdeal.τ).loc Cert.DhfIdeal.main_arg4)) →
    ∃ (v0 : (c : Dev Cert.DhfIdeal.nD) → Buf (Elt Ideal) ((c.tc : Thread Cert.DhfIdeal.nD Cert.DhfIdeal.τ).loc Cert.DhfIdeal.main_v7_0)) (v1 : (c : Dev Cert.DhfIdeal.nD) → Buf (Elt Ideal) ((c.tc : Thread Cert.DhfIdeal.nD Cert.DhfIdeal.τ).loc Cert.DhfIdeal.main_v7_1)),
      θ_run (Cert.DhfIdeal.defs (F := Ideal)) (onTc (τ := Cert.DhfIdeal.τ) (Cert.DhfIdeal.main (F := Ideal))) ⟨m, fun _ => 0, g⟩ (fun r => ∀ c : Dev Cert.DhfIdeal.nD,
          r.2.mem ((c.tc : Thread Cert.DhfIdeal.nD Cert.DhfIdeal.τ).loc Cert.DhfIdeal.main_v7_0) = v0 c
          ∧ r.2.mem ((c.tc : Thread Cert.DhfIdeal.nD Cert.DhfIdeal.τ).loc Cert.DhfIdeal.main_v7_1) = v1 c
          ∧ r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
          ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1)
          ∧ r.2.mem ((c.tc : Thread Cert.DhfIdeal.nD Cert.DhfIdeal.τ).loc Cert.DhfIdeal.main_arg2) = m ((c.tc : Thread Cert.DhfIdeal.nD Cert.DhfIdeal.τ).loc Cert.DhfIdeal.main_arg2)
          ∧ r.2.mem ((c.tc : Thread Cert.DhfIdeal.nD Cert.DhfIdeal.τ).loc Cert.DhfIdeal.main_arg3) = m ((c.tc : Thread Cert.DhfIdeal.nD Cert.DhfIdeal.τ).loc Cert.DhfIdeal.main_arg3)
          ∧ r.2.mem ((c.tc : Thread Cert.DhfIdeal.nD Cert.DhfIdeal.τ).loc Cert.DhfIdeal.main_arg4) = m ((c.tc : Thread Cert.DhfIdeal.nD Cert.DhfIdeal.τ).loc Cert.DhfIdeal.main_arg4))
      ∧ θ_run (Cert.DhfRefIdeal.defs (F := Ideal)) (onTc (τ := Cert.DhfRefIdeal.τ) (Cert.DhfRefIdeal.main (F := Ideal))) ⟨m', fun _ => 0, g'⟩ (fun r => ∀ c : Dev Cert.DhfRefIdeal.nD,
          r.2.mem ((c.tc : Thread Cert.DhfRefIdeal.nD Cert.DhfRefIdeal.τ).loc Cert.DhfRefIdeal.main_v36) = v0 c
          ∧ r.2.mem ((c.tc : Thread Cert.DhfRefIdeal.nD Cert.DhfRefIdeal.τ).loc Cert.DhfRefIdeal.main_v19) = v1 c
          ∧ r.2.mem ((c.tc : Thread Cert.DhfRefIdeal.nD Cert.DhfRefIdeal.τ).loc Cert.DhfRefIdeal.main_arg0) = m' ((c.tc : Thread Cert.DhfRefIdeal.nD Cert.DhfRefIdeal.τ).loc Cert.DhfRefIdeal.main_arg0)
          ∧ r.2.mem ((c.tc : Thread Cert.DhfRefIdeal.nD Cert.DhfRefIdeal.τ).loc Cert.DhfRefIdeal.main_arg1) = m' ((c.tc : Thread Cert.DhfRefIdeal.nD Cert.DhfRefIdeal.τ).loc Cert.DhfRefIdeal.main_arg1)
          ∧ r.2.mem ((c.tc : Thread Cert.DhfRefIdeal.nD Cert.DhfRefIdeal.τ).loc Cert.DhfRefIdeal.main_arg2) = m' ((c.tc : Thread Cert.DhfRefIdeal.nD Cert.DhfRefIdeal.τ).loc Cert.DhfRefIdeal.main_arg2)
          ∧ r.2.mem ((c.tc : Thread Cert.DhfRefIdeal.nD Cert.DhfRefIdeal.τ).loc Cert.DhfRefIdeal.main_arg3) = m' ((c.tc : Thread Cert.DhfRefIdeal.nD Cert.DhfRefIdeal.τ).loc Cert.DhfRefIdeal.main_arg3)
          ∧ r.2.mem ((c.tc : Thread Cert.DhfRefIdeal.nD Cert.DhfRefIdeal.τ).loc Cert.DhfRefIdeal.main_arg4) = m' ((c.tc : Thread Cert.DhfRefIdeal.nD Cert.DhfRefIdeal.τ).loc Cert.DhfRefIdeal.main_arg4))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v16_0)) (v1 : (c : Dev Cert.PleIdeal.nD) → Buf (Elt Ideal) ((c.tc : Thread Cert.PleIdeal.nD Cert.PleIdeal.τ).loc Cert.PleIdeal.main_v16_1)) (v2 : (c : Dev Cert.PleIdeal.nD) → Buf (Elt Ideal) ((c.tc : Thread Cert.PleIdeal.nD Cert.PleIdeal.τ).loc Cert.PleIdeal.main_v16_2)) (v3 : (c : Dev Cert.PleIdeal.nD) → Buf (Elt Ideal) ((c.tc : Thread Cert.PleIdeal.nD Cert.PleIdeal.τ).loc Cert.PleIdeal.main_v16_3)) (v4 : (c : Dev Cert.PleIdeal.nD) → Buf (Elt Ideal) ((c.tc : Thread Cert.PleIdeal.nD Cert.PleIdeal.τ).loc Cert.PleIdeal.main_v16_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v16_0) = v0 c
          ∧ r.2.mem ((c.tc : Thread Cert.PleIdeal.nD Cert.PleIdeal.τ).loc Cert.PleIdeal.main_v16_1) = v1 c
          ∧ r.2.mem ((c.tc : Thread Cert.PleIdeal.nD Cert.PleIdeal.τ).loc Cert.PleIdeal.main_v16_2) = v2 c
          ∧ r.2.mem ((c.tc : Thread Cert.PleIdeal.nD Cert.PleIdeal.τ).loc Cert.PleIdeal.main_v16_3) = v3 c
          ∧ r.2.mem ((c.tc : Thread Cert.PleIdeal.nD Cert.PleIdeal.τ).loc Cert.PleIdeal.main_v16_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v79) = v0 c
          ∧ r.2.mem ((c.tc : Thread Cert.PleRefIdeal.nD Cert.PleRefIdeal.τ).loc Cert.PleRefIdeal.main_v75) = v1 c
          ∧ r.2.mem ((c.tc : Thread Cert.PleRefIdeal.nD Cert.PleRefIdeal.τ).loc Cert.PleRefIdeal.main_v80) = v2 c
          ∧ r.2.mem ((c.tc : Thread Cert.PleRefIdeal.nD Cert.PleRefIdeal.τ).loc Cert.PleRefIdeal.main_v81) = v3 c
          ∧ r.2.mem ((c.tc : Thread Cert.PleRefIdeal.nD Cert.PleRefIdeal.τ).loc Cert.PleRefIdeal.main_v82) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)) →
    ∃ (v0 : (c : Dev Cert.QkIdeal.nD) → Buf (Elt Ideal) ((c.tc : Thread Cert.QkIdeal.nD Cert.QkIdeal.τ).loc Cert.QkIdeal.main_v39_0)) (v1 : (c : Dev Cert.QkIdeal.nD) → Buf (Elt Ideal) ((c.tc : Thread Cert.QkIdeal.nD Cert.QkIdeal.τ).loc Cert.QkIdeal.main_v40)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v39_0) = v0 c
          ∧ r.2.mem ((c.tc : Thread Cert.QkIdeal.nD Cert.QkIdeal.τ).loc Cert.QkIdeal.main_v40) = v1 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v62) = v0 c
          ∧ r.2.mem ((c.tc : Thread Cert.QkRefIdeal.nD Cert.QkRefIdeal.τ).loc Cert.QkRefIdeal.main_v45) = v1 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)) →
    ∃ (v0 : (c : Dev Cert.PreIdeal.nD) → Buf (Elt Ideal) ((c.tc : Thread Cert.PreIdeal.nD Cert.PreIdeal.τ).loc Cert.PreIdeal.main_v39_0)) (v1 : (c : Dev Cert.PreIdeal.nD) → Buf (Elt Ideal) ((c.tc : Thread Cert.PreIdeal.nD Cert.PreIdeal.τ).loc Cert.PreIdeal.main_v39_1)) (v2 : (c : Dev Cert.PreIdeal.nD) → Buf (Elt Ideal) ((c.tc : Thread Cert.PreIdeal.nD Cert.PreIdeal.τ).loc Cert.PreIdeal.main_v39_2)) (v3 : (c : Dev Cert.PreIdeal.nD) → Buf (Elt Ideal) ((c.tc : Thread Cert.PreIdeal.nD Cert.PreIdeal.τ).loc Cert.PreIdeal.main_v39_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v39_0) = v0 c
          ∧ r.2.mem ((c.tc : Thread Cert.PreIdeal.nD Cert.PreIdeal.τ).loc Cert.PreIdeal.main_v39_1) = v1 c
          ∧ r.2.mem ((c.tc : Thread Cert.PreIdeal.nD Cert.PreIdeal.τ).loc Cert.PreIdeal.main_v39_2) = v2 c
          ∧ r.2.mem ((c.tc : Thread Cert.PreIdeal.nD Cert.PreIdeal.τ).loc Cert.PreIdeal.main_v39_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v57) = v0 c
          ∧ r.2.mem ((c.tc : Thread Cert.PreRefIdeal.nD Cert.PreRefIdeal.τ).loc Cert.PreRefIdeal.main_v70) = v1 c
          ∧ r.2.mem ((c.tc : Thread Cert.PreRefIdeal.nD Cert.PreRefIdeal.τ).loc Cert.PreRefIdeal.main_v83) = v2 c
          ∧ r.2.mem ((c.tc : Thread Cert.PreRefIdeal.nD Cert.PreRefIdeal.τ).loc Cert.PreRefIdeal.main_v56) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v6_0)) (v1 : (c : Dev Cert.InIdeal.nD) → Buf (Elt Ideal) ((c.tc : Thread Cert.InIdeal.nD Cert.InIdeal.τ).loc Cert.InIdeal.main_v6_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v6_0) = v0 c
          ∧ r.2.mem ((c.tc : Thread Cert.InIdeal.nD Cert.InIdeal.τ).loc Cert.InIdeal.main_v6_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v18) = v0 c
          ∧ r.2.mem ((c.tc : Thread Cert.InRefIdeal.nD Cert.InRefIdeal.τ).loc Cert.InRefIdeal.main_v17) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v14) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Mo_MoIdeal : Prop :=
  True

def algebraic_MoIdeal_MoRefIdeal [hMoIdeal : Cert.MoIdeal.Facts] [hMoRefIdeal : Cert.MoRefIdeal.Facts] : Prop :=
  ∀ (m : (ℓ : Loc Cert.MoIdeal.nD Cert.MoIdeal.τ Cert.MoIdeal.sig) → Buf (Elt Ideal) ℓ) (g : Dev Cert.MoIdeal.nD → PrngReg)
    (m' : (ℓ : Loc Cert.MoRefIdeal.nD Cert.MoRefIdeal.τ Cert.MoRefIdeal.sig) → Buf (Elt Ideal) ℓ) (g' : Dev Cert.MoRefIdeal.nD → PrngReg), Pre_MoIdeal m →
    (∀ c : Dev Cert.MoIdeal.nD,
      m' ((c.tc : Thread Cert.MoRefIdeal.nD Cert.MoRefIdeal.τ).loc Cert.MoRefIdeal.main_arg0) = m ((c.tc : Thread Cert.MoIdeal.nD Cert.MoIdeal.τ).loc Cert.MoIdeal.main_arg0)
      ∧ m' ((c.tc : Thread Cert.MoRefIdeal.nD Cert.MoRefIdeal.τ).loc Cert.MoRefIdeal.main_arg1) = m ((c.tc : Thread Cert.MoIdeal.nD Cert.MoIdeal.τ).loc Cert.MoIdeal.main_arg1)
      ∧ m' ((c.tc : Thread Cert.MoRefIdeal.nD Cert.MoRefIdeal.τ).loc Cert.MoRefIdeal.main_arg2) = m ((c.tc : Thread Cert.MoIdeal.nD Cert.MoIdeal.τ).loc Cert.MoIdeal.main_arg2)
      ∧ m' ((c.tc : Thread Cert.MoRefIdeal.nD Cert.MoRefIdeal.τ).loc Cert.MoRefIdeal.main_arg3) = m ((c.tc : Thread Cert.MoIdeal.nD Cert.MoIdeal.τ).loc Cert.MoIdeal.main_arg3)
      ∧ m' ((c.tc : Thread Cert.MoRefIdeal.nD Cert.MoRefIdeal.τ).loc Cert.MoRefIdeal.main_arg4) = m ((c.tc : Thread Cert.MoIdeal.nD Cert.MoIdeal.τ).loc Cert.MoIdeal.main_arg4)) →
    ∃ (v0 : (c : Dev Cert.MoIdeal.nD) → Buf (Elt Ideal) ((c.tc : Thread Cert.MoIdeal.nD Cert.MoIdeal.τ).loc Cert.MoIdeal.main_v12_0)) (v1 : (c : Dev Cert.MoIdeal.nD) → Buf (Elt Ideal) ((c.tc : Thread Cert.MoIdeal.nD Cert.MoIdeal.τ).loc Cert.MoIdeal.main_v12_1)),
      θ_run (Cert.MoIdeal.defs (F := Ideal)) (onTc (τ := Cert.MoIdeal.τ) (Cert.MoIdeal.main (F := Ideal))) ⟨m, fun _ => 0, g⟩ (fun r => ∀ c : Dev Cert.MoIdeal.nD,
          r.2.mem ((c.tc : Thread Cert.MoIdeal.nD Cert.MoIdeal.τ).loc Cert.MoIdeal.main_v12_0) = v0 c
          ∧ r.2.mem ((c.tc : Thread Cert.MoIdeal.nD Cert.MoIdeal.τ).loc Cert.MoIdeal.main_v12_1) = v1 c
          ∧ r.2.mem ((c.tc : Thread Cert.MoIdeal.nD Cert.MoIdeal.τ).loc Cert.MoIdeal.main_arg0) = m ((c.tc : Thread Cert.MoIdeal.nD Cert.MoIdeal.τ).loc Cert.MoIdeal.main_arg0)
          ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
          ∧ r.2.mem ((c.tc : Thread Cert.MoIdeal.nD Cert.MoIdeal.τ).loc Cert.MoIdeal.main_arg2) = m ((c.tc : Thread Cert.MoIdeal.nD Cert.MoIdeal.τ).loc Cert.MoIdeal.main_arg2)
          ∧ r.2.mem ((c.tc : Thread Cert.MoIdeal.nD Cert.MoIdeal.τ).loc Cert.MoIdeal.main_arg3) = m ((c.tc : Thread Cert.MoIdeal.nD Cert.MoIdeal.τ).loc Cert.MoIdeal.main_arg3)
          ∧ r.2.mem ((c.tc : Thread Cert.MoIdeal.nD Cert.MoIdeal.τ).loc Cert.MoIdeal.main_arg4) = m ((c.tc : Thread Cert.MoIdeal.nD Cert.MoIdeal.τ).loc Cert.MoIdeal.main_arg4))
      ∧ θ_run (Cert.MoRefIdeal.defs (F := Ideal)) (onTc (τ := Cert.MoRefIdeal.τ) (Cert.MoRefIdeal.main (F := Ideal))) ⟨m', fun _ => 0, g'⟩ (fun r => ∀ c : Dev Cert.MoRefIdeal.nD,
          r.2.mem ((c.tc : Thread Cert.MoRefIdeal.nD Cert.MoRefIdeal.τ).loc Cert.MoRefIdeal.main_v2) = v0 c
          ∧ r.2.mem ((c.tc : Thread Cert.MoRefIdeal.nD Cert.MoRefIdeal.τ).loc Cert.MoRefIdeal.main_v15) = v1 c
          ∧ r.2.mem ((c.tc : Thread Cert.MoRefIdeal.nD Cert.MoRefIdeal.τ).loc Cert.MoRefIdeal.main_arg0) = m' ((c.tc : Thread Cert.MoRefIdeal.nD Cert.MoRefIdeal.τ).loc Cert.MoRefIdeal.main_arg0)
          ∧ r.2.mem ((c.tc : Thread Cert.MoRefIdeal.nD Cert.MoRefIdeal.τ).loc Cert.MoRefIdeal.main_arg1) = m' ((c.tc : Thread Cert.MoRefIdeal.nD Cert.MoRefIdeal.τ).loc Cert.MoRefIdeal.main_arg1)
          ∧ r.2.mem ((c.tc : Thread Cert.MoRefIdeal.nD Cert.MoRefIdeal.τ).loc Cert.MoRefIdeal.main_arg2) = m' ((c.tc : Thread Cert.MoRefIdeal.nD Cert.MoRefIdeal.τ).loc Cert.MoRefIdeal.main_arg2)
          ∧ r.2.mem ((c.tc : Thread Cert.MoRefIdeal.nD Cert.MoRefIdeal.τ).loc Cert.MoRefIdeal.main_arg3) = m' ((c.tc : Thread Cert.MoRefIdeal.nD Cert.MoRefIdeal.τ).loc Cert.MoRefIdeal.main_arg3)
          ∧ r.2.mem ((c.tc : Thread Cert.MoRefIdeal.nD Cert.MoRefIdeal.τ).loc Cert.MoRefIdeal.main_arg4) = m' ((c.tc : Thread Cert.MoRefIdeal.nD Cert.MoRefIdeal.τ).loc Cert.MoRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v53_0)) (v1 : (c : Dev Cert.QkvIdeal.nD) → Buf (Elt Ideal) ((c.tc : Thread Cert.QkvIdeal.nD Cert.QkvIdeal.τ).loc Cert.QkvIdeal.main_v53_1)) (v2 : (c : Dev Cert.QkvIdeal.nD) → Buf (Elt Ideal) ((c.tc : Thread Cert.QkvIdeal.nD Cert.QkvIdeal.τ).loc Cert.QkvIdeal.main_v53_2)) (v3 : (c : Dev Cert.QkvIdeal.nD) → Buf (Elt Ideal) ((c.tc : Thread Cert.QkvIdeal.nD Cert.QkvIdeal.τ).loc Cert.QkvIdeal.main_v53_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v53_0) = v0 c
          ∧ r.2.mem ((c.tc : Thread Cert.QkvIdeal.nD Cert.QkvIdeal.τ).loc Cert.QkvIdeal.main_v53_1) = v1 c
          ∧ r.2.mem ((c.tc : Thread Cert.QkvIdeal.nD Cert.QkvIdeal.τ).loc Cert.QkvIdeal.main_v53_2) = v2 c
          ∧ r.2.mem ((c.tc : Thread Cert.QkvIdeal.nD Cert.QkvIdeal.τ).loc Cert.QkvIdeal.main_v53_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v44) = v0 c
          ∧ r.2.mem ((c.tc : Thread Cert.QkvRefIdeal.nD Cert.QkvRefIdeal.τ).loc Cert.QkvRefIdeal.main_v53) = v1 c
          ∧ r.2.mem ((c.tc : Thread Cert.QkvRefIdeal.nD Cert.QkvRefIdeal.τ).loc Cert.QkvRefIdeal.main_v54) = v2 c
          ∧ r.2.mem ((c.tc : Thread Cert.QkvRefIdeal.nD Cert.QkvRefIdeal.τ).loc Cert.QkvRefIdeal.main_v55) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def Claim : Prop :=
  ∃ (hDn3 : Cert.Dn3.Facts) (hDn3Ideal : Cert.Dn3Ideal.Facts) (hDn3RefIdeal : Cert.Dn3RefIdeal.Facts) (hAtt : Cert.Att.Facts) (hAttIdeal : Cert.AttIdeal.Facts) (hAttRefIdeal : Cert.AttRefIdeal.Facts) (hDhf : Cert.Dhf.Facts) (hDhfIdeal : Cert.DhfIdeal.Facts) (hDhfRefIdeal : Cert.DhfRefIdeal.Facts) (hPle : Cert.Ple.Facts) (hPleIdeal : Cert.PleIdeal.Facts) (hPleRefIdeal : Cert.PleRefIdeal.Facts) (hQk : Cert.Qk.Facts) (hQkIdeal : Cert.QkIdeal.Facts) (hQkRefIdeal : Cert.QkRefIdeal.Facts) (hPre : Cert.Pre.Facts) (hPreIdeal : Cert.PreIdeal.Facts) (hPreRefIdeal : Cert.PreRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hMo : Cert.Mo.Facts) (hMoIdeal : Cert.MoIdeal.Facts) (hMoRefIdeal : Cert.MoRefIdeal.Facts) (hQkv : Cert.Qkv.Facts) (hQkvIdeal : Cert.QkvIdeal.Facts) (hQkvRefIdeal : Cert.QkvRefIdeal.Facts) (hPre_finite_dn3 : Cert.Pre_finite_dn3.Facts) (hPre_finite_att : Cert.Pre_finite_att.Facts) (hPre_finite_dhf : Cert.Pre_finite_dhf.Facts) (hPre_finite_ple : Cert.Pre_finite_ple.Facts),
    quiescent_Dn3 (hDn3 := hDn3)
    ∧ quiescent_Dn3Ideal (hDn3Ideal := hDn3Ideal)
    ∧ quiescent_Dn3Ideal_pre_finite_dn3 (hDn3Ideal := hDn3Ideal) (hPre_finite_dn3 := hPre_finite_dn3)
    ∧ quiescent_Dn3RefIdeal (hDn3RefIdeal := hDn3RefIdeal)
    ∧ quiescent_Dn3RefIdeal_pre_finite_dn3 (hDn3RefIdeal := hDn3RefIdeal) (hPre_finite_dn3 := hPre_finite_dn3)
    ∧ quiescent_Att (hAtt := hAtt)
    ∧ quiescent_AttIdeal (hAttIdeal := hAttIdeal)
    ∧ quiescent_AttIdeal_pre_finite_att (hAttIdeal := hAttIdeal) (hPre_finite_att := hPre_finite_att)
    ∧ quiescent_AttRefIdeal (hAttRefIdeal := hAttRefIdeal)
    ∧ quiescent_AttRefIdeal_pre_finite_att (hAttRefIdeal := hAttRefIdeal) (hPre_finite_att := hPre_finite_att)
    ∧ quiescent_Dhf (hDhf := hDhf)
    ∧ quiescent_DhfIdeal (hDhfIdeal := hDhfIdeal)
    ∧ quiescent_DhfIdeal_pre_finite_dhf (hDhfIdeal := hDhfIdeal) (hPre_finite_dhf := hPre_finite_dhf)
    ∧ quiescent_DhfRefIdeal (hDhfRefIdeal := hDhfRefIdeal)
    ∧ quiescent_DhfRefIdeal_pre_finite_dhf (hDhfRefIdeal := hDhfRefIdeal) (hPre_finite_dhf := hPre_finite_dhf)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_Qk (hQk := hQk)
    ∧ quiescent_QkIdeal (hQkIdeal := hQkIdeal)
    ∧ quiescent_QkRefIdeal (hQkRefIdeal := hQkRefIdeal)
    ∧ quiescent_Pre (hPre := hPre)
    ∧ quiescent_PreIdeal (hPreIdeal := hPreIdeal)
    ∧ quiescent_PreRefIdeal (hPreRefIdeal := hPreRefIdeal)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Mo (hMo := hMo)
    ∧ quiescent_MoIdeal (hMoIdeal := hMoIdeal)
    ∧ quiescent_MoRefIdeal (hMoRefIdeal := hMoRefIdeal)
    ∧ quiescent_Qkv (hQkv := hQkv)
    ∧ quiescent_QkvIdeal (hQkvIdeal := hQkvIdeal)
    ∧ quiescent_QkvRefIdeal (hQkvRefIdeal := hQkvRefIdeal)
    ∧ preserves_Dn3_Dn3Ideal
    ∧ algebraic_Dn3Ideal_Dn3RefIdeal_pre_finite_dn3 (hDn3Ideal := hDn3Ideal) (hDn3RefIdeal := hDn3RefIdeal) (hPre_finite_dn3 := hPre_finite_dn3)
    ∧ preserves_Att_AttIdeal
    ∧ algebraic_AttIdeal_AttRefIdeal_pre_finite_att (hAttIdeal := hAttIdeal) (hAttRefIdeal := hAttRefIdeal) (hPre_finite_att := hPre_finite_att)
    ∧ preserves_Dhf_DhfIdeal
    ∧ algebraic_DhfIdeal_DhfRefIdeal_pre_finite_dhf (hDhfIdeal := hDhfIdeal) (hDhfRefIdeal := hDhfRefIdeal) (hPre_finite_dhf := hPre_finite_dhf)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_Qk_QkIdeal
    ∧ algebraic_QkIdeal_QkRefIdeal (hQkIdeal := hQkIdeal) (hQkRefIdeal := hQkRefIdeal)
    ∧ preserves_Pre_PreIdeal
    ∧ algebraic_PreIdeal_PreRefIdeal (hPreIdeal := hPreIdeal) (hPreRefIdeal := hPreRefIdeal)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Mo_MoIdeal
    ∧ algebraic_MoIdeal_MoRefIdeal (hMoIdeal := hMoIdeal) (hMoRefIdeal := hMoRefIdeal)
    ∧ preserves_Qkv_QkvIdeal
    ∧ algebraic_QkvIdeal_QkvRefIdeal (hQkvIdeal := hQkvIdeal) (hQkvRefIdeal := hQkvRefIdeal)
-- ==== Pre_finite_att.lean ====
abbrev S8192x768 : Shape := ⟨2, ![8192, 768]⟩
abbrev S8192x512 : Shape := ⟨2, ![8192, 512]⟩
abbrev S8192x32 : Shape := ⟨2, ![8192, 32]⟩
abbrev S_ : Shape := ⟨0, ![]⟩

class Facts : Prop where
  bcast_S_S8192x768 : S_.BroadcastsInDim S8192x768 (![] : Fin 0 → Fin S8192x768.rank)
  bcast_S_S8192x512 : S_.BroadcastsInDim S8192x512 (![] : Fin 0 → Fin S8192x512.rank)
  bcast_S_S8192x32 : S_.BroadcastsInDim S8192x32 (![] : Fin 0 → Fin S8192x32.rank)

variable [Facts]

def fn {F : FTy → Type} [FloatOps F] (main_arg0 : FVec F S8192x768 .f32) (main_arg1 : FVec F S8192x512 .f32) (main_arg2 : FVec F S8192x32 .f32) (main_arg3 : FVec F S8192x512 .f32) (main_arg4 : FVec F S8192x512 .f32) : IVec S8192x768 1 × IVec S8192x512 1 × IVec S8192x32 1 × IVec S8192x512 1 × IVec S8192x512 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x32 .f32 := Host.absf main_arg2
  let main_cst_1 : FVec F S_ .f32 := constant S_ .f32 0x7F800000#32
  let main_v7 : FVec F S8192x32 .f32 := broadcastInDim S8192x32 ![] bcast_S_S8192x32 main_cst_1
  let main_v8 : IVec S8192x32 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_finite_dhf.lean ====
abbrev S8192x1024 : Shape := ⟨2, ![8192, 1024]⟩
abbrev S1x1024 : Shape := ⟨2, ![1, 1024]⟩
abbrev S8192x5632 : Shape := ⟨2, ![8192, 5632]⟩
abbrev S1024x5632 : Shape := ⟨2, ![1024, 5632]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8192x5632 : S_.BroadcastsInDim S8192x5632 (![] : Fin 0 → Fin S8192x5632.rank)
  bcast_S_S1024x5632 : S_.BroadcastsInDim S1024x5632 (![] : Fin 0 → Fin S1024x5632.rank)

variable [Facts]

def fn {F : FTy → Type} [FloatOps F] (main_arg0 : FVec F S8192x1024 .f32) (main_arg1 : FVec F S8192x1024 .f32) (main_arg2 : FVec F S1x1024 .f32) (main_arg3 : FVec F S8192x5632 .f32) (main_arg4 : FVec F S1024x5632 .f32) : IVec S8192x1024 1 × IVec S1x1024 1 × IVec S8192x5632 1 × IVec S1024x5632 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x5632 .f32 := Host.absf main_arg3
  let main_cst_1 : FVec F S_ .f32 := constant S_ .f32 0x7F800000#32
  let main_v7 : FVec F S8192x5632 .f32 := broadcastInDim S8192x5632 ![] bcast_S_S8192x5632 main_cst_1
  let main_v8 : IVec S8192x5632 1 := cmpf .olt main_v6 main_v7
  let main_v9 : FVec F S1024x5632 .f32 := Host.absf main_arg4
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  (main_v2, main_v5, main_v8, main_v11)
-- ==== Pre_finite_dn3.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1x1024 .f32) (main_arg3 : FVec F S8192x1024 .f32) (main_arg4 : FVec F S1024x1024 .f32) : IVec S8192x1024 1 × IVec S1x1024 1 × IVec S8192x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== Pre_finite_ple.lean ====
abbrev S8192x1024 : Shape := ⟨2, ![8192, 1024]⟩
abbrev S1x1024 : Shape := ⟨2, ![1, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8192x256 : S_.BroadcastsInDim S8192x256 (![] : Fin 0 → Fin S8192x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_v2 : IVec S8192x1024 1) (main_v5 : IVec S1x1024 1) (main_v8 : IVec S8192x256 1) (main_v11 : IVec S8192x1024 1) (main_v14 : IVec S1024 1) (main_v17 : IVec S1024x1024 1) : IVec S8192x1024 1 × IVec S1x1024 1 × IVec S8192x256 1 × IVec S8192x1024 1 × IVec S1024 1 × IVec S1024x1024 1 × IVec S256x1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S8192x256 .f32) (main_arg3 : FVec F S8192x1024 .f32) (main_arg4 : FVec F S1024 .f32) (main_arg5 : FVec F S1024x1024 .f32) (main_arg6 : FVec F S256x1024 .f32) : IVec S8192x1024 1 × IVec S1x1024 1 × IVec S8192x256 1 × IVec S8192x1024 1 × IVec S1024 1 × IVec S1024x1024 1 × IVec S256x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Dn3.lean ====
abbrev S8192x1024 : Shape := ⟨2, ![8192, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Dn3RefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Att.lean ====
abbrev S8192x768 : Shape := ⟨2, ![8192, 768]⟩
abbrev S8192x512 : Shape := ⟨2, ![8192, 512]⟩
abbrev S8192x32 : Shape := ⟨2, ![8192, 32]⟩
abbrev S_ : Shape := ⟨0, ![]⟩
abbrev S8192x8x32 : Shape := ⟨3, ![8192, 8, 32]⟩
abbrev S8192x8x1 : Shape := ⟨3, ![8192, 8, 1]⟩
abbrev S8192x8x63 : Shape := ⟨3, ![8192, 8, 63]⟩
abbrev S8192x8x64 : Shape := ⟨3, ![8192, 8, 64]⟩
abbrev S8192x1x32 : Shape := ⟨3, ![8192, 1, 32]⟩
abbrev S8192x8x128 : Shape := ⟨3, ![8192, 8, 128]⟩
abbrev S8192x8x96 : Shape := ⟨3, ![8192, 8, 96]⟩
abbrev S8192x1024 : Shape := ⟨2, ![8192, 1024]⟩
abbrev S8x8192x1 : Shape := ⟨3, ![8, 8192, 1]⟩
abbrev S2048x128 : Shape := ⟨2, ![2048, 128]⟩
abbrev S8192x128 : Shape := ⟨2, ![8192, 128]⟩
abbrev S1x2048x1 : Shape := ⟨3, ![1, 2048, 1]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1x1024x1 : Shape := ⟨3, ![1, 1024, 1]⟩
abbrev S8x1024x1 : Shape := ⟨3, ![8, 1024, 1]⟩
abbrev S1024x8192 : Shape := ⟨2, ![1024, 8192]⟩
abbrev S8x128 : Shape := ⟨2, ![8, 128]⟩
abbrev S128x8192 : Shape := ⟨2, ![128, 8192]⟩
abbrev S1x8192x1 : Shape := ⟨3, ![1, 8192, 1]⟩
abbrev S512x128 : Shape := ⟨2, ![512, 128]⟩
abbrev S128x512 : Shape := ⟨2, ![128, 512]⟩
abbrev S1024x512 : Shape := ⟨2, ![1024, 512]⟩
abbrev S128x1024 : Shape := ⟨2, ![128, 1024]⟩

abbrev nBuf : Space → Nat
  | .hbm => 47
  | .vmem => 38
  | .smem => 0
  | _ => 0

abbrev bufTy : (tb : Table) → Fin (tcTables nBuf tb) → BufTy
  | .hbm, ⟨0, _⟩ => ⟨S8192x768, .f32⟩
  | .hbm, ⟨1, _⟩ => ⟨S8192x512, .f32⟩
  | .hbm, ⟨2, _⟩ => ⟨S8192x32, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192x8x32, .f32⟩
  | .hbm, ⟨7, _⟩ => ⟨S_, .f32⟩
  | .hbm, ⟨8, _⟩ => ⟨S8192x8x1, .f32⟩
  | .hbm, ⟨9, _⟩ => ⟨S_, .f32⟩
  | .hbm, ⟨10, _⟩ => ⟨S8192x8x63, .f32⟩
  | .hbm, ⟨11, _⟩ => ⟨S8192x8x64, .f32⟩
  | .hbm, ⟨12, _⟩ => ⟨S8192x1x32, .f32⟩
  | .hbm, ⟨13, _⟩ => ⟨S8192x8x32, .f32⟩
  | .hbm, ⟨14, _⟩ => ⟨S8192x8x128, .f32⟩
  | .hbm, ⟨15, _⟩ => ⟨S8192x8x96, .f32⟩
  | .hbm, ⟨16, _⟩ => ⟨S_, .f32⟩
  | .hbm, ⟨17, _⟩ => ⟨S8192x8x96, .f32⟩
  | .hbm, ⟨18, _⟩ => ⟨S8192x8x96, .f32⟩
  | .hbm, ⟨19, _⟩ => ⟨S8192x8x128, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x8x64, .f32⟩
  | .hbm, ⟨24, _⟩ => ⟨S8192x8x128, .f32⟩
  | .hbm, ⟨25, _⟩ => ⟨S8192x1024, .f32⟩
  | .hbm, ⟨26, _⟩ => ⟨S8192x1024, .bf16⟩
  | .hbm, ⟨27, _⟩ => ⟨S8192x8x64, .f32⟩
  | .hbm, ⟨28, _⟩ => ⟨S8192x8x128, .f32⟩
  | .hbm, ⟨29, _⟩ => ⟨S8192x1024, .f32⟩
  | .hbm, ⟨30, _⟩ => ⟨S8192x1024, .bf16⟩
  | .hbm, ⟨31, _⟩ => ⟨S8192x1024, .bf16⟩
  | .hbm, ⟨32, _⟩ => ⟨S8x8192x1, .f32⟩
  | .hbm, ⟨33, _⟩ => ⟨S8192x1024, .bf16⟩
  | .hbm, ⟨34, _⟩ => ⟨S8x8192x1, .f32⟩
  | .hbm, ⟨35, _⟩ => ⟨S1024x8192, .f32⟩
  | .hbm, ⟨36, _⟩ => ⟨S1024x8192, .bf16⟩
  | .hbm, ⟨37, _⟩ => ⟨S1024x8192, .f32⟩
  | .hbm, ⟨38, _⟩ => ⟨S1024x8192, .bf16⟩
  | .hbm, ⟨39, _⟩ => ⟨S_, .f32⟩
  | .hbm, ⟨40, _⟩ => ⟨S8x128, .f32⟩
  | .hbm, ⟨41, _⟩ => ⟨S8192x8x128, .bf16⟩
  | .hbm, ⟨42, _⟩ => ⟨S8192x8x64, .bf16⟩
  | .hbm, ⟨43, _⟩ => ⟨S8192x512, .bf16⟩
  | .hbm, ⟨44, _⟩ => ⟨S8192x1024, .f32⟩
  | .hbm, ⟨45, _⟩ => ⟨S8192x1024, .f32⟩
  | .hbm, ⟨46, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S8x1024x1, .f32⟩
  | .local _ .vmem, ⟨15, _⟩ => ⟨S8x1024x1, .f32⟩
  | .local _ .vmem, ⟨16, _⟩ => ⟨S8192x128, .bf16⟩
  | .local _ .vmem, ⟨17, _⟩ => ⟨S8192x128, .bf16⟩
  | .local _ .vmem, ⟨18, _⟩ => ⟨S128x8192, .bf16⟩
  | .local _ .vmem, ⟨19, _⟩ => ⟨S128x8192, .bf16⟩
  | .local _ .vmem, ⟨20, _⟩ => ⟨S8192x128, .bf16⟩
  | .local _ .vmem, ⟨21, _⟩ => ⟨S8192x128, .bf16⟩
  | .local _ .vmem, ⟨22, _⟩ => ⟨S128x8192, .bf16⟩
  | .local _ .vmem, ⟨23, _⟩ => ⟨S128x8192, .bf16⟩
  | .local _ .vmem, ⟨24, _⟩ => ⟨S1x8192x1, .f32⟩
  | .local _ .vmem, ⟨25, _⟩ => ⟨S1x8192x1, .f32⟩
  | .local _ .vmem, ⟨26, _⟩ => ⟨S1x8192x1, .f32⟩
  | .local _ .vmem, ⟨27, _⟩ => ⟨S1x8192x1, .f32⟩
  | .local _ .vmem, ⟨28, _⟩ => ⟨S1024x128, .bf16⟩
  | .local _ .vmem, ⟨29, _⟩ => ⟨S1024x128, .bf16⟩
  | .local _ .vmem, ⟨30, _⟩ => ⟨S1024x128, .bf16⟩
  | .local _ .vmem, ⟨31, _⟩ => ⟨S1024x128, .bf16⟩
  | .local _ .vmem, ⟨32, _⟩ => ⟨S8192x128, .f32⟩
  | .local _ .vmem, ⟨33, _⟩ => ⟨S8192x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc2_sem10_0 : DmaSem sig := 36
abbrev cc2_sem10_1 : DmaSem sig := 37

abbrev nD : Nat := 1
abbrev τ : Topo := Topo.v7x

variable {F : FTy → Type} [FloatOps F]

abbrev grid0 : Pipeline.Grid := ⟨2, ![8, 4], ![false, false]⟩

def k0_mult1 : BitVec 32 :=
  let c8_i32 : BitVec 32 := 8#32
  let c0_i32 : BitVec 32 := 0#32
  let v4 : BitVec 32 := Scalar.muli c8_i32 c0_i32
  let c0_i32_2 : BitVec 32 := 0#32
  let v5 : BitVec 32 := Scalar.addi v4 c0_i32_2
  let c1024_i32 : BitVec 32 := 1024#32
  let v6 : BitVec 32 := Scalar.muli v5 c1024_i32
  v6
def k0_off1 (c0_i32_2 : BitVec 32) : Fin 2 → Nat :=
  let c8_i32 : BitVec 32 := 8#32
  let c0_i32 : BitVec 32 := 0#32
  let v4 : BitVec 32 := Scalar.muli c8_i32 c0_i32
  let v5 : BitVec 32 := Scalar.addi v4 c0_i32_2
  let c1024_i32 : BitVec 32 := 1024#32
  let v6 : BitVec 32 := Scalar.muli v5 c1024_i32
  let v7 : BitVec 32 := v6
  let v8 : Index := Scalar.indexCast v7
  let c0_3 : Index := 0#32
  ![v8.toNat, 0]
def k0_mult2 : BitVec 32 :=
  let c8_i32_8 : BitVec 32 := 8#32
  let c0_i32 : BitVec 32 := 0#32
  let v28 : BitVec 32 := Scalar.muli c8_i32_8 c0_i32
  let c1_i32 : BitVec 32 := 1#32
  let v29 : BitVec 32 := Scalar.addi v28 c1_i32
  let c1024_i32_9 : BitVec 32 := 1024#32
  let v30 : BitVec 32 := Scalar.muli v29 c1024_i32_9
  v30
def k0_mult3 : BitVec 32 :=
  let c8_i32_15 : BitVec 32 := 8#32
  let c0_i32 : BitVec 32 := 0#32
  let v52 : BitVec 32 := Scalar.muli c8_i32_15 c0_i32
  let c2_i32 : BitVec 32 := 2#32
  let v53 : BitVec 32 := Scalar.addi v52 c2_i32
  let c1024_i32_16 : BitVec 32 := 1024#32
  let v54 : BitVec 32 := Scalar.muli v53 c1024_i32_16
  v54
def k0_mult4 : BitVec 32 :=
  let c8_i32_22 : BitVec 32 := 8#32
  let c0_i32 : BitVec 32 := 0#32
  let v76 : BitVec 32 := Scalar.muli c8_i32_22 c0_i32
  let c3_i32 : BitVec 32 := 3#32
  let v77 : BitVec 32 := Scalar.addi v76 c3_i32
  let c1024_i32_23 : BitVec 32 := 1024#32
  let v78 : BitVec 32 := Scalar.muli v77 c1024_i32_23
  v78
def k0_mult5 : BitVec 32 :=
  let c8_i32_29 : BitVec 32 := 8#32
  let c0_i32 : BitVec 32 := 0#32
  let v100 : BitVec 32 := Scalar.muli c8_i32_29 c0_i32
  let c4_i32 : BitVec 32 := 4#32
  let v101 : BitVec 32 := Scalar.addi v100 c4_i32
  let c1024_i32_30 : BitVec 32 := 1024#32
  let v102 : BitVec 32 := Scalar.muli v101 c1024_i32_30
  v102
def k0_mult6 : BitVec 32 :=
  let c8_i32_36 : BitVec 32 := 8#32
  let c0_i32 : BitVec 32 := 0#32
  let v124 : BitVec 32 := Scalar.muli c8_i32_36 c0_i32
  let c5_i32 : BitVec 32 := 5#32
  let v125 : BitVec 32 := Scalar.addi v124 c5_i32
  let c1024_i32_37 : BitVec 32 := 1024#32
  let v126 : BitVec 32 := Scalar.muli v125 c1024_i32_37
  v126
def k0_mult7 : BitVec 32 :=
  let c8_i32_43 : BitVec 32 := 8#32
  let c0_i32 : BitVec 32 := 0#32
  let v148 : BitVec 32 := Scalar.muli c8_i32_43 c0_i32
  let c6_i32 : BitVec 32 := 6#32
  let v149 : BitVec 32 := Scalar.addi v148 c6_i32
  let c1024_i32_44 : BitVec 32 := 1024#32
  let v150 : BitVec 32 := Scalar.muli v149 c1024_i32_44
  v150
def k0_mult8 : BitVec 32 :=
  let c8_i32_50 : BitVec 32 := 8#32
  let c0_i32 : BitVec 32 := 0#32
  let v172 : BitVec 32 := Scalar.muli c8_i32_50 c0_i32
  let c7_i32 : BitVec 32 := 7#32
  let v173 : BitVec 32 := Scalar.addi v172 c7_i32
  let c1024_i32_51 : BitVec 32 := 1024#32
  let v174 : BitVec 32 := Scalar.muli v173 c1024_i32_51
  v174
def k0_mult9 : BitVec 32 :=
  let c8_i32_67 : BitVec 32 := 8#32
  let c0_i32_66 : BitVec 32 := 0#32
  let v210 : BitVec 32 := Scalar.muli c8_i32_67 c0_i32_66
  let c0_i32_68 : BitVec 32 := 0#32
  let v211 : BitVec 32 := Scalar.addi v210 c0_i32_68
  let c1024_i32_69 : BitVec 32 := 1024#32
  let v212 : BitVec 32 := Scalar.muli v211 c1024_i32_69
  v212
def k0_mult10 : BitVec 32 :=
  let c8_i32_75 : BitVec 32 := 8#32
  let c0_i32_66 : BitVec 32 := 0#32
  let v234 : BitVec 32 := Scalar.muli c8_i32_75 c0_i32_66
  let c1_i32_76 : BitVec 32 := 1#32
  let v235 : BitVec 32 := Scalar.addi v234 c1_i32_76
  let c1024_i32_77 : BitVec 32 := 1024#32
  let v236 : BitVec 32 := Scalar.muli v235 c1024_i32_77
  v236
def k0_mult11 : BitVec 32 :=
  let c8_i32_83 : BitVec 32 := 8#32
  let c0_i32_66 : BitVec 32 := 0#32
  let v258 : BitVec 32 := Scalar.muli c8_i32_83 c0_i32_66
  let c2_i32_84 : BitVec 32 := 2#32
  let v259 : BitVec 32 := Scalar.addi v258 c2_i32_84
  let c1024_i32_85 : BitVec 32 := 1024#32
  let v260 : BitVec 32 := Scalar.muli v259 c1024_i32_85
  v260
def k0_mult12 : BitVec 32 :=
  let c8_i32_91 : BitVec 32 := 8#32
  let c0_i32_66 : BitVec 32 := 0#32
  let v282 : BitVec 32 := Scalar.muli c8_i32_91 c0_i32_66
  let c3_i32_92 : BitVec 32 := 3#32
  let v283 : BitVec 32 := Scalar.addi v282 c3_i32_92
  let c1024_i32_93 : BitVec 32 := 1024#32
  let v284 : BitVec 32 := Scalar.muli v283 c1024_i32_93
  v284
def k0_mult13 : BitVec 32 :=
  let c8_i32_99 : BitVec 32 := 8#32
  let c0_i32_66 : BitVec 32 := 0#32
  let v306 : BitVec 32 := Scalar.muli c8_i32_99 c0_i32_66
  let c4_i32_100 : BitVec 32 := 4#32
  let v307 : BitVec 32 := Scalar.addi v306 c4_i32_100
  let c1024_i32_101 : BitVec 32 := 1024#32
  let v308 : BitVec 32 := Scalar.muli v307 c1024_i32_101
  v308
def k0_mult14 : BitVec 32 :=
  let c8_i32_107 : BitVec 32 := 8#32
  let c0_i32_66 : BitVec 32 := 0#32
  let v330 : BitVec 32 := Scalar.muli c8_i32_107 c0_i32_66
  let c5_i32_108 : BitVec 32 := 5#32
  let v331 : BitVec 32 := Scalar.addi v330 c5_i32_108
  let c1024_i32_109 : BitVec 32 := 1024#32
  let v332 : BitVec 32 := Scalar.muli v331 c1024_i32_109
  v332
def k0_mult15 : BitVec 32 :=
  let c8_i32_115 : BitVec 32 := 8#32
  let c0_i32_66 : BitVec 32 := 0#32
  let v354 : BitVec 32 := Scalar.muli c8_i32_115 c0_i32_66
  let c6_i32_116 : BitVec 32 := 6#32
  let v355 : BitVec 32 := Scalar.addi v354 c6_i32_116
  let c1024_i32_117 : BitVec 32 := 1024#32
  let v356 : BitVec 32 := Scalar.muli v355 c1024_i32_117
  v356
def k0_mult16 : BitVec 32 :=
  let c8_i32_123 : BitVec 32 := 8#32
  let c0_i32_66 : BitVec 32 := 0#32
  let v378 : BitVec 32 := Scalar.muli c8_i32_123 c0_i32_66
  let c7_i32_124 : BitVec 32 := 7#32
  let v379 : BitVec 32 := Scalar.addi v378 c7_i32_124
  let c1024_i32_125 : BitVec 32 := 1024#32
  let v380 : BitVec 32 := Scalar.muli v379 c1024_i32_125
  v380
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def k2_mult1 : BitVec 32 :=
  let c8_i32 : BitVec 32 := 8#32
  let c0_i32_4 : BitVec 32 := 0#32
  let v8 : BitVec 32 := Scalar.muli c8_i32 c0_i32_4
  let c0_i32_5 : BitVec 32 := 0#32
  let v9 : BitVec 32 := Scalar.addi v8 c0_i32_5
  let c1024_i32 : BitVec 32 := 1024#32
  let v10 : BitVec 32 := Scalar.muli v9 c1024_i32
  v10
def k2_off1 (c0_i32_5 : BitVec 32) : Fin 2 → Nat :=
  let c8_i32 : BitVec 32 := 8#32
  let c0_i32_4 : BitVec 32 := 0#32
  let v8 : BitVec 32 := Scalar.muli c8_i32 c0_i32_4
  let v9 : BitVec 32 := Scalar.addi v8 c0_i32_5
  let c1024_i32 : BitVec 32 := 1024#32
  let v10 : BitVec 32 := Scalar.muli v9 c1024_i32
  let v11 : BitVec 32 := v10
  let v12 : Index := Scalar.indexCast v11
  let c0_6 : Index := 0#32
  ![v12.toNat, 0]
def k2_off2 (c0_i32_5 : BitVec 32) : Fin 3 → Nat :=
  let c0_8 : Index := 0#32
  let c8_i32 : BitVec 32 := 8#32
  let c0_i32_4 : BitVec 32 := 0#32
  let v8 : BitVec 32 := Scalar.muli c8_i32 c0_i32_4
  let v9 : BitVec 32 := Scalar.addi v8 c0_i32_5
  let c1024_i32 : BitVec 32 := 1024#32
  let v10 : BitVec 32 := Scalar.muli v9 c1024_i32
  let v11 : BitVec 32 := v10
  let v16 : Index := Scalar.indexCast v11
  let c0_9 : Index := 0#32
  ![0, v16.toNat, 0]
def k2_off3 (c0_i32_5 : BitVec 32) : Fin 2 → Nat :=
  let c0_14 : Index := 0#32
  let c8_i32 : BitVec 32 := 8#32
  let c0_i32_4 : BitVec 32 := 0#32
  let v8 : BitVec 32 := Scalar.muli c8_i32 c0_i32_4
  let v9 : BitVec 32 := Scalar.addi v8 c0_i32_5
  let c1024_i32 : BitVec 32 := 1024#32
  let v10 : BitVec 32 := Scalar.muli v9 c1024_i32
  let v11 : BitVec 32 := v10
  let v33 : Index := Scalar.indexCast v11
  ![0, v33.toNat]
def k2_mult2 : BitVec 32 :=
  let c8_i32_21 : BitVec 32 := 8#32
  let c0_i32_4 : BitVec 32 := 0#32
  let v51 : BitVec 32 := Scalar.muli c8_i32_21 c0_i32_4
  let c1_i32 : BitVec 32 := 1#32
  let v52 : BitVec 32 := Scalar.addi v51 c1_i32
  let c1024_i32_22 : BitVec 32 := 1024#32
  let v53 : BitVec 32 := Scalar.muli v52 c1024_i32_22
  v53
def k2_mult3 : BitVec 32 :=
  let c8_i32_38 : BitVec 32 := 8#32
  let c0_i32_4 : BitVec 32 := 0#32
  let v94 : BitVec 32 := Scalar.muli c8_i32_38 c0_i32_4
  let c2_i32 : BitVec 32 := 2#32
  let v95 : BitVec 32 := Scalar.addi v94 c2_i32
  let c1024_i32_39 : BitVec 32 := 1024#32
  let v96 : BitVec 32 := Scalar.muli v95 c1024_i32_39
  v96
def k2_mult4 : BitVec 32 :=
  let c8_i32_55 : BitVec 32 := 8#32
  let c0_i32_4 : BitVec 32 := 0#32
  let v137 : BitVec 32 := Scalar.muli c8_i32_55 c0_i32_4
  let c3_i32 : BitVec 32 := 3#32
  let v138 : BitVec 32 := Scalar.addi v137 c3_i32
  let c1024_i32_56 : BitVec 32 := 1024#32
  let v139 : BitVec 32 := Scalar.muli v138 c1024_i32_56
  v139
def k2_mult5 : BitVec 32 :=
  let c8_i32_72 : BitVec 32 := 8#32
  let c0_i32_4 : BitVec 32 := 0#32
  let v180 : BitVec 32 := Scalar.muli c8_i32_72 c0_i32_4
  let c4_i32 : BitVec 32 := 4#32
  let v181 : BitVec 32 := Scalar.addi v180 c4_i32
  let c1024_i32_73 : BitVec 32 := 1024#32
  let v182 : BitVec 32 := Scalar.muli v181 c1024_i32_73
  v182
def k2_mult6 : BitVec 32 :=
  let c8_i32_89 : BitVec 32 := 8#32
  let c0_i32_4 : BitVec 32 := 0#32
  let v223 : BitVec 32 := Scalar.muli c8_i32_89 c0_i32_4
  let c5_i32 : BitVec 32 := 5#32
  let v224 : BitVec 32 := Scalar.addi v223 c5_i32
  let c1024_i32_90 : BitVec 32 := 1024#32
  let v225 : BitVec 32 := Scalar.muli v224 c1024_i32_90
  v225
def k2_mult7 : BitVec 32 :=
  let c8_i32_106 : BitVec 32 := 8#32
  let c0_i32_4 : BitVec 32 := 0#32
  let v266 : BitVec 32 := Scalar.muli c8_i32_106 c0_i32_4
  let c6_i32 : BitVec 32 := 6#32
  let v267 : BitVec 32 := Scalar.addi v266 c6_i32
  let c1024_i32_107 : BitVec 32 := 1024#32
  let v268 : BitVec 32 := Scalar.muli v267 c1024_i32_107
  v268
def k2_mult8 : BitVec 32 :=
  let c8_i32_123 : BitVec 32 := 8#32
  let c0_i32_4 : BitVec 32 := 0#32
  let v309 : BitVec 32 := Scalar.muli c8_i32_123 c0_i32_4
  let c7_i32 : BitVec 32 := 7#32
  let v310 : BitVec 32 := Scalar.addi v309 c7_i32
  let c1024_i32_124 : BitVec 32 := 1024#32
  let v311 : BitVec 32 := Scalar.muli v310 c1024_i32_124
  v311
def k2_mult9 : BitVec 32 :=
  let c8_i32_150 : BitVec 32 := 8#32
  let c0_i32_149 : BitVec 32 := 0#32
  let v361 : BitVec 32 := Scalar.muli c8_i32_150 c0_i32_149
  let c0_i32_151 : BitVec 32 := 0#32
  let v362 : BitVec 32 := Scalar.addi v361 c0_i32_151
  let c1024_i32_152 : BitVec 32 := 1024#32
  let v363 : BitVec 32 := Scalar.muli v362 c1024_i32_152
  v363
def k2_mult10 : BitVec 32 :=
  let c8_i32_168 : BitVec 32 := 8#32
  let c0_i32_149 : BitVec 32 := 0#32
  let v404 : BitVec 32 := Scalar.muli c8_i32_168 c0_i32_149
  let c1_i32_169 : BitVec 32 := 1#32
  let v405 : BitVec 32 := Scalar.addi v404 c1_i32_169
  let c1024_i32_170 : BitVec 32 := 1024#32
  let v406 : BitVec 32 := Scalar.muli v405 c1024_i32_170
  v406
def k2_mult11 : BitVec 32 :=
  let c8_i32_186 : BitVec 32 := 8#32
  let c0_i32_149 : BitVec 32 := 0#32
  let v447 : BitVec 32 := Scalar.muli c8_i32_186 c0_i32_149
  let c2_i32_187 : BitVec 32 := 2#32
  let v448 : BitVec 32 := Scalar.addi v447 c2_i32_187
  let c1024_i32_188 : BitVec 32 := 1024#32
  let v449 : BitVec 32 := Scalar.muli v448 c1024_i32_188
  v449
def k2_mult12 : BitVec 32 :=
  let c8_i32_204 : BitVec 32 := 8#32
  let c0_i32_149 : BitVec 32 := 0#32
  let v490 : BitVec 32 := Scalar.muli c8_i32_204 c0_i32_149
  let c3_i32_205 : BitVec 32 := 3#32
  let v491 : BitVec 32 := Scalar.addi v490 c3_i32_205
  let c1024_i32_206 : BitVec 32 := 1024#32
  let v492 : BitVec 32 := Scalar.muli v491 c1024_i32_206
  v492
def k2_mult13 : BitVec 32 :=
  let c8_i32_222 : BitVec 32 := 8#32
  let c0_i32_149 : BitVec 32 := 0#32
  let v533 : BitVec 32 := Scalar.muli c8_i32_222 c0_i32_149
  let c4_i32_223 : BitVec 32 := 4#32
  let v534 : BitVec 32 := Scalar.addi v533 c4_i32_223
  let c1024_i32_224 : BitVec 32 := 1024#32
  let v535 : BitVec 32 := Scalar.muli v534 c1024_i32_224
  v535
def k2_mult14 : BitVec 32 :=
  let c8_i32_240 : BitVec 32 := 8#32
  let c0_i32_149 : BitVec 32 := 0#32
  let v576 : BitVec 32 := Scalar.muli c8_i32_240 c0_i32_149
  let c5_i32_241 : BitVec 32 := 5#32
  let v577 : BitVec 32 := Scalar.addi v576 c5_i32_241
  let c1024_i32_242 : BitVec 32 := 1024#32
  let v578 : BitVec 32 := Scalar.muli v577 c1024_i32_242
  v578
def k2_mult15 : BitVec 32 :=
  let c8_i32_258 : BitVec 32 := 8#32
  let c0_i32_149 : BitVec 32 := 0#32
  let v619 : BitVec 32 := Scalar.muli c8_i32_258 c0_i32_149
  let c6_i32_259 : BitVec 32 := 6#32
  let v620 : BitVec 32 := Scalar.addi v619 c6_i32_259
  let c1024_i32_260 : BitVec 32 := 1024#32
  let v621 : BitVec 32 := Scalar.muli v620 c1024_i32_260
  v621
def k2_mult16 : BitVec 32 :=
  let c8_i32_276 : BitVec 32 := 8#32
  let c0_i32_149 : BitVec 32 := 0#32
  let v662 : BitVec 32 := Scalar.muli c8_i32_276 c0_i32_149
  let c7_i32_277 : BitVec 32 := 7#32
  let v663 : BitVec 32 := Scalar.addi v662 c7_i32_277
  let c1024_i32_278 : BitVec 32 := 1024#32
  let v664 : BitVec 32 := Scalar.muli v663 c1024_i32_278
  v664
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S128x8192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x8192x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x8192x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S8192x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1024x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1024x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]
-- ==== AttRefIdeal.lean ====
abbrev S8192x768 : Shape := ⟨2, ![8192, 768]⟩
abbrev S8192x512 : Shape := ⟨2, ![8192, 512]⟩
abbrev S8192x32 : Shape := ⟨2, ![8192, 32]⟩
abbrev S8192x8x96 : Shape := ⟨3, ![8192, 8, 96]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x32 : Shape := ⟨3, ![8, 8192, 32]⟩
abbrev S8x8192x64 : Shape := ⟨3, ![8, 8192, 64]⟩
abbrev S8192x8x128 : Shape := ⟨3, ![8192, 8, 128]⟩
abbrev S8192x1024 : Shape := ⟨2, ![8192, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x512, .f32⟩
  | .hbm, ⟨2, _⟩ => ⟨S8192x32, .f32⟩
  | .hbm, ⟨3, _⟩ => ⟨S8192x512, .f32⟩
  | .hbm, ⟨4, _⟩ => ⟨S8192x512, .f32⟩
  | .hbm, ⟨5, _⟩ => ⟨S8192x8x96, .f32⟩
  | .hbm, ⟨6, _⟩ => ⟨S8192x8x64, .f32⟩
  | .hbm, ⟨7, _⟩ => ⟨S8192x8x64, .f32⟩
  | .hbm, ⟨8, _⟩ => ⟨S8192x1x32, .f32⟩
  | .hbm, ⟨9, _⟩ => ⟨S8192x8x32, .f32⟩
  | .hbm, ⟨10, _⟩ => ⟨S8192x8x64, .f32⟩
  | .hbm, ⟨11, _⟩ => ⟨S8x8192x8192, .f32⟩
  | .hbm, ⟨12, _⟩ => ⟨S8192x8x32, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x8192, .f32⟩
  | .hbm, ⟨22, _⟩ => ⟨S8x8192x8192, .i1⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .i1⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x1, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S8x64x8192, .f32⟩
  | .hbm, ⟨57, _⟩ => ⟨S8192x8x64, .f32⟩
  | .hbm, ⟨58, _⟩ => ⟨S8192x512, .f32⟩
  | .hbm, ⟨59, _⟩ => ⟨S8192x8x64, .f32⟩
  | .hbm, ⟨60, _⟩ => ⟨S8x64x8192, .f32⟩
  | .hbm, ⟨61, _⟩ => ⟨S8x8192x8192, .f32⟩
  | .hbm, ⟨62, _⟩ => ⟨S8x64x8192, .f32⟩
  | .hbm, ⟨63, _⟩ => ⟨S8192x8x64, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192x8192, .f32⟩
  | .hbm, ⟨80, _⟩ => ⟨S8x8192x8192, .f32⟩
  | .hbm, ⟨81, _⟩ => ⟨S8x8192x32, .f32⟩
  | .hbm, ⟨82, _⟩ => ⟨S8192x8x32, .f32⟩
  | .hbm, ⟨83, _⟩ => ⟨S8x8192x32, .f32⟩
  | .hbm, ⟨84, _⟩ => ⟨S8192x8x32, .f32⟩
  | .hbm, ⟨85, _⟩ => ⟨S_, .f32⟩
  | .hbm, ⟨86, _⟩ => ⟨S8192x8x96, .f32⟩
  | .hbm, ⟨87, _⟩ => ⟨S8x8192x64, .f32⟩
  | .hbm, ⟨88, _⟩ => ⟨S8192x8x64, .f32⟩
  | .hbm, ⟨89, _⟩ => ⟨S8x8192x64, .f32⟩
  | .hbm, ⟨90, _⟩ => ⟨S8192x8x64, .f32⟩
  | .hbm, ⟨91, _⟩ => ⟨S_, .f32⟩
  | .hbm, ⟨92, _⟩ => ⟨S8192x8x96, .f32⟩
  | .hbm, ⟨93, _⟩ => ⟨S8192x8x96, .f32⟩
  | .hbm, ⟨94, _⟩ => ⟨S8192x8x96, .f32⟩
  | .hbm, ⟨95, _⟩ => ⟨S8192x8x64, .f32⟩
  | .hbm, ⟨96, _⟩ => ⟨S8x8192x8192, .f32⟩
  | .hbm, ⟨97, _⟩ => ⟨S8192x8x32, .f32⟩
  | .hbm, ⟨98, _⟩ => ⟨S8x8192x8192, .f32⟩
  | .hbm, ⟨99, _⟩ => ⟨S8x8192x8192, .f32⟩
  | .hbm, ⟨100, _⟩ => ⟨S_, .f32⟩
  | .hbm, ⟨101, _⟩ => ⟨S8x8192x8192, .f32⟩
  | .hbm, ⟨102, _⟩ => ⟨S8x8192x8192, .f32⟩
  | .hbm, ⟨103, _⟩ => ⟨S8x8192x8192, .f32⟩
  | .hbm, ⟨104, _⟩ => ⟨S_, .f32⟩
  | .hbm, ⟨105, _⟩ => ⟨S8x8192, .f32⟩
  | .hbm, ⟨106, _⟩ => ⟨S8x8192x1, .f32⟩
  | .hbm, ⟨107, _⟩ => ⟨S8x8192x1, .f32⟩
  | .hbm, ⟨108, _⟩ => ⟨S_, .i32⟩
  | .hbm, ⟨109, _⟩ => ⟨S_, .f32⟩
  | .hbm, ⟨110, _⟩ => ⟨S8192x8x128, .f32⟩
  | .hbm, ⟨111, _⟩ => ⟨S8192x1024, .f32⟩
  | .hbm, ⟨112, _⟩ => ⟨S_, .i32⟩
  | .hbm, ⟨113, _⟩ => ⟨S_, .f32⟩
  | .hbm, ⟨114, _⟩ => ⟨S8192x8x128, .f32⟩
  | .hbm, ⟨115, _⟩ => ⟨S8192x1024, .f32⟩
  | .hbm, ⟨116, _⟩ => ⟨S_, .i32⟩
  | .hbm, ⟨117, _⟩ => ⟨S_, .f32⟩
  | .hbm, ⟨118, _⟩ => ⟨S8192x8x128, .f32⟩
  | .hbm, ⟨119, _⟩ => ⟨S8192x1024, .f32⟩
  | .hbm, ⟨120, _⟩ => ⟨S8192x512, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_c : Ref sig .tc := ⟨.hbm, 108, rfl⟩
abbrev main_call0_v0 : Ref sig .tc := ⟨.hbm, 109, rfl⟩
abbrev main_v85 : Ref sig .tc := ⟨.hbm, 110, rfl⟩
abbrev main_v86 : Ref sig .tc := ⟨.hbm, 111, rfl⟩
abbrev main_c_17 : Ref sig .tc := ⟨.hbm, 112, rfl⟩
abbrev main_call1_v0 : Ref sig .tc := ⟨.hbm, 113, rfl⟩
abbrev main_v87 : Ref sig .tc := ⟨.hbm, 114, rfl⟩
abbrev main_v88 : Ref sig .tc := ⟨.hbm, 115, rfl⟩
abbrev main_c_18 : Ref sig .tc := ⟨.hbm, 116, rfl⟩
abbrev main_call2_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Dhf.lean ====
abbrev S8192x1024 : Shape := ⟨2, ![8192, 1024]⟩
abbrev S1x1024 : Shape := ⟨2, ![1, 1024]⟩
abbrev S8192x5632 : Shape := ⟨2, ![8192, 5632]⟩
abbrev S1024x5632 : Shape := ⟨2, ![1024, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S1x512x2816 : Shape := ⟨3, ![1, 512, 2816]⟩
abbrev S512x1024 : Shape := ⟨2, ![512, 1024]⟩
abbrev S1024x2816 : Shape := ⟨2, ![1024, 2816]⟩
abbrev S1x256x2816 : Shape := ⟨3, ![1, 256, 2816]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x5632, .f32⟩
  | .hbm, ⟨4, _⟩ => ⟨S1024x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S1024x5632, .bf16⟩
  | .hbm, ⟨12, _⟩ => ⟨S8192x1024, .f32⟩
  | .hbm, ⟨13, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DhfRefIdeal.lean ====
abbrev S8192x1024 : Shape := ⟨2, ![8192, 1024]⟩
abbrev S1x1024 : Shape := ⟨2, ![1, 1024]⟩
abbrev S8192x5632 : Shape := ⟨2, ![8192, 5632]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x5632, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Ple.lean ====
abbrev S8192x1024 : Shape := ⟨2, ![8192, 1024]⟩
abbrev S1x1024 : Shape := ⟨2, ![1, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S512x1024 : Shape := ⟨2, ![512, 1024]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 31
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x256, .f32⟩
  | .hbm, ⟨3, _⟩ => ⟨S8192x1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1x1024, .f32⟩
  | .hbm, ⟨24, _⟩ => ⟨S1024x1024, .bf16⟩
  | .hbm, ⟨25, _⟩ => ⟨S256x1024, .bf16⟩
  | .hbm, ⟨26, _⟩ => ⟨S1x128, .f32⟩
  | .hbm, ⟨27, _⟩ => ⟨S8192x1024, .f32⟩
  | .hbm, ⟨28, _⟩ => ⟨S8192x1024, .bf16⟩
  | .hbm, ⟨29, _⟩ => ⟨S8192x1024, .bf16⟩
  | .hbm, ⟨30, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleRefIdeal.lean ====
abbrev S8192x1024 : Shape := ⟨2, ![8192, 1024]⟩
abbrev S1x1024 : Shape := ⟨2, ![1, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x256, .f32⟩
  | .hbm, ⟨3, _⟩ => ⟨S8192x1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S1x128, .f32⟩
  | .hbm, ⟨110, _⟩ => ⟨S8192x1024, .bf16⟩
  | .hbm, ⟨111, _⟩ => ⟨S8192x1024, .bf16⟩
  | .hbm, ⟨112, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_cst_14 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_cst_21 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Qk.lean ====
abbrev S8192x768 : Shape := ⟨2, ![8192, 768]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S8192x8x96 : Shape := ⟨3, ![8192, 8, 96]⟩
abbrev S8192x8x128 : Shape := ⟨3, ![8192, 8, 128]⟩
abbrev S8192x1024 : Shape := ⟨2, ![8192, 1024]⟩
abbrev S1024x1024 : Shape := ⟨2, ![1024, 1024]⟩
abbrev S1024x128 : Shape := ⟨2, ![1024, 128]⟩

abbrev nBuf : Space → Nat
  | .hbm => 59
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S_, .f32⟩
  | .hbm, ⟨28, _⟩ => ⟨S8192x16, .f32⟩
  | .hbm, ⟨29, _⟩ => ⟨S_, .f32⟩
  | .hbm, ⟨30, _⟩ => ⟨S8192x64, .f32⟩
  | .hbm, ⟨31, _⟩ => ⟨S_, .f32⟩
  | .hbm, ⟨32, _⟩ => ⟨S8192x32, .f32⟩
  | .hbm, ⟨33, _⟩ => ⟨S_, .f32⟩
  | .hbm, ⟨34, _⟩ => ⟨S8192x32, .f32⟩
  | .hbm, ⟨35, _⟩ => ⟨S8192x32, .f32⟩
  | .hbm, ⟨36, _⟩ => ⟨S8192x128, .f32⟩
  | .hbm, ⟨37, _⟩ => ⟨S_, .f32⟩
  | .hbm, ⟨38, _⟩ => ⟨S8192x64, .f32⟩
  | .hbm, ⟨39, _⟩ => ⟨S8192x64, .f32⟩
  | .hbm, ⟨40, _⟩ => ⟨S8192x16, .f32⟩
  | .hbm, ⟨41, _⟩ => ⟨S8192x128, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S8192x128, .f32⟩
  | .hbm, ⟨46, _⟩ => ⟨S8192x8x96, .f32⟩
  | .hbm, ⟨47, _⟩ => ⟨S_, .i32⟩
  | .hbm, ⟨48, _⟩ => ⟨S_, .f32⟩
  | .hbm, ⟨49, _⟩ => ⟨S8192x8x128, .f32⟩
  | .hbm, ⟨50, _⟩ => ⟨S8192x1024, .f32⟩
  | .hbm, ⟨51, _⟩ => ⟨S8192x8x96, .f32⟩
  | .hbm, ⟨52, _⟩ => ⟨S_, .i32⟩
  | .hbm, ⟨53, _⟩ => ⟨S_, .f32⟩
  | .hbm, ⟨54, _⟩ => ⟨S8192x8x128, .f32⟩
  | .hbm, ⟨55, _⟩ => ⟨S8192x1024, .f32⟩
  | .hbm, ⟨56, _⟩ => ⟨S8192x1024, .bf16⟩
  | .hbm, ⟨57, _⟩ => ⟨S8192x128, .f32⟩
  | .hbm, ⟨58, _⟩ => ⟨S8192x32, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkRefIdeal.lean ====
abbrev S8192x768 : Shape := ⟨2, ![8192, 768]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x8x96 : Shape := ⟨3, ![8192, 8, 96]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x8x16 : Shape := ⟨3, ![8192, 8, 16]⟩
abbrev S8192x8x128 : Shape := ⟨3, ![8192, 8, 128]⟩
abbrev S8192x1024 : Shape := ⟨2, ![8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8192x1, .f32⟩
  | .hbm, ⟨18, _⟩ => ⟨S1x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x8x96, .f32⟩
  | .hbm, ⟨26, _⟩ => ⟨S_, .f32⟩
  | .hbm, ⟨27, _⟩ => ⟨S8192x768, .f32⟩
  | .hbm, ⟨28, _⟩ => ⟨S_, .f32⟩
  | .hbm, ⟨29, _⟩ => ⟨S8192x32, .f32⟩
  | .hbm, ⟨30, _⟩ => ⟨S8192x8x96, .f32⟩
  | .hbm, ⟨31, _⟩ => ⟨S8192x8x64, .f32⟩
  | .hbm, ⟨32, _⟩ => ⟨S8192x8x32, .f32⟩
  | .hbm, ⟨33, _⟩ => ⟨S8192x1x32, .f32⟩
  | .hbm, ⟨34, _⟩ => ⟨S8192x8x32, .f32⟩
  | .hbm, ⟨35, _⟩ => ⟨S8192x8x32, .f32⟩
  | .hbm, ⟨36, _⟩ => ⟨S8192x8x16, .f32⟩
  | .hbm, ⟨37, _⟩ => ⟨S8192x8x16, .f32⟩
  | .hbm, ⟨38, _⟩ => ⟨S8192x8x16, .f32⟩
  | .hbm, ⟨39, _⟩ => ⟨S8192x8x32, .f32⟩
  | .hbm, ⟨40, _⟩ => ⟨S8192x1x32, .f32⟩
  | .hbm, ⟨41, _⟩ => ⟨S8192x8x32, .f32⟩
  | .hbm, ⟨42, _⟩ => ⟨S8192x8x32, .f32⟩
  | .hbm, ⟨43, _⟩ => ⟨S8192x8x32, .f32⟩
  | .hbm, ⟨44, _⟩ => ⟨S8192x1x32, .f32⟩
  | .hbm, ⟨45, _⟩ => ⟨S8192x8x32, .f32⟩
  | .hbm, ⟨46, _⟩ => ⟨S8192x8x96, .f32⟩
  | .hbm, ⟨47, _⟩ => ⟨S8192x8x96, .f32⟩
  | .hbm, ⟨48, _⟩ => ⟨S8192x8x32, .f32⟩
  | .hbm, ⟨49, _⟩ => ⟨S8192x8x64, .f32⟩
  | .hbm, ⟨50, _⟩ => ⟨S8192x8x32, .f32⟩
  | .hbm, ⟨51, _⟩ => ⟨S_, .f32⟩
  | .hbm, ⟨52, _⟩ => ⟨S8192x32, .f32⟩
  | .hbm, ⟨53, _⟩ => ⟨S8192x1x32, .f32⟩
  | .hbm, ⟨54, _⟩ => ⟨S_, .f32⟩
  | .hbm, ⟨55, _⟩ => ⟨S8192x32, .f32⟩
  | .hbm, ⟨56, _⟩ => ⟨S8192x8x32, .f32⟩
  | .hbm, ⟨57, _⟩ => ⟨S8192x8x32, .f32⟩
  | .hbm, ⟨58, _⟩ => ⟨S8192x8x16, .f32⟩
  | .hbm, ⟨59, _⟩ => ⟨S8192x8x16, .f32⟩
  | .hbm, ⟨60, _⟩ => ⟨S8192x8x16, .f32⟩
  | .hbm, ⟨61, _⟩ => ⟨S8192x8x32, .f32⟩
  | .hbm, ⟨62, _⟩ => ⟨S8192x8x32, .f32⟩
  | .hbm, ⟨63, _⟩ => ⟨S8192x8x32, .f32⟩
  | .hbm, ⟨64, _⟩ => ⟨S8192x8x32, .f32⟩
  | .hbm, ⟨65, _⟩ => ⟨S_, .f32⟩
  | .hbm, ⟨66, _⟩ => ⟨S8192x8x96, .f32⟩
  | .hbm, ⟨67, _⟩ => ⟨S_, .f32⟩
  | .hbm, ⟨68, _⟩ => ⟨S8192x8x96, .f32⟩
  | .hbm, ⟨69, _⟩ => ⟨S8192x8x96, .f32⟩
  | .hbm, ⟨70, _⟩ => ⟨S8192x768, .f32⟩
  | .hbm, ⟨71, _⟩ => ⟨S8192x8x96, .f32⟩
  | .hbm, ⟨72, _⟩ => ⟨S_, .i32⟩
  | .hbm, ⟨73, _⟩ => ⟨S_, .f32⟩
  | .hbm, ⟨74, _⟩ => ⟨S8192x8x128, .f32⟩
  | .hbm, ⟨75, _⟩ => ⟨S8192x1024, .f32⟩
  | .hbm, ⟨76, _⟩ => ⟨S8192x1024, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_5 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_7 : Ref sig .tc := ⟨.hbm, 65, rfl⟩
abbrev main_v55 : Ref sig .tc := ⟨.hbm, 66, rfl⟩
abbrev main_cst_8 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c : Ref sig .tc := ⟨.hbm, 72, rfl⟩
abbrev main_call0_v0 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Pre.lean ====
abbrev S8192x1952 : Shape := ⟨2, ![8192, 1952]⟩
abbrev S3x512 : Shape := ⟨2, ![3, 512]⟩
abbrev S1x256 : Shape := ⟨2, ![1, 256]⟩
abbrev S1x128 : Shape := ⟨2, ![1, 128]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S8192x1920 : Shape := ⟨2, ![8192, 1920]⟩
abbrev S8192x2048 : Shape := ⟨2, ![8192, 2048]⟩
abbrev S8x512 : Shape := ⟨2, ![8, 512]⟩
abbrev S8192x512 : Shape := ⟨2, ![8192, 512]⟩
abbrev S8192x256 : Shape := ⟨2, ![8192, 256]⟩
abbrev S1024x2048 : Shape := ⟨2, ![1024, 2048]⟩
abbrev S1024x128 : Shape := ⟨2, ![1024, 128]⟩
abbrev S1024x512 : Shape := ⟨2, ![1024, 512]⟩
abbrev S1024x256 : Shape := ⟨2, ![1024, 256]⟩
abbrev S1x512 : Shape := ⟨2, ![1, 512]⟩
abbrev S1024 : Shape := ⟨1, ![1024]⟩
abbrev S1024x1 : Shape := ⟨2, ![1024, 1]⟩

abbrev nBuf : Space → Nat
  | .hbm => 62
  | .vmem => 27
  | .smem => 0
  | _ => 0

abbrev bufTy : (tb : Table) → Fin (tcTables nBuf tb) → BufTy
  | .hbm, ⟨0, _⟩ => ⟨S8192x1952, .f32⟩
  | .hbm, ⟨1, _⟩ => ⟨S3x512, .f32⟩
  | .hbm, ⟨2, _⟩ => ⟨S1x256, .f32⟩
  | .hbm, ⟨3, _⟩ => ⟨S1x128, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S_, .f32⟩
  | .hbm, ⟨32, _⟩ => ⟨S8192x64, .f32⟩
  | .hbm, ⟨33, _⟩ => ⟨S_, .f32⟩
  | .hbm, ⟨34, _⟩ => ⟨S8192x32, .f32⟩
  | .hbm, ⟨35, _⟩ => ⟨S_, .f32⟩
  | .hbm, ⟨36, _⟩ => ⟨S8192x32, .f32⟩
  | .hbm, ⟨37, _⟩ => ⟨S8192x32, .f32⟩
  | .hbm, ⟨38, _⟩ => ⟨S8192x128, .f32⟩
  | .hbm, ⟨39, _⟩ => ⟨S_, .f32⟩
  | .hbm, ⟨40, _⟩ => ⟨S8192x64, .f32⟩
  | .hbm, ⟨41, _⟩ => ⟨S8192x64, .f32⟩
  | .hbm, ⟨42, _⟩ => ⟨S8192x16, .f32⟩
  | .hbm, ⟨43, _⟩ => ⟨S8192x128, .f32⟩
  | .hbm, ⟨44, _⟩ => ⟨S_, .f32⟩
  | .hbm, ⟨45, _⟩ => ⟨S8192x64, .f32⟩
  | .hbm, ⟨46, _⟩ => ⟨S8192x64, .f32⟩
  | .hbm, ⟨47, _⟩ => ⟨S8192x128, .f32⟩
  | .hbm, ⟨48, _⟩ => ⟨S8192x1920, .f32⟩
  | .hbm, ⟨49, _⟩ => ⟨S_, .f32⟩
  | .hbm, ⟨50, _⟩ => ⟨S8192x64, .f32⟩
  | .hbm, ⟨51, _⟩ => ⟨S8192x32, .f32⟩
  | .hbm, ⟨52, _⟩ => ⟨S_, .f32⟩
  | .hbm, ⟨53, _⟩ => ⟨S8192x32, .f32⟩
  | .hbm, ⟨54, _⟩ => ⟨S8192x2048, .f32⟩
  | .hbm, ⟨55, _⟩ => ⟨S_, .i32⟩
  | .hbm, ⟨56, _⟩ => ⟨S_, .f32⟩
  | .hbm, ⟨57, _⟩ => ⟨S8x512, .f32⟩
  | .hbm, ⟨58, _⟩ => ⟨S8192x512, .bf16⟩
  | .hbm, ⟨59, _⟩ => ⟨S8192x256, .bf16⟩
  | .hbm, ⟨60, _⟩ => ⟨S8192x128, .bf16⟩
  | .hbm, ⟨61, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S1x256, .f32⟩
  | .local _ .vmem, ⟨12, _⟩ => ⟨S1x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x512, .bf16⟩
  | .local _ .vmem, ⟨20, _⟩ => ⟨S1024x512, .bf16⟩
  | .local _ .vmem, ⟨21, _⟩ => ⟨S1024x256, .bf16⟩
  | .local _ .vmem, ⟨22, _⟩ => ⟨S1024x256, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .f32⟩
  | .local _ .vmem, ⟨26, _⟩ => ⟨S1024x128, .f32⟩
  | _, _ => ⟨S8192x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_call0_v0 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PreRefIdeal.lean ====
abbrev S8192x1952 : Shape := ⟨2, ![8192, 1952]⟩
abbrev S3x512 : Shape := ⟨2, ![3, 512]⟩
abbrev S1x256 : Shape := ⟨2, ![1, 256]⟩
abbrev S1x128 : Shape := ⟨2, ![1, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x512 : Shape := ⟨2, ![8192, 512]⟩
abbrev S8192x256 : Shape := ⟨2, ![8192, 256]⟩
abbrev S8192x128 : Shape := ⟨2, ![8192, 128]⟩
abbrev S1x512 : Shape := ⟨2, ![1, 512]⟩
abbrev S8194x512 : Shape := ⟨2, ![8194, 512]⟩
abbrev S512 : Shape := ⟨1, ![512]⟩

abbrev nBuf : Space → Nat
  | .hbm => 101
  | .vmem => 0
  | .smem => 0
  | _ => 0

abbrev bufTy : (tb : Table) → Fin (tcTables nBuf tb) → BufTy
  | .hbm, ⟨0, _⟩ => ⟨S8192x1952, .f32⟩
  | .hbm, ⟨1, _⟩ => ⟨S3x512, .f32⟩
  | .hbm, ⟨2, _⟩ => ⟨S1x256, .f32⟩
  | .hbm, ⟨3, _⟩ => ⟨S1x128, .f32⟩
  | .hbm, ⟨4, _⟩ => ⟨S8192, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S8192x1, .f32⟩
  | .hbm, ⟨20, _⟩ => ⟨S1x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x256, .f32⟩
  | .hbm, ⟨31, _⟩ => ⟨S8192x128, .f32⟩
  | .hbm, ⟨32, _⟩ => ⟨S8192x32, .f32⟩
  | .hbm, ⟨33, _⟩ => ⟨S8192x512, .f32⟩
  | .hbm, ⟨34, _⟩ => ⟨S_, .f32⟩
  | .hbm, ⟨35, _⟩ => ⟨S1x512, .f32⟩
  | .hbm, ⟨36, _⟩ => ⟨S8194x512, .f32⟩
  | .hbm, ⟨37, _⟩ => ⟨S8192x512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S512, .f32⟩
  | .hbm, ⟨53, _⟩ => ⟨S1x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x32, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S_, .i32⟩
  | .hbm, ⟨66, _⟩ => ⟨S_, .f32⟩
  | .hbm, ⟨67, _⟩ => ⟨S8192x128, .f32⟩
  | .hbm, ⟨68, _⟩ => ⟨S8192x512, .bf16⟩
  | .hbm, ⟨69, _⟩ => ⟨S8192x256, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x256, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S8192x256, .bf16⟩
  | .hbm, ⟨85, _⟩ => ⟨S8192x128, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S8192x1, .f32⟩
  | .hbm, ⟨96, _⟩ => ⟨S8192x128, .f32⟩
  | .hbm, ⟨97, _⟩ => ⟨S8192x128, .f32⟩
  | .hbm, ⟨98, _⟩ => ⟨S8192x128, .f32⟩
  | .hbm, ⟨99, _⟩ => ⟨S8192x128, .f32⟩
  | .hbm, ⟨100, _⟩ => ⟨S8192x128, .bf16⟩
  | _, _ => ⟨S8192x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_c : Ref sig .tc := ⟨.hbm, 65, rfl⟩
abbrev main_call0_v0 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_cst_9 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== In.lean ====
abbrev S8192x1024 : Shape := ⟨2, ![8192, 1024]⟩
abbrev S1x1024 : Shape := ⟨2, ![1, 1024]⟩
abbrev S1024x1952 : Shape := ⟨2, ![1024, 1952]⟩
abbrev S_ : Shape := ⟨0, ![]⟩
abbrev S1024x64 : Shape := ⟨2, ![1024, 64]⟩
abbrev S1024x32 : Shape := ⟨2, ![1024, 32]⟩
abbrev S1024x1920 : Shape := ⟨2, ![1024, 1920]⟩
abbrev S1024x2048 : Shape := ⟨2, ![1024, 2048]⟩
abbrev S8192x2048 : Shape := ⟨2, ![8192, 2048]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 13
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1952, .f32⟩
  | .hbm, ⟨3, _⟩ => ⟨S1024x1952, .bf16⟩
  | .hbm, ⟨4, _⟩ => ⟨S_, .bf16⟩
  | .hbm, ⟨5, _⟩ => ⟨S1024x64, .bf16⟩
  | .hbm, ⟨6, _⟩ => ⟨S_, .bf16⟩
  | .hbm, ⟨7, _⟩ => ⟨S1024x32, .bf16⟩
  | .hbm, ⟨8, _⟩ => ⟨S1024x1920, .bf16⟩
  | .hbm, ⟨9, _⟩ => ⟨S1024x32, .bf16⟩
  | .hbm, ⟨10, _⟩ => ⟨S1024x2048, .bf16⟩
  | .hbm, ⟨11, _⟩ => ⟨S8192x1024, .bf16⟩
  | .hbm, ⟨12, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .f32⟩
  | .local _ .vmem, ⟨7, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRefIdeal.lean ====
abbrev S8192x1024 : Shape := ⟨2, ![8192, 1024]⟩
abbrev S1x1024 : Shape := ⟨2, ![1, 1024]⟩
abbrev S1024x1952 : Shape := ⟨2, ![1024, 1952]⟩
abbrev S_ : Shape := ⟨0, ![]⟩
abbrev S8192 : Shape := ⟨1, ![8192]⟩
abbrev S8192x1 : Shape := ⟨2, ![8192, 1]⟩
abbrev S8192x1952 : Shape := ⟨2, ![8192, 1952]⟩
abbrev S8192x1920 : Shape := ⟨2, ![8192, 1920]⟩
abbrev S8192x64 : Shape := ⟨2, ![8192, 64]⟩
abbrev S8192x32 : Shape := ⟨2, ![8192, 32]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1952, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1952, .f32⟩
  | .hbm, ⟨19, _⟩ => ⟨S8192x1920, .f32⟩
  | .hbm, ⟨20, _⟩ => ⟨S_, .f32⟩
  | .hbm, ⟨21, _⟩ => ⟨S8192x64, .f32⟩
  | .hbm, ⟨22, _⟩ => ⟨S8192x32, .f32⟩
  | .hbm, ⟨23, _⟩ => ⟨S_, .f32⟩
  | .hbm, ⟨24, _⟩ => ⟨S8192x32, .f32⟩
  | .hbm, ⟨25, _⟩ => ⟨S8192x2048, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Down.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1024x2816 : Shape := ⟨2, ![1024, 2816]⟩
abbrev S1024x1024 : Shape := ⟨2, ![1024, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Mo.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S8192x8x64 : Shape := ⟨3, ![8192, 8, 64]⟩
abbrev S_ : Shape := ⟨0, ![]⟩
abbrev S8192x8x128 : Shape := ⟨3, ![8192, 8, 128]⟩
abbrev S512x1024 : Shape := ⟨2, ![512, 1024]⟩
abbrev S8x64x1024 : Shape := ⟨3, ![8, 64, 1024]⟩
abbrev S8x128x1024 : Shape := ⟨3, ![8, 128, 1024]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S8192x8x64, .f32⟩
  | .hbm, ⟨6, _⟩ => ⟨S_, .i32⟩
  | .hbm, ⟨7, _⟩ => ⟨S_, .f32⟩
  | .hbm, ⟨8, _⟩ => ⟨S8192x8x128, .f32⟩
  | .hbm, ⟨9, _⟩ => ⟨S8192x1024, .f32⟩
  | .hbm, ⟨10, _⟩ => ⟨S8192x1024, .bf16⟩
  | .hbm, ⟨11, _⟩ => ⟨S512x1024, .f32⟩
  | .hbm, ⟨12, _⟩ => ⟨S8x64x1024, .f32⟩
  | .hbm, ⟨13, _⟩ => ⟨S_, .i32⟩
  | .hbm, ⟨14, _⟩ => ⟨S_, .f32⟩
  | .hbm, ⟨15, _⟩ => ⟨S8x128x1024, .f32⟩
  | .hbm, ⟨16, _⟩ => ⟨S1024x1024, .f32⟩
  | .hbm, ⟨17, _⟩ => ⟨S1024x1024, .bf16⟩
  | .hbm, ⟨18, _⟩ => ⟨S8192x512, .bf16⟩
  | .hbm, ⟨19, _⟩ => ⟨S512x1024, .f32⟩
  | .hbm, ⟨20, _⟩ => ⟨S512x1024, .bf16⟩
  | .hbm, ⟨21, _⟩ => ⟨S8192x1024, .f32⟩
  | .hbm, ⟨22, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MoRefIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Qkv.lean ====
abbrev S8192x256 : Shape := ⟨2, ![8192, 256]⟩
abbrev S8192x128 : Shape := ⟨2, ![8192, 128]⟩
abbrev S8192x32 : Shape := ⟨2, ![8192, 32]⟩
abbrev S256x768 : Shape := ⟨2, ![256, 768]⟩
abbrev S128x1024 : Shape := ⟨2, ![128, 1024]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S128x8x128 : Shape := ⟨3, ![128, 8, 128]⟩
abbrev S128x8x64 : Shape := ⟨3, ![128, 8, 64]⟩
abbrev S128x512 : Shape := ⟨2, ![128, 512]⟩
abbrev S128x2048 : Shape := ⟨2, ![128, 2048]⟩
abbrev S256x8x96 : Shape := ⟨3, ![256, 8, 96]⟩
abbrev S256x8x128 : Shape := ⟨3, ![256, 8, 128]⟩
abbrev S256x1024 : Shape := ⟨2, ![256, 1024]⟩
abbrev S8192x1024 : Shape := ⟨2, ![8192, 1024]⟩
abbrev S1024x8192 : Shape := ⟨2, ![1024, 8192]⟩
abbrev S1024x256 : Shape := ⟨2, ![1024, 256]⟩
abbrev S1024x128 : Shape := ⟨2, ![1024, 128]⟩
abbrev S1024x1024 : Shape := ⟨2, ![1024, 1024]⟩
abbrev S1024x2048 : Shape := ⟨2, ![1024, 2048]⟩
abbrev S1x128 : Shape := ⟨2, ![1, 128]⟩

abbrev nBuf : Space → Nat
  | .hbm => 81
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S256x768, .f32⟩
  | .hbm, ⟨4, _⟩ => ⟨S128x1024, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S8192x1, .f32⟩
  | .hbm, ⟨24, _⟩ => ⟨S1x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S_, .f32⟩
  | .hbm, ⟨31, _⟩ => ⟨S8192x16, .f32⟩
  | .hbm, ⟨32, _⟩ => ⟨S_, .f32⟩
  | .hbm, ⟨33, _⟩ => ⟨S8192x64, .f32⟩
  | .hbm, ⟨34, _⟩ => ⟨S_, .f32⟩
  | .hbm, ⟨35, _⟩ => ⟨S8192x32, .f32⟩
  | .hbm, ⟨36, _⟩ => ⟨S_, .f32⟩
  | .hbm, ⟨37, _⟩ => ⟨S8192x32, .f32⟩
  | .hbm, ⟨38, _⟩ => ⟨S8192x32, .f32⟩
  | .hbm, ⟨39, _⟩ => ⟨S8192x128, .f32⟩
  | .hbm, ⟨40, _⟩ => ⟨S_, .f32⟩
  | .hbm, ⟨41, _⟩ => ⟨S8192x64, .f32⟩
  | .hbm, ⟨42, _⟩ => ⟨S8192x64, .f32⟩
  | .hbm, ⟨43, _⟩ => ⟨S8192x16, .f32⟩
  | .hbm, ⟨44, _⟩ => ⟨S8192x128, .f32⟩
  | .hbm, ⟨45, _⟩ => ⟨S_, .f32⟩
  | .hbm, ⟨46, _⟩ => ⟨S8192x64, .f32⟩
  | .hbm, ⟨47, _⟩ => ⟨S8192x64, .f32⟩
  | .hbm, ⟨48, _⟩ => ⟨S8192x128, .f32⟩
  | .hbm, ⟨49, _⟩ => ⟨S_, .i32⟩
  | .hbm, ⟨50, _⟩ => ⟨S_, .f32⟩
  | .hbm, ⟨51, _⟩ => ⟨S8192x128, .f32⟩
  | .hbm, ⟨52, _⟩ => ⟨S128x8x128, .f32⟩
  | .hbm, ⟨53, _⟩ => ⟨S128x8x64, .f32⟩
  | .hbm, ⟨54, _⟩ => ⟨S128x512, .f32⟩
  | .hbm, ⟨55, _⟩ => ⟨S128x8x64, .f32⟩
  | .hbm, ⟨56, _⟩ => ⟨S_, .i32⟩
  | .hbm, ⟨57, _⟩ => ⟨S_, .f32⟩
  | .hbm, ⟨58, _⟩ => ⟨S128x8x128, .f32⟩
  | .hbm, ⟨59, _⟩ => ⟨S128x1024, .f32⟩
  | .hbm, ⟨60, _⟩ => ⟨S128x8x64, .f32⟩
  | .hbm, ⟨61, _⟩ => ⟨S128x512, .f32⟩
  | .hbm, ⟨62, _⟩ => ⟨S128x8x64, .f32⟩
  | .hbm, ⟨63, _⟩ => ⟨S_, .i32⟩
  | .hbm, ⟨64, _⟩ => ⟨S_, .f32⟩
  | .hbm, ⟨65, _⟩ => ⟨S128x8x128, .f32⟩
  | .hbm, ⟨66, _⟩ => ⟨S128x1024, .f32⟩
  | .hbm, ⟨67, _⟩ => ⟨S128x2048, .f32⟩
  | .hbm, ⟨68, _⟩ => ⟨S8192x256, .bf16⟩
  | .hbm, ⟨69, _⟩ => ⟨S8192x128, .bf16⟩
  | .hbm, ⟨70, _⟩ => ⟨S256x8x96, .f32⟩
  | .hbm, ⟨71, _⟩ => ⟨S_, .i32⟩
  | .hbm, ⟨72, _⟩ => ⟨S_, .f32⟩
  | .hbm, ⟨73, _⟩ => ⟨S256x8x128, .f32⟩
  | .hbm, ⟨74, _⟩ => ⟨S256x1024, .f32⟩
  | .hbm, ⟨75, _⟩ => ⟨S256x1024, .bf16⟩
  | .hbm, ⟨76, _⟩ => ⟨S128x2048, .bf16⟩
  | .hbm, ⟨77, _⟩ => ⟨S8192x1024, .bf16⟩
  | .hbm, ⟨78, _⟩ => ⟨S8192x1024, .bf16⟩
  | .hbm, ⟨79, _⟩ => ⟨S8192x1024, .bf16⟩
  | .hbm, ⟨80, _⟩ => ⟨S1024x8192, .bf16⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S256x1024, .bf16⟩
  | .local _ .vmem, ⟨7, _⟩ => ⟨S128x2048, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_call2_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_call3_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_v53_2 : Ref sig .tc := ⟨.hbm, 79, rfl⟩
abbrev main_v53_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S8192x256 : Shape := ⟨2, ![8192, 256]⟩
abbrev S8192x128 : Shape := ⟨2, ![8192, 128]⟩
abbrev S8192x32 : Shape := ⟨2, ![8192, 32]⟩
abbrev S256x768 : Shape := ⟨2, ![256, 768]⟩
abbrev S128x1024 : Shape := ⟨2, ![128, 1024]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x768 : Shape := ⟨2, ![8192, 768]⟩
abbrev S8192x8x96 : Shape := ⟨3, ![8192, 8, 96]⟩
abbrev S8192x1024 : Shape := ⟨2, ![8192, 1024]⟩
abbrev S8192x8x128 : Shape := ⟨3, ![8192, 8, 128]⟩
abbrev S8192x8x32 : Shape := ⟨3, ![8192, 8, 32]⟩
abbrev S8192x1x32 : Shape := ⟨3, ![8192, 1, 32]⟩
abbrev S8192x8x16 : Shape := ⟨3, ![8192, 8, 16]⟩
abbrev S8192x8x1 : Shape := ⟨3, ![8192, 8, 1]⟩
abbrev S8192x8x63 : Shape := ⟨3, ![8192, 8, 63]⟩
abbrev S8192x8x64 : Shape := ⟨3, ![8192, 8, 64]⟩
abbrev S1024x8192 : Shape := ⟨2, ![1024, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x32, .f32⟩
  | .hbm, ⟨3, _⟩ => ⟨S256x768, .f32⟩
  | .hbm, ⟨4, _⟩ => ⟨S128x1024, .f32⟩
  | .hbm, ⟨5, _⟩ => ⟨S8192, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x768, .f32⟩
  | .hbm, ⟨29, _⟩ => ⟨S8192x8x96, .f32⟩
  | .hbm, ⟨30, _⟩ => ⟨S8192x1024, .f32⟩
  | .hbm, ⟨31, _⟩ => ⟨S8192x8x128, .f32⟩
  | .hbm, ⟨32, _⟩ => ⟨S8192x8x32, .f32⟩
  | .hbm, ⟨33, _⟩ => ⟨S8192x1x32, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x16, .f32⟩
  | .hbm, ⟨38, _⟩ => ⟨S8192x8x16, .f32⟩
  | .hbm, ⟨39, _⟩ => ⟨S8192x8x16, .f32⟩
  | .hbm, ⟨40, _⟩ => ⟨S8192x8x32, .f32⟩
  | .hbm, ⟨41, _⟩ => ⟨S8192x1x32, .f32⟩
  | .hbm, ⟨42, _⟩ => ⟨S8192x8x32, .f32⟩
  | .hbm, ⟨43, _⟩ => ⟨S8192x8x32, .f32⟩
  | .hbm, ⟨44, _⟩ => ⟨S8192x8x32, .f32⟩
  | .hbm, ⟨45, _⟩ => ⟨S_, .f32⟩
  | .hbm, ⟨46, _⟩ => ⟨S8192x8x32, .f32⟩
  | .hbm, ⟨47, _⟩ => ⟨S_, .f32⟩
  | .hbm, ⟨48, _⟩ => ⟨S8192x8x1, .f32⟩
  | .hbm, ⟨49, _⟩ => ⟨S_, .f32⟩
  | .hbm, ⟨50, _⟩ => ⟨S8192x8x63, .f32⟩
  | .hbm, ⟨51, _⟩ => ⟨S8192x8x64, .f32⟩
  | .hbm, ⟨52, _⟩ => ⟨S8192x8x128, .f32⟩
  | .hbm, ⟨53, _⟩ => ⟨S_, .f32⟩
  | .hbm, ⟨54, _⟩ => ⟨S8192x8x128, .f32⟩
  | .hbm, ⟨55, _⟩ => ⟨S8192x8x128, .f32⟩
  | .hbm, ⟨56, _⟩ => ⟨S8192x1024, .f32⟩
  | .hbm, ⟨57, _⟩ => ⟨S8192x1024, .bf16⟩
  | .hbm, ⟨58, _⟩ => ⟨S8192x8x64, .f32⟩
  | .hbm, ⟨59, _⟩ => ⟨S8192x1x32, .f32⟩
  | .hbm, ⟨60, _⟩ => ⟨S8192x8x32, .f32⟩
  | .hbm, ⟨61, _⟩ => ⟨S8192x8x128, .f32⟩
  | .hbm, ⟨62, _⟩ => ⟨S8192x1024, .f32⟩
  | .hbm, ⟨63, _⟩ => ⟨S8192x8x64, .f32⟩
  | .hbm, ⟨64, _⟩ => ⟨S8192x8x128, .f32⟩
  | .hbm, ⟨65, _⟩ => ⟨S8192x1024, .f32⟩
  | .hbm, ⟨66, _⟩ => ⟨S8192x1024, .bf16⟩
  | .hbm, ⟨67, _⟩ => ⟨S8192x1024, .bf16⟩
  | .hbm, ⟨68, _⟩ => ⟨S1024x8192, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Proof.Reals.lean ====
module

public import Idealize.ShloMosaic.Lib.Pointwise
public import Idealize.ShloMosaic.PureOps.Ideal.Laws

@[expose] public section

noncomputable section

/-! Extended reals that are real numbers: how the operations of a float program act on them, and the finitely many
    float words the programs of this directory mention. -/

namespace Cert.Math

open Idealize.ShloMosaic

/-- The extended real `x` is a real number. -/
def IsReal (x : EReal) : Prop := ∃ r : ℝ, x = (r : EReal)

/-- A family of real entries is the image of a family of real numbers. -/
theorem exists_reals {ι : Type*} {f : ι → EReal} (h : ∀ i, IsReal (f i)) : ∃ g : ι → ℝ, f = fun i => ((g i : ℝ) : EReal) :=
  ⟨fun i => (h i).choose, funext fun i => (h i).choose_spec⟩

/-- A sum of real numbers, as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} {s : Finset ι} {f : ι → EReal} (h : ∀ i, IsReal (f i)) : IsReal (∑ i ∈ s, f i) := by
  obtain ⟨g, rfl⟩ := exists_reals h; exact ⟨_, coe_sum s g⟩

/-- The quotient of two real numbers, the divisor not zero. -/
theorem div_real {a b : ℝ} (hb : b ≠ 0) : Ideal.div (a : EReal) (b : EReal) = ((a / b : ℝ) : EReal) := by
  have hb' : ((b : ℝ) : EReal) ≠ 0 := by exact_mod_cast hb
  rw [Ideal.div, if_neg hb', ← EReal.coe_inv, ← EReal.coe_mul, div_eq_mul_inv]

/-- The reciprocal square root of a positive real number. -/
theorem rsqrt_real {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg ha.le.not_gt, if_neg ha.ne']

theorem exp_real (a : ℝ) : Ideal.exp (a : EReal) = ((Real.exp a : ℝ) : EReal) := rfl

/-- The word of `1024.0`. -/
theorem word_1024 : Ideal.ofBits .f32 0x44800000#32 = ((1024 : ℝ) : EReal) := by
  simp [Ideal.ofBits, Ideal.ieee]; rw [← EReal.coe_mul]; norm_num

/-- The word of `-0.5`. -/
theorem word_neg_half : Ideal.ofBits .f32 0xBF000000#32 = ((-(1 / 2) : ℝ) : EReal) := by
  simp [Ideal.ofBits, Ideal.ieee]; rw [← EReal.coe_mul]; norm_num

/-- The word nearest `1e-6`, the `EPS` of the norms: a positive real number. -/
theorem word_eps : ∃ e : ℝ, 0 < e ∧ Ideal.ofBits .f32 0x358637BD#32 = (e : EReal) := by
  refine ⟨_, ?_, by simp [Ideal.ofBits, Ideal.ieee]; rfl⟩
  norm_num

/-- The word of plus infinity. -/
theorem word_inf : Ideal.ofBits .f32 0x7F800000#32 = (⊤ : EReal) := by
  simp [Ideal.ofBits, Ideal.ieee]

/-- A number whose magnitude is below infinity is real. -/
theorem isReal_of_abs_lt {x : EReal} (h : max x (-x) < ⊤) : IsReal x := by
  induction x with
  | bot => simp at h
  | top => simp at h
  | coe r => exact ⟨r, rfl⟩

end Cert.Math

end
-- ==== Proof.Rms.lean ====
module

public import proofs.«01_k».proof.Proof.Reals

@[expose] public section

noncomputable section

/-! The gradient of the rms norm of one row, as the hand-written kernels compute it and as the derivative of
    `x * rsqrt (mean (x * x) + eps) * g` computes it. `N` is the row's length, `E` the norm's `eps`. -/

namespace Cert.Math

open Idealize.ShloMosaic

variable {n : ℕ}

/-- The mean of the squares of a row plus `eps`. -/
def rmsQ (N E : EReal) (x : Fin n → EReal) : EReal := Ideal.div (∑ k, x k * x k) N + E

/-- What multiplies each entry of a row in its rms norm. -/
def rmsScale (N E : EReal) (x : Fin n → EReal) : EReal := Ideal.rsqrt (rmsQ N E x)

/-- The gradient with respect to entry `l`, `r (dy g - xh mean (dy g xh))` with `xh = x r`, as the kernels write it. -/
def rmsBwd (N E : EReal) (x g dy : Fin n → EReal) (l : Fin n) : EReal :=
  rmsScale N E x * (dy l * g l - x l * rmsScale N E x
    * Ideal.div (∑ k, dy k * g k * (x k * rmsScale N E x)) N)

/-- What the derivative of the mean of squares sends back to each entry. -/
def rmsMeanBack (N E C : EReal) (x g dy : Fin n → EReal) : EReal :=
  Ideal.div ((∑ k, x k * (dy k * g k)) * (C * Ideal.div (rmsScale N E x) (rmsQ N E x))) N

/-- The mean of squares plus `eps` of a real row is a positive real number. -/
theorem rmsQ_real {N E : EReal} (hN : ∃ a : ℝ, 0 < a ∧ N = a) (hE : ∃ e : ℝ, 0 < e ∧ E = e) {x : Fin n → EReal}
    (hx : ∀ k, IsReal (x k)) : ∃ q : ℝ, 0 < q ∧ rmsQ N E x = q := by
  obtain ⟨a, ha, rfl⟩ := hN
  obtain ⟨e, he, rfl⟩ := hE
  obtain ⟨y, rfl⟩ := exists_reals hx
  refine ⟨(∑ k, y k * y k) / a + e, by have := Finset.sum_nonneg fun k (_ : k ∈ Finset.univ) => mul_self_nonneg (y k); positivity, ?_⟩
  simp only [rmsQ, ← EReal.coe_mul, coe_sum, div_real ha.ne', ← EReal.coe_add]

/-- The scale of a real row is a real number. -/
theorem rmsScale_real {N E : EReal} (hN : ∃ a : ℝ, 0 < a ∧ N = a) (hE : ∃ e : ℝ, 0 < e ∧ E = e) {x : Fin n → EReal}
    (hx : ∀ k, IsReal (x k)) : IsReal (rmsScale N E x) := by
  obtain ⟨q, hq, h⟩ := rmsQ_real hN hE hx
  exact ⟨_, by rw [rmsScale, h, rsqrt_real hq]⟩

/-- On a real row the kernels' gradient is the derivative's: the direct term plus twice what comes back through the
    mean of squares. -/
theorem rmsBwd_eq {N E C : EReal} (hN : ∃ a : ℝ, 0 < a ∧ N = a) (hE : ∃ e : ℝ, 0 < e ∧ E = e)
    (hC : C = ((-(1 / 2) : ℝ) : EReal)) {x g dy : Fin n → EReal} (hx : ∀ k, IsReal (x k)) (hg : ∀ k, IsReal (g k))
    (hdy : ∀ k, IsReal (dy k)) (l : Fin n) :
    rmsBwd N E x g dy l
      = dy l * g l * rmsScale N E x + x l * rmsMeanBack N E C x g dy + rmsMeanBack N E C x g dy * x l := by
  obtain ⟨q, hq, hQ⟩ := rmsQ_real hN hE hx
  obtain ⟨a, ha, rfl⟩ := hN
  obtain ⟨y, rfl⟩ := exists_reals hx
  obtain ⟨h, rfl⟩ := exists_reals hg
  obtain ⟨d, rfl⟩ := exists_reals hdy
  subst hC
  simp only [rmsBwd, rmsMeanBack, rmsScale, hQ, rsqrt_real hq, ← EReal.coe_mul, coe_sum, div_real ha.ne', div_real hq.ne',
    ← EReal.coe_sub, ← EReal.coe_add]
  refine congrArg _ ?_
  set r : ℝ := (Real.sqrt q)⁻¹ with hr
  have hrq : r / q = r * r * r := by
    rw [div_eq_mul_inv, hr, mul_assoc, ← mul_inv (Real.sqrt q) (Real.sqrt q), Real.mul_self_sqrt hq.le]
  have hs : ∑ k, d k * h k * (y k * r) = (∑ k, y k * (d k * h k)) * r := by
    rw [Finset.sum_mul]; exact Finset.sum_congr rfl fun k _ => by ring
  rw [hs, hrq]
  field_simp
  ring

end Cert.Math

end
-- ==== Proof.Dn3Value.lean ====
module

public import proofs.«01_k».proof.Proof.Rms
public import proofs.«01_k».proof.Proof.Gen.Dn3Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dn3Ideal.Grad

open Cert.Dn3Ideal Cert.Dn3Ideal.Gen Cert.Math

/-- The words of the row length and of the norm's `eps`. -/
abbrev N : EReal := Ideal.ofBits .f32 0x44800000#32
abbrev E : EReal := Ideal.ofBits .f32 0x358637BD#32

/-- The gradient that reaches the norm's output: the product with the transposed weight. -/
def dy (y : FVec Ideal S8192x1024 .f32) (w : FVec Ideal S1024x1024 .f32) (r : Fin 8192) (l : Fin 1024) : EReal :=
  ∑ k : Fin 1024, y (ix2 r k) * w (ix2 l k)

/-- The first result: the gradient of the norm's input plus what reached it past the norm. -/
def dx (x d : FVec Ideal S8192x1024 .f32) (g : FVec Ideal S1x1024 .f32) (y : FVec Ideal S8192x1024 .f32)
    (w : FVec Ideal S1024x1024 .f32) : FVec Ideal S8192x1024 .f32 := fun i =>
  rmsBwd N E (fun k : Fin 1024 => x (ix2 (i 0) k)) (fun k => g (ix2 0 k)) (dy y w (i 0)) (i 1) + d i

/-- The second result: the gradient of the norm's scale, summed over the rows. -/
def dg (x : FVec Ideal S8192x1024 .f32) (y : FVec Ideal S8192x1024 .f32)
    (w : FVec Ideal S1024x1024 .f32) : FVec Ideal S1x1024 .f32 := fun i =>
  ∑ r : Fin 8192, dy y w r (i 1) * (x (ix2 r (i 1)) * rmsScale N E (fun k : Fin 1024 => x (ix2 r k)))

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

abbrev DX (c : Dev nD) := dx (m ((c : Thread nD τ).loc main_arg0)) (m ((c : Thread nD τ).loc main_arg1))
    (m ((c : Thread nD τ).loc main_arg2)) (m ((c : Thread nD τ).loc main_arg3)) (m ((c : Thread nD τ).loc main_arg4))

abbrev DG (c : Dev nD) := dg (m ((c : Thread nD τ).loc main_arg0))
    (m ((c : Thread nD τ).loc main_arg3)) (m ((c : Thread nD τ).loc main_arg4))

set_option maxHeartbeats 1600000 in
theorem final5 (c : Dev nD) : (dats m 0 c).arrAt 5 (cfgs 0).N = DX m c := by
  refine (dats m 0 c).arrAt_eq_of_covers 5 _ (by decide +kernel) fun t _ y => ?_
  blk_simp
  rw [after0_5]
  by_cases h : t.val % 8 = 0
  · rw [outsAt0_A m c t h]; frame_out
    clear h
    canon_tiles x h
    all_goals
      open_payloads
      pointwise [DX, dx, dy, rmsBwd, rmsScale, rmsQ]
      blk_point [iblk, V, idx t]
  · rw [outsAt0_B m c t h]; frame_out
    clear h
    canon_tiles x h
    all_goals
      open_payloads
      pointwise [DX, dx, dy, rmsBwd, rmsScale, rmsQ]
      blk_point [iblk, V, idx t]

/-- What one block of 1024 rows adds to the scale's gradient. -/
def part (x y : FVec Ideal S1024x1024 .f32) (w : FVec Ideal S1024x1024 .f32) (l : Fin 1024) : EReal :=
  ∑ r : Fin 1024, (∑ k : Fin 1024, y (ix2 r k) * w (ix2 l k)) * (x (ix2 r l) * rmsScale N E (fun k : Fin 1024 => x (ix2 r k)))

set_option maxHeartbeats 1600000 in
theorem final6 (c : Dev nD) : (dats m 0 c).arrAt 6 (cfgs 0).N = DG m c := by
  refine (dats m 0 c).arrAt_eq_of_after_last 6 t0_7 (by decide +kernel) _ fun j => ?_
  blk_simp
  rw [after0_6]
  refine (Pipeline.eq_sum_fin_of_reset_step_apply_last (fun n h => (outsAt0 m c n h).2) 8 (fun _ => 0)
    (fun p j => part (iblk m c 2 p) (iblk m c 0 p) (iblk m c 1 p) (j 1))
    (fun t h j => ?_) (fun t h j => ?_) (le_of_eq N_0) t0_7 rfl j).trans ?_
  · rw [outsAt0_A m c t h]; frame_out
    open_payloads
    idx_vars j
    rw [part, Fin.sum_univ_tiles 4 256 rfl, Fin.sum_univ_four]
    pointwise [rmsScale, rmsQ]
  · rw [outsAt0_B m c t h]; frame_out
    open_payloads
    idx_vars j
    rw [part, Fin.sum_univ_tiles 4 256 rfl, Fin.sum_univ_four]
    pointwise [rmsScale, rmsQ]
  · rw [zero_add, DG, dg]
    simp only [part]
    refine Fin.sum_mul_add_congr fun p r hl => ?_
    simp only [dy, rmsScale, rmsQ]
    blk_point [iblk, V, idx p]

end Cert.Dn3Ideal.Grad

end
-- ==== Proof.Finite.lean ====
module

public import proofs.«01_k».proof.Proof.Reals
public import Idealize.ShloMosaic.Lib.Pointwise

@[expose] public section

noncomputable section

namespace Cert.Math

open Idealize.ShloMosaic

/-- An array whose absolute values compare below infinity everywhere holds real numbers. -/
theorem isReal_of_olt {s : Shape} {x b : FVec Ideal s .f32} (hb : ∀ i, b i = Ideal.ofBits .f32 0x7F800000#32)
    (h : cmpf .olt (Host.absf x) b = fun _ => 1#1) (i : s.Idx) : IsReal (x i) := by
  have h1 := congrFun h i
  apply isReal_of_abs_lt
  rw [← word_inf, ← hb i]
  by_contra hc
  have : cmpf .olt (Host.absf x) b i = 0#1 := by
    pointwise
    show BitVec.ofBool (decide (max (x i) (-x i) < b i)) = 0#1
    rw [decide_eq_false hc]
    rfl
  simp [this] at h1

end Cert.Math

end
-- ==== Proof.Dn3.lean ====
module

public import proofs.«01_k».proof.Proof.Dn3Value
public import proofs.«01_k».proof.Proof.Finite
public import proofs.«01_k».proof.Proof.Gen.Dn3RefIdeal.Read
public import proofs.«01_k».proof.Proof.Gen.Pre_finite_dn3
public import proofs.«01_k».proof.Defs
public import proofs.«01_k».proof.Proof.Gen.Dn3.Frame
public import Idealize.ShloMosaic.Lib.Claim

@[expose] public section

set_option maxRecDepth 16384

noncomputable section

open Idealize.ShloMosaic Idealize.ShloMosaic.TcCoe Idealize.SL.Sem

namespace Cert.Dn3Claims

open Cert.Dn3RefIdeal Cert.Dn3RefIdeal.Gen Cert.Dn3RefIdeal.Read Cert.Math
open Cert.Dn3Ideal.Grad (N E dy dx dg)

/-- The derivative's first result at an entry is the kernel's, on real arrays. -/
theorem ref_dx (x d : FVec Ideal S8192x1024 .f32) (g : FVec Ideal S1x1024 .f32) (y : FVec Ideal S8192x1024 .f32)
    (w : FVec Ideal S1024x1024 .f32) (hx : ∀ i, IsReal (x i)) (hg : ∀ i, IsReal (g i)) (hy : ∀ i, IsReal (y i))
    (hw : ∀ i, IsReal (w i)) : val_main_v36 (F := Ideal) x d g y w = dx x d g y w := by
  funext i
  obtain ⟨r, l, rfl⟩ : ∃ r l, i = ix2 r l := ⟨i 0, i 1, eq_ix2 i⟩
  show _ = rmsBwd N E (fun k : Fin 1024 => x (ix2 r k)) (fun k => g (ix2 0 k)) (dy y w r) l + d (ix2 r l)
  rw [rmsBwd_eq (N := N) (E := E) (x := fun k : Fin 1024 => x (ix2 r k)) (g := fun k => g (ix2 0 k)) (dy := dy y w r)
    ⟨1024, by norm_num, word_1024⟩ word_eps word_neg_half (fun k => hx _) (fun k => hg _)
    (fun k => IsReal.sum fun k => (hy _).mul (hw _)) l]
  simp only [rmsMeanBack, rmsScale, rmsQ, dy, N, E]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_cst_5, val_main_v28, val_main_v29, val_main_cst_6, val_main_v30, val_main_v31, val_main_v32, val_main_v33, val_main_v34, val_main_v35, val_main_v36]
  simp only [Fin.sum_univ_one]
  rw [add_comm]

/-- The derivative's second result is the kernel's. -/
theorem ref_dg (x : FVec Ideal S8192x1024 .f32) (y : FVec Ideal S8192x1024 .f32)
    (w : FVec Ideal S1024x1024 .f32) : val_main_v19 (F := Ideal) x y w = dg x y w := by
  funext i
  idx_vars i
  simp only [dg, rmsScale, rmsQ, dy, N, E]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_cst_5, val_main_v28, val_main_v29, val_main_cst_6, val_main_v30, val_main_v31, val_main_v32, val_main_v33, val_main_v34, val_main_v35, val_main_v36]
  exact Finset.sum_congr rfl fun _ _ => mul_comm _ _

/-- The first program's frame. -/
theorem frame_kernel : Cert.quiescent_Dn3 := fun m ρ _ => Cert.Dn3.Gen.frame m ρ

/-- The ideal program's frame, and the same under the precondition. -/
theorem frame_ideal : Cert.quiescent_Dn3Ideal := fun m ρ _ => Cert.Dn3Ideal.Gen.frame m ρ

/-- The reference's frame. -/
theorem frame_ref : Cert.quiescent_Dn3RefIdeal := fun m ρ _ =>
  (θ_run Cert.Dn3RefIdeal.defs _ _).mono (fun r h => ⟨fun c => (h c).2.2, sem_eq_zero_of_no_sems (by decide) r.2⟩)
    (Cert.Dn3RefIdeal.Value.run m ρ)

/-- Both results are the derivative's, on finite arrays. -/
theorem algebraic : Cert.algebraic_Dn3Ideal_Dn3RefIdeal_pre_finite_dn3 := by
  intro m g m' g' hpre hag
  refine ⟨fun c => Cert.Dn3Ideal.Grad.DX m c, fun c => Cert.Dn3Ideal.Grad.DG m c, ?_, ?_⟩
  · exact (θ_run _ _ _).mono (fun r h c => ⟨(Cert.Dn3Ideal.Value.post5 m r h c).trans (Cert.Dn3Ideal.Grad.final5 m c),
      (Cert.Dn3Ideal.Value.post6 m r h c).trans (Cert.Dn3Ideal.Grad.final6 m c), Cert.Dn3Ideal.Value.kept_main_arg0 m r h c,
      Cert.Dn3Ideal.Value.kept_main_arg1 m r h c, Cert.Dn3Ideal.Value.kept_main_arg2 m r h c,
      Cert.Dn3Ideal.Value.kept_main_arg3 m r h c, Cert.Dn3Ideal.Value.kept_main_arg4 m r h c⟩)
      (Cert.Dn3Ideal.Gen.run_main m g)
  · refine (θ_run _ _ _).mono (fun r h c => ⟨(h c).1.trans ?_, (h c).2.1.trans ?_, (h c).2.2⟩) (Cert.Dn3RefIdeal.Value.run m' g')
    · obtain ⟨a0, a1, a2, a3, a4⟩ := hag c
      obtain ⟨p0, p2, p3, p4⟩ := hpre c
      rw [val_main_v36_eq, a0, a1, a2, a3, a4]
      exact ref_dx _ _ _ _ _ (isReal_of_olt (fun _ => rfl) p0) (isReal_of_olt (fun _ => rfl) p2)
        (isReal_of_olt (fun _ => rfl) p3) (isReal_of_olt (fun _ => rfl) p4)
    · obtain ⟨a0, a1, a2, a3, a4⟩ := hag c
      rw [a0, a3, a4]
      exact ref_dg _ _ _

end Cert.Dn3Claims

end
-- ==== Proof.AttStep.lean ====
module

public import proofs.«01_k».proof.Proof.Reals
public import proofs.«01_k».proof.Proof.Gen.AttIdeal.Frame
public import Idealize.ShloMosaic.Lib.Pipeline.ValueKit

@[expose] public section

set_option maxRecDepth 16384

noncomputable section

open Idealize.ShloMosaic Idealize.ShloMosaic.TcCoe Idealize.SL.Sem

/-! The running softmax of the attention's forward pass. A block of 1024 query rows meets the keys 1024 at a time and
    carries two things: the largest score met so far, and the sum of the value rows weighted by the exponentials of
    the scores, taken relative to that largest score. Over the real numbers the second is the plain weighted sum times
    `exp (-m)`, whatever `m` is; so a quotient of two of its lanes is the quotient of the plain sums. -/

namespace Cert.AttIdeal.Fwd

open Cert.AttIdeal Cert.AttIdeal.Gen Cert.Math

/-- The word of minus infinity. -/
theorem word_neg_inf : Ideal.ofBits .f32 0xFF800000#32 = (⊥ : EReal) := by
  simp [Ideal.ofBits, Ideal.ieee]

/-- The largest of finitely many real numbers, at least one, is real. -/
theorem fold_max_real {n : ℕ} (f : Fin (n + 1) → EReal) (h : ∀ i, IsReal (f i)) :
    IsReal (Finset.fold max ⊥ f Finset.univ) := by
  have key : ∀ s : Finset (Fin (n + 1)), s.Nonempty → IsReal (Finset.fold max ⊥ f s) := by
    intro s hs
    induction hs using Finset.Nonempty.cons_induction with
    | singleton a => rw [Finset.fold_singleton, max_bot_right]; exact h a
    | cons a s ha hs ih =>
      rw [Finset.fold_cons]
      rcases max_choice (f a) (Finset.fold max ⊥ f s) with e | e <;> rw [e]
      · exact h a
      · exact ih
  exact key _ Finset.univ_nonempty

/-- The scores of a block of queries against a block of keys. -/
def score (q kb : FVec Ideal S1024x128 .bf16) : FVec Ideal S1024x1024 .f32 :=
  matmul dot_S1024x128_S1024x128_S1024x1024_1_1_0_0_n_n none
    (shapeCast S1024x128 q shapeCasts_S1024x128_S1024x128) (shapeCast S1024x128 kb shapeCasts_S1024x128_S1024x128)
    (constant S1024x1024 .f32 0x00000000#32)

/-- The largest score of each row of a block of scores. -/
def rowMax (s : FVec Ideal S1024x1024 .f32) : FVec Ideal S1024 .f32 :=
  multiReduction .maximumf [1] S1024 s 0xFF800000#32 reduces_S1024x1024_S1024 (.inl rfl) rfl

/-- The largest score met, one more block of scores `s` included. -/
def mNext (m : FVec Ideal S1024x1 .f32) (s : FVec Ideal S1024x1024 .f32) : FVec Ideal S1024x1 .f32 :=
  maximumf m (shapeCast S1024x1 (rowMax s) shapeCasts_S1024_S1024x1)

/-- The weighted sum of value rows, one more block included: what was there is rescaled from `m` to `m'`. -/
def aNext (m m' : FVec Ideal S1024x1 .f32) (s : FVec Ideal S1024x1024 .f32) (acc : FVec Ideal S1024x128 .f32)
    (vb : FVec Ideal S1024x128 .bf16) : FVec Ideal S1024x128 .f32 :=
  addf (mulf (broadcastTo S1024x128 (exp (subf m m')) broadcasts_S1024x1_S1024x128) acc)
    (matmul dot_S1024x1024_S1024x128_S1024x128_1_0_0_1_n_n none
      (truncf .bf16 (exp (subf s (broadcastTo S1024x1024 m' broadcasts_S1024x1_S1024x1024))) bitsLt_bf16_f32)
      (shapeCast S1024x128 vb shapeCasts_S1024x128_S1024x128) (constant S1024x128 .f32 0x00000000#32))

theorem score_at (q kb) (r k : Fin 1024) : score q kb (ix2 r k) = ∑ d : Fin 128, q (ix2 r d) * kb (ix2 k d) := by
  unfold score
  pointwise

theorem rowMax_at (s : FVec Ideal S1024x1024 .f32) (r : Fin 1024) :
    rowMax s (ix1 r) = Finset.fold max ⊥ (fun x : Fin 1024 => s (ix2 r x)) Finset.univ := by
  rw [← word_neg_inf]
  refine (Ideal.multiReduction_maximumf_single (a := 1) s _ reduces_S1024x1024_S1024 (.inl rfl) rfl (ix1 r)).trans ?_
  have e : s ∘ (reduces_S1024x1024_S1024).lift (ix1 r) = fun x : Fin 1024 => s (ix2 r x) := funext fun x =>
    congrArg s (funext fun a => Fin.ext (by fin_cases a <;> rfl))
  exact congrArg (fun f : Fin 1024 → EReal => Finset.fold max (Ideal.ofBits .f32 0xFF800000#32) f Finset.univ) e

theorem mNext_at (m s) (r : Fin 1024) : mNext m s (ix2 r 0) = max (m (ix2 r 0)) (Finset.fold max ⊥ (fun x => s (ix2 r x)) Finset.univ) := by
  rw [← rowMax_at]
  unfold mNext
  generalize rowMax s = t
  pointwise

theorem aNext_at (m m' s acc vb) (r : Fin 1024) (l : Fin 128) : aNext m m' s acc vb (ix2 r l)
    = Ideal.exp (m (ix2 r 0) - m' (ix2 r 0)) * acc (ix2 r l)
      + ∑ x : Fin 1024, Ideal.exp (s (ix2 r x) - m' (ix2 r 0)) * vb (ix2 x l) := by
  unfold aNext
  pointwise

/-- What is carried from block to block. -/
structure St where
  m : FVec Ideal S1024x1 .f32
  acc : FVec Ideal S1024x128 .f32

/-- Nothing met yet. -/
def St.zero : St := ⟨broadcast S1024x1 (Scalar.ofBits .f32 0xFF800000#32), broadcast S1024x128 (Scalar.ofBits .f32 0x00000000#32)⟩

/-- One block of keys and values. -/
def St.step (q kb vb : FVec Ideal S1024x128 .bf16) (p : St) : St :=
  ⟨mNext p.m (score q kb), aNext p.m (mNext p.m (score q kb)) (score q kb) p.acc vb⟩

/-- All eight blocks. -/
def St.run (q : FVec Ideal S1024x128 .bf16) (kb vb : Fin 8 → FVec Ideal S1024x128 .bf16) : St :=
  .step q (kb 7) (vb 7) (.step q (kb 6) (vb 6) (.step q (kb 5) (vb 5) (.step q (kb 4) (vb 4)
    (.step q (kb 3) (vb 3) (.step q (kb 2) (vb 2) (.step q (kb 1) (vb 1) (.step q (kb 0) (vb 0) .zero)))))))

/-- What a block of scores `s` and values `v` adds to the plain weighted sum of a row, at lane `l`. -/
def part {n : ℕ} (s : Fin n → ℝ) (v : Fin n → Fin 128 → ℝ) (l : Fin 128) : ℝ := ∑ k, Real.exp (s k) * v k l

/-- At row `r` the carried sum is the plain sum `A` relative to some real number. -/
def Inv (p : St) (r : Fin 1024) (A : Fin 128 → ℝ) : Prop :=
  ∃ M : ℝ, p.m (ix2 r 0) = (M : EReal) ∧ ∀ l, p.acc (ix2 r l) = ((Real.exp (-M) * A l : ℝ) : EReal)

section
variable {q kb vb : FVec Ideal S1024x128 .bf16} {r : Fin 1024} {qr : Fin 128 → ℝ} {k v : Fin 1024 → Fin 128 → ℝ}

theorem score_real (hq : ∀ d, q (ix2 r d) = (qr d : EReal)) (hk : ∀ x d, kb (ix2 x d) = (k x d : EReal)) (x : Fin 1024) :
    score q kb (ix2 r x) = ((∑ d, qr d * k x d : ℝ) : EReal) := by
  rw [score_at, ← coe_sum]
  exact Finset.sum_congr rfl fun d _ => by rw [hq, hk, EReal.coe_mul]

theorem sum_real (s : Fin 1024 → ℝ) (M : ℝ) (hv : ∀ x l, vb (ix2 x l) = (v x l : EReal)) (l : Fin 128) :
    (∑ x : Fin 1024, Ideal.exp ((s x : EReal) - (M : EReal)) * vb (ix2 x l))
      = ((Real.exp (-M) * part s v l : ℝ) : EReal) := by
  rw [part, Finset.mul_sum, ← coe_sum]
  refine Finset.sum_congr rfl fun x _ => ?_
  rw [hv, ← EReal.coe_sub, exp_real, ← EReal.coe_mul, ← mul_assoc, ← Real.exp_add, sub_eq_neg_add]

/-- One block keeps the relation, the block's own terms added. -/
theorem inv_step {p : St} {A : Fin 128 → ℝ} (hq : ∀ d, q (ix2 r d) = (qr d : EReal))
    (hk : ∀ x d, kb (ix2 x d) = (k x d : EReal)) (hv : ∀ x l, vb (ix2 x l) = (v x l : EReal)) (h : Inv p r A) :
    Inv (.step q kb vb p) r (fun l => A l + part (fun x => ∑ d, qr d * k x d) v l) := by
  obtain ⟨M, hm, ha⟩ := h
  obtain ⟨N, hN⟩ := fold_max_real (fun x : Fin 1024 => score q kb (ix2 r x)) (fun x => ⟨_, score_real hq hk x⟩)
  have hm' : mNext p.m (score q kb) (ix2 r 0) = ((max M N : ℝ) : EReal) := by
    rw [mNext_at, hN, hm, EReal.coe_strictMono.monotone.map_max]
  refine ⟨max M N, hm', fun l => ?_⟩
  show aNext _ _ _ _ _ _ = _
  rw [aNext_at, hm', hm, ha]
  simp only [score_real hq hk]
  rw [sum_real _ _ hv, ← EReal.coe_sub, exp_real, ← EReal.coe_mul, ← EReal.coe_add, ← mul_assoc, ← Real.exp_add, mul_add]
  congr 4
  ring_nf

/-- The first block starts it. -/
theorem inv_first (hq : ∀ d, q (ix2 r d) = (qr d : EReal))
    (hk : ∀ x d, kb (ix2 x d) = (k x d : EReal)) (hv : ∀ x l, vb (ix2 x l) = (v x l : EReal)) :
    Inv (.step q kb vb .zero) r (fun l => part (fun x => ∑ d, qr d * k x d) v l) := by
  obtain ⟨N, hN⟩ := fold_max_real (fun x : Fin 1024 => score q kb (ix2 r x)) (fun x => ⟨_, score_real hq hk x⟩)
  have h0 : St.zero.m (ix2 r 0) = (⊥ : EReal) := word_neg_inf
  have hm' : mNext St.zero.m (score q kb) (ix2 r 0) = (N : EReal) := by
    rw [mNext_at, hN, h0, max_bot_left]
  refine ⟨N, hm', fun l => ?_⟩
  show aNext _ _ _ _ _ _ = _
  have ha : St.zero.acc (ix2 r l) = (0 : EReal) := by
    show Ideal.ofBits .f32 0x00000000#32 = (0 : EReal)
    exact Ideal.ofBits_zero .f32
  rw [aNext_at, hm', h0, ha, mul_zero, zero_add]
  simp only [score_real hq hk]
  rw [sum_real _ _ hv]

end

/-- After the eight blocks: the plain sum over all the keys. -/
theorem inv_run {q : FVec Ideal S1024x128 .bf16} {kb vb : Fin 8 → FVec Ideal S1024x128 .bf16} {r : Fin 1024}
    {qr : Fin 128 → ℝ} {k v : Fin 8 → Fin 1024 → Fin 128 → ℝ} (hq : ∀ d, q (ix2 r d) = (qr d : EReal))
    (hk : ∀ j x d, kb j (ix2 x d) = (k j x d : EReal)) (hv : ∀ j x l, vb j (ix2 x l) = (v j x l : EReal)) :
    Inv (.run q kb vb) r (fun l => ∑ j, part (fun x => ∑ d, qr d * k j x d) (v j) l) := by
  simp only [Fin.sum_univ_eight]
  exact inv_step hq (hk 7) (hv 7) (inv_step hq (hk 6) (hv 6) (inv_step hq (hk 5) (hv 5) (inv_step hq (hk 4) (hv 4)
    (inv_step hq (hk 3) (hv 3) (inv_step hq (hk 2) (hv 2) (inv_step hq (hk 1) (hv 1) (inv_first hq (hk 0) (hv 0))))))))

/-- The output block: the weighted sum over its own lane of ones. -/
def out (p : St) : FVec Ideal S1024x128 .bf16 :=
  truncf .bf16 (divf p.acc (broadcastTo S1024x128 (extractStridedSlice S1024x1 ![0, 64] p.acc slices_S1024x128_o0_64_S1024x1)
    broadcasts_S1024x1_S1024x128)) bitsLt_bf16_f32

/-- The logarithm of the sum of exponentials. -/
def lse (p : St) : FVec Ideal S1x1024x1 .f32 :=
  shapeCast S1x1024x1 (addf p.m (log (extractStridedSlice S1024x1 ![0, 64] p.acc slices_S1024x128_o0_64_S1024x1)))
    shapeCasts_S1024x1_S1x1024x1

theorem log_real {a : ℝ} (ha : 0 < a) : Ideal.log (a : EReal) = ((Real.log a : ℝ) : EReal) := by
  show (if a ≤ 0 then (⊥ : EReal) else ((Real.log a : ℝ) : EReal)) = _
  rw [if_neg (not_le.mpr ha)]

theorem out_at {p : St} {r : Fin 1024} {A : Fin 128 → ℝ} (h : Inv p r A) (hA : 0 < A 64) (l : Fin 128) :
    out p (ix2 r l) = ((A l / A 64 : ℝ) : EReal) := by
  obtain ⟨M, -, ha⟩ := h
  have e : out p (ix2 r l) = Ideal.div (p.acc (ix2 r l)) (p.acc (ix2 r 64)) := by
    unfold out
    pointwise
  rw [e, ha, ha, div_real (mul_pos (Real.exp_pos _) hA).ne', mul_div_mul_left _ _ (Real.exp_pos _).ne']

theorem lse_at {p : St} {r : Fin 1024} {A : Fin 128 → ℝ} (h : Inv p r A) (hA : 0 < A 64) :
    lse p (ix3 0 r 0) = ((Real.log (A 64) : ℝ) : EReal) := by
  obtain ⟨M, hm, ha⟩ := h
  have e : lse p (ix3 0 r 0) = p.m (ix2 r 0) + Ideal.log (p.acc (ix2 r 64)) := by
    unfold lse
    pointwise
  rw [e, hm, ha, log_real (mul_pos (Real.exp_pos _) hA), Real.log_mul (Real.exp_pos _).ne' hA.ne', Real.log_exp,
    ← EReal.coe_add, add_neg_cancel_left]

end Cert.AttIdeal.Fwd
end
-- ==== Proof.AttFwd.lean ====
module

public import proofs.«01_k».proof.Proof.AttStep

@[expose] public section

set_option maxRecDepth 16384

noncomputable section

open Idealize.ShloMosaic Idealize.ShloMosaic.TcCoe Idealize.SL.Sem
open Idealize.ShloMosaic.Pipeline (Dat)

/-! What the attention's forward pass writes, over the real numbers: for every head, query row and lane the sum of the
    values weighted by the exponentials of the scores, divided by the sum of those weights; and the logarithm of that
    sum. The sum of the weights is the same weighted sum at the head's lane 64, where the values are ones. -/

namespace Cert.AttIdeal.Fwd

open Cert.AttIdeal Cert.AttIdeal.Gen Cert.Math

/-- Lane `d` of head `h` among the 1024 columns. -/
def lane (h : Fin 8) (d : Fin 128) : Fin 1024 := ⟨128 * h.val + d.val, by omega⟩

/-- The head of a column. -/
def hd (c : Fin 1024) : Fin 8 := ⟨c.val / 128, by omega⟩

/-- The lane of a column inside its head. -/
def ln (c : Fin 1024) : Fin 128 := ⟨c.val % 128, by omega⟩

/-- The score of query row `r` against key row `s` at head `h`. -/
def sc (q k : Fin 8192 → Fin 1024 → ℝ) (h : Fin 8) (r s : Fin 8192) : ℝ := ∑ d : Fin 128, q r (lane h d) * k s (lane h d)

/-- The weighted sum of the values of head `h` at lane `l`, for query row `r`. -/
def wsum (q k v : Fin 8192 → Fin 1024 → ℝ) (h : Fin 8) (r : Fin 8192) (l : Fin 128) : ℝ :=
  ∑ s : Fin 8192, Real.exp (sc q k h r s) * v s (lane h l)

/-- Row `x` of key block `j`. -/
def key (j : Fin 8) (x : Fin 1024) : Fin 8192 := ⟨1024 * j.val + x.val, by omega⟩

/-- The weighted sum, the keys taken in eight blocks. -/
theorem wsum_blocks (q k v : Fin 8192 → Fin 1024 → ℝ) (h : Fin 8) (r : Fin 8192) (l : Fin 128) :
    wsum q k v h r l = ∑ j, part (fun x => ∑ d, q r (lane h d) * k (key j x) (lane h d))
      (fun x l => v (key j x) (lane h l)) l := by
  rw [wsum, Fin.sum_univ_tiles 8 1024 rfl]
  refine Finset.sum_congr rfl fun j _ => Finset.sum_congr rfl fun x _ => ?_
  have e : (⟨j.val * 1024 + x.val, by omega⟩ : Fin 8192) = key j x := Fin.ext (by simp [key]; omega)
  simp only [e, sc]

variable (V : (c : Dev nD) → (b : Ref sig .tc) → Buf (Elt Ideal) ((c : Thread nD τ).loc b))

theorem inbK (j : Fin 8) : ∀ a : Fin 2, (![1024 * j.val, 0] : Fin 2 → Nat) a + S1024x128.size a ≤ S8192x128.size a := by
  revert j; decide

/-- Key (or value) block `j` of a head's 8192 rows. -/
def blockOf (X : Vec Ideal S8192x128 .bf16) (j : Fin 8) : FVec Ideal S1024x128 .bf16 :=
  View.ld X (Rect.unit ![1024 * j.val, 0] ![1024, 128] (inbK j))

/-- The state of the queries `Q` after all keys. -/
def St.all (Q : FVec Ideal S1024x128 .bf16) (K W : Vec Ideal S8192x128 .bf16) : St := St.run Q (blockOf K) (blockOf W)

/-- The blocks of the region's grid points. -/
theorem idx : ∀ t : Fin cfg0.N, win0_0.index t = ![t.val % 4, t.val / 4] ∧ win0_1.index t = ![0, t.val / 4]
    ∧ win0_2.index t = ![0, t.val / 4] ∧ win0_3.index t = ![t.val % 4, t.val / 4] ∧ win0_4.index t = ![t.val / 4, t.val % 4, 0] :=
  (by decide +kernel : ∀ t : Fin grid0.N, _)

theorem lt32 (t : Fin cfg0.N) : t.val < 32 := lt_of_lt_of_eq t.isLt (by decide : cfg0.N = 32)

/-- The head of a grid point. -/
def hp (t : Fin cfg0.N) : Fin 8 := ⟨t.val / 4, by have := lt32 t; omega⟩

/-- Row `x` of half `b` of a grid point's 2048 query rows. -/
def row (t : Fin cfg0.N) (b : Fin 2) (x : Fin 1024) : Fin 8192 :=
  ⟨t.val % 4 * 2048 + b.val * 1024 + x.val, by have := lt32 t; omega⟩

theorem inbQ (b : Fin 2) : ∀ a : Fin 2, (![1024 * b.val, 0] : Fin 2 → Nat) a + S1024x128.size a ≤ S2048x128.size a := by
  revert b; decide

/-- Half `b` of the query rows of a grid point. -/
def half (X : Vec Ideal S2048x128 .bf16) (b : Fin 2) : FVec Ideal S1024x128 .bf16 :=
  View.ld X (Rect.unit ![1024 * b.val, 0] ![1024, 128] (inbQ b))

theorem rd_q (c : Dev nD) (t : Fin cfg0.N) (b : Fin 2) (x : Fin 1024) (d : Fin 128) :
    half (iblk0 V c 0 t) b (ix2 x d) = V c main_v21 (ix2 (row t b x) (lane (hp t) d)) := by
  unfold half
  pointwise
  blk_ext [iblk0, row, lane, hp, idx t]

theorem rd_k (c : Dev nD) (t : Fin cfg0.N) (j : Fin 8) (x : Fin 1024) (d : Fin 128) :
    blockOf (iblk0 V c 1 t) j (ix2 x d) = V c main_v13 (ix2 (key j x) (lane (hp t) d)) := by
  unfold blockOf
  pointwise
  blk_ext [iblk0, key, lane, hp, idx t]

theorem rd_v (c : Dev nD) (t : Fin cfg0.N) (j : Fin 8) (x : Fin 1024) (d : Fin 128) :
    blockOf (iblk0 V c 2 t) j (ix2 x d) = V c main_v17 (ix2 (key j x) (lane (hp t) d)) := by
  unfold blockOf
  pointwise
  blk_ext [iblk0, key, lane, hp, idx t]

theorem hd_lane (h : Fin 8) (d : Fin 128) : hd (lane h d) = h := Fin.ext (by simp only [hd, lane]; omega)
theorem ln_lane (h : Fin 8) (d : Fin 128) : ln (lane h d) = d := Fin.ext (by simp only [ln, lane]; omega)

/-- The forward pass's output. -/
def O (q k v : Fin 8192 → Fin 1024 → ℝ) (i : S8192x1024.Idx) : EReal :=
  ((wsum q k v (hd (i 1)) (i 0) (ln (i 1)) / wsum q k v (hd (i 1)) (i 0) 64 : ℝ) : EReal)

/-- The logarithm of the sums of exponentials. -/
def LSE (q k v : Fin 8192 → Fin 1024 → ℝ) (i : S8x8192x1.Idx) : EReal := ((Real.log (wsum q k v (i 0) (i 1) 64) : ℝ) : EReal)

/-- Where the values are ones, the weighted sum is positive. -/
theorem wsum_pos {q k v : Fin 8192 → Fin 1024 → ℝ} (h1 : ∀ s h, v s (lane h 64) = 1) (h : Fin 8) (r : Fin 8192) :
    0 < wsum q k v h r 64 := by
  refine Finset.sum_pos (fun s _ => ?_) ⟨0, Finset.mem_univ _⟩
  rw [h1, mul_one]
  exact Real.exp_pos _

section
variable {c : Dev nD} {q k v : Fin 8192 → Fin 1024 → ℝ} (hq : ∀ r l, V c main_v21 (ix2 r l) = (q r l : EReal))
  (hk : ∀ r l, V c main_v13 (ix2 r l) = (k r l : EReal)) (hv : ∀ r l, V c main_v17 (ix2 r l) = (v r l : EReal))
include hq hk hv

/-- The state a grid point ends with holds the weighted sums of its rows. -/
theorem inv_point (t : Fin cfg0.N) (b : Fin 2) (x : Fin 1024) :
    Inv (St.all (half (iblk0 V c 0 t) b) (iblk0 V c 1 t) (iblk0 V c 2 t)) x (fun l => wsum q k v (hp t) (row t b x) l) := by
  simp only [wsum_blocks]
  exact inv_run (fun d => (rd_q V c t b x d).trans (hq _ _)) (fun j x d => (rd_k V c t j x d).trans (hk _ _))
    (fun j x d => (rd_v V c t j x d).trans (hv _ _))

variable (h1 : ∀ s h, v s (lane h 64) = 1)
include h1

set_option maxHeartbeats 1600000 in
/-- The first result of the forward region. -/
theorem final3 : (dat0 V c).arrAt 3 cfg0.N = O q k v := by
  refine (dat0 V c).arrAt_eq_of_covers 3 _ (by decide +kernel) fun t _ y => ?_
  have key : ∀ (b : Fin 2) (x l) (i : S8192x1024.Idx), i = ix2 (row t b x) (lane (hp t) l) →
      out (St.all (half (iblk0 V c 0 t) b) (iblk0 V c 1 t) (iblk0 V c 2 t)) (ix2 x l) = O q k v i := by
    rintro b x l i rfl
    rw [out_at (inv_point V hq hk hv t b x) (wsum_pos h1 _ _)]
    show _ = ((wsum q k v (hd (lane _ _)) _ (ln (lane _ _)) / wsum q k v (hd (lane _ _)) _ 64 : ℝ) : EReal)
    rw [hd_lane, ln_lane]
    rfl
  blk_simp
  rw [after0_3]
  unfold outsAt0
  frame_out
  canon_tiles x h
  case piece0 =>
    rw [eq_ix2 x]
    refine key 1 (x 0) (x 1) _ ?_
    blk_ext [idx t, row, lane, hp]
  case piece1 =>
    rw [eq_ix2 x]
    refine key 0 (x 0) (x 1) _ ?_
    blk_ext [idx t, row, lane, hp]

set_option maxHeartbeats 1600000 in
/-- The second result of the forward region. -/
theorem final4 : (dat0 V c).arrAt 4 cfg0.N = LSE q k v := by
  refine (dat0 V c).arrAt_eq_of_covers 4 _ (by decide +kernel) fun t _ y => ?_
  have key : ∀ (b : Fin 2) (x : S1x1024x1.Idx) (i : S8x8192x1.Idx), i = ix3 (hp t) (row t b (x 1)) 0 →
      lse (St.all (half (iblk0 V c 0 t) b) (iblk0 V c 1 t) (iblk0 V c 2 t)) x = LSE q k v i := by
    rintro b x i rfl
    obtain ⟨r, rfl⟩ : ∃ r : Fin 1024, x = ix3 0 r 0 := ⟨x 1, (eq_ix3 x).trans
      (congrArg₂ (fun a d => ix3 a (x 1) d) (Subsingleton.elim (α := Fin 1) _ _) (Subsingleton.elim (α := Fin 1) _ _))⟩
    exact lse_at (inv_point V hq hk hv t b r) (wsum_pos h1 _ _)
  blk_simp
  rw [after0_4]
  unfold outsAt0
  frame_out
  canon_tiles x h
  case piece0 =>
    refine key 1 x _ ?_
    blk_ext [idx t, row, hp]
  case piece1 =>
    refine key 0 x _ ?_
    blk_ext [idx t, row, hp]

end

end Cert.AttIdeal.Fwd
end
-- ==== Proof.AttBack.lean ====
module

public import proofs.«01_k».proof.Proof.AttFwd

@[expose] public section

set_option maxRecDepth 16384

noncomputable section

open Idealize.ShloMosaic Idealize.ShloMosaic.TcCoe Idealize.SL.Sem
open Idealize.ShloMosaic.Pipeline (Dat)

/-! The pieces of the attention's backward pass for 1024 query rows against 512 key rows: the weights, the gradient of
    the scores, and the three accumulations, each read at an index. -/

namespace Cert.AttIdeal.Bwd

open Cert.AttIdeal Cert.AttIdeal.Gen Cert.AttIdeal.Fwd

/-- The weights: exponentials of scores less the row's logarithm. -/
def wts (q : FVec Ideal S1024x128 .bf16) (kb : FVec Ideal S512x128 .bf16) (ls : FVec Ideal S1x1024x1 .f32) : FVec Ideal S1024x512 .f32 :=
  exp (subf (matmul dot_S1024x128_S512x128_S1024x512_1_1_0_0_n_n none (shapeCast S1024x128 q shapeCasts_S1024x128_S1024x128)
      (shapeCast S512x128 kb shapeCasts_S512x128_S512x128) (constant S1024x512 .f32 0x00000000#32))
    (broadcastTo S1024x512 (shapeCast S1024x1 ls shapeCasts_S1x1024x1_S1024x1) broadcasts_S1024x1_S1024x512))

/-- The gradient of the scores. -/
def dsc (q dO : FVec Ideal S1024x128 .bf16) (kb vb : FVec Ideal S512x128 .bf16) (ls dl : FVec Ideal S1x1024x1 .f32) :
    FVec Ideal S1024x512 .bf16 :=
  truncf .bf16 (mulf (wts q kb ls)
    (subf (matmul dot_S1024x128_S512x128_S1024x512_1_1_0_0_n_n none (shapeCast S1024x128 dO shapeCasts_S1024x128_S1024x128)
        (shapeCast S512x128 vb shapeCasts_S512x128_S512x128) (constant S1024x512 .f32 0x00000000#32))
      (broadcastTo S1024x512 (shapeCast S1024x1 dl shapeCasts_S1x1024x1_S1024x1) broadcasts_S1024x1_S1024x512))) bitsLt_bf16_f32

/-- One more chunk of query rows in a transposed accumulator. -/
def accT (a : FVec Ideal S128x512 .f32) (x : FVec Ideal S128x1024 .bf16) (p : FVec Ideal S1024x512 .bf16) : FVec Ideal S128x512 .f32 :=
  addf a (matmul dot_S128x1024_S1024x512_S128x512_1_0_0_1_n_n none (shapeCast S128x1024 x shapeCasts_S128x1024_S128x1024) p
    (constant S128x512 .f32 0x00000000#32))

/-- One more block of keys in a chunk of the queries' gradient. -/
def up (kb : FVec Ideal S512x128 .bf16) (ds : FVec Ideal S1024x512 .bf16) (old : FVec Ideal S1024x128 .f32) : FVec Ideal S1024x128 .f32 :=
  addf (shapeCast S1024x128 old shapeCasts_S1024x128_S1024x128)
    (matmul dot_S1024x512_S512x128_S1024x128_1_0_0_1_n_n none ds (shapeCast S512x128 kb shapeCasts_S512x128_S512x128)
      (constant S1024x128 .f32 0x00000000#32))

theorem wts_at (q kb ls) (r : Fin 1024) (s : Fin 512) : wts q kb ls (ix2 r s)
    = Ideal.exp ((∑ d : Fin 128, q (ix2 r d) * kb (ix2 s d)) - ls (ix3 0 r 0)) := by
  unfold wts
  pointwise

theorem dsc_at (q dO kb vb ls dl) (r : Fin 1024) (s : Fin 512) : dsc q dO kb vb ls dl (ix2 r s)
    = Ideal.exp ((∑ d : Fin 128, q (ix2 r d) * kb (ix2 s d)) - ls (ix3 0 r 0))
      * ((∑ d : Fin 128, dO (ix2 r d) * vb (ix2 s d)) - dl (ix3 0 r 0)) := by
  rw [← wts_at]
  unfold dsc
  generalize wts q kb ls = w
  pointwise

theorem accT_at (a x p) (l : Fin 128) (s : Fin 512) : accT a x p (ix2 l s)
    = a (ix2 l s) + ∑ r : Fin 1024, x (ix2 l r) * p (ix2 r s) := by
  unfold accT
  pointwise

theorem up_at (kb ds old) (r : Fin 1024) (l : Fin 128) : up kb ds old (ix2 r l)
    = old (ix2 r l) + ∑ s : Fin 512, ds (ix2 r s) * kb (ix2 s l) := by
  unfold up
  pointwise

theorem inbR (j : Fin 8) : ∀ a : Fin 2, (![1024 * j.val, 0] : Fin 2 → Nat) a + S1024x128.size a ≤ S8192x128.size a := by
  revert j; decide
theorem inbC (j : Fin 8) : ∀ a : Fin 2, (![0, 1024 * j.val] : Fin 2 → Nat) a + S128x1024.size a ≤ S128x8192.size a := by
  revert j; decide
theorem inbS (j : Fin 8) : ∀ a : Fin 3, (![0, 1024 * j.val, 0] : Fin 3 → Nat) a + S1x1024x1.size a ≤ S1x8192x1.size a := by
  revert j; decide
theorem inbH (b : Fin 2) : ∀ a : Fin 2, (![512 * b.val, 0] : Fin 2 → Nat) a + S512x128.size a ≤ S1024x128.size a := by
  revert b; decide

/-- Chunk `j` of the rows of an array, of its columns, of a column of row statistics; half `b` of a block of keys. -/
def rows (X : Vec Ideal S8192x128 .bf16) (j : Fin 8) : FVec Ideal S1024x128 .bf16 := View.ld X (Rect.unit ![1024 * j.val, 0] ![1024, 128] (inbR j))
def cols (X : Vec Ideal S128x8192 .bf16) (j : Fin 8) : FVec Ideal S128x1024 .bf16 := View.ld X (Rect.unit ![0, 1024 * j.val] ![128, 1024] (inbC j))
def stat (X : Vec Ideal S1x8192x1 .f32) (j : Fin 8) : FVec Ideal S1x1024x1 .f32 := View.ld X (Rect.unit ![0, 1024 * j.val, 0] ![1, 1024, 1] (inbS j))
def part2 (X : Vec Ideal S1024x128 .bf16) (b : Fin 2) : FVec Ideal S512x128 .bf16 := View.ld X (Rect.unit ![512 * b.val, 0] ![512, 128] (inbH b))

/-- Row `r` of chunk `j` among the 8192, and row `s` of half `b` among the 1024. -/
def at8 (j : Fin 8) (r : Fin 1024) : Fin 8192 := ⟨1024 * j.val + r.val, by omega⟩
def at2 (b : Fin 2) (s : Fin 512) : Fin 1024 := ⟨512 * b.val + s.val, by omega⟩

theorem rows_at (X j) (r : Fin 1024) (d : Fin 128) : rows X j (ix2 r d) = X (ix2 (at8 j r) d) := by
  unfold rows; pointwise [at8]
theorem cols_at (X j) (d : Fin 128) (r : Fin 1024) : cols X j (ix2 d r) = X (ix2 d (at8 j r)) := by
  unfold cols; pointwise [at8]
theorem stat_at (X j) (r : Fin 1024) : stat X j (ix3 0 r 0) = X (ix3 0 (at8 j r) 0) := by
  unfold stat; pointwise [at8]
theorem part2_at (X b) (s : Fin 512) (d : Fin 128) : part2 X b (ix2 s d) = X (ix2 (at2 b s) d) := by
  unfold part2; pointwise [at2]

/-- Eight chunks accumulated, and turned back. -/
def run8 (x : Fin 8 → FVec Ideal S128x1024 .bf16) (p : Fin 8 → FVec Ideal S1024x512 .bf16) : FVec Ideal S512x128 .f32 :=
  transpose S512x128 [1, 0] (accT (accT (accT (accT (accT (accT (accT (accT
    (broadcast S128x512 (Scalar.ofBits .f32 0x00000000#32)) (x 0) (p 0)) (x 1) (p 1)) (x 2) (p 2)) (x 3) (p 3)) (x 4) (p 4))
    (x 5) (p 5)) (x 6) (p 6)) (x 7) (p 7)) transposes_S128x512_p1_0_S512x128

theorem run8_at (x : Fin 8 → FVec Ideal S128x1024 .bf16) (p : Fin 8 → FVec Ideal S1024x512 .bf16) (s : Fin 512) (l : Fin 128) :
    run8 x p (ix2 s l) = ∑ j : Fin 8, ∑ r : Fin 1024, x j (ix2 l r) * p j (ix2 r s) := by
  have z : (broadcast S128x512 (Scalar.ofBits .f32 0x00000000#32 : Ideal .f32) : FVec Ideal S128x512 .f32) (ix2 l s) = (0 : EReal) := by
    show Ideal.ofBits .f32 0x00000000#32 = (0 : EReal)
    exact Ideal.ofBits_zero .f32
  have t : ∀ y : FVec Ideal S128x512 .f32, transpose S512x128 [1, 0] y transposes_S128x512_p1_0_S512x128 (ix2 s l) = y (ix2 l s) := fun y => by
    pointwise
  rw [run8, t]
  simp only [accT_at, z, zero_add, Fin.sum_univ_eight]

end Cert.AttIdeal.Bwd
end
-- ==== Proof.AttBwd.lean ====
module

public import proofs.«01_k».proof.Proof.AttBack

@[expose] public section

set_option maxRecDepth 16384

noncomputable section

open Idealize.ShloMosaic Idealize.ShloMosaic.TcCoe Idealize.SL.Sem
open Idealize.ShloMosaic.Pipeline (Dat)

/-! What the backward region of the attention writes, in terms of the arrays it reads: the queries and their transpose,
    the keys, the values, the cotangent and its transpose, the logarithms and the row sums. -/

namespace Cert.AttIdeal.Bwd

open Cert.AttIdeal Cert.AttIdeal.Gen Cert.AttIdeal.Fwd

variable (V : (c : Dev nD) → (b : Ref sig .tc) → Buf (Elt Ideal) ((c : Thread nD τ).loc b))

/-- The blocks of the region's grid points. -/
theorem idx : ∀ t : Fin cfg2.N, win2_0.index t = ![0, t.val / 8] ∧ win2_1.index t = ![t.val / 8, 0]
    ∧ win2_2.index t = ![0, t.val / 8] ∧ win2_3.index t = ![t.val / 8, 0] ∧ win2_4.index t = ![t.val / 8, 0, 0]
    ∧ win2_5.index t = ![t.val / 8, 0, 0] ∧ win2_6.index t = ![t.val % 8, t.val / 8] ∧ win2_7.index t = ![t.val % 8, t.val / 8]
    ∧ win2_8.index t = ![0, t.val / 8] ∧ win2_9.index t = ![t.val % 8, t.val / 8] ∧ win2_10.index t = ![t.val % 8, t.val / 8] :=
  (by decide +kernel : ∀ t : Fin grid2.N, _)

theorem lt64 (t : Fin cfg2.N) : t.val < 64 := lt_of_lt_of_eq t.isLt (by decide : cfg2.N = 64)

/-- The head of a grid point. -/
def hp (t : Fin cfg2.N) : Fin 8 := ⟨t.val / 8, by have := lt64 t; omega⟩

/-- Row `s` of half `b` of a grid point's 1024 key rows. -/
def krow (t : Fin cfg2.N) (b : Fin 2) (s : Fin 512) : Fin 8192 :=
  ⟨1024 * (t.val % 8) + 512 * b.val + s.val, by omega⟩

section
variable (c : Dev nD) (t : Fin cfg2.N)

theorem rd_q (r : Fin 8192) (d : Fin 128) : iblk2 V c 0 t (ix2 r d) = V c main_v21 (ix2 r (lane (hp t) d)) := by
  blk_ext [iblk2, lane, hp, idx t]
theorem rd_qt (r : Fin 8192) (d : Fin 128) : iblk2 V c 1 t (ix2 d r) = V c main_v26 (ix2 (lane (hp t) d) r) := by
  blk_ext [iblk2, lane, hp, idx t]
theorem rd_do (r : Fin 8192) (d : Fin 128) : iblk2 V c 2 t (ix2 r d) = V c main_v23 (ix2 r (lane (hp t) d)) := by
  blk_ext [iblk2, lane, hp, idx t]
theorem rd_dot (r : Fin 8192) (d : Fin 128) : iblk2 V c 3 t (ix2 d r) = V c main_v28 (ix2 (lane (hp t) d) r) := by
  blk_ext [iblk2, lane, hp, idx t]
theorem rd_ls (r : Fin 8192) : iblk2 V c 4 t (ix3 0 r 0) = V c main_v22_1 (ix3 (hp t) r 0) := by
  blk_ext [iblk2, hp, idx t]
theorem rd_dl (r : Fin 8192) : iblk2 V c 5 t (ix3 0 r 0) = V c main_v24 (ix3 (hp t) r 0) := by
  blk_ext [iblk2, hp, idx t]
theorem rd_k (b : Fin 2) (s : Fin 512) (d : Fin 128) : iblk2 V c 6 t (ix2 (at2 b s) d) = V c main_v13 (ix2 (krow t b s) (lane (hp t) d)) := by
  blk_ext [iblk2, lane, hp, idx t, krow, at2]
theorem rd_v (b : Fin 2) (s : Fin 512) (d : Fin 128) : iblk2 V c 7 t (ix2 (at2 b s) d) = V c main_v17 (ix2 (krow t b s) (lane (hp t) d)) := by
  blk_ext [iblk2, lane, hp, idx t, krow, at2]
end

/-- The arrays the region reads. -/
structure Arr where
  q : S8192x1024.Idx → EReal
  k : S8192x1024.Idx → EReal
  v : S8192x1024.Idx → EReal
  dO : S8192x1024.Idx → EReal
  qt : S1024x8192.Idx → EReal
  dOt : S1024x8192.Idx → EReal
  ls : S8x8192x1.Idx → EReal
  dl : S8x8192x1.Idx → EReal

/-- Those arrays as the region finds them. -/
def arrs (c : Dev nD) : Arr := ⟨V c main_v21, V c main_v13, V c main_v17, V c main_v23, V c main_v26, V c main_v28, V c main_v22_1, V c main_v24⟩

/-- The weight of key row `s` for query row `r` at head `h`. -/
def W (A : Arr) (h : Fin 8) (r s : Fin 8192) : EReal :=
  Ideal.exp ((∑ d : Fin 128, A.q (ix2 r (lane h d)) * A.k (ix2 s (lane h d))) - A.ls (ix3 h r 0))

/-- The gradient of the score of key row `s` for query row `r` at head `h`. -/
def DS (A : Arr) (h : Fin 8) (r s : Fin 8192) : EReal :=
  W A h r s * ((∑ d : Fin 128, A.dO (ix2 r (lane h d)) * A.v (ix2 s (lane h d))) - A.dl (ix3 h r 0))

/-- The keys' gradient. -/
def DK (A : Arr) (i : S8192x1024.Idx) : EReal := ∑ r : Fin 8192, A.qt (ix2 (i 1) r) * DS A (hd (i 1)) r (i 0)

/-- The values' gradient. -/
def DV (A : Arr) (i : S8192x1024.Idx) : EReal := ∑ r : Fin 8192, A.dOt (ix2 (i 1) r) * W A (hd (i 1)) r (i 0)

/-- The weights of chunk `j` of the queries against half `b` of a point's keys, and the gradients of the scores. -/
def wj (c : Dev nD) (t : Fin cfg2.N) (b : Fin 2) (j : Fin 8) : FVec Ideal S1024x512 .f32 :=
  wts (rows (iblk2 V c 0 t) j) (part2 (iblk2 V c 6 t) b) (stat (iblk2 V c 4 t) j)
def dj (c : Dev nD) (t : Fin cfg2.N) (b : Fin 2) (j : Fin 8) : FVec Ideal S1024x512 .bf16 :=
  dsc (rows (iblk2 V c 0 t) j) (rows (iblk2 V c 2 t) j) (part2 (iblk2 V c 6 t) b) (part2 (iblk2 V c 7 t) b) (stat (iblk2 V c 4 t) j)
    (stat (iblk2 V c 5 t) j)

theorem wj_at (c : Dev nD) (t : Fin cfg2.N) (b : Fin 2) (j : Fin 8) (r : Fin 1024) (s : Fin 512) :
    wj V c t b j (ix2 r s) = W (arrs V c) (hp t) (at8 j r) (krow t b s) := by
  rw [wj, wts_at, W]
  simp only [rows_at, part2_at, stat_at]
  rw [rd_ls]
  simp only [rd_q, rd_k]
  rfl

theorem dj_at (c : Dev nD) (t : Fin cfg2.N) (b : Fin 2) (j : Fin 8) (r : Fin 1024) (s : Fin 512) :
    dj V c t b j (ix2 r s) = DS (arrs V c) (hp t) (at8 j r) (krow t b s) := by
  rw [dj, dsc_at, DS, W]
  simp only [rows_at, part2_at, stat_at]
  rw [rd_ls, rd_dl]
  simp only [rd_q, rd_k, rd_do, rd_v]
  rfl

/-- The keys' and the values' gradient of half `b` of a point's keys. -/
def dk (c : Dev nD) (t : Fin cfg2.N) (b : Fin 2) : FVec Ideal S512x128 .f32 :=
  run8 (fun j => cols (iblk2 V c 1 t) j) (fun j => dj V c t b j)
def dv (c : Dev nD) (t : Fin cfg2.N) (b : Fin 2) : FVec Ideal S512x128 .f32 :=
  run8 (fun j => cols (iblk2 V c 3 t) j) (fun j => truncf .bf16 (wj V c t b j) bitsLt_bf16_f32)

/-- A sum over the queries, taken chunk by chunk. -/
theorem sum_chunks (f : Fin 8192 → EReal) : ∑ j : Fin 8, ∑ r : Fin 1024, f (at8 j r) = ∑ r : Fin 8192, f r := by
  rw [Fin.sum_univ_tiles 8 1024 rfl]
  refine Finset.sum_congr rfl fun j _ => Finset.sum_congr rfl fun r _ => congrArg f (Fin.ext ?_)
  simp only [at8]
  omega

theorem dk_at (c : Dev nD) (t : Fin cfg2.N) (b : Fin 2) (s : Fin 512) (l : Fin 128) (i : S8192x1024.Idx)
    (hi : i = ix2 (krow t b s) (lane (hp t) l)) : dk V c t b (ix2 s l) = DK (arrs V c) i := by
  subst hi
  rw [dk, run8_at]
  show _ = ∑ r : Fin 8192, (arrs V c).qt (ix2 (lane (hp t) l) r) * DS (arrs V c) (hd (lane (hp t) l)) r (krow t b s)
  rw [hd_lane, ← sum_chunks]
  refine Finset.sum_congr rfl fun j _ => Finset.sum_congr rfl fun r _ => ?_
  rw [cols_at, dj_at, rd_qt]
  rfl

theorem dv_at (c : Dev nD) (t : Fin cfg2.N) (b : Fin 2) (s : Fin 512) (l : Fin 128) (i : S8192x1024.Idx)
    (hi : i = ix2 (krow t b s) (lane (hp t) l)) : dv V c t b (ix2 s l) = DV (arrs V c) i := by
  subst hi
  rw [dv, run8_at]
  show _ = ∑ r : Fin 8192, (arrs V c).dOt (ix2 (lane (hp t) l) r) * W (arrs V c) (hd (lane (hp t) l)) r (krow t b s)
  rw [hd_lane, ← sum_chunks]
  refine Finset.sum_congr rfl fun j _ => Finset.sum_congr rfl fun r _ => ?_
  rw [cols_at, rd_dot]
  exact congrArg (fun z : EReal => (arrs V c).dOt (ix2 (lane (hp t) l) (at8 j r)) * z) (wj_at V c t b j r s)

set_option maxHeartbeats 1600000 in
/-- The keys' gradient, as the region leaves it. -/
theorem final9 (c : Dev nD) : (dat2 V c).arrAt 9 cfg2.N = DK (arrs V c) := by
  refine (dat2 V c).arrAt_eq_of_covers 9 _ (by decide +kernel) fun t _ y => ?_
  have key : ∀ (b : Fin 2) (x : S512x128.Idx) (i : S8192x1024.Idx), i = ix2 (krow t b (x 0)) (lane (hp t) (x 1)) →
      dk V c t b x = DK (arrs V c) i := by
    intro b x i hi
    obtain ⟨s, l, rfl⟩ : ∃ (s : Fin 512) (l : Fin 128), x = ix2 s l := ⟨x 0, x 1, eq_ix2 x⟩
    exact dk_at V c t b s l i hi
  blk_simp
  rw [after2_9]
  by_cases h0 : t.val % 8 = 0
  · have h1 : ¬ t.val % 8 = 7 := by omega
    rw [outsAt2_A V c t h0 h1]
    frame_out
    clear h0 h1
    canon_tiles x h
    case piece0 => refine key 1 x _ ?_; blk_ext [idx t, lane, hp, krow]
    case piece1 => refine key 0 x _ ?_; blk_ext [idx t, lane, hp, krow]
  · by_cases h1 : t.val % 8 = 7
    · rw [outsAt2_C V c t h0 h1]
      frame_out
      clear h0 h1
      canon_tiles x h
      case piece0 => refine key 1 x _ ?_; blk_ext [idx t, lane, hp, krow]
      case piece1 => refine key 0 x _ ?_; blk_ext [idx t, lane, hp, krow]
    · rw [outsAt2_B V c t h0 h1]
      frame_out
      clear h0 h1
      canon_tiles x h
      case piece0 => refine key 1 x _ ?_; blk_ext [idx t, lane, hp, krow]
      case piece1 => refine key 0 x _ ?_; blk_ext [idx t, lane, hp, krow]

set_option maxHeartbeats 1600000 in
/-- The values' gradient, as the region leaves it. -/
theorem final10 (c : Dev nD) : (dat2 V c).arrAt 10 cfg2.N = DV (arrs V c) := by
  refine (dat2 V c).arrAt_eq_of_covers 10 _ (by decide +kernel) fun t _ y => ?_
  have key : ∀ (b : Fin 2) (x : S512x128.Idx) (i : S8192x1024.Idx), i = ix2 (krow t b (x 0)) (lane (hp t) (x 1)) →
      dv V c t b x = DV (arrs V c) i := by
    intro b x i hi
    obtain ⟨s, l, rfl⟩ : ∃ (s : Fin 512) (l : Fin 128), x = ix2 s l := ⟨x 0, x 1, eq_ix2 x⟩
    exact dv_at V c t b s l i hi
  blk_simp
  rw [after2_10]
  by_cases h0 : t.val % 8 = 0
  · have h1 : ¬ t.val % 8 = 7 := by omega
    rw [outsAt2_A V c t h0 h1]
    frame_out
    clear h0 h1
    canon_tiles x h
    case piece0 => refine key 1 x _ ?_; blk_ext [idx t, lane, hp, krow]
    case piece1 => refine key 0 x _ ?_; blk_ext [idx t, lane, hp, krow]
  · by_cases h1 : t.val % 8 = 7
    · rw [outsAt2_C V c t h0 h1]
      frame_out
      clear h0 h1
      canon_tiles x h
      case piece0 => refine key 1 x _ ?_; blk_ext [idx t, lane, hp, krow]
      case piece1 => refine key 0 x _ ?_; blk_ext [idx t, lane, hp, krow]
    · rw [outsAt2_B V c t h0 h1]
      frame_out
      clear h0 h1
      canon_tiles x h
      case piece0 => refine key 1 x _ ?_; blk_ext [idx t, lane, hp, krow]
      case piece1 => refine key 0 x _ ?_; blk_ext [idx t, lane, hp, krow]

end Cert.AttIdeal.Bwd
end
-- ==== Proof.AttDq.lean ====
module

public import proofs.«01_k».proof.Proof.AttBwd

@[expose] public section

set_option maxRecDepth 16384

noncomputable section

open Idealize.ShloMosaic Idealize.ShloMosaic.TcCoe Idealize.SL.Sem
open Idealize.ShloMosaic.Pipeline (Dat)

/-! The queries' gradient, as the backward region of the attention leaves it: accumulated over a head's eight grid
    points, each adding two blocks of 512 keys, and scaled by the last. -/

namespace Cert.AttIdeal.Bwd

open Cert.AttIdeal Cert.AttIdeal.Gen Cert.AttIdeal.Fwd

variable (V : (c : Dev nD) → (b : Ref sig .tc) → Buf (Elt Ideal) ((c : Thread nD τ).loc b))

/-- What half `b` of a grid point's keys adds to the gradient of query row `r` at lane `l`. -/
def add (c : Dev nD) (t : Fin cfg2.N) (b : Fin 2) (r : Fin 8192) (l : Fin 128) : EReal :=
  ∑ s : Fin 512, DS (arrs V c) (hp t) r (krow t b s) * (arrs V c).k (ix2 (krow t b s) (lane (hp t) l))

theorem up_add (c : Dev nD) (t : Fin cfg2.N) (b : Fin 2) (j : Fin 8) (old : FVec Ideal S1024x128 .f32) (r : Fin 1024) (l : Fin 128) :
    up (part2 (iblk2 V c 6 t) b) (dj V c t b j) old (ix2 r l) = old (ix2 r l) + add V c t b (at8 j r) l := by
  rw [up_at, add]
  refine congrArg (fun z : EReal => old (ix2 r l) + z) (Finset.sum_congr rfl fun s _ => ?_)
  rw [dj_at, part2_at, rd_k]
  rfl

/-- The rows of chunk `j` of a head's block. -/
abbrev box (j : Fin 8) : Rect S8192x128 := Rect.unit ![1024 * j.val, 0] ![1024, 128] (inbR j)

theorem box_idx (j : Fin 8) (r : Fin 1024) (l : Fin 128) : (box j).toLoadRect.idx (ix2 r l) = ix2 (at8 j r) l :=
  funext fun a => Fin.ext (by fin_cases a <;> simp [LoadRect.idx, at8, Rect.unit])

/-- A stored chunk is what is found at its own rows, -/
theorem hit (j : Fin 8) (w : (box j).shape.Idx → Elt Ideal .f32) (L : List (View.Piece (Elt Ideal) S8192x128 .f32)) (r : Fin 1024) (l : Fin 128) :
    View.canon (⟨box j, w⟩ :: L) (ix2 (at8 j r) l) = w (ix2 r l) := by
  rw [← box_idx j r l]
  exact View.canon_cons_emb _ w L _

/-- and not at another chunk's. -/
theorem skip (j i : Fin 8) (hj : j ≠ i) (w : (box i).shape.Idx → Elt Ideal .f32) (L : List (View.Piece (Elt Ideal) S8192x128 .f32))
    (r : Fin 1024) (l : Fin 128) : View.canon (⟨box i, w⟩ :: L) (ix2 (at8 j r) l) = View.canon L (ix2 (at8 j r) l) := by
  refine View.canon_cons_of_not_mem _ L fun hm => hj (Fin.ext ?_)
  obtain ⟨h0, h1⟩ := (Rect.mem_set_unit (inb := inbR i)).mp hm 0
  have e0 : 1024 * i.val ≤ 1024 * j.val + r.val := h0
  have e1 : 1024 * j.val + r.val < 1024 * i.val + 1024 := h1
  omega

/-- A chunk loaded over stored pieces is what they hold at its rows. -/
theorem load (v : View sig .tc .vmem S8192x128 .f32) (L : List (View.Piece (Elt Ideal) S8192x128 .f32)) (j : Fin 8) (r : Fin 1024) (l : Fin 128) :
    v.readCov L (box j).toLoadRect (ix2 r l) = View.canon L (ix2 (at8 j r) l) := by
  rw [View.readCov_eq_canon', ← box_idx j r l]

theorem ld_at (X : Vec Ideal S8192x128 .f32) (j : Fin 8) (r : Fin 1024) (l : Fin 128) :
    View.ld X (box j) (ix2 r l) = X (ix2 (at8 j r) l) := congrArg X (box_idx j r l)

/-- A chunk's two updates, the second over what the first stored. -/
theorem twice (c : Dev nD) (t : Fin cfg2.N) (j : Fin 8) (v : View sig .tc .vmem S8192x128 .f32)
    (L : List (View.Piece (Elt Ideal) S8192x128 .f32)) (old : FVec Ideal S1024x128 .f32) (r : Fin 1024) (l : Fin 128)
    (hL : View.canon L (ix2 (at8 j r) l) = up (part2 (iblk2 V c 6 t) 0) (dj V c t 0 j) old (ix2 r l)) :
    up (part2 (iblk2 V c 6 t) 1) (dj V c t 1 j) (v.readCov L (box j).toLoadRect) (ix2 r l)
      = old (ix2 r l) + add V c t 0 (at8 j r) l + add V c t 1 (at8 j r) l := by
  rw [up_add, load, hL, up_add]

/-- Every position of the block lies in one of its eight chunks. -/
theorem chunks (P : S8192x128.Idx → Prop) (e0 : ∀ r l, P (ix2 (at8 0 r) l)) (e1 : ∀ r l, P (ix2 (at8 1 r) l)) (e2 : ∀ r l, P (ix2 (at8 2 r) l))
    (e3 : ∀ r l, P (ix2 (at8 3 r) l)) (e4 : ∀ r l, P (ix2 (at8 4 r) l)) (e5 : ∀ r l, P (ix2 (at8 5 r) l)) (e6 : ∀ r l, P (ix2 (at8 6 r) l))
    (e7 : ∀ r l, P (ix2 (at8 7 r) l)) (y : S8192x128.Idx) : P y := by
  have key : ∀ (j : Fin 8) (r : Fin 1024) (l : Fin 128), P (ix2 (at8 j r) l) := fun j => by
    fin_cases j
    exacts [e0, e1, e2, e3, e4, e5, e6, e7]
  obtain ⟨R, l, rfl⟩ : ∃ (R : Fin 8192) (l : Fin 128), y = ix2 R l := ⟨y 0, y 1, eq_ix2 y⟩
  have e : R = at8 ⟨R.val / 1024, by omega⟩ ⟨R.val % 1024, by omega⟩ := Fin.ext (by simp only [at8]; omega)
  rw [e]
  exact key _ _ _

set_option maxHeartbeats 1600000 in
/-- A middle point adds its two halves. -/
theorem stepB (c : Dev nD) (t : Fin cfg2.N) (h0 : ¬t.val % 8 = 0) (h1 : ¬t.val % 8 = 7) (y : S8192x128.Idx) :
    (outsAt2 V c t.val t.isLt).1 y
      = (outsAt2 V c (t.val - 1) (by omega)).1 y + add V c t 0 (y 0) (y 1) + add V c t 1 (y 0) (y 1) := by
  rw [outsAt2_B V c t h0 h1]
  frame_out
  clear h0 h1
  revert y
  refine chunks _ ?_ ?_ ?_ ?_ ?_ ?_ ?_ ?_ <;> intro r l
  · exact ((skip 0 7 (by decide) _ _ r l).trans <| (skip 0 6 (by decide) _ _ r l).trans <| (skip 0 5 (by decide) _ _ r l).trans <| (skip 0 4 (by decide) _ _ r l).trans <| (skip 0 3 (by decide) _ _ r l).trans <| (skip 0 2 (by decide) _ _ r l).trans <| (skip 0 1 (by decide) _ _ r l).trans <| hit 0 _ _ r l).trans ((twice V c t 0 _ _ _ r l ((skip 0 7 (by decide) _ _ r l).trans <| (skip 0 6 (by decide) _ _ r l).trans <| (skip 0 5 (by decide) _ _ r l).trans <| (skip 0 4 (by decide) _ _ r l).trans <| (skip 0 3 (by decide) _ _ r l).trans <| (skip 0 2 (by decide) _ _ r l).trans <| (skip 0 1 (by decide) _ _ r l).trans <| hit 0 _ _ r l)).trans (congrArg (fun z : EReal => z + add V c t 0 (at8 0 r) l + add V c t 1 (at8 0 r) l) (ld_at _ 0 r l)))
  · exact ((skip 1 7 (by decide) _ _ r l).trans <| (skip 1 6 (by decide) _ _ r l).trans <| (skip 1 5 (by decide) _ _ r l).trans <| (skip 1 4 (by decide) _ _ r l).trans <| (skip 1 3 (by decide) _ _ r l).trans <| (skip 1 2 (by decide) _ _ r l).trans <| hit 1 _ _ r l).trans ((twice V c t 1 _ _ _ r l ((skip 1 0 (by decide) _ _ r l).trans <| (skip 1 7 (by decide) _ _ r l).trans <| (skip 1 6 (by decide) _ _ r l).trans <| (skip 1 5 (by decide) _ _ r l).trans <| (skip 1 4 (by decide) _ _ r l).trans <| (skip 1 3 (by decide) _ _ r l).trans <| (skip 1 2 (by decide) _ _ r l).trans <| hit 1 _ _ r l)).trans (congrArg (fun z : EReal => z + add V c t 0 (at8 1 r) l + add V c t 1 (at8 1 r) l) (ld_at _ 1 r l)))
  · exact ((skip 2 7 (by decide) _ _ r l).trans <| (skip 2 6 (by decide) _ _ r l).trans <| (skip 2 5 (by decide) _ _ r l).trans <| (skip 2 4 (by decide) _ _ r l).trans <| (skip 2 3 (by decide) _ _ r l).trans <| hit 2 _ _ r l).trans ((twice V c t 2 _ _ _ r l ((skip 2 1 (by decide) _ _ r l).trans <| (skip 2 0 (by decide) _ _ r l).trans <| (skip 2 7 (by decide) _ _ r l).trans <| (skip 2 6 (by decide) _ _ r l).trans <| (skip 2 5 (by decide) _ _ r l).trans <| (skip 2 4 (by decide) _ _ r l).trans <| (skip 2 3 (by decide) _ _ r l).trans <| hit 2 _ _ r l)).trans (congrArg (fun z : EReal => z + add V c t 0 (at8 2 r) l + add V c t 1 (at8 2 r) l) (ld_at _ 2 r l)))
  · exact ((skip 3 7 (by decide) _ _ r l).trans <| (skip 3 6 (by decide) _ _ r l).trans <| (skip 3 5 (by decide) _ _ r l).trans <| (skip 3 4 (by decide) _ _ r l).trans <| hit 3 _ _ r l).trans ((twice V c t 3 _ _ _ r l ((skip 3 2 (by decide) _ _ r l).trans <| (skip 3 1 (by decide) _ _ r l).trans <| (skip 3 0 (by decide) _ _ r l).trans <| (skip 3 7 (by decide) _ _ r l).trans <| (skip 3 6 (by decide) _ _ r l).trans <| (skip 3 5 (by decide) _ _ r l).trans <| (skip 3 4 (by decide) _ _ r l).trans <| hit 3 _ _ r l)).trans (congrArg (fun z : EReal => z + add V c t 0 (at8 3 r) l + add V c t 1 (at8 3 r) l) (ld_at _ 3 r l)))
  · exact ((skip 4 7 (by decide) _ _ r l).trans <| (skip 4 6 (by decide) _ _ r l).trans <| (skip 4 5 (by decide) _ _ r l).trans <| hit 4 _ _ r l).trans ((twice V c t 4 _ _ _ r l ((skip 4 3 (by decide) _ _ r l).trans <| (skip 4 2 (by decide) _ _ r l).trans <| (skip 4 1 (by decide) _ _ r l).trans <| (skip 4 0 (by decide) _ _ r l).trans <| (skip 4 7 (by decide) _ _ r l).trans <| (skip 4 6 (by decide) _ _ r l).trans <| (skip 4 5 (by decide) _ _ r l).trans <| hit 4 _ _ r l)).trans (congrArg (fun z : EReal => z + add V c t 0 (at8 4 r) l + add V c t 1 (at8 4 r) l) (ld_at _ 4 r l)))
  · exact ((skip 5 7 (by decide) _ _ r l).trans <| (skip 5 6 (by decide) _ _ r l).trans <| hit 5 _ _ r l).trans ((twice V c t 5 _ _ _ r l ((skip 5 4 (by decide) _ _ r l).trans <| (skip 5 3 (by decide) _ _ r l).trans <| (skip 5 2 (by decide) _ _ r l).trans <| (skip 5 1 (by decide) _ _ r l).trans <| (skip 5 0 (by decide) _ _ r l).trans <| (skip 5 7 (by decide) _ _ r l).trans <| (skip 5 6 (by decide) _ _ r l).trans <| hit 5 _ _ r l)).trans (congrArg (fun z : EReal => z + add V c t 0 (at8 5 r) l + add V c t 1 (at8 5 r) l) (ld_at _ 5 r l)))
  · exact ((skip 6 7 (by decide) _ _ r l).trans <| hit 6 _ _ r l).trans ((twice V c t 6 _ _ _ r l ((skip 6 5 (by decide) _ _ r l).trans <| (skip 6 4 (by decide) _ _ r l).trans <| (skip 6 3 (by decide) _ _ r l).trans <| (skip 6 2 (by decide) _ _ r l).trans <| (skip 6 1 (by decide) _ _ r l).trans <| (skip 6 0 (by decide) _ _ r l).trans <| (skip 6 7 (by decide) _ _ r l).trans <| hit 6 _ _ r l)).trans (congrArg (fun z : EReal => z + add V c t 0 (at8 6 r) l + add V c t 1 (at8 6 r) l) (ld_at _ 6 r l)))
  · exact (hit 7 _ _ r l).trans ((twice V c t 7 _ _ _ r l ((skip 7 6 (by decide) _ _ r l).trans <| (skip 7 5 (by decide) _ _ r l).trans <| (skip 7 4 (by decide) _ _ r l).trans <| (skip 7 3 (by decide) _ _ r l).trans <| (skip 7 2 (by decide) _ _ r l).trans <| (skip 7 1 (by decide) _ _ r l).trans <| (skip 7 0 (by decide) _ _ r l).trans <| hit 7 _ _ r l)).trans (congrArg (fun z : EReal => z + add V c t 0 (at8 7 r) l + add V c t 1 (at8 7 r) l) (ld_at _ 7 r l)))

/-- The block starts from zeros, -/
theorem zero_at (inb : ∀ a : Fin 2, (![0, 0] : Fin 2 → Nat) a + S8192x128.size a ≤ S8192x128.size a) (y : S8192x128.Idx) :
    View.canon [(⟨Rect.unit (s := S8192x128) ![0, 0] S8192x128.size inb, k2_pay5 (F := Ideal)⟩ : View.Piece (Elt Ideal) S8192x128 .f32)] y
      = (0 : EReal) := by
  rw [View.canon_cons_unit_lit inb _ _ (fun a => by fin_cases a <;> rfl)]
  show Ideal.ofBits .f32 0x00000000#32 = (0 : EReal)
  exact Ideal.ofBits_zero .f32

/-- and is scaled whole at the end. -/
theorem scaled (v : View sig .tc .vmem S8192x128 .f32) (L : List (View.Piece (Elt Ideal) S8192x128 .f32))
    (inb : ∀ a : Fin 2, (![0, 0] : Fin 2 → Nat) a + S8192x128.size a ≤ S8192x128.size a) (y : S8192x128.Idx) :
    k2_pay4 (F := Ideal) (v.readCov L (Rect.unit (s := S8192x128) ![0, 0] S8192x128.size inb).toLoadRect) y
      = (View.canon L y : EReal) * Ideal.ofBits .f32 0x3DD105EC#32 := by
  have e : v.readCov L (Rect.unit (s := S8192x128) ![0, 0] S8192x128.size inb).toLoadRect = View.canon L := by
    rw [View.readCov_eq_canon']
    exact View.ld_unit_lit inb (View.canon L) (fun a => by fin_cases a <;> rfl)
  rw [e]
  generalize View.canon L = X
  unfold k2_pay4
  obtain ⟨r, l, rfl⟩ : ∃ (r : Fin 8192) (l : Fin 128), y = ix2 r l := ⟨y 0, y 1, eq_ix2 y⟩
  pointwise

set_option maxHeartbeats 1600000 in
/-- A head's first point starts from zero. -/
theorem stepA (c : Dev nD) (t : Fin cfg2.N) (h0 : t.val % 8 = 0) (h1 : ¬t.val % 8 = 7) (y : S8192x128.Idx) :
    (outsAt2 V c t.val t.isLt).1 y = 0 + add V c t 0 (y 0) (y 1) + add V c t 1 (y 0) (y 1) := by
  rw [outsAt2_A V c t h0 h1]
  frame_out
  clear h0 h1
  revert y
  refine chunks _ ?_ ?_ ?_ ?_ ?_ ?_ ?_ ?_ <;> intro r l
  · exact ((skip 0 7 (by decide) _ _ r l).trans <| (skip 0 6 (by decide) _ _ r l).trans <| (skip 0 5 (by decide) _ _ r l).trans <| (skip 0 4 (by decide) _ _ r l).trans <| (skip 0 3 (by decide) _ _ r l).trans <| (skip 0 2 (by decide) _ _ r l).trans <| (skip 0 1 (by decide) _ _ r l).trans <| hit 0 _ _ r l).trans ((twice V c t 0 _ _ _ r l ((skip 0 7 (by decide) _ _ r l).trans <| (skip 0 6 (by decide) _ _ r l).trans <| (skip 0 5 (by decide) _ _ r l).trans <| (skip 0 4 (by decide) _ _ r l).trans <| (skip 0 3 (by decide) _ _ r l).trans <| (skip 0 2 (by decide) _ _ r l).trans <| (skip 0 1 (by decide) _ _ r l).trans <| hit 0 _ _ r l)).trans (congrArg (fun z : EReal => z + add V c t 0 (at8 0 r) l + add V c t 1 (at8 0 r) l) ((load _ _ 0 r l).trans (zero_at _ _))))
  · exact ((skip 1 7 (by decide) _ _ r l).trans <| (skip 1 6 (by decide) _ _ r l).trans <| (skip 1 5 (by decide) _ _ r l).trans <| (skip 1 4 (by decide) _ _ r l).trans <| (skip 1 3 (by decide) _ _ r l).trans <| (skip 1 2 (by decide) _ _ r l).trans <| hit 1 _ _ r l).trans ((twice V c t 1 _ _ _ r l ((skip 1 0 (by decide) _ _ r l).trans <| (skip 1 7 (by decide) _ _ r l).trans <| (skip 1 6 (by decide) _ _ r l).trans <| (skip 1 5 (by decide) _ _ r l).trans <| (skip 1 4 (by decide) _ _ r l).trans <| (skip 1 3 (by decide) _ _ r l).trans <| (skip 1 2 (by decide) _ _ r l).trans <| hit 1 _ _ r l)).trans (congrArg (fun z : EReal => z + add V c t 0 (at8 1 r) l + add V c t 1 (at8 1 r) l) ((load _ _ 1 r l).trans ((skip 1 0 (by decide) _ _ r l).trans <| zero_at _ _))))
  · exact ((skip 2 7 (by decide) _ _ r l).trans <| (skip 2 6 (by decide) _ _ r l).trans <| (skip 2 5 (by decide) _ _ r l).trans <| (skip 2 4 (by decide) _ _ r l).trans <| (skip 2 3 (by decide) _ _ r l).trans <| hit 2 _ _ r l).trans ((twice V c t 2 _ _ _ r l ((skip 2 1 (by decide) _ _ r l).trans <| (skip 2 0 (by decide) _ _ r l).trans <| (skip 2 7 (by decide) _ _ r l).trans <| (skip 2 6 (by decide) _ _ r l).trans <| (skip 2 5 (by decide) _ _ r l).trans <| (skip 2 4 (by decide) _ _ r l).trans <| (skip 2 3 (by decide) _ _ r l).trans <| hit 2 _ _ r l)).trans (congrArg (fun z : EReal => z + add V c t 0 (at8 2 r) l + add V c t 1 (at8 2 r) l) ((load _ _ 2 r l).trans ((skip 2 1 (by decide) _ _ r l).trans <| (skip 2 0 (by decide) _ _ r l).trans <| zero_at _ _))))
  · exact ((skip 3 7 (by decide) _ _ r l).trans <| (skip 3 6 (by decide) _ _ r l).trans <| (skip 3 5 (by decide) _ _ r l).trans <| (skip 3 4 (by decide) _ _ r l).trans <| hit 3 _ _ r l).trans ((twice V c t 3 _ _ _ r l ((skip 3 2 (by decide) _ _ r l).trans <| (skip 3 1 (by decide) _ _ r l).trans <| (skip 3 0 (by decide) _ _ r l).trans <| (skip 3 7 (by decide) _ _ r l).trans <| (skip 3 6 (by decide) _ _ r l).trans <| (skip 3 5 (by decide) _ _ r l).trans <| (skip 3 4 (by decide) _ _ r l).trans <| hit 3 _ _ r l)).trans (congrArg (fun z : EReal => z + add V c t 0 (at8 3 r) l + add V c t 1 (at8 3 r) l) ((load _ _ 3 r l).trans ((skip 3 2 (by decide) _ _ r l).trans <| (skip 3 1 (by decide) _ _ r l).trans <| (skip 3 0 (by decide) _ _ r l).trans <| zero_at _ _))))
  · exact ((skip 4 7 (by decide) _ _ r l).trans <| (skip 4 6 (by decide) _ _ r l).trans <| (skip 4 5 (by decide) _ _ r l).trans <| hit 4 _ _ r l).trans ((twice V c t 4 _ _ _ r l ((skip 4 3 (by decide) _ _ r l).trans <| (skip 4 2 (by decide) _ _ r l).trans <| (skip 4 1 (by decide) _ _ r l).trans <| (skip 4 0 (by decide) _ _ r l).trans <| (skip 4 7 (by decide) _ _ r l).trans <| (skip 4 6 (by decide) _ _ r l).trans <| (skip 4 5 (by decide) _ _ r l).trans <| hit 4 _ _ r l)).trans (congrArg (fun z : EReal => z + add V c t 0 (at8 4 r) l + add V c t 1 (at8 4 r) l) ((load _ _ 4 r l).trans ((skip 4 3 (by decide) _ _ r l).trans <| (skip 4 2 (by decide) _ _ r l).trans <| (skip 4 1 (by decide) _ _ r l).trans <| (skip 4 0 (by decide) _ _ r l).trans <| zero_at _ _))))
  · exact ((skip 5 7 (by decide) _ _ r l).trans <| (skip 5 6 (by decide) _ _ r l).trans <| hit 5 _ _ r l).trans ((twice V c t 5 _ _ _ r l ((skip 5 4 (by decide) _ _ r l).trans <| (skip 5 3 (by decide) _ _ r l).trans <| (skip 5 2 (by decide) _ _ r l).trans <| (skip 5 1 (by decide) _ _ r l).trans <| (skip 5 0 (by decide) _ _ r l).trans <| (skip 5 7 (by decide) _ _ r l).trans <| (skip 5 6 (by decide) _ _ r l).trans <| hit 5 _ _ r l)).trans (congrArg (fun z : EReal => z + add V c t 0 (at8 5 r) l + add V c t 1 (at8 5 r) l) ((load _ _ 5 r l).trans ((skip 5 4 (by decide) _ _ r l).trans <| (skip 5 3 (by decide) _ _ r l).trans <| (skip 5 2 (by decide) _ _ r l).trans <| (skip 5 1 (by decide) _ _ r l).trans <| (skip 5 0 (by decide) _ _ r l).trans <| zero_at _ _))))
  · exact ((skip 6 7 (by decide) _ _ r l).trans <| hit 6 _ _ r l).trans ((twice V c t 6 _ _ _ r l ((skip 6 5 (by decide) _ _ r l).trans <| (skip 6 4 (by decide) _ _ r l).trans <| (skip 6 3 (by decide) _ _ r l).trans <| (skip 6 2 (by decide) _ _ r l).trans <| (skip 6 1 (by decide) _ _ r l).trans <| (skip 6 0 (by decide) _ _ r l).trans <| (skip 6 7 (by decide) _ _ r l).trans <| hit 6 _ _ r l)).trans (congrArg (fun z : EReal => z + add V c t 0 (at8 6 r) l + add V c t 1 (at8 6 r) l) ((load _ _ 6 r l).trans ((skip 6 5 (by decide) _ _ r l).trans <| (skip 6 4 (by decide) _ _ r l).trans <| (skip 6 3 (by decide) _ _ r l).trans <| (skip 6 2 (by decide) _ _ r l).trans <| (skip 6 1 (by decide) _ _ r l).trans <| (skip 6 0 (by decide) _ _ r l).trans <| zero_at _ _))))
  · exact (hit 7 _ _ r l).trans ((twice V c t 7 _ _ _ r l ((skip 7 6 (by decide) _ _ r l).trans <| (skip 7 5 (by decide) _ _ r l).trans <| (skip 7 4 (by decide) _ _ r l).trans <| (skip 7 3 (by decide) _ _ r l).trans <| (skip 7 2 (by decide) _ _ r l).trans <| (skip 7 1 (by decide) _ _ r l).trans <| (skip 7 0 (by decide) _ _ r l).trans <| hit 7 _ _ r l)).trans (congrArg (fun z : EReal => z + add V c t 0 (at8 7 r) l + add V c t 1 (at8 7 r) l) ((load _ _ 7 r l).trans ((skip 7 6 (by decide) _ _ r l).trans <| (skip 7 5 (by decide) _ _ r l).trans <| (skip 7 4 (by decide) _ _ r l).trans <| (skip 7 3 (by decide) _ _ r l).trans <| (skip 7 2 (by decide) _ _ r l).trans <| (skip 7 1 (by decide) _ _ r l).trans <| (skip 7 0 (by decide) _ _ r l).trans <| zero_at _ _))))

set_option maxHeartbeats 1600000 in
/-- A head's last point scales the sum. -/
theorem stepC (c : Dev nD) (t : Fin cfg2.N) (h0 : ¬t.val % 8 = 0) (h1 : t.val % 8 = 7) (y : S8192x128.Idx) :
    (outsAt2 V c t.val t.isLt).1 y
      = ((outsAt2 V c (t.val - 1) (by omega)).1 y + add V c t 0 (y 0) (y 1) + add V c t 1 (y 0) (y 1)) * Ideal.ofBits .f32 0x3DD105EC#32 := by
  rw [outsAt2_C V c t h0 h1]
  frame_out
  refine (scaled _ _ _ y).trans (congrArg (fun z : EReal => z * Ideal.ofBits .f32 0x3DD105EC#32) ?_)
  revert y
  refine chunks _ ?_ ?_ ?_ ?_ ?_ ?_ ?_ ?_ <;> intro r l
  · exact ((skip 0 7 (by decide) _ _ r l).trans <| (skip 0 6 (by decide) _ _ r l).trans <| (skip 0 5 (by decide) _ _ r l).trans <| (skip 0 4 (by decide) _ _ r l).trans <| (skip 0 3 (by decide) _ _ r l).trans <| (skip 0 2 (by decide) _ _ r l).trans <| (skip 0 1 (by decide) _ _ r l).trans <| hit 0 _ _ r l).trans ((twice V c t 0 _ _ _ r l ((skip 0 7 (by decide) _ _ r l).trans <| (skip 0 6 (by decide) _ _ r l).trans <| (skip 0 5 (by decide) _ _ r l).trans <| (skip 0 4 (by decide) _ _ r l).trans <| (skip 0 3 (by decide) _ _ r l).trans <| (skip 0 2 (by decide) _ _ r l).trans <| (skip 0 1 (by decide) _ _ r l).trans <| hit 0 _ _ r l)).trans (congrArg (fun z : EReal => z + add V c t 0 (at8 0 r) l + add V c t 1 (at8 0 r) l) (ld_at _ 0 r l)))
  · exact ((skip 1 7 (by decide) _ _ r l).trans <| (skip 1 6 (by decide) _ _ r l).trans <| (skip 1 5 (by decide) _ _ r l).trans <| (skip 1 4 (by decide) _ _ r l).trans <| (skip 1 3 (by decide) _ _ r l).trans <| (skip 1 2 (by decide) _ _ r l).trans <| hit 1 _ _ r l).trans ((twice V c t 1 _ _ _ r l ((skip 1 0 (by decide) _ _ r l).trans <| (skip 1 7 (by decide) _ _ r l).trans <| (skip 1 6 (by decide) _ _ r l).trans <| (skip 1 5 (by decide) _ _ r l).trans <| (skip 1 4 (by decide) _ _ r l).trans <| (skip 1 3 (by decide) _ _ r l).trans <| (skip 1 2 (by decide) _ _ r l).trans <| hit 1 _ _ r l)).trans (congrArg (fun z : EReal => z + add V c t 0 (at8 1 r) l + add V c t 1 (at8 1 r) l) (ld_at _ 1 r l)))
  · exact ((skip 2 7 (by decide) _ _ r l).trans <| (skip 2 6 (by decide) _ _ r l).trans <| (skip 2 5 (by decide) _ _ r l).trans <| (skip 2 4 (by decide) _ _ r l).trans <| (skip 2 3 (by decide) _ _ r l).trans <| hit 2 _ _ r l).trans ((twice V c t 2 _ _ _ r l ((skip 2 1 (by decide) _ _ r l).trans <| (skip 2 0 (by decide) _ _ r l).trans <| (skip 2 7 (by decide) _ _ r l).trans <| (skip 2 6 (by decide) _ _ r l).trans <| (skip 2 5 (by decide) _ _ r l).trans <| (skip 2 4 (by decide) _ _ r l).trans <| (skip 2 3 (by decide) _ _ r l).trans <| hit 2 _ _ r l)).trans (congrArg (fun z : EReal => z + add V c t 0 (at8 2 r) l + add V c t 1 (at8 2 r) l) (ld_at _ 2 r l)))
  · exact ((skip 3 7 (by decide) _ _ r l).trans <| (skip 3 6 (by decide) _ _ r l).trans <| (skip 3 5 (by decide) _ _ r l).trans <| (skip 3 4 (by decide) _ _ r l).trans <| hit 3 _ _ r l).trans ((twice V c t 3 _ _ _ r l ((skip 3 2 (by decide) _ _ r l).trans <| (skip 3 1 (by decide) _ _ r l).trans <| (skip 3 0 (by decide) _ _ r l).trans <| (skip 3 7 (by decide) _ _ r l).trans <| (skip 3 6 (by decide) _ _ r l).trans <| (skip 3 5 (by decide) _ _ r l).trans <| (skip 3 4 (by decide) _ _ r l).trans <| hit 3 _ _ r l)).trans (congrArg (fun z : EReal => z + add V c t 0 (at8 3 r) l + add V c t 1 (at8 3 r) l) (ld_at _ 3 r l)))
  · exact ((skip 4 7 (by decide) _ _ r l).trans <| (skip 4 6 (by decide) _ _ r l).trans <| (skip 4 5 (by decide) _ _ r l).trans <| hit 4 _ _ r l).trans ((twice V c t 4 _ _ _ r l ((skip 4 3 (by decide) _ _ r l).trans <| (skip 4 2 (by decide) _ _ r l).trans <| (skip 4 1 (by decide) _ _ r l).trans <| (skip 4 0 (by decide) _ _ r l).trans <| (skip 4 7 (by decide) _ _ r l).trans <| (skip 4 6 (by decide) _ _ r l).trans <| (skip 4 5 (by decide) _ _ r l).trans <| hit 4 _ _ r l)).trans (congrArg (fun z : EReal => z + add V c t 0 (at8 4 r) l + add V c t 1 (at8 4 r) l) (ld_at _ 4 r l)))
  · exact ((skip 5 7 (by decide) _ _ r l).trans <| (skip 5 6 (by decide) _ _ r l).trans <| hit 5 _ _ r l).trans ((twice V c t 5 _ _ _ r l ((skip 5 4 (by decide) _ _ r l).trans <| (skip 5 3 (by decide) _ _ r l).trans <| (skip 5 2 (by decide) _ _ r l).trans <| (skip 5 1 (by decide) _ _ r l).trans <| (skip 5 0 (by decide) _ _ r l).trans <| (skip 5 7 (by decide) _ _ r l).trans <| (skip 5 6 (by decide) _ _ r l).trans <| hit 5 _ _ r l)).trans (congrArg (fun z : EReal => z + add V c t 0 (at8 5 r) l + add V c t 1 (at8 5 r) l) (ld_at _ 5 r l)))
  · exact ((skip 6 7 (by decide) _ _ r l).trans <| hit 6 _ _ r l).trans ((twice V c t 6 _ _ _ r l ((skip 6 5 (by decide) _ _ r l).trans <| (skip 6 4 (by decide) _ _ r l).trans <| (skip 6 3 (by decide) _ _ r l).trans <| (skip 6 2 (by decide) _ _ r l).trans <| (skip 6 1 (by decide) _ _ r l).trans <| (skip 6 0 (by decide) _ _ r l).trans <| (skip 6 7 (by decide) _ _ r l).trans <| hit 6 _ _ r l)).trans (congrArg (fun z : EReal => z + add V c t 0 (at8 6 r) l + add V c t 1 (at8 6 r) l) (ld_at _ 6 r l)))
  · exact (hit 7 _ _ r l).trans ((twice V c t 7 _ _ _ r l ((skip 7 6 (by decide) _ _ r l).trans <| (skip 7 5 (by decide) _ _ r l).trans <| (skip 7 4 (by decide) _ _ r l).trans <| (skip 7 3 (by decide) _ _ r l).trans <| (skip 7 2 (by decide) _ _ r l).trans <| (skip 7 1 (by decide) _ _ r l).trans <| (skip 7 0 (by decide) _ _ r l).trans <| hit 7 _ _ r l)).trans (congrArg (fun z : EReal => z + add V c t 0 (at8 7 r) l + add V c t 1 (at8 7 r) l) (ld_at _ 7 r l)))

/-- The grid point of head `h` and key block `p`. -/
def pt (h p : Fin 8) : Fin cfg2.N := ⟨8 * h.val + p.val, lt_of_lt_of_eq (by omega : 8 * h.val + p.val < 64) (by decide : 64 = cfg2.N)⟩

theorem hp_pt (h p : Fin 8) : hp (pt h p) = h := Fin.ext (by simp only [hp, pt]; omega)

/-- What grid point `p` of a head adds. -/
def both (c : Dev nD) (h : Fin 8) (r : Fin 8192) (l : Fin 128) (p : ℕ) : EReal :=
  if e : p < 8 then add V c (pt h ⟨p, e⟩) 0 r l + add V c (pt h ⟨p, e⟩) 1 r l else 0

theorem both_of (c : Dev nD) (h : Fin 8) (r : Fin 8192) (l : Fin 128) (p : ℕ) (e : p < 8) :
    both V c h r l p = add V c (pt h ⟨p, e⟩) 0 r l + add V c (pt h ⟨p, e⟩) 1 r l := dif_pos e

theorem outs_congr (c : Dev nD) (n n' : ℕ) (e : n = n') (e1 : n < cfg2.N) (e2 : n' < cfg2.N) : outsAt2 V c n e1 = outsAt2 V c n' e2 := by
  subst e; rfl

/-- The block after the first `m + 1` points of a head, the last one excepted. -/
theorem prefix_at (c : Dev nD) (h : Fin 8) (y : S8192x128.Idx) : ∀ (m : ℕ) (e : m < 7) (e' : 8 * h.val + m < cfg2.N),
    (outsAt2 V c (8 * h.val + m) e').1 y = ∑ p ∈ Finset.range (m + 1), both V c h (y 0) (y 1) p := by
  intro m
  induction m with
  | zero =>
    intro e e'
    refine (stepA V c ⟨8 * h.val + 0, e'⟩ (by simp only; omega) (by simp only; omega) y).trans ?_
    rw [Finset.sum_range_one, zero_add]
    exact (both_of V c h (y 0) (y 1) 0 (by omega)).symm
  | succ m ih =>
    intro e e'
    refine (stepB V c ⟨8 * h.val + (m + 1), e'⟩ (by simp only; omega) (by simp only; omega) y).trans ?_
    rw [Finset.sum_range_succ, ← ih (by omega) (by omega), both_of V c h (y 0) (y 1) (m + 1) (by omega)]
    exact add_assoc (G := EReal) _ _ _

/-- The queries' gradient. -/
def DQ (A : Arr) (i : S8192x1024.Idx) : EReal :=
  (∑ s : Fin 8192, DS A (hd (i 1)) (i 0) s * A.k (ix2 s (i 1))) * Ideal.ofBits .f32 0x3DD105EC#32

/-- The block after a head's last point. -/
theorem last_at (c : Dev nD) (t : Fin cfg2.N) (h1 : t.val % 8 = 7) (r : Fin 8192) (l : Fin 128) :
    (outsAt2 V c t.val t.isLt).1 (ix2 r l) = DQ (arrs V c) (ix2 r (lane (hp t) l)) := by
  have e : t.val - 1 = 8 * (hp t).val + 6 := by simp only [hp]; omega
  have e6 : (outsAt2 V c (t.val - 1) (by omega)).1 (ix2 r l) = ∑ p ∈ Finset.range 7, both V c (hp t) r l p := by
    refine Eq.trans ?_ (prefix_at V c (hp t) (ix2 r l) 6 (by omega) (by rw [← e]; omega))
    rw [outs_congr V c _ _ e]
  have et : t = pt (hp t) 7 := Fin.ext (by simp only [hp, pt]; omega)
  rw [stepC V c t (by omega) h1, e6]
  show _ = (∑ s : Fin 8192, DS (arrs V c) (hd (lane (hp t) l)) r s * (arrs V c).k (ix2 s (lane (hp t) l))) * Ideal.ofBits .f32 0x3DD105EC#32
  refine congrArg (fun z : EReal => z * Ideal.ofBits .f32 0x3DD105EC#32) ?_
  rw [hd_lane]
  have e7 : add V c t 0 r l + add V c t 1 r l = both V c (hp t) r l 7 := by
    rw [both, dif_pos (by omega : 7 < 8)]
    exact congrArg (fun u => add V c u 0 r l + add V c u 1 r l) et
  rw [add_assoc]
  show (_ : EReal) + (add V c t 0 r l + add V c t 1 r l) = _
  rw [e7, ← Finset.sum_range_succ, Finset.sum_range]
  rw [Fin.sum_univ_tiles 8 1024 rfl]
  refine Finset.sum_congr rfl fun p _ => ?_
  rw [Fin.sum_univ_tiles 2 512 rfl, Fin.sum_univ_two, both, dif_pos p.isLt]
  refine congrArg₂ (fun a b : EReal => a + b) ?_ ?_
  all_goals
    rw [add, hp_pt]
    refine Finset.sum_congr rfl fun s _ => ?_
  · have k0 : krow (pt (hp t) p) 0 s = ⟨p.val * 1024 + (0 * 512 + s.val), by omega⟩ := Fin.ext (by simp only [krow, pt]; omega)
    rw [k0]
    rfl
  · have k1 : krow (pt (hp t) p) 1 s = ⟨p.val * 1024 + (1 * 512 + s.val), by omega⟩ := Fin.ext (by simp only [krow, pt]; omega)
    rw [k1]
    rfl

set_option maxHeartbeats 1600000 in
/-- The queries' gradient, as the region leaves it. -/
theorem final8 (c : Dev nD) : (dat2 V c).arrAt 8 cfg2.N = DQ (arrs V c) := by
  refine (dat2 V c).arrAt_eq_of_covers 8 _ (by decide +kernel) fun t hf y => ?_
  have h1 : t.val % 8 = 7 := (flush2_8 t).mp hf
  have key : ∀ (x : S8192x128.Idx) (i : S8192x1024.Idx), i = ix2 (x 0) (lane (hp t) (x 1)) →
      (outsAt2 V c t.val t.isLt).1 x = DQ (arrs V c) i := by
    intro x i hi
    obtain ⟨r, l, rfl⟩ : ∃ (r : Fin 8192) (l : Fin 128), x = ix2 r l := ⟨x 0, x 1, eq_ix2 x⟩
    subst hi
    exact last_at V c t h1 r l
  clear hf h1
  blk_simp
  rw [after2_8]
  refine key y _ ?_
  blk_ext [idx t, lane, hp]

end Cert.AttIdeal.Bwd
end
-- ==== Proof.AttDelta.lean ====
module

public import proofs.«01_k».proof.Proof.AttFwd

@[expose] public section

set_option maxRecDepth 16384

noncomputable section

open Idealize.ShloMosaic Idealize.ShloMosaic.TcCoe Idealize.SL.Sem
open Idealize.ShloMosaic.Pipeline (Dat)

/-! The row sums of cotangent times output, head by head. -/

namespace Cert.AttIdeal.Delta

open Cert.AttIdeal Cert.AttIdeal.Gen Cert.AttIdeal.Fwd

variable (V : (c : Dev nD) → (b : Ref sig .tc) → Buf (Elt Ideal) ((c : Thread nD τ).loc b))

/-- The blocks of the region's grid points. -/
theorem idx : ∀ t : Fin cfg1.N, win1_0.index t = ![t.val, 0] ∧ win1_1.index t = ![t.val, 0] ∧ win1_2.index t = ![0, t.val, 0] :=
  (by decide +kernel : ∀ t : Fin grid1.N, _)

/-- The sum over a head's lanes of cotangent times output. -/
def DL (X Y : S8192x1024.Idx → EReal) (i : S8x8192x1.Idx) : EReal :=
  ∑ d : Fin 128, X (ix2 (i 1) (lane (i 0) d)) * Y (ix2 (i 1) (lane (i 0) d))

set_option maxHeartbeats 1600000 in
/-- The result of the region. -/
theorem final2 (c : Dev nD) : (dat1 V c).arrAt 2 cfg1.N = DL (V c main_v23) (V c main_v22_0) := by
  refine (dat1 V c).arrAt_eq_of_covers 2 _ (by decide +kernel) fun t _ y => ?_
  blk_simp
  rw [after1_2]
  frame_out
  canon_tiles x h
  all_goals
    open_payloads
    idx_vars x
    pointwise [DL, lane]
    blk_point [iblk1, idx t]

end Cert.AttIdeal.Delta
end
-- ==== Proof.AttHost.lean ====
module

public import Idealize.ShloMosaic.Lib.StableHlo.RunRead
public import proofs.«01_k».proof.Proof.AttDq
public import proofs.«01_k».proof.Proof.AttDelta
public import proofs.«01_k».proof.Proof.Reals

@[expose] public section

set_option maxRecDepth 16384

noncomputable section

open Idealize.ShloMosaic Idealize.ShloMosaic.TcCoe Idealize.SL.Sem
open Idealize.ShloMosaic.Pipeline (Dat)

/-! The arrays the host prepares for the attention's regions, where the arguments hold real numbers: queries scaled and
    padded, keys of two parts, values with a lane of ones, the cotangent padded. -/

namespace Cert.AttIdeal.Host

open Cert.AttIdeal Cert.AttIdeal.Gen Cert.AttIdeal.Fwd Cert.Math

/-- The factor on the scores. -/
def κ : ℝ := 13698540 / 134217728

theorem word_scale : Ideal.ofBits .f32 0x3DD105EC#32 = ((κ : ℝ) : EReal) := by
  rw [κ]
  simp [Ideal.ofBits, Ideal.ieee]; rw [← EReal.coe_mul]; norm_num

/-- The arguments, as real numbers: queries, the keys' two parts, values, cotangent. -/
structure Args where
  x0 : S8192x768.Idx → ℝ
  x1 : S8192x512.Idx → ℝ
  x2 : S8192x32.Idx → ℝ
  x3 : S8192x512.Idx → ℝ
  x4 : S8192x512.Idx → ℝ

variable (a : Args)

/-- One head's lanes of the four arrays. -/
def Args.ql (r : Fin 8192) (h : Fin 8) (d : Fin 128) : ℝ := if e : d.val < 96 then a.x0 (ix2 r ⟨96 * h.val + d.val, by omega⟩) * κ else 0
def Args.kl (r : Fin 8192) (h : Fin 8) (d : Fin 128) : ℝ :=
  if e : d.val < 64 then a.x1 (ix2 r ⟨64 * h.val + d.val, by omega⟩) else if e : d.val - 64 < 32 then a.x2 (ix2 r ⟨d.val - 64, e⟩) else 0
def Args.vl (r : Fin 8192) (h : Fin 8) (d : Fin 128) : ℝ :=
  if e : d.val < 64 then a.x3 (ix2 r ⟨64 * h.val + d.val, by omega⟩) else if d.val = 64 then 1 else 0
def Args.wl (r : Fin 8192) (h : Fin 8) (d : Fin 128) : ℝ := if e : d.val < 64 then a.x4 (ix2 r ⟨64 * h.val + d.val, by omega⟩) else 0

/-- The arrays, by column. -/
def Args.q (r : Fin 8192) (i : Fin 1024) : ℝ := a.ql r (hd i) (ln i)
def Args.k (r : Fin 8192) (i : Fin 1024) : ℝ := a.kl r (hd i) (ln i)
def Args.v (r : Fin 8192) (i : Fin 1024) : ℝ := a.vl r (hd i) (ln i)
def Args.w (r : Fin 8192) (i : Fin 1024) : ℝ := a.wl r (hd i) (ln i)

theorem Args.q_lane (r h d) : a.q r (lane h d) = a.ql r h d := by rw [Args.q, hd_lane, ln_lane]
theorem Args.k_lane (r h d) : a.k r (lane h d) = a.kl r h d := by rw [Args.k, hd_lane, ln_lane]
theorem Args.v_lane (r h d) : a.v r (lane h d) = a.vl r h d := by rw [Args.v, hd_lane, ln_lane]
theorem Args.w_lane (r h d) : a.w r (lane h d) = a.wl r h d := by rw [Args.w, hd_lane, ln_lane]

theorem lane_eq (i : Fin 1024) : i = lane (hd i) (ln i) := Fin.ext (by simp only [lane, hd, ln]; omega)

theorem Args.v_one (s h) : a.v s (lane h 64) = 1 := by
  rw [a.v_lane, Args.vl, dif_neg (by decide)]
  exact if_pos rfl

variable (m : (ℓ : Loc nD τ sig) → Buf (Elt Ideal) ℓ) (ρ : Dev nD → PrngReg) (c : Dev nD)

/-- Rows of columns as an array of extended reals. -/
def F1 (f : Fin 8192 → Fin 1024 → ℝ) : S8192x1024.Idx → EReal := fun i => ((f (i 0) (i 1) : ℝ) : EReal)

/-- The same, transposed. -/
def F2 (f : Fin 8192 → Fin 1024 → ℝ) : S1024x8192.Idx → EReal := fun i => ((f (i 1) (i 0) : ℝ) : EReal)

/-- The arguments of a device hold the real numbers `a`. -/
structure Holds : Prop where
  h0 : ∀ i : S8192x768.Idx, m ((c : Thread nD τ).loc main_arg0) i = ((a.x0 i : ℝ) : EReal)
  h1 : ∀ i : S8192x512.Idx, m ((c : Thread nD τ).loc main_arg1) i = ((a.x1 i : ℝ) : EReal)
  h2 : ∀ i : S8192x32.Idx, m ((c : Thread nD τ).loc main_arg2) i = ((a.x2 i : ℝ) : EReal)
  h3 : ∀ i : S8192x512.Idx, m ((c : Thread nD τ).loc main_arg3) i = ((a.x3 i : ℝ) : EReal)
  h4 : ∀ i : S8192x512.Idx, m ((c : Thread nD τ).loc main_arg4) i = ((a.x4 i : ℝ) : EReal)

/-- The arguments as arrays of extended reals. -/
def X0 : S8192x768.Idx → EReal := m ((c : Thread nD τ).loc main_arg0)
def X1 : S8192x512.Idx → EReal := m ((c : Thread nD τ).loc main_arg1)
def X2 : S8192x32.Idx → EReal := m ((c : Thread nD τ).loc main_arg2)
def X3 : S8192x512.Idx → EReal := m ((c : Thread nD τ).loc main_arg3)
def X4 : S8192x512.Idx → EReal := m ((c : Thread nD τ).loc main_arg4)

/-- A head's lanes laid out in columns. -/
theorem flat (x : FVec Ideal S8192x8x128 .f32) (r : Fin 8192) (h : Fin 8) (d : Fin 128) :
    shapeCast S8192x1024 x shapeCasts_S8192x8x128_S8192x1024 (ix2 r (lane h d)) = x (ix3 r h d) := by
  have e1 : (128 * h.val + d.val) / 128 = h.val := by omega
  have e2 : (128 * h.val + d.val) % 128 = d.val := by omega
  pointwise [lane, e1, e2]

/-- Three pieces of a head's lanes, of 64, 32 and 32 lanes, side by side. -/
def cat3 (x : FVec Ideal S8192x8x64 .f32) (y z : FVec Ideal S8192x8x32 .f32) : FVec Ideal S8192x8x128 .f32 :=
  concatenate S8192x8x128 2 [⟨S8192x8x64, x⟩, ⟨S8192x8x32, y⟩, ⟨S8192x8x32, z⟩] concatenates_S8192x8x64_S8192x8x32_S8192x8x32_S8192x8x128_d2

/-- Three pieces of a head's lanes, of 64, 1 and 63 lanes, side by side. -/
def cat1 (x : FVec Ideal S8192x8x64 .f32) (y : FVec Ideal S8192x8x1 .f32) (z : FVec Ideal S8192x8x63 .f32) : FVec Ideal S8192x8x128 .f32 :=
  concatenate S8192x8x128 2 [⟨S8192x8x64, x⟩, ⟨S8192x8x1, y⟩, ⟨S8192x8x63, z⟩] concatenates_S8192x8x64_S8192x8x1_S8192x8x63_S8192x8x128_d2

theorem cat3_apply (x : FVec Ideal S8192x8x64 .f32) (y z : FVec Ideal S8192x8x32 .f32) (r : Fin 8192) (h : Fin 8) (d : Fin 128) :
    cat3 x y z (ix3 r h d) = if e : d.val < 64 then x (ix3 r h ⟨d.val, e⟩) else if e' : d.val - 64 < 32 then y (ix3 r h ⟨d.val - 64, e'⟩)
      else z (ix3 r h ⟨d.val - 64 - 32, by omega⟩) := by
  unfold cat3
  pointwise

theorem cat1_apply (x : FVec Ideal S8192x8x64 .f32) (y : FVec Ideal S8192x8x1 .f32) (z : FVec Ideal S8192x8x63 .f32) (r : Fin 8192) (h : Fin 8) (d : Fin 128) :
    cat1 x y z (ix3 r h d) = if e : d.val < 64 then x (ix3 r h ⟨d.val, e⟩) else if e' : d.val - 64 < 1 then y (ix3 r h ⟨d.val - 64, e'⟩)
      else z (ix3 r h ⟨d.val - 64 - 1, by omega⟩) := by
  unfold cat1
  pointwise

set_option maxHeartbeats 4000000 in
theorem raw_v11 (r : Fin 8192) (h : Fin 8) (d : Fin 128) : V1 m ρ c main_v11 (ix2 r (lane h d))
    = if e : d.val < 96 then X0 m c (ix2 r ⟨96 * h.val + d.val, by omega⟩) * Ideal.ofBits .f32 0x3DD105EC#32 else 0 := by
  unfold V1 W1
  entry_read
  pointwise [lane]
  have e1 : (128 * h.val + d.val) / 128 = h.val := by omega
  have e2 : (128 * h.val + d.val) % 128 = d.val := by omega
  simp only [e1, e2, mul_comm h.val]
  rfl

set_option maxHeartbeats 4000000 in
/-- The prepared queries, by head and lane. -/
theorem raw_v21 (r : Fin 8192) (h : Fin 8) (d : Fin 128) : V1 m ρ c main_v21 (ix2 r (lane h d))
    = if e : d.val < 96 then X0 m c (ix2 r ⟨96 * h.val + d.val, by omega⟩) * Ideal.ofBits .f32 0x3DD105EC#32 else 0 := by
  unfold V1 W1
  entry_read
  pointwise [lane]
  have e1 : (128 * h.val + d.val) / 128 = h.val := by omega
  have e2 : (128 * h.val + d.val) % 128 = d.val := by omega
  simp only [e1, e2, mul_comm h.val]
  rfl

set_option maxHeartbeats 4000000 in
/-- The prepared keys, by head and lane. -/
theorem raw_v13 (r : Fin 8192) (h : Fin 8) (d : Fin 128) : V1 m ρ c main_v13 (ix2 r (lane h d))
    = if e : d.val < 64 then X1 m c (ix2 r ⟨64 * h.val + d.val, by omega⟩) else if e : d.val - 64 < 32 then X2 m c (ix2 r ⟨d.val - 64, e⟩) else 0 := by
  have e0 : ∀ i, X1 m c i = W0 m ρ c (Proc.devRef .tc main_arg1) i := fun _ => rfl
  have e1 : ∀ i, X2 m c i = W0 m ρ c (Proc.devRef .tc main_arg2) i := fun _ => rfl
  unfold V1 W1
  simp only [e0, e1]
  clear e0 e1
  generalize W0 m ρ c = V0
  simp (disch := decide) only [StableHlo.readAfter, StableHlo.readUpto, StableHlo.unary_result', StableHlo.nullary_result', StableHlo.binary_result', StableHlo.reshape_result', StableHlo.nary_result']
  refine (flat (cat3 (StableHlo.upto hostOps0 V0 9 (Proc.devRef .tc main_v3)) (StableHlo.upto hostOps0 V0 9 (Proc.devRef .tc main_v5))
    (StableHlo.upto hostOps0 V0 9 (Proc.devRef .tc main_v0))) r h d).trans ((cat3_apply _ _ _ r h d).trans ?_)
  simp (disch := decide) only [StableHlo.readAfter, StableHlo.readUpto, StableHlo.unary_result', StableHlo.nullary_result', StableHlo.binary_result', StableHlo.reshape_result', StableHlo.nary_result']
  pointwise
  simp only [mul_comm h.val]

set_option maxHeartbeats 4000000 in
/-- The prepared values, by head and lane. -/
theorem raw_v17 (r : Fin 8192) (h : Fin 8) (d : Fin 128) : V1 m ρ c main_v17 (ix2 r (lane h d))
    = if e : d.val < 64 then X3 m c (ix2 r ⟨64 * h.val + d.val, by omega⟩) else if d.val = 64 then 1 else 0 := by
  have e0 : ∀ i, X3 m c i = W0 m ρ c (Proc.devRef .tc main_arg3) i := fun _ => rfl
  unfold V1 W1
  simp only [e0]
  clear e0
  generalize W0 m ρ c = V0
  simp (disch := decide) only [StableHlo.readAfter, StableHlo.readUpto, StableHlo.unary_result', StableHlo.nullary_result', StableHlo.binary_result', StableHlo.reshape_result', StableHlo.nary_result']
  refine (flat (cat1 (StableHlo.upto hostOps0 V0 19 (Proc.devRef .tc main_v14)) (StableHlo.upto hostOps0 V0 19 (Proc.devRef .tc main_v1))
    (StableHlo.upto hostOps0 V0 19 (Proc.devRef .tc main_v2))) r h d).trans ((cat1_apply _ _ _ r h d).trans ?_)
  simp (disch := decide) only [StableHlo.readAfter, StableHlo.readUpto, StableHlo.unary_result', StableHlo.nullary_result', StableHlo.binary_result', StableHlo.reshape_result', StableHlo.nary_result']
  pointwise
  simp only [mul_comm h.val]
  have e1 : (d.val - 64 < 1) = (d.val - 64 = 0) := by simp
  split_ifs <;> first | rfl | omega

set_option maxHeartbeats 4000000 in
/-- The prepared cotangent, by head and lane. -/
theorem raw_v20 (r : Fin 8192) (h : Fin 8) (d : Fin 128) : V1 m ρ c main_v20 (ix2 r (lane h d))
    = if e : d.val < 64 then X4 m c (ix2 r ⟨64 * h.val + d.val, by omega⟩) else 0 := by
  have e0 : ∀ i, X4 m c i = W0 m ρ c (Proc.devRef .tc main_arg4) i := fun _ => rfl
  unfold V1 W1
  simp only [e0]
  clear e0
  generalize W0 m ρ c = V0
  simp (disch := decide) only [StableHlo.readAfter, StableHlo.readUpto, StableHlo.unary_result', StableHlo.nullary_result', StableHlo.binary_result', StableHlo.reshape_result', StableHlo.nary_result']
  refine (flat (cat3 (StableHlo.upto hostOps0 V0 23 (Proc.devRef .tc main_v18)) (StableHlo.upto hostOps0 V0 23 (Proc.devRef .tc main_v0))
    (StableHlo.upto hostOps0 V0 23 (Proc.devRef .tc main_v0))) r h d).trans ((cat3_apply _ _ _ r h d).trans ?_)
  simp (disch := decide) only [StableHlo.readAfter, StableHlo.readUpto, StableHlo.unary_result', StableHlo.nullary_result', StableHlo.binary_result', StableHlo.reshape_result', StableHlo.nary_result']
  pointwise
  simp only [mul_comm h.val]
  split_ifs <;> rfl

variable {a m c} (H : Holds a m c)
include H

theorem q_raw (r : Fin 8192) (h : Fin 8) (d : Fin 128) :
    (if e : d.val < 96 then X0 m c (ix2 r ⟨96 * h.val + d.val, by omega⟩) * Ideal.ofBits .f32 0x3DD105EC#32 else 0) = ((a.ql r h d : ℝ) : EReal) := by
  rw [Args.ql, word_scale]
  split_ifs with e
  · rw [EReal.coe_mul]
    exact congrArg (· * ((κ : ℝ) : EReal)) (H.h0 _)
  · rfl

/-- The prepared queries are real numbers. -/
theorem v21_real : V1 m ρ c main_v21 = F1 a.q := by
  funext i
  obtain ⟨r, j, rfl⟩ : ∃ (r : Fin 8192) (j : Fin 1024), i = ix2 r j := ⟨i 0, i 1, eq_ix2 i⟩
  have e := lane_eq j
  generalize hd j = h, ln j = d at e
  subst e
  exact (raw_v21 m ρ c r h d).trans ((q_raw H r h d).trans (congrArg (fun t : ℝ => (t : EReal)) (a.q_lane r h d).symm))

theorem v11_real : V1 m ρ c main_v11 = F1 a.q := by
  funext i
  obtain ⟨r, j, rfl⟩ : ∃ (r : Fin 8192) (j : Fin 1024), i = ix2 r j := ⟨i 0, i 1, eq_ix2 i⟩
  have e := lane_eq j
  generalize hd j = h, ln j = d at e
  subst e
  exact (raw_v11 m ρ c r h d).trans ((q_raw H r h d).trans (congrArg (fun t : ℝ => (t : EReal)) (a.q_lane r h d).symm))

/-- The prepared keys are real numbers. -/
theorem v13_real : V1 m ρ c main_v13 = F1 a.k := by
  funext i
  obtain ⟨r, j, rfl⟩ : ∃ (r : Fin 8192) (j : Fin 1024), i = ix2 r j := ⟨i 0, i 1, eq_ix2 i⟩
  have e := lane_eq j
  generalize hd j = h, ln j = d at e
  subst e
  refine (raw_v13 m ρ c r h d).trans (Eq.trans ?_ (congrArg (fun t : ℝ => (t : EReal)) (a.k_lane r h d).symm))
  rw [Args.kl]
  split_ifs with e e'
  · exact H.h1 _
  · exact H.h2 _
  · rfl

/-- The prepared values are real numbers. -/
theorem v17_real : V1 m ρ c main_v17 = F1 a.v := by
  funext i
  obtain ⟨r, j, rfl⟩ : ∃ (r : Fin 8192) (j : Fin 1024), i = ix2 r j := ⟨i 0, i 1, eq_ix2 i⟩
  have e := lane_eq j
  generalize hd j = h, ln j = d at e
  subst e
  refine (raw_v17 m ρ c r h d).trans (Eq.trans ?_ (congrArg (fun t : ℝ => (t : EReal)) (a.v_lane r h d).symm))
  rw [Args.vl]
  split_ifs with e e'
  · exact H.h3 _
  · rfl
  · rfl

/-- The prepared cotangent is of real numbers. -/
theorem v20_real : V1 m ρ c main_v20 = F1 a.w := by
  funext i
  obtain ⟨r, j, rfl⟩ : ∃ (r : Fin 8192) (j : Fin 1024), i = ix2 r j := ⟨i 0, i 1, eq_ix2 i⟩
  have e := lane_eq j
  generalize hd j = h, ln j = d at e
  subst e
  refine (raw_v20 m ρ c r h d).trans (Eq.trans ?_ (congrArg (fun t : ℝ => (t : EReal)) (a.w_lane r h d).symm))
  rw [Args.wl]
  split_ifs with e
  · exact H.h4 _
  · rfl

/-- The forward pass' rows at the second region. -/
theorem v22_0_real : V3 m ρ c main_v22_0 = O a.q a.k a.v := by
  refine (W3_of m ρ c main_v22_0 (by decide)).trans ((W2_arr m ρ c 3).trans ?_)
  exact final3 (q := a.q) (k := a.k) (v := a.v) (V1 m ρ) (fun r l => congrFun (v21_real ρ H) (ix2 r l)) (fun r l => congrFun (v13_real ρ H) (ix2 r l))
    (fun r l => congrFun (v17_real ρ H) (ix2 r l)) a.v_one

theorem v20_at2 : W2 m ρ c (Proc.devRef .tc main_v20) = F1 a.w :=
  (W2_of m ρ c main_v20 (by decide)).trans (v20_real ρ H)

theorem v23_real : V3 m ρ c main_v23 = F1 a.w := by
  refine Eq.trans ?_ (v20_at2 ρ H)
  unfold V3 W3
  generalize W2 m ρ c = V0
  simp (disch := decide) only [StableHlo.readAfter, StableHlo.readUpto, StableHlo.unary_result', StableHlo.nullary_result', StableHlo.binary_result', StableHlo.reshape_result', StableHlo.nary_result']
  rfl

/-- The logarithms of the rows' sums, as the last region and the caller get them. -/
theorem lse_real : V5 m ρ c main_v22_1 = LSE a.q a.k a.v := by
  refine ((W5_of m ρ c main_v22_1 (by decide)).trans (W4_of m ρ c main_v22_1 (by decide))).trans ((W3_of m ρ c main_v22_1 (by decide)).trans ((W2_arr m ρ c 4).trans ?_))
  exact final4 (q := a.q) (k := a.k) (v := a.v) (V1 m ρ) (fun r l => congrFun (v21_real ρ H) (ix2 r l)) (fun r l => congrFun (v13_real ρ H) (ix2 r l))
    (fun r l => congrFun (v17_real ρ H) (ix2 r l)) a.v_one

/-- The forward pass' rows without the added lanes. -/
def OUT (q k v : Fin 8192 → Fin 1024 → ℝ) : S8192x512.Idx → EReal := fun i =>
  O q k v (ix2 (i 0) (lane ⟨(i 1).val / 64, by have h : (i 1).val < 512 := (i 1).isLt; omega⟩ ⟨(i 1).val % 64, by omega⟩))

/-- The forward pass' output as the caller gets it. -/
theorem out_real : V5 m ρ c main_v32 = OUT a.q a.k a.v := by
  have f : W4 m ρ c (Proc.devRef .tc main_v22_0) = O a.q a.k a.v := (W4_of m ρ c main_v22_0 (by decide)).trans (v22_0_real ρ H)
  unfold V5 W5
  generalize W4 m ρ c = V0 at f
  simp (disch := decide) only [StableHlo.readAfter, StableHlo.readUpto, StableHlo.unary_result', StableHlo.nullary_result', StableHlo.binary_result', StableHlo.reshape_result', StableHlo.nary_result']
  rw [f]
  unfold OUT
  generalize O a.q a.k a.v = x
  funext i
  obtain ⟨r, j, rfl⟩ : ∃ (r : Fin 8192) (j : Fin 512), i = ix2 r j := ⟨i 0, i 1, eq_ix2 i⟩
  pointwise [lane]
  simp only [mul_comm 128]

/-- The arrays the last region takes. -/
theorem arrs_real : Bwd.arrs (V5 m ρ) c = ⟨F1 a.q, F1 a.k, F1 a.v, F1 a.w, F2 a.q, F2 a.w, LSE a.q a.k a.v, Delta.DL (F1 a.w) (O a.q a.k a.v)⟩ := by
  have k5 : ∀ r, r ∉ hostOps2_W → (∀ w : Fin cfg1.W, Pipeline.arrRef spec1 w = r → (cfg1.win w).isOut = false) →
      V5 m ρ c r = V3 m ρ c r := fun r h h' => (W5_of m ρ c r h).trans (W4_of m ρ c r h')
  have k3 : ∀ r, r ∉ hostOps1_W → (∀ w : Fin cfg0.W, Pipeline.arrRef spec0 w = r → (cfg0.win w).isOut = false) →
      V3 m ρ c r = V1 m ρ c r := fun r h h' => (W3_of m ρ c r h).trans (W2_of m ρ c r h')
  have e0 : V5 m ρ c main_v21 = F1 a.q := (k5 main_v21 (by decide) (by decide)).trans ((k3 main_v21 (by decide) (by decide)).trans (v21_real ρ H))
  have e1 : V5 m ρ c main_v13 = F1 a.k := (k5 main_v13 (by decide) (by decide)).trans ((k3 main_v13 (by decide) (by decide)).trans (v13_real ρ H))
  have e2 : V5 m ρ c main_v17 = F1 a.v := (k5 main_v17 (by decide) (by decide)).trans ((k3 main_v17 (by decide) (by decide)).trans (v17_real ρ H))
  have e3 : V5 m ρ c main_v23 = F1 a.w := (k5 main_v23 (by decide) (by decide)).trans (v23_real ρ H)
  have e4 : V5 m ρ c main_v26 = F2 a.q := by
    have f : W4 m ρ c (Proc.devRef .tc main_v11) = F1 a.q :=
      (W4_of m ρ c main_v11 (by decide)).trans ((k3 main_v11 (by decide) (by decide)).trans (v11_real ρ H))
    unfold V5 W5
    generalize W4 m ρ c = V0 at f
    simp (disch := decide) only [StableHlo.readAfter, StableHlo.readUpto, StableHlo.unary_result', StableHlo.nullary_result', StableHlo.binary_result', StableHlo.reshape_result', StableHlo.nary_result']
    rw [f]
    funext i
    rfl
  have e5 : V5 m ρ c main_v28 = F2 a.w := by
    have f : W4 m ρ c (Proc.devRef .tc main_v20) = F1 a.w :=
      (W4_of m ρ c main_v20 (by decide)).trans ((k3 main_v20 (by decide) (by decide)).trans (v20_real ρ H))
    unfold V5 W5
    generalize W4 m ρ c = V0 at f
    simp (disch := decide) only [StableHlo.readAfter, StableHlo.readUpto, StableHlo.unary_result', StableHlo.nullary_result', StableHlo.binary_result', StableHlo.reshape_result', StableHlo.nary_result']
    rw [f]
    funext i
    rfl
  have e6 := lse_real ρ H
  have e7 : V5 m ρ c main_v24 = Delta.DL (F1 a.w) (O a.q a.k a.v) := by
    refine (W5_of m ρ c main_v24 (by decide)).trans ((W4_arr m ρ c 2).trans ((Delta.final2 (V3 m ρ) c).trans ?_))
    exact congrArg₂ Delta.DL (v23_real ρ H) (v22_0_real ρ H)
  unfold Bwd.arrs
  rw [e0, e1, e2, e3, e4, e5, e6, e7]

end Cert.AttIdeal.Host
end
-- ==== Proof.AttRun.lean ====
module

public import proofs.«01_k».proof.Proof.AttHost
public import proofs.«01_k».proof.Proof.Reals

@[expose] public section

set_option maxRecDepth 16384

noncomputable section

open Idealize.ShloMosaic Idealize.ShloMosaic.TcCoe Idealize.SL.Sem
open Idealize.ShloMosaic.Pipeline (Dat)

/-! The attention's three regions as one run: what the three result arrays hold at its end. -/

namespace Cert.AttIdeal.Host

open Cert.AttIdeal Cert.AttIdeal.Gen Cert.AttIdeal.Fwd Cert.Math Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- The run ends with the last region's arrays in the result buffers and the arguments as launched. -/
theorem run_results : θ_run defs (onTc (τ := τ) (main (F := Ideal))) ⟨m, fun _ => 0, ρ⟩ (fun r => ∀ c : Dev nD,
      r.2.mem ((c.tc : Thread nD τ).loc main_v33_0) = (dat2 (V5 m ρ) c).arrAt 8 cfg2.N
      ∧ r.2.mem ((c.tc : Thread nD τ).loc main_v33_1) = (dat2 (V5 m ρ) c).arrAt 9 cfg2.N
      ∧ r.2.mem ((c.tc : Thread nD τ).loc main_v33_2) = (dat2 (V5 m ρ) c).arrAt 10 cfg2.N
      ∧ r.2.mem ((c.tc : Thread nD τ).loc main_v32) = V5 m ρ c main_v32
      ∧ r.2.mem ((c.tc : Thread nD τ).loc main_v22_1) = V5 m ρ c main_v22_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => (fun c =>
      ⟨(h c _ (mem_uc main_v33_0 (by decide))).trans (W6_arr m ρ c 8),
       (h c _ (mem_uc main_v33_1 (by decide))).trans (W6_arr m ρ c 9),
       (h c _ (mem_uc main_v33_2 (by decide))).trans (W6_arr m ρ c 10),
       (h c _ (mem_uc main_v32 (by decide))).trans (W6_of m ρ c main_v32 (by decide)),
       (h c _ (mem_uc main_v22_1 (by decide))).trans (W6_of m ρ c main_v22_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩))

variable {a : Args} {m} {c : Dev nD} (H : Holds a m c)
include H

/-- The arrays the last region takes, for real arguments `a`. -/
def realArrs (a : Args) : Bwd.Arr := ⟨F1 a.q, F1 a.k, F1 a.v, F1 a.w, F2 a.q, F2 a.w, LSE a.q a.k a.v, Delta.DL (F1 a.w) (O a.q a.k a.v)⟩

theorem dq_real : (dat2 (V5 m ρ) c).arrAt 8 cfg2.N = Bwd.DQ (realArrs a) := (Bwd.final8 (V5 m ρ) c).trans (congrArg Bwd.DQ (arrs_real ρ H))
theorem dk_real : (dat2 (V5 m ρ) c).arrAt 9 cfg2.N = Bwd.DK (realArrs a) := (Bwd.final9 (V5 m ρ) c).trans (congrArg Bwd.DK (arrs_real ρ H))
theorem dv_real : (dat2 (V5 m ρ) c).arrAt 10 cfg2.N = Bwd.DV (realArrs a) := (Bwd.final10 (V5 m ρ) c).trans (congrArg Bwd.DV (arrs_real ρ H))

end Cert.AttIdeal.Host
end
-- ==== Proof.AttMath.lean ====
module

public import proofs.«01_k».proof.Proof.AttRun

@[expose] public section

set_option maxRecDepth 16384

noncomputable section

open Idealize.ShloMosaic Idealize.ShloMosaic.TcCoe Idealize.SL.Sem
open Idealize.ShloMosaic.Pipeline (Dat)

/-! The attention's gradients as real numbers: what the three regions compute, written with the softmax's
    probabilities `P` and the scores' cotangent `D`. -/

namespace Cert.AttIdeal.Host

open Cert.AttIdeal Cert.AttIdeal.Gen Cert.AttIdeal.Fwd Cert.Math

variable (a : Args)

/-- The arguments by head: queries (all 96 lanes), the keys' parts, values, cotangent. -/
def Args.qf (r : Fin 8192) (h : Fin 8) (e : Fin 96) : ℝ := a.x0 (ix2 r ⟨96 * h.val + e.val, by omega⟩)
def Args.kn (s : Fin 8192) (h : Fin 8) (e : Fin 64) : ℝ := a.x1 (ix2 s ⟨64 * h.val + e.val, by omega⟩)
def Args.kr (s : Fin 8192) (e : Fin 32) : ℝ := a.x2 (ix2 s e)
def Args.vv (s : Fin 8192) (h : Fin 8) (e : Fin 64) : ℝ := a.x3 (ix2 s ⟨64 * h.val + e.val, by omega⟩)
def Args.ww (r : Fin 8192) (h : Fin 8) (e : Fin 64) : ℝ := a.x4 (ix2 r ⟨64 * h.val + e.val, by omega⟩)

/-- The scaled score. -/
def Args.S (h : Fin 8) (r s : Fin 8192) : ℝ :=
  ((∑ e : Fin 64, a.qf r h ⟨e.val, by omega⟩ * a.kn s h e) + ∑ e : Fin 32, a.qf r h ⟨64 + e.val, by omega⟩ * a.kr s e) * κ

/-- A row's sum of exponentials. -/
def Args.Z (h : Fin 8) (r : Fin 8192) : ℝ := ∑ s, Real.exp (a.S h r s)

/-- The probabilities. -/
def Args.P (h : Fin 8) (r s : Fin 8192) : ℝ := Real.exp (a.S h r s) / a.Z h r

/-- The cotangent of the probabilities. -/
def Args.G (h : Fin 8) (r s : Fin 8192) : ℝ := ∑ e : Fin 64, a.ww r h e * a.vv s h e

/-- The cotangent of the scaled scores. -/
def Args.D (h : Fin 8) (r s : Fin 8192) : ℝ := a.P h r s * (a.G h r s - ∑ s', a.P h r s' * a.G h r s')

theorem Args.Z_pos (h r) : 0 < a.Z h r := Finset.sum_pos (fun s _ => Real.exp_pos _) ⟨0, Finset.mem_univ _⟩

/-- A sum over a head's lanes in three parts, where the last 32 give nothing. -/
theorem lanes_split (f : Fin 128 → ℝ) (h0 : ∀ d : Fin 128, 96 ≤ d.val → f d = 0) :
    ∑ d, f d = (∑ e : Fin 64, f ⟨e.val, by omega⟩) + ∑ e : Fin 32, f ⟨64 + e.val, by omega⟩ := by
  have e1 : ∑ d : Fin 128, f d = (∑ e : Fin 96, f ⟨e.val, by omega⟩) + ∑ e : Fin 32, f ⟨96 + e.val, by omega⟩ :=
    Fin.sum_univ_add (a := 96) (b := 32) (fun d => f d)
  have e2 : (∑ e : Fin 96, f ⟨e.val, by omega⟩) = (∑ e : Fin 64, f ⟨e.val, by omega⟩) + ∑ e : Fin 32, f ⟨64 + e.val, by omega⟩ :=
    Fin.sum_univ_add (a := 64) (b := 32) (fun d => f ⟨d.val, by omega⟩)
  rw [e1, e2, Finset.sum_eq_zero (s := (Finset.univ : Finset (Fin 32))) (f := fun e => f ⟨96 + e.val, by omega⟩) fun e _ => h0 _ (by simp), add_zero]

/-- A sum over a head's lanes where only the first 64 give anything. -/
theorem lanes_first (f : Fin 128 → ℝ) (h0 : ∀ d : Fin 128, 64 ≤ d.val → f d = 0) :
    ∑ d, f d = ∑ e : Fin 64, f ⟨e.val, by omega⟩ := by
  rw [lanes_split f fun d h => h0 d (by omega), Finset.sum_eq_zero (s := (Finset.univ : Finset (Fin 32))) (f := fun e => f ⟨64 + e.val, by omega⟩) fun e _ => h0 _ (by simp), add_zero]

theorem sc_eq (h r s) : sc a.q a.k h r s = a.S h r s := by
  rw [sc, lanes_split _ (fun d hd => by rw [a.q_lane, Args.ql, dif_neg (by omega), zero_mul]), Args.S, add_mul, Finset.sum_mul, Finset.sum_mul]
  refine congrArg₂ (· + ·) (Finset.sum_congr rfl fun e _ => ?_) (Finset.sum_congr rfl fun e _ => ?_)
  · rw [a.q_lane, a.k_lane, Args.ql, Args.kl, dif_pos (show e.val < 96 by omega), dif_pos (show e.val < 64 from e.isLt)]
    simp only [Args.qf, Args.kn]; ring
  · have e1 : 64 + e.val - 64 = e.val := by omega
    rw [a.q_lane, a.k_lane, Args.ql, Args.kl, dif_pos (show 64 + e.val < 96 by omega), dif_neg (show ¬ 64 + e.val < 64 by omega)]
    simp only [e1]
    rw [dif_pos e.isLt]
    simp only [Args.qf, Args.kr]; ring

theorem wsum_64 (h r) : wsum a.q a.k a.v h r 64 = a.Z h r := by
  rw [wsum, Args.Z]
  exact Finset.sum_congr rfl fun s _ => by rw [a.v_one, mul_one, sc_eq]

theorem G_eq (h r s) : ∑ d : Fin 128, a.w r (lane h d) * a.v s (lane h d) = a.G h r s := by
  rw [lanes_first _ (fun d hd => by rw [a.w_lane, Args.wl, dif_neg (by omega), zero_mul]), Args.G]
  refine Finset.sum_congr rfl fun e _ => ?_
  rw [a.w_lane, a.v_lane, Args.wl, Args.vl, dif_pos (show e.val < 64 from e.isLt), dif_pos (show e.val < 64 from e.isLt)]
  rfl

/-- The recomputed probabilities. -/
theorem W_real (h r s) : Bwd.W (realArrs a) h r s = ((a.P h r s : ℝ) : EReal) := by
  have e : (∑ d, (realArrs a).q (ix2 r (lane h d)) * (realArrs a).k (ix2 s (lane h d))) = ((a.S h r s : ℝ) : EReal) := by
    rw [← sc_eq, sc, ← coe_sum]
    exact Finset.sum_congr rfl fun d _ => (EReal.coe_mul _ _).symm
  have l : (realArrs a).ls (ix3 h r 0) = ((Real.log (a.Z h r) : ℝ) : EReal) := by
    rw [← wsum_64]; rfl
  rw [Bwd.W, e, l, ← EReal.coe_sub, exp_real, Real.exp_sub, Real.exp_log (a.Z_pos h r)]
  rfl

/-- The rows' sums of cotangent times output. -/
theorem DL_real (h r) : Delta.DL (F1 a.w) (O a.q a.k a.v) (ix3 h r 0) = ((∑ s, a.P h r s * a.G h r s : ℝ) : EReal) := by
  have e : Delta.DL (F1 a.w) (O a.q a.k a.v) (ix3 h r 0)
      = ((∑ d : Fin 128, a.w r (lane h d) * (wsum a.q a.k a.v h r d / a.Z h r) : ℝ) : EReal) := by
    rw [← coe_sum]
    refine Finset.sum_congr rfl fun d _ => ?_
    rw [EReal.coe_mul, ← wsum_64]
    refine congrArg (((a.w r (lane h d) : ℝ) : EReal) * ·) ?_
    show ((wsum a.q a.k a.v (hd (lane h d)) r (ln (lane h d)) / wsum a.q a.k a.v (hd (lane h d)) r 64 : ℝ) : EReal) = _
    rw [hd_lane, ln_lane]
  rw [e]
  refine congrArg (fun t : ℝ => (t : EReal)) ?_
  simp only [wsum, Args.P, Finset.sum_div, Finset.mul_sum, sc_eq]
  rw [Finset.sum_comm]
  refine Finset.sum_congr rfl fun s _ => ?_
  rw [← G_eq, Finset.mul_sum]
  exact Finset.sum_congr rfl fun d _ => by ring

/-- The recomputed cotangent of the scores. -/
theorem DS_real (h r s) : Bwd.DS (realArrs a) h r s = ((a.D h r s : ℝ) : EReal) := by
  have e : (∑ d, (realArrs a).dO (ix2 r (lane h d)) * (realArrs a).v (ix2 s (lane h d))) = ((a.G h r s : ℝ) : EReal) := by
    rw [← G_eq, ← coe_sum]
    exact Finset.sum_congr rfl fun d _ => (EReal.coe_mul _ _).symm
  have l : (realArrs a).dl (ix3 h r 0) = ((∑ s, a.P h r s * a.G h r s : ℝ) : EReal) := DL_real a h r
  rw [Bwd.DS, W_real, e, l, ← EReal.coe_sub, ← EReal.coe_mul]
  rfl

/-- The three results, by row, head and lane. -/
theorem DQ_real (r : Fin 8192) (h : Fin 8) (d : Fin 128) :
    Bwd.DQ (realArrs a) (ix2 r (lane h d)) = ((∑ s, a.D h r s * κ * a.kl s h d : ℝ) : EReal) := by
  have e : Bwd.DQ (realArrs a) (ix2 r (lane h d)) = (∑ s, ((a.D h r s : ℝ) : EReal) * ((a.kl s h d : ℝ) : EReal)) * ((κ : ℝ) : EReal) := by
    rw [← word_scale]
    refine congrArg (· * Ideal.ofBits .f32 0x3DD105EC#32) (Finset.sum_congr rfl fun s _ => congrArg₂ (· * ·) ?_ ?_)
    · show Bwd.DS _ (hd (lane h d)) r s = _
      rw [hd_lane, DS_real]
    · exact congrArg (fun t : ℝ => (t : EReal)) (a.k_lane s h d)
  simp only [← EReal.coe_mul] at e
  rw [e, coe_sum, ← EReal.coe_mul, Finset.sum_mul]
  exact congrArg (fun t : ℝ => (t : EReal)) (Finset.sum_congr rfl fun s _ => by ring)

theorem DK_real (s : Fin 8192) (h : Fin 8) (d : Fin 128) :
    Bwd.DK (realArrs a) (ix2 s (lane h d)) = ((∑ r, a.ql r h d * a.D h r s : ℝ) : EReal) := by
  rw [← coe_sum]
  refine Finset.sum_congr rfl fun r _ => ?_
  rw [EReal.coe_mul]
  refine congrArg₂ (· * ·) (congrArg (fun t : ℝ => (t : EReal)) (a.q_lane r h d)) ?_
  show Bwd.DS _ (hd (lane h d)) r s = _
  rw [hd_lane, DS_real]

theorem DV_real (s : Fin 8192) (h : Fin 8) (d : Fin 128) :
    Bwd.DV (realArrs a) (ix2 s (lane h d)) = ((∑ r, a.wl r h d * a.P h r s : ℝ) : EReal) := by
  rw [← coe_sum]
  refine Finset.sum_congr rfl fun r _ => ?_
  rw [EReal.coe_mul]
  refine congrArg₂ (· * ·) (congrArg (fun t : ℝ => (t : EReal)) (a.w_lane r h d)) ?_
  show Bwd.W _ (hd (lane h d)) r s = _
  rw [hd_lane, W_real]

/-- The forward pass' results. -/
theorem O_real (r : Fin 8192) (h : Fin 8) (e : Fin 64) :
    O a.q a.k a.v (ix2 r (lane h ⟨e.val, by omega⟩)) = ((∑ s, a.P h r s * a.vv s h e : ℝ) : EReal) := by
  show ((wsum a.q a.k a.v (hd (lane h _)) r (ln (lane h _)) / wsum a.q a.k a.v (hd (lane h _)) r 64 : ℝ) : EReal) = _
  rw [hd_lane, ln_lane, wsum_64, wsum, Finset.sum_div]
  refine congrArg (fun t : ℝ => (t : EReal)) (Finset.sum_congr rfl fun s _ => ?_)
  rw [a.v_lane, Args.vl, dif_pos (show e.val < 64 from e.isLt), sc_eq, Args.P, Args.vv]
  ring

theorem LSE_real (r : Fin 8192) (h : Fin 8) : LSE a.q a.k a.v (ix3 h r 0) = ((Real.log (a.Z h r) : ℝ) : EReal) := by
  rw [← wsum_64]; rfl

/-- The softmax's gradient written with a shifted exponential and its row sum. -/
theorem D_shifted (M : ℝ) (h r s) (Z' : ℝ) (hZ : Z' = ∑ s, Real.exp (a.S h r s - M)) :
    (a.G h r s / Z' + -(∑ s', a.G h r s' * (1 / (Z' * Z')) * Real.exp (a.S h r s' - M))) * Real.exp (a.S h r s - M) = a.D h r s := by
  have zp := a.Z_pos h r
  have ep := Real.exp_pos M
  have hz : Z' = a.Z h r / Real.exp M := by
    rw [hZ, Args.Z, Finset.sum_div]
    exact Finset.sum_congr rfl fun s _ => Real.exp_sub _ _
  have e : ∀ s', a.G h r s' * (1 / (Z' * Z')) * Real.exp (a.S h r s' - M) = (a.P h r s' * a.G h r s') * (1 / Z') := fun s' => by
    rw [Real.exp_sub, hz, Args.P]; field_simp
  simp only [e]
  rw [← Finset.sum_mul, Args.D, Real.exp_sub, Args.P, hz]
  field_simp
  ring

/-- The probabilities written with a shifted exponential. -/
theorem P_shifted (M : ℝ) (h r s) (Z' : ℝ) (hZ : Z' = ∑ s, Real.exp (a.S h r s - M)) :
    Real.exp (a.S h r s - M) / Z' = a.P h r s := by
  have ep := Real.exp_pos M
  have hz : Z' = a.Z h r / Real.exp M := by
    rw [hZ, Args.Z, Finset.sum_div]
    exact Finset.sum_congr rfl fun s _ => Real.exp_sub _ _
  rw [hz, Real.exp_sub, Args.P]
  have zp := a.Z_pos h r
  field_simp

end Cert.AttIdeal.Host
end
-- ==== Proof.AttRef.lean ====
module

public import proofs.«01_k».proof.Proof.AttMath
public import proofs.«01_k».proof.Proof.Gen.AttRefIdeal.Read
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

/-! The reference's gradients of the attention at real arguments, one operation after another. -/

namespace Cert.AttClaims

open Cert.AttRefIdeal Cert.AttRefIdeal.Gen Cert.AttRefIdeal.Read Cert.AttIdeal.Host Cert.AttIdeal.Fwd Cert.Math Idealize.ShloMosaic

variable (a : Args)

/-- The arguments as arrays of extended reals. -/
def C0 : S8192x768.Idx → EReal := fun i => ((a.x0 i : ℝ) : EReal)
def C1 : S8192x512.Idx → EReal := fun i => ((a.x1 i : ℝ) : EReal)
def C2 : S8192x32.Idx → EReal := fun i => ((a.x2 i : ℝ) : EReal)
def C3 : S8192x512.Idx → EReal := fun i => ((a.x3 i : ℝ) : EReal)
def C4 : S8192x512.Idx → EReal := fun i => ((a.x4 i : ℝ) : EReal)

theorem v5_at (r : Fin 8192) (h : Fin 8) (e : Fin 64) : val_main_v5 (F := Ideal) (C0 a) (ix3 r h e) = ((a.qf r h ⟨e.val, by omega⟩ : ℝ) : EReal) := by
  pointwise [val_main_v3, val_main_v4, val_main_v0, val_main_v1, val_main_v2, val_main_v5, val_main_v7, val_main_v43, val_main_v44]
  simp only [mul_comm h.val]
  rfl
theorem v7_at (r : Fin 8192) (h : Fin 8) (e : Fin 32) : val_main_v7 (F := Ideal) (C0 a) (ix3 r h e) = ((a.qf r h ⟨64 + e.val, by omega⟩ : ℝ) : EReal) := by
  pointwise [val_main_v0, val_main_v7]
  simp only [mul_comm h.val]
  rfl
theorem v1_at (r : Fin 8192) (h : Fin 8) (e : Fin 64) : val_main_v1 (F := Ideal) (C1 a) (ix3 r h e) = ((a.kn r h e : ℝ) : EReal) := by
  pointwise [val_main_v3, val_main_v4, val_main_v0, val_main_v1, val_main_v2, val_main_v5, val_main_v7, val_main_v43, val_main_v44]
  simp only [mul_comm h.val]
  rfl
theorem v4_at (r : Fin 8192) (h : Fin 8) (e : Fin 32) : val_main_v4 (F := Ideal) (C2 a) (ix3 r h e) = ((a.kr r e : ℝ) : EReal) := by
  pointwise [val_main_v3, val_main_v4]
  rfl
theorem v2_at (r : Fin 8192) (h : Fin 8) (e : Fin 64) : val_main_v2 (F := Ideal) (C3 a) (ix3 r h e) = ((a.vv r h e : ℝ) : EReal) := by
  pointwise [val_main_v3, val_main_v4, val_main_v0, val_main_v1, val_main_v2, val_main_v5, val_main_v7, val_main_v43, val_main_v44]
  simp only [mul_comm h.val]
  rfl
theorem v44_at (r : Fin 8192) (h : Fin 8) (e : Fin 64) : val_main_v44 (F := Ideal) (C4 a) (ix3 h e r) = ((a.ww r h e : ℝ) : EReal) := by
  pointwise [val_main_v3, val_main_v4, val_main_v0, val_main_v1, val_main_v2, val_main_v5, val_main_v7, val_main_v43, val_main_v44]
  simp only [mul_comm h.val]
  rfl

/-- The scaled scores. -/
theorem v11_at (h : Fin 8) (r s : Fin 8192) : val_main_v11 (F := Ideal) (C0 a) (C1 a) (C2 a) (ix3 h r s) = ((a.S h r s : ℝ) : EReal) := by
  pointwise [val_main_v6, val_main_v8, val_main_v9, val_main_cst, val_main_v10, val_main_v11]
  simp only [v5_at, v1_at, v7_at, v4_at, ← EReal.coe_mul, coe_sum, ← EReal.coe_add, word_scale]
  rfl

/-- The maximum of real numbers is one. -/
theorem fold_max_real (f : Fin 8192 → ℝ) : ∃ M : ℝ, Finset.fold max (⊥ : EReal) (fun s => ((f s : ℝ) : EReal)) Finset.univ = (M : EReal) := by
  have h : Finset.fold max (⊥ : EReal) (fun s => ((f s : ℝ) : EReal)) Finset.univ = Finset.univ.sup (fun s => ((f s : ℝ) : EReal)) := rfl
  obtain ⟨s, -, hs⟩ := Finset.exists_mem_eq_sup Finset.univ ⟨0, Finset.mem_univ _⟩ (fun s => ((f s : ℝ) : EReal))
  exact ⟨f s, h.trans hs⟩

theorem word_neg_inf' : Ideal.ofBits .f32 0xFF800000#32 = (⊥ : EReal) := by simp [Ideal.ofBits, Ideal.ieee]

theorem red2 : S8x8192x8192.Reduces [2] S8x8192 := by decide

/-- A row's maximum is a real number. -/
theorem v12_at (h : Fin 8) (r : Fin 8192) : ∃ M : ℝ, val_main_v12 (F := Ideal) (C0 a) (C1 a) (C2 a) (ix2 h r) = (M : EReal) := by
  obtain ⟨M, hM⟩ := fold_max_real fun s => a.S h r s
  refine ⟨M, Eq.trans ?_ hM⟩
  have e : (fun s : Fin 8192 => val_main_v11 (F := Ideal) (C0 a) (C1 a) (C2 a) (ix3 h r s)) = fun s : Fin 8192 => ((a.S h r s : ℝ) : EReal) := funext fun s => v11_at a h r s
  unfold val_main_v12 val_main_cst_0
  generalize val_main_v11 (F := Ideal) (C0 a) (C1 a) (C2 a) = x at e
  have h1 := hostReduce_maximumf_eq_multiReduction (F := Ideal) (u := S_) (φ := .f32) x 0xFF800000#32 reducesTo_S8x8192x8192_S8x8192_d2 h_S_ red2 (.inl rfl) rfl
  refine (congrFun h1 (ix2 h r)).trans ?_
  clear h1
  refine (Ideal.multiReduction_maximumf_single (a := 2) _ _ red2 (.inl rfl) rfl (ix2 h r)).trans ?_
  have e' : x ∘ red2.lift (ix2 h r) = fun s : Fin 8192 => x (ix3 h r s) := funext fun s =>
    congrArg x (funext fun b => Fin.ext (by match b with | ⟨0, _⟩ => rfl | ⟨1, _⟩ => rfl | ⟨2, _⟩ => rfl))
  exact congrArg₂ (fun z (f : Fin 8192 → EReal) => Finset.fold max z f Finset.univ) word_neg_inf' (e'.trans e)

theorem v30_read (h : Fin 8) (r s : Fin 8192) : val_main_v30 (F := Ideal) (C0 a) (C1 a) (C2 a) (ix3 h r s) = max (Ideal.ofBits .f32 0xFF800000#32) (val_main_v12 (F := Ideal) (C0 a) (C1 a) (C2 a) (ix2 h r)) := by
  rw [val_main_v30_apply, val_main_v29_apply, val_main_v19_apply, val_main_v18_apply]
  have e : idx_main_v29 (idx_main_v30 (ix3 h r s)) = ix2 h r := eq_ix2 _
  rw [e]
  rfl

/-- The shift of a row. -/
theorem v30_at (h : Fin 8) (r : Fin 8192) : ∃ M : ℝ, ∀ s, val_main_v30 (F := Ideal) (C0 a) (C1 a) (C2 a) (ix3 h r s) = (M : EReal) := by
  obtain ⟨M, hM⟩ := v12_at a h r
  refine ⟨M, fun s => ?_⟩
  rw [v30_read, hM, word_neg_inf']
  exact max_eq_right bot_le

variable (h : Fin 8) (r : Fin 8192) (M : ℝ) (hM : ∀ s, val_main_v30 (F := Ideal) (C0 a) (C1 a) (C2 a) (ix3 h r s) = (M : EReal))
include hM

theorem v32_at (s : Fin 8192) : val_main_v32 (F := Ideal) (C0 a) (C1 a) (C2 a) (ix3 h r s) = ((Real.exp (a.S h r s - M) : ℝ) : EReal) := by
  rw [val_main_v32_apply, val_main_v31_apply, hM, v11_at]
  exact congrArg Ideal.exp (EReal.coe_sub _ _).symm

theorem v33_at : val_main_v33 (F := Ideal) (C0 a) (C1 a) (C2 a) (ix2 h r) = ((∑ s, Real.exp (a.S h r s - M) : ℝ) : EReal) := by
  rw [val_main_v33_apply]
  refine (congrArg₂ (fun x y : EReal => x + y) (Ideal.ofBits_zero .f32) (Finset.sum_congr rfl fun s _ => ?_)).trans ((zero_add _).trans (coe_sum Finset.univ fun s => Real.exp (a.S h r s - M)))
  have e : idx_main_v33 (ix2 h r) s = ix3 h r s := eq_ix3 _
  rw [e]
  exact v32_at a h r M hM s

theorem v34_at : val_main_v34 (F := Ideal) (C0 a) (C1 a) (C2 a) (ix3 h r 0) = ((∑ s, Real.exp (a.S h r s - M) : ℝ) : EReal) := by
  rw [val_main_v34_apply]
  exact Eq.trans (congrArg _ (eq_ix2 _)) (v33_at a h r M hM)

theorem v36_at (s : Fin 8192) : val_main_v36 (F := Ideal) (C0 a) (C1 a) (C2 a) (ix3 h r s) = ((a.P h r s : ℝ) : EReal) := by
  have hz : (∑ s, Real.exp (a.S h r s - M)) ≠ 0 := (Finset.sum_pos (fun s _ => Real.exp_pos _) ⟨0, Finset.mem_univ _⟩).ne'
  rw [val_main_v36_apply, val_main_v35_apply, v32_at a h r M hM]
  have e : idx_main_v35 (ix3 h r s) = ix3 h r 0 := eq_ix3 _
  rw [e, v34_at a h r M hM]
  exact (div_real hz).trans (congrArg (fun t : ℝ => (t : EReal)) (P_shifted a M h r s _ rfl))

theorem v45_at (s : Fin 8192) : val_main_v45 (F := Ideal) (C3 a) (C4 a) (ix3 h r s) = ((a.G h r s : ℝ) : EReal) := by
  rw [val_main_v45_apply, Args.G, ← coe_sum]
  refine Finset.sum_congr rfl fun e _ => ?_
  have e1 : lidx_main_v45 (ix3 h r s) e = ix3 h e r := eq_ix3 _
  have e2 : ridx_main_v45 (ix3 h r s) e = ix3 s h e := eq_ix3 _
  rw [e1, e2, v44_at, v2_at, EReal.coe_mul]

omit hM in
omit a h r M in
theorem word_one : Ideal.ofBits .f32 0x3F800000#32 = ((1 : ℝ) : EReal) := by
  simp [Ideal.ofBits, Ideal.ieee]; rw [← EReal.coe_mul]; norm_num

theorem v39_at : val_main_v39 (F := Ideal) (C0 a) (C1 a) (C2 a) (ix3 h r 0) = ((1 / ((∑ s, Real.exp (a.S h r s - M)) * ∑ s, Real.exp (a.S h r s - M)) : ℝ) : EReal) := by
  have hz : (∑ s, Real.exp (a.S h r s - M)) ≠ 0 := (Finset.sum_pos (fun s _ => Real.exp_pos _) ⟨0, Finset.mem_univ _⟩).ne'
  rw [val_main_v39_apply, val_main_v37_apply, v34_at a h r M hM]
  refine (congrArg₂ Ideal.div word_one (EReal.coe_mul _ _).symm).trans (div_real (mul_ne_zero hz hz))

theorem v51_at : val_main_v51 (F := Ideal) (C0 a) (C1 a) (C2 a) (C3 a) (C4 a) (ix2 h r) = ((∑ s, a.G h r s * (1 / ((∑ s, Real.exp (a.S h r s - M)) * ∑ s, Real.exp (a.S h r s - M))) * Real.exp (a.S h r s - M) : ℝ) : EReal) := by
  rw [val_main_v51_apply]
  refine (congrArg₂ (fun x y : EReal => x + y) (Ideal.ofBits_zero .f32) (Finset.sum_congr rfl fun s _ => ?_)).trans ((zero_add _).trans (coe_sum Finset.univ fun s =>
    a.G h r s * (1 / ((∑ s, Real.exp (a.S h r s - M)) * ∑ s, Real.exp (a.S h r s - M))) * Real.exp (a.S h r s - M)))
  have e : idx_main_v51 (ix2 h r) s = ix3 h r s := eq_ix3 _
  have e' : idx_main_v48 (ix3 h r s) = ix3 h r 0 := eq_ix3 _
  rw [e, val_main_v50_apply, val_main_v49_apply, val_main_v48_apply, e', v45_at a h r M hM, v39_at a h r M hM, v32_at a h r M hM, EReal.coe_mul, EReal.coe_mul]
  rfl

theorem v57_at (s : Fin 8192) : val_main_v57 (F := Ideal) (C0 a) (C1 a) (C2 a) (C3 a) (C4 a) (ix3 h r s) = ((-(∑ s, a.G h r s * (1 / ((∑ s, Real.exp (a.S h r s - M)) * ∑ s, Real.exp (a.S h r s - M))) * Real.exp (a.S h r s - M)) : ℝ) : EReal) := by
  have e : idx_main_v57 (ix3 h r s) = ix2 h r := eq_ix2 _
  have e' : idx_main_v56 (ix2 h r) 0 = ix3 h r 0 := eq_ix3 _
  have e2 : val_main_v52 (F := Ideal) (C0 a) (C1 a) (C2 a) (C3 a) (C4 a) (ix3 h r 0) = val_main_v51 (F := Ideal) (C0 a) (C1 a) (C2 a) (C3 a) (C4 a) (ix2 h r) := by
    unfold val_main_v52
    generalize val_main_v51 (F := Ideal) (C0 a) (C1 a) (C2 a) (C3 a) (C4 a) = x
    pointwise
  rw [val_main_v57_apply, e, val_main_v56_apply, Fin.sum_univ_one, e', val_main_v53_apply, e2, v51_at a h r M hM, EReal.coe_neg]
  exact (congrArg (fun x : EReal => x + _) (Ideal.ofBits_zero .f32)).trans (zero_add _)

/-- The cotangent of the scaled scores. -/
theorem v59_at (s : Fin 8192) : val_main_v59 (F := Ideal) (C0 a) (C1 a) (C2 a) (C3 a) (C4 a) (ix3 h r s) = ((a.D h r s : ℝ) : EReal) := by
  have hz : (∑ s, Real.exp (a.S h r s - M)) ≠ 0 := (Finset.sum_pos (fun s _ => Real.exp_pos _) ⟨0, Finset.mem_univ _⟩).ne'
  have e : idx_main_v54 (ix3 h r s) = ix3 h r 0 := eq_ix3 _
  rw [val_main_v59_apply, val_main_v58_apply, val_main_v55_apply, val_main_v54_apply, e, v34_at a h r M hM, v45_at a h r M hM, v57_at a h r M hM,
    v32_at a h r M hM, ← D_shifted a M h r s _ rfl, EReal.coe_mul, EReal.coe_add, ← div_real hz]
  rfl

omit hM
omit h r M

/-- The probabilities. -/
theorem P_at (h : Fin 8) (r s : Fin 8192) : val_main_v36 (F := Ideal) (C0 a) (C1 a) (C2 a) (ix3 h r s) = ((a.P h r s : ℝ) : EReal) := by
  obtain ⟨M, hM⟩ := v30_at a h r
  exact v36_at a h r M hM s

/-- The cotangent of the scores before scaling. -/
theorem D_at (h : Fin 8) (r s : Fin 8192) : val_main_v61 (F := Ideal) (C0 a) (C1 a) (C2 a) (C3 a) (C4 a) (ix3 h r s) = ((a.D h r s * κ : ℝ) : EReal) := by
  obtain ⟨M, hM⟩ := v30_at a h r
  rw [val_main_v61_apply, v59_at a h r M hM s, EReal.coe_mul, ← word_scale]
  rfl

/-- The query's gradient, the lanes without and with positions. -/
theorem v70_at (r : Fin 8192) (h : Fin 8) (e : Fin 64) : val_main_v70 (F := Ideal) (C0 a) (C1 a) (C2 a) (C3 a) (C4 a) (ix3 r h e) = ((∑ s, a.D h r s * κ * a.kn s h e : ℝ) : EReal) := by
  have e0 : idx_main_v70 (ix3 r h e) = ix3 h r e := eq_ix3 _
  rw [val_main_v70_apply, e0, val_main_v69_apply, ← coe_sum]
  refine Finset.sum_congr rfl fun s _ => ?_
  have e1 : lidx_main_v69 (ix3 h r e) s = ix3 h r s := eq_ix3 _
  have e2 : ridx_main_v69 (ix3 h r e) s = ix3 s h e := eq_ix3 _
  rw [e1, e2, D_at, v1_at]
  exact (EReal.coe_mul _ _).symm

theorem v65_at (r : Fin 8192) (h : Fin 8) (e : Fin 32) : val_main_v65 (F := Ideal) (C0 a) (C1 a) (C2 a) (C3 a) (C4 a) (ix3 r h e) = ((∑ s, a.D h r s * κ * a.kr s e : ℝ) : EReal) := by
  have e0 : idx_main_v65 (ix3 r h e) = ix3 h r e := eq_ix3 _
  rw [val_main_v65_apply, e0, val_main_v64_apply, ← coe_sum]
  refine Finset.sum_congr rfl fun s _ => ?_
  have e1 : lidx_main_v64 (ix3 h r e) s = ix3 h r s := eq_ix3 _
  have e2 : ridx_main_v64 (ix3 h r e) s = ix3 s h e := eq_ix3 _
  rw [e1, e2, D_at, v4_at]
  exact (EReal.coe_mul _ _).symm

/-- The keys' gradient, the lanes without and with positions. -/
theorem v68_at (s : Fin 8192) (h : Fin 8) (e : Fin 64) : val_main_v68 (F := Ideal) (C0 a) (C1 a) (C2 a) (C3 a) (C4 a) (ix3 s h e) = ((∑ r, a.D h r s * κ * a.qf r h ⟨e.val, by omega⟩ : ℝ) : EReal) := by
  have e0 : idx_main_v68 (ix3 s h e) = ix3 h s e := eq_ix3 _
  rw [val_main_v68_apply, e0, val_main_v67_apply, ← coe_sum]
  refine Finset.sum_congr rfl fun r _ => ?_
  have e1 : lidx_main_v67 (ix3 h s e) r = ix3 h r s := eq_ix3 _
  have e2 : ridx_main_v67 (ix3 h s e) r = ix3 r h e := eq_ix3 _
  rw [e1, e2, D_at, v5_at]
  exact (EReal.coe_mul _ _).symm

theorem v63_at (s : Fin 8192) (h : Fin 8) (e : Fin 32) : val_main_v63 (F := Ideal) (C0 a) (C1 a) (C2 a) (C3 a) (C4 a) (ix3 s h e) = ((∑ r, a.D h r s * κ * a.qf r h ⟨64 + e.val, by omega⟩ : ℝ) : EReal) := by
  have e0 : idx_main_v63 (ix3 s h e) = ix3 h s e := eq_ix3 _
  rw [val_main_v63_apply, e0, val_main_v62_apply, ← coe_sum]
  refine Finset.sum_congr rfl fun r _ => ?_
  have e1 : lidx_main_v62 (ix3 h s e) r = ix3 h r s := eq_ix3 _
  have e2 : ridx_main_v62 (ix3 h s e) r = ix3 r h e := eq_ix3 _
  rw [e1, e2, D_at, v7_at]
  exact (EReal.coe_mul _ _).symm

/-- The values' gradient. -/
theorem v47_at (s : Fin 8192) (h : Fin 8) (e : Fin 64) : val_main_v47 (F := Ideal) (C0 a) (C1 a) (C2 a) (C4 a) (ix3 s h e) = ((∑ r, a.ww r h e * a.P h r s : ℝ) : EReal) := by
  have e0 : idx_main_v47 (ix3 s h e) = ix3 h e s := eq_ix3 _
  rw [val_main_v47_apply, e0, val_main_v46_apply, ← coe_sum]
  refine Finset.sum_congr rfl fun r _ => ?_
  have e1 : lidx_main_v46 (ix3 h e s) r = ix3 h e r := eq_ix3 _
  have e2 : ridx_main_v46 (ix3 h e s) r = ix3 h r s := eq_ix3 _
  rw [e1, e2, P_at, v44_at, EReal.coe_mul]

theorem zero_word : FloatOps.sitofp (F := Ideal) .f32 (0#32) = (0 : EReal) := by
  show (((0#32 : BitVec 32).toInt : ℝ) : EReal) = 0
  simp

theorem v66_at (r : Fin 8192) (h : Fin 8) (d : Fin 96) : val_main_v66 (F := Ideal) (C0 a) (C1 a) (C2 a) (C3 a) (C4 a) (ix3 r h d)
    = if e : 64 ≤ d.val ∧ d.val - 64 < 32 then val_main_v65 (F := Ideal) (C0 a) (C1 a) (C2 a) (C3 a) (C4 a) (ix3 r h ⟨d.val - 64, e.2⟩) else 0 := by
  unfold val_main_v66
  generalize val_main_v65 (F := Ideal) (C0 a) (C1 a) (C2 a) (C3 a) (C4 a) = x
  pointwise [val_main_cst_13]

theorem v71_at (r : Fin 8192) (h : Fin 8) (d : Fin 96) : val_main_v71 (F := Ideal) (C0 a) (C1 a) (C2 a) (C3 a) (C4 a) (ix3 r h d)
    = if e : d.val < 64 then val_main_v70 (F := Ideal) (C0 a) (C1 a) (C2 a) (C3 a) (C4 a) (ix3 r h ⟨d.val, e⟩) else 0 := by
  unfold val_main_v71
  generalize val_main_v70 (F := Ideal) (C0 a) (C1 a) (C2 a) (C3 a) (C4 a) = x
  pointwise [val_main_cst_14]

theorem v73_at (r : Fin 8192) (h : Fin 8) (d : Fin 96) : val_main_v73 (F := Ideal) (C0 a) (C1 a) (C2 a) (C3 a) (C4 a) (ix3 r h d)
    = if e : d.val < 64 then val_main_v68 (F := Ideal) (C0 a) (C1 a) (C2 a) (C3 a) (C4 a) (ix3 r h ⟨d.val, e⟩) else val_main_v63 (F := Ideal) (C0 a) (C1 a) (C2 a) (C3 a) (C4 a) (ix3 r h ⟨d.val - 64, by omega⟩) := by
  unfold val_main_v73
  generalize val_main_v68 (F := Ideal) (C0 a) (C1 a) (C2 a) (C3 a) (C4 a) = x
  generalize val_main_v63 (F := Ideal) (C0 a) (C1 a) (C2 a) (C3 a) (C4 a) = y
  pointwise

theorem v86_at (r : Fin 8192) (h : Fin 8) (d : Fin 128) : val_main_v86 (F := Ideal) (C0 a) (C1 a) (C2 a) (C3 a) (C4 a) (ix2 r (lane h d))
    = if e : d.val < 96 then val_main_v72 (F := Ideal) (C0 a) (C1 a) (C2 a) (C3 a) (C4 a) (ix3 r h ⟨d.val, e⟩) else 0 := by
  have e1 : (128 * h.val + d.val) / 128 = h.val := by omega
  have e2 : (128 * h.val + d.val) % 128 = d.val := by omega
  unfold val_main_v86 val_main_v85
  generalize val_main_v72 (F := Ideal) (C0 a) (C1 a) (C2 a) (C3 a) (C4 a) = x
  pointwise [lane, val_main_call0_v0, val_main_c, e1, e2, zero_word]

theorem v88_at (r : Fin 8192) (h : Fin 8) (d : Fin 128) : val_main_v88 (F := Ideal) (C0 a) (C1 a) (C2 a) (C3 a) (C4 a) (ix2 r (lane h d))
    = if e : d.val < 96 then val_main_v73 (F := Ideal) (C0 a) (C1 a) (C2 a) (C3 a) (C4 a) (ix3 r h ⟨d.val, e⟩) else 0 := by
  have e1 : (128 * h.val + d.val) / 128 = h.val := by omega
  have e2 : (128 * h.val + d.val) % 128 = d.val := by omega
  unfold val_main_v88 val_main_v87
  generalize val_main_v73 (F := Ideal) (C0 a) (C1 a) (C2 a) (C3 a) (C4 a) = x
  pointwise [lane, val_main_call1_v0, val_main_c_17, e1, e2, zero_word]

theorem v90_at (r : Fin 8192) (h : Fin 8) (d : Fin 128) : val_main_v90 (F := Ideal) (C0 a) (C1 a) (C2 a) (C4 a) (ix2 r (lane h d))
    = if e : d.val < 64 then val_main_v47 (F := Ideal) (C0 a) (C1 a) (C2 a) (C4 a) (ix3 r h ⟨d.val, e⟩) else 0 := by
  have e1 : (128 * h.val + d.val) / 128 = h.val := by omega
  have e2 : (128 * h.val + d.val) % 128 = d.val := by omega
  unfold val_main_v90 val_main_v89
  generalize val_main_v47 (F := Ideal) (C0 a) (C1 a) (C2 a) (C4 a) = x
  pointwise [lane, val_main_call2_v0, val_main_c_18, e1, e2, zero_word]

/-- The reference's padded gradient of the queries. -/
theorem ref_dq (r : Fin 8192) (h : Fin 8) (d : Fin 128) : val_main_v86 (F := Ideal) (C0 a) (C1 a) (C2 a) (C3 a) (C4 a) (ix2 r (lane h d)) = ((∑ s, a.D h r s * κ * a.kl s h d : ℝ) : EReal) := by
  rw [v86_at]
  by_cases h1 : d.val < 96
  · rw [dif_pos h1, val_main_v72_apply, v66_at, v71_at]
    by_cases h2 : d.val < 64
    · rw [dif_neg (show ¬ (64 ≤ d.val ∧ d.val - 64 < 32) by omega), dif_pos (show ((⟨d.val, h1⟩ : Fin 96)).val < 64 from h2), v70_at]
      refine (zero_add (M := EReal) _).trans (congrArg (fun t : ℝ => (t : EReal)) (Finset.sum_congr rfl fun s _ => ?_))
      rw [Args.kl, dif_pos h2]
      rfl
    · have h3 : d.val - 64 < 32 := by omega
      rw [dif_pos (show (64 ≤ d.val ∧ d.val - 64 < 32) from ⟨by omega, h3⟩), dif_neg (show ¬ ((⟨d.val, h1⟩ : Fin 96)).val < 64 from h2), v65_at]
      refine (add_zero (M := EReal) _).trans (congrArg (fun t : ℝ => (t : EReal)) (Finset.sum_congr rfl fun s _ => ?_))
      rw [Args.kl, dif_neg h2, dif_pos h3]
      rfl
  · rw [dif_neg h1, Finset.sum_eq_zero fun s _ => by rw [Args.kl, dif_neg (by omega), dif_neg (by omega), mul_zero]]
    rfl

/-- The reference's padded gradient of the keys. -/
theorem ref_dk (s : Fin 8192) (h : Fin 8) (d : Fin 128) : val_main_v88 (F := Ideal) (C0 a) (C1 a) (C2 a) (C3 a) (C4 a) (ix2 s (lane h d)) = ((∑ r, a.ql r h d * a.D h r s : ℝ) : EReal) := by
  rw [v88_at]
  by_cases h1 : d.val < 96
  · have key : ∀ r, a.ql r h d * a.D h r s = a.D h r s * κ * a.qf r h ⟨d.val, h1⟩ := fun r => by
      rw [Args.ql, dif_pos h1, Args.qf]; ring
    simp only [key]
    rw [dif_pos h1, v73_at]
    by_cases h2 : d.val < 64
    · rw [dif_pos (show ((⟨d.val, h1⟩ : Fin 96)).val < 64 from h2), v68_at]
    · rw [dif_neg (show ¬ ((⟨d.val, h1⟩ : Fin 96)).val < 64 from h2), v63_at]
      have e : (⟨64 + (d.val - 64), by omega⟩ : Fin 96) = ⟨d.val, h1⟩ := Fin.ext (by simp; omega)
      rw [e]
  · rw [dif_neg h1, Finset.sum_eq_zero fun r _ => by rw [Args.ql, dif_neg h1, zero_mul]]
    rfl

/-- The reference's padded gradient of the values. -/
theorem ref_dv (s : Fin 8192) (h : Fin 8) (d : Fin 128) : val_main_v90 (F := Ideal) (C0 a) (C1 a) (C2 a) (C4 a) (ix2 s (lane h d)) = ((∑ r, a.wl r h d * a.P h r s : ℝ) : EReal) := by
  rw [v90_at]
  by_cases h1 : d.val < 64
  · rw [dif_pos h1, v47_at]
    refine congrArg (fun t : ℝ => (t : EReal)) (Finset.sum_congr rfl fun r _ => ?_)
    rw [Args.wl, dif_pos h1]
    rfl
  · rw [dif_neg h1, Finset.sum_eq_zero fun r _ => by rw [Args.wl, dif_neg h1, zero_mul]]
    rfl

/-- The first scores' two halves, taken once more for the rows' logarithms. -/
theorem v74_at (r : Fin 8192) (h : Fin 8) (e : Fin 64) : val_main_v74 (F := Ideal) (C0 a) (ix3 r h e) = ((a.qf r h ⟨e.val, by omega⟩ : ℝ) : EReal) := by
  pointwise [val_main_v0, val_main_v74]
  simp only [mul_comm h.val]
  rfl
theorem v76_at (r : Fin 8192) (h : Fin 8) (e : Fin 32) : val_main_v76 (F := Ideal) (C0 a) (ix3 r h e) = ((a.qf r h ⟨64 + e.val, by omega⟩ : ℝ) : EReal) := by
  pointwise [val_main_v0, val_main_v76]
  simp only [mul_comm h.val]
  rfl

/-- The scaled scores the rows' logarithms are of. -/
theorem v80_at (h : Fin 8) (r s : Fin 8192) : val_main_v80 (F := Ideal) (C0 a) (C1 a) (C2 a) (ix3 h r s) = ((a.S h r s : ℝ) : EReal) := by
  pointwise [val_main_v75, val_main_v77, val_main_v78, val_main_cst_15, val_main_v79, val_main_v80]
  simp only [v74_at, v1_at, v76_at, v4_at, ← EReal.coe_mul, coe_sum, ← EReal.coe_add, word_scale]
  rfl

/-- The reference's logarithms of the rows' sums of exponentials. -/
theorem ref_lse (h : Fin 8) (r : Fin 8192) : val_main_v84 (F := Ideal) (C0 a) (C1 a) (C2 a) (ix3 h r 0) = ((Real.log (a.Z h r) : ℝ) : EReal) := by
  have e82 : val_main_v82 (F := Ideal) (C0 a) (C1 a) (C2 a) (ix2 h r) = ((a.Z h r : ℝ) : EReal) := by
    rw [val_main_v82_apply]
    refine (congrArg₂ (fun x y : EReal => x + y) (Ideal.ofBits_zero .f32) (Finset.sum_congr rfl fun s _ => ?_)).trans ((zero_add _).trans (coe_sum Finset.univ fun s => Real.exp (a.S h r s)))
    have e : idx_main_v82 (ix2 h r) s = ix3 h r s := eq_ix3 _
    rw [e, val_main_v81_apply, v80_at]
    exact exp_real _
  have e83 : val_main_v83 (F := Ideal) (C0 a) (C1 a) (C2 a) (ix3 h r 0) = ((a.Z h r : ℝ) : EReal) := by
    rw [val_main_v83_apply]
    exact Eq.trans (congrArg _ (eq_ix2 _)) e82
  rw [val_main_v84_apply, e83]
  exact log_real (a.Z_pos h r)

/-- The reference's output of the forward pass. -/
theorem ref_out (r : Fin 8192) (h : Fin 8) (e : Fin 64) : val_main_v91 (F := Ideal) (C0 a) (C1 a) (C2 a) (C3 a) (ix2 r ⟨64 * h.val + e.val, by omega⟩)
    = ((∑ s, a.P h r s * a.vv s h e : ℝ) : EReal) := by
  obtain ⟨M, hM⟩ := v30_at a h r
  have e40 : val_main_v40 (F := Ideal) (C0 a) (C1 a) (C2 a) (C3 a) (ix3 h e r) = ((∑ s, a.P h r s * a.vv s h e : ℝ) : EReal) := by
    rw [val_main_v40_apply, ← coe_sum]
    refine Finset.sum_congr rfl fun s _ => ?_
    have e1 : lidx_main_v40 (ix3 h e r) s = ix3 s h e := eq_ix3 _
    have e2 : ridx_main_v40 (ix3 h e r) s = ix3 h r s := eq_ix3 _
    rw [e1, e2, v2_at, v36_at a h r M hM, EReal.coe_mul]
    exact mul_comm (G := EReal) _ _
  refine Eq.trans ?_ e40
  unfold val_main_v91 val_main_v42 val_main_v41
  generalize val_main_v40 (F := Ideal) (C0 a) (C1 a) (C2 a) (C3 a) = x
  have h1 : (64 * h.val + e.val) / 64 = h.val := by omega
  have h2 : (64 * h.val + e.val) % 64 = e.val := by omega
  pointwise [h1, h2]

end Cert.AttClaims
end
-- ==== Proof.Att.lean ====
module

public import proofs.«01_k».proof.Proof.AttRef
public import proofs.«01_k».proof.Proof.Finite
public import proofs.«01_k».proof.Proof.Gen.Att.Frame
public import proofs.«01_k».proof.Proof.Gen.AttIdeal.Frame
public import proofs.«01_k».proof.Proof.Gen.AttRefIdeal.Read
public import proofs.«01_k».proof.Proof.Gen.Pre_finite_att
public import proofs.«01_k».proof.Defs

@[expose] public section

set_option maxRecDepth 16384

open Idealize.ShloMosaic Idealize.ShloMosaic.TcCoe Idealize.SL.Sem

noncomputable section

/-! The attention's gradients: the three regions' results are the attention's and its derivative's, on finite arrays. -/

namespace Cert.AttClaims

open Cert.AttIdeal.Host Cert.AttIdeal.Fwd Cert.AttRefIdeal.Read Cert.Math

/-- The first program's frame. -/
theorem frame_kernel : Cert.quiescent_Att := fun m ρ _ => Cert.Att.Gen.frame m ρ

/-- The ideal program's frame. -/
theorem frame_ideal : Cert.quiescent_AttIdeal := fun m ρ _ => Cert.AttIdeal.Gen.frame m ρ

/-- The reference's frame. -/
theorem frame_ref : Cert.quiescent_AttRefIdeal := fun m ρ _ =>
  (θ_run Cert.AttRefIdeal.defs _ _).mono (fun r h => ⟨fun c => (h c).2.2.2.2.2, sem_eq_zero_of_no_sems (by decide) r.2⟩)
    (Cert.AttRefIdeal.Value.run m ρ)

/-- Two arrays of 1024 columns agree where they agree at every head's lanes. -/
theorem lanes_ext {f g : Cert.AttIdeal.S8192x1024.Idx → EReal} (e : ∀ r h d, f (ix2 r (lane h d)) = g (ix2 r (lane h d))) : f = g := by
  funext i
  obtain ⟨r, j, rfl⟩ : ∃ (r : Fin 8192) (j : Fin 1024), i = ix2 r j := ⟨i 0, i 1, eq_ix2 i⟩
  rw [lane_eq j]
  exact e _ _ _

/-- The three gradients are the derivative's and the two forward results the attention's, on finite arrays. -/
theorem algebraic : Cert.algebraic_AttIdeal_AttRefIdeal_pre_finite_att := by
  intro m g m' g' hpre hag
  have H : ∀ c, ∃ a : Args, Holds a m c := fun c => by
    obtain ⟨p0, p1, p2, p3, p4⟩ := hpre c
    obtain ⟨x0, e0⟩ := exists_reals (isReal_of_olt (fun _ => rfl) p0)
    obtain ⟨x1, e1⟩ := exists_reals (isReal_of_olt (fun _ => rfl) p1)
    obtain ⟨x2, e2⟩ := exists_reals (isReal_of_olt (fun _ => rfl) p2)
    obtain ⟨x3, e3⟩ := exists_reals (isReal_of_olt (fun _ => rfl) p3)
    obtain ⟨x4, e4⟩ := exists_reals (isReal_of_olt (fun _ => rfl) p4)
    exact ⟨⟨x0, x1, x2, x3, x4⟩, ⟨congrFun e0, congrFun e1, congrFun e2, congrFun e3, congrFun e4⟩⟩
  choose a ha using H
  refine ⟨fun c => Cert.AttIdeal.Bwd.DQ (realArrs (a c)), fun c => Cert.AttIdeal.Bwd.DK (realArrs (a c)),
    fun c => Cert.AttIdeal.Bwd.DV (realArrs (a c)),
    fun c => OUT (a c).q (a c).k (a c).v, fun c => LSE (a c).q (a c).k (a c).v, ?_, ?_⟩
  · exact (θ_run _ _ _).mono (fun r h c => ⟨(h c).1.trans (dq_real g (ha c)), (h c).2.1.trans (dk_real g (ha c)),
      (h c).2.2.1.trans (dv_real g (ha c)),
      (h c).2.2.2.1.trans (out_real g (ha c)), (h c).2.2.2.2.1.trans (lse_real g (ha c)), (h c).2.2.2.2.2⟩) (run_results m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.AttRefIdeal.Value.run m' g')
    all_goals
      obtain ⟨b0, b1, b2, b3, b4⟩ := hag c
      have e0 := b0.trans (funext (ha c).h0 : _ = C0 (a c))
      have e1 := b1.trans (funext (ha c).h1 : _ = C1 (a c))
      have e2 := b2.trans (funext (ha c).h2 : _ = C2 (a c))
      have e3 := b3.trans (funext (ha c).h3 : _ = C3 (a c))
      have e4 := b4.trans (funext (ha c).h4 : _ = C4 (a c))
    · rw [val_main_v86_eq, e0, e1, e2, e3, e4]
      exact lanes_ext fun r h d => (ref_dq (a c) r h d).trans (DQ_real (a c) r h d).symm
    · rw [val_main_v88_eq, e0, e1, e2, e3, e4]
      exact lanes_ext fun r h d => (ref_dk (a c) r h d).trans (DK_real (a c) r h d).symm
    · rw [val_main_v90_eq, e0, e1, e2, e4]
      exact lanes_ext fun r h d => (ref_dv (a c) r h d).trans (DV_real (a c) r h d).symm
    · rw [val_main_v91_eq, e0, e1, e2, e3]
      funext i
      obtain ⟨r, j, rfl⟩ : ∃ (r : Fin 8192) (j : Fin 512), i = ix2 r j := ⟨i 0, i 1, eq_ix2 i⟩
      have e := (ref_out (a c) r ⟨j.val / 64, by omega⟩ ⟨j.val % 64, by omega⟩).trans (O_real (a c) r ⟨j.val / 64, by omega⟩ ⟨j.val % 64, by omega⟩).symm
      refine Eq.trans (congrArg (fun l => val_main_v91 (F := Ideal) (C0 (a c)) (C1 (a c)) (C2 (a c)) (C3 (a c)) (ix2 r l)) (Fin.ext ?_)) e
      exact (Nat.div_add_mod _ _).symm
    · rw [val_main_v84_eq, e0, e1, e2]
      funext i
      obtain ⟨h, r, rfl⟩ : ∃ (h : Fin 8) (r : Fin 8192), i = ix3 h r 0 := ⟨i 0, i 1, (eq_ix3 i).trans (congrArg (ix3 (i 0) (i 1)) (Subsingleton.elim (α := Fin 1) _ _))⟩
      exact (ref_lse (a c) h r).trans (LSE_real (a c) r h).symm

end Cert.AttClaims

end
-- ==== Proof.DhfValue.lean ====
module

public import proofs.«01_k».proof.Proof.Rms
public import proofs.«01_k».proof.Proof.Gen.DhfIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DhfIdeal.Grad

open Cert.DhfIdeal Cert.DhfIdeal.Gen Cert.Math

/-- The words of the row length and of the norm's `eps`. -/
abbrev N : EReal := Ideal.ofBits .f32 0x44800000#32
abbrev E : EReal := Ideal.ofBits .f32 0x358637BD#32

/-- A column of the first and of the second half of the 5632. -/
def lo (k : Fin 2816) : Fin 5632 := ⟨k.val, by omega⟩
def hi (k : Fin 2816) : Fin 5632 := ⟨2816 + k.val, by omega⟩

/-- The gradient that reaches the norm's output: the product with the transposed weight, one half of the columns after
    the other. -/
def dy (y : FVec Ideal S8192x5632 .f32) (w : FVec Ideal S1024x5632 .f32) (r : Fin 8192) (l : Fin 1024) : EReal :=
  ∑ k : Fin 2816, y (ix2 r (lo k)) * w (ix2 l (lo k)) + ∑ k : Fin 2816, y (ix2 r (hi k)) * w (ix2 l (hi k))

/-- The two halves together are the product over all columns. -/
theorem dy_eq (y : FVec Ideal S8192x5632 .f32) (w : FVec Ideal S1024x5632 .f32) (r : Fin 8192) (l : Fin 1024) :
    dy y w r l = ∑ k : Fin 5632, y (ix2 r k) * w (ix2 l k) := by
  rw [dy, Fin.sum_univ_tiles 2 2816 rfl, Fin.sum_univ_two]
  rfl

/-- The first result: the gradient of the norm's input plus what reached it past the norm. -/
def dx (x d : FVec Ideal S8192x1024 .f32) (g : FVec Ideal S1x1024 .f32) (y : FVec Ideal S8192x5632 .f32)
    (w : FVec Ideal S1024x5632 .f32) : FVec Ideal S8192x1024 .f32 := fun i =>
  rmsBwd N E (fun k : Fin 1024 => x (ix2 (i 0) k)) (fun k => g (ix2 0 k)) (dy y w (i 0)) (i 1) + d i

/-- The second result: the gradient of the norm's scale, summed over the rows. -/
def dg (x : FVec Ideal S8192x1024 .f32) (y : FVec Ideal S8192x5632 .f32)
    (w : FVec Ideal S1024x5632 .f32) : FVec Ideal S1x1024 .f32 := fun i =>
  ∑ r : Fin 8192, dy y w r (i 1) * (x (ix2 r (i 1)) * rmsScale N E (fun k : Fin 1024 => x (ix2 r k)))

variable (m : (ℓ : Loc nD τ sig) → Buf (Elt Ideal) ℓ)

theorem idx : ∀ t : Fin cfg0.N, win0_0.index t = ![0, t.val, 0] ∧ win0_1.index t = ![1, t.val, 0]
    ∧ win0_2.index t = ![0, 0] ∧ win0_3.index t = ![t.val, 0] ∧ win0_4.index t = ![t.val, 0]
    ∧ win0_5.index t = ![0, 0] ∧ win0_6.index t = ![t.val, 0] ∧ win0_7.index t = ![0, 0] :=
  (by decide +kernel : ∀ t : Fin grid0.N, _)

abbrev DX (c : Dev nD) := dx (m ((c : Thread nD τ).loc main_arg0)) (m ((c : Thread nD τ).loc main_arg1))
    (m ((c : Thread nD τ).loc main_arg2)) (m ((c : Thread nD τ).loc main_arg3)) (m ((c : Thread nD τ).loc main_arg4))

abbrev DG (c : Dev nD) := dg (m ((c : Thread nD τ).loc main_arg0))
    (m ((c : Thread nD τ).loc main_arg3)) (m ((c : Thread nD τ).loc main_arg4))

abbrev Y (c : Dev nD) : FVec Ideal S8192x5632 .f32 := m ((c : Thread nD τ).loc main_arg3)

/-- The stacked gradient holds the first half of the columns at index 0. -/
theorem stack_lo (c : Dev nD) (r : Fin 8192) (k : Fin 2816) : V m c main_v5 (ix3 0 r k) = Y m c (ix2 r (lo k)) := by
  unfold V
  entry_read
  pointwise [lo, Y]

/-- The stacked gradient holds the second half of the columns at index 1. -/
theorem stack_hi (c : Dev nD) (r : Fin 8192) (k : Fin 2816) : V m c main_v5 (ix3 1 r k) = Y m c (ix2 r (hi k)) := by
  unfold V
  entry_read
  pointwise [hi, Y]

/-- The row of the array behind row `r` of block `t`. -/
def row (t : Fin cfg0.N) (r : Fin 512) : Fin 8192 := ⟨512 * t.val + r.val, by have := N_0; have := t.isLt; have : t.val < grid0.N := t.isLt; omega⟩

theorem blk_lo (c : Dev nD) (t : Fin cfg0.N) (r : Fin 512) (k : Fin 2816) :
    iblk m c 0 t (ix3 0 r k) = Y m c (ix2 (row t r) (lo k)) := by
  rw [← stack_lo]
  blk_ext [iblk, row, idx t]

theorem blk_hi (c : Dev nD) (t : Fin cfg0.N) (r : Fin 512) (k : Fin 2816) :
    iblk m c 1 t (ix3 0 r k) = Y m c (ix2 (row t r) (hi k)) := by
  rw [← stack_hi]
  blk_ext [iblk, row, idx t]

set_option maxHeartbeats 1600000 in
theorem final6 (c : Dev nD) : (dats m 0 c).arrAt 6 (cfgs 0).N = DX m c := by
  refine (dats m 0 c).arrAt_eq_of_covers 6 _ (by decide +kernel) fun t _ y => ?_
  blk_simp
  rw [after0_6]
  by_cases h : t.val % 16 = 0
  · rw [outsAt0_A m c t h]; frame_out
    clear h
    canon_tiles x h
    all_goals
      open_payloads
      pointwise [DX, dx, dy, rmsBwd, rmsScale, rmsQ]
      simp only [blk_lo, blk_hi]
      blk_point [iblk, V, idx t, row, lo, hi]
  · rw [outsAt0_B m c t h]; frame_out
    clear h
    canon_tiles x h
    all_goals
      open_payloads
      pointwise [DX, dx, dy, rmsBwd, rmsScale, rmsQ]
      simp only [blk_lo, blk_hi]
      blk_point [iblk, V, idx t, row, lo, hi]

/-- What one block of 512 rows adds to the scale's gradient. -/
def part (x : FVec Ideal S512x1024 .f32) (y z : FVec Ideal S1x512x2816 .f32) (w : FVec Ideal S1024x5632 .f32) (l : Fin 1024) : EReal :=
  ∑ r : Fin 512, (∑ k : Fin 2816, y (ix3 0 r k) * w (ix2 l (lo k)) + ∑ k : Fin 2816, z (ix3 0 r k) * w (ix2 l (hi k)))
    * (x (ix2 r l) * rmsScale N E (fun k : Fin 1024 => x (ix2 r k)))

set_option maxHeartbeats 1600000 in
theorem final7 (c : Dev nD) : (dats m 0 c).arrAt 7 (cfgs 0).N = DG m c := by
  refine (dats m 0 c).arrAt_eq_of_after_last 7 t0_15 (by decide +kernel) _ fun j => ?_
  blk_simp
  rw [after0_7]
  refine (Pipeline.eq_sum_fin_of_reset_step_apply_last (fun n h => (outsAt0 m c n h).2) 16 (fun _ => 0)
    (fun p j => part (iblk m c 3 p) (iblk m c 0 p) (iblk m c 1 p) (iblk m c 2 p) (j 1))
    (fun t h j => ?_) (fun t h j => ?_) (le_of_eq N_0) t0_15 rfl j).trans ?_
  · rw [outsAt0_A m c t h]; frame_out
    open_payloads
    idx_vars j
    rw [part, Fin.sum_univ_tiles 2 256 rfl, Fin.sum_univ_two]
    pointwise [rmsScale, rmsQ, lo, hi]
  · rw [outsAt0_B m c t h]; frame_out
    open_payloads
    idx_vars j
    rw [part, Fin.sum_univ_tiles 2 256 rfl, Fin.sum_univ_two]
    pointwise [rmsScale, rmsQ, lo, hi]
  · rw [zero_add, DG, dg]
    simp only [part]
    refine Fin.sum_mul_add_congr fun p r hl => ?_
    simp only [dy, rmsScale, rmsQ, blk_lo, blk_hi]
    blk_point [iblk, V, idx p, row, lo, hi]

end Cert.DhfIdeal.Grad

end
-- ==== Proof.Dhf.lean ====
module

public import proofs.«01_k».proof.Proof.DhfValue
public import proofs.«01_k».proof.Proof.Finite
public import proofs.«01_k».proof.Proof.Gen.DhfRefIdeal.Read
public import proofs.«01_k».proof.Proof.Gen.Pre_finite_dhf
public import proofs.«01_k».proof.Defs
public import proofs.«01_k».proof.Proof.Gen.Dhf.Frame
public import Idealize.ShloMosaic.Lib.Claim

@[expose] public section

set_option maxRecDepth 16384

noncomputable section

open Idealize.ShloMosaic Idealize.ShloMosaic.TcCoe Idealize.SL.Sem

namespace Cert.DhfClaims

open Cert.DhfRefIdeal Cert.DhfRefIdeal.Gen Cert.DhfRefIdeal.Read Cert.Math
open Cert.DhfIdeal.Grad (N E dy dy_eq dx dg)

/-- The derivative's first result at an entry is the kernel's, on real arrays. -/
theorem ref_dx (x d : FVec Ideal S8192x1024 .f32) (g : FVec Ideal S1x1024 .f32) (y : FVec Ideal S8192x5632 .f32)
    (w : FVec Ideal S1024x5632 .f32) (hx : ∀ i, IsReal (x i)) (hg : ∀ i, IsReal (g i)) (hy : ∀ i, IsReal (y i))
    (hw : ∀ i, IsReal (w i)) : val_main_v36 (F := Ideal) x d g y w = dx x d g y w := by
  funext i
  obtain ⟨r, l, rfl⟩ : ∃ r l, i = ix2 r l := ⟨i 0, i 1, eq_ix2 i⟩
  show _ = rmsBwd N E (fun k : Fin 1024 => x (ix2 r k)) (fun k => g (ix2 0 k)) (dy y w r) l + d (ix2 r l)
  rw [rmsBwd_eq (N := N) (E := E) (x := fun k : Fin 1024 => x (ix2 r k)) (g := fun k => g (ix2 0 k)) (dy := dy y w r)
    ⟨1024, by norm_num, word_1024⟩ word_eps word_neg_half (fun k => hx _) (fun k => hg _)
    (fun k => (by rw [dy_eq]; exact IsReal.sum fun k => (hy _).mul (hw _))) l]
  simp only [rmsMeanBack, rmsScale, rmsQ, dy_eq, N, E]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_cst_5, val_main_v28, val_main_v29, val_main_cst_6, val_main_v30, val_main_v31, val_main_v32, val_main_v33, val_main_v34, val_main_v35, val_main_v36]
  simp only [Fin.sum_univ_one]
  rw [add_comm]

/-- The derivative's second result is the kernel's. -/
theorem ref_dg (x : FVec Ideal S8192x1024 .f32) (y : FVec Ideal S8192x5632 .f32)
    (w : FVec Ideal S1024x5632 .f32) : val_main_v19 (F := Ideal) x y w = dg x y w := by
  funext i
  idx_vars i
  simp only [dg, rmsScale, rmsQ, dy_eq, N, E]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_cst_5, val_main_v28, val_main_v29, val_main_cst_6, val_main_v30, val_main_v31, val_main_v32, val_main_v33, val_main_v34, val_main_v35, val_main_v36]
  exact Finset.sum_congr rfl fun _ _ => (mul_comm _ _).trans (congrArg (· * _) (dy_eq _ _ _ _).symm)

/-- The first program's frame. -/
theorem frame_kernel : Cert.quiescent_Dhf := fun m ρ _ => Cert.Dhf.Gen.frame m ρ

/-- The ideal program's frame, and the same under the precondition. -/
theorem frame_ideal : Cert.quiescent_DhfIdeal := fun m ρ _ => Cert.DhfIdeal.Gen.frame m ρ

/-- The reference's frame. -/
theorem frame_ref : Cert.quiescent_DhfRefIdeal := fun m ρ _ =>
  (θ_run Cert.DhfRefIdeal.defs _ _).mono (fun r h => ⟨fun c => (h c).2.2, sem_eq_zero_of_no_sems (by decide) r.2⟩)
    (Cert.DhfRefIdeal.Value.run m ρ)

/-- Both results are the derivative's, on finite arrays. -/
theorem algebraic : Cert.algebraic_DhfIdeal_DhfRefIdeal_pre_finite_dhf := by
  intro m g m' g' hpre hag
  refine ⟨fun c => Cert.DhfIdeal.Grad.DX m c, fun c => Cert.DhfIdeal.Grad.DG m c, ?_, ?_⟩
  · exact (θ_run _ _ _).mono (fun r h c => ⟨(Cert.DhfIdeal.Value.post6 m r h c).trans (Cert.DhfIdeal.Grad.final6 m c),
      (Cert.DhfIdeal.Value.post7 m r h c).trans (Cert.DhfIdeal.Grad.final7 m c), Cert.DhfIdeal.Value.kept_main_arg0 m r h c,
      Cert.DhfIdeal.Value.kept_main_arg1 m r h c, Cert.DhfIdeal.Value.kept_main_arg2 m r h c,
      Cert.DhfIdeal.Value.kept_main_arg3 m r h c, Cert.DhfIdeal.Value.kept_main_arg4 m r h c⟩)
      (Cert.DhfIdeal.Gen.run_main m g)
  · refine (θ_run _ _ _).mono (fun r h c => ⟨(h c).1.trans ?_, (h c).2.1.trans ?_, (h c).2.2⟩) (Cert.DhfRefIdeal.Value.run m' g')
    · obtain ⟨a0, a1, a2, a3, a4⟩ := hag c
      obtain ⟨p0, p2, p3, p4⟩ := hpre c
      rw [val_main_v36_eq, a0, a1, a2, a3, a4]
      exact ref_dx _ _ _ _ _ (isReal_of_olt (fun _ => rfl) p0) (isReal_of_olt (fun _ => rfl) p2)
        (isReal_of_olt (fun _ => rfl) p3) (isReal_of_olt (fun _ => rfl) p4)
    · obtain ⟨a0, a1, a2, a3, a4⟩ := hag c
      rw [a0, a3, a4]
      exact ref_dg _ _ _

end Cert.DhfClaims

end
-- ==== Proof.PleRow.lean ====
module

public import proofs.«01_k».proof.Proof.Rms
public import proofs.«01_k».proof.Proof.Gen.PleIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What one row of the last part of the step is: the gate, the embedding, the stream after them, its error against the
    target and the gradient that reaches the last norm. And the kernel's values on 256 rows, read at an entry. -/

namespace Cert.PleIdeal.Grad

open Cert.PleIdeal Cert.PleIdeal.Gen Cert.Math

/-- The words of the row length, of the norm's `eps`, of one half, of the row length's inverse, of one and of zero. -/
abbrev N : EReal := Ideal.ofBits .f32 0x44800000#32
abbrev E : EReal := Ideal.ofBits .f32 0x358637BD#32
abbrev H : EReal := Ideal.ofBits .f32 0x3F000000#32
abbrev D : EReal := Ideal.ofBits .f32 0x3A800000#32
abbrev U : EReal := Ideal.ofBits .f32 0x3F800000#32

/-- The gate of one row. -/
def gateOf (n : Fin 1024 → EReal) (wg : FVec Ideal S1024x1024 .f32) (l : Fin 1024) : EReal :=
  Ideal.div U (U + Ideal.exp (0 - ∑ k, n k * wg (ix2 k l)))

/-- The embedding of one row. -/
def embOf (p : Fin 256 → EReal) (wp : FVec Ideal S256x1024 .f32) (l : Fin 1024) : EReal := ∑ k, p k * wp (ix2 k l)

/-- The row of the stream with the gated embedding added. -/
def x3Of (x n : Fin 1024 → EReal) (p : Fin 256 → EReal) (wg : FVec Ideal S1024x1024 .f32) (wp : FVec Ideal S256x1024 .f32)
    (l : Fin 1024) : EReal := x l + gateOf n wg l * embOf p wp l

/-- The error of one row against the target. -/
def errOf (x g t : Fin 1024 → EReal) (l : Fin 1024) : EReal := x l * rmsScale N E x * g l - t l

/-- The gradient that reaches the last norm's output. -/
def dyOf (x g t : Fin 1024 → EReal) (l : Fin 1024) : EReal := errOf x g t l * D

/-- The mean of the squared errors of one row. -/
def lossOf (x g t : Fin 1024 → EReal) : EReal := Ideal.div (∑ l, errOf x g t l * errOf x g t l) N

/-- A row of 256. -/
abbrev row (x : FVec Ideal S256x1024 .f32) (r : Fin 256) (l : Fin 1024) : EReal := x (ix2 r l)
abbrev vec (g : FVec Ideal S1x1024 .f32) (l : Fin 1024) : EReal := g (ix2 0 l)

variable (x t : FVec Ideal S256x1024 .f32) (g : FVec Ideal S1x1024 .f32) (r : Fin 256) (l : Fin 1024)

theorem pay12_at (wg : FVec Ideal S1024x1024 .f32) (wp : FVec Ideal S256x1024 .f32) (n : FVec Ideal S256x1024 .f32) (p : FVec Ideal S256x256 .f32) :
    k0_pay12 (F := Ideal) wg wp n p x (ix2 r l) = x3Of (row x r) (row n r) (fun k => p (ix2 r k)) wg wp l := by
  unfold k0_pay12 k0_pay10 k0_pay11 k0_pay8 k0_pay9
  pointwise [x3Of, gateOf, embOf]

theorem pay10_at (wg : FVec Ideal S1024x1024 .f32) (n : FVec Ideal S256x1024 .f32) :
    k0_pay10 (F := Ideal) wg n (ix2 r l) = gateOf (row n r) wg l := by
  unfold k0_pay10 k0_pay8
  pointwise [gateOf]

theorem pay11_at (wp : FVec Ideal S256x1024 .f32) (p : FVec Ideal S256x256 .f32) :
    k0_pay11 (F := Ideal) wp p (ix2 r l) = embOf (fun k => p (ix2 r k)) wp l := by
  unfold k0_pay11 k0_pay9
  pointwise [embOf]

theorem pay18_at : k0_pay18 (F := Ideal) x (ix2 r 0) = rmsScale N E (row x r) := by
  unfold k0_pay18
  pointwise [rmsScale, rmsQ]

theorem pay19_at : k0_pay19 (F := Ideal) x (ix2 r l) = x (ix2 r l) * rmsScale N E (row x r) := by
  unfold k0_pay19
  pointwise
  rw [pay18_at]

theorem pay15_at : k0_pay15 (F := Ideal) (k0_pay19 x) (k0_pay14 g) t (ix2 r l) = errOf (row x r) (vec g) (row t r) l := by
  unfold k0_pay15 k0_pay14 k0_pay7
  pointwise
  rw [pay19_at, errOf]

theorem pay17_at : k0_pay17 (F := Ideal) (k0_pay19 x) (k0_pay14 g) t (ix2 r l) = dyOf (row x r) (vec g) (row t r) l := by
  unfold k0_pay17
  pointwise
  rw [pay15_at, dyOf]

/-- The gradient of the stream at an entry. -/
theorem pay20_at : k0_pay20 (F := Ideal) (k0_pay7 g) x (k0_pay19 x) (k0_pay14 g) t (ix2 r l)
    = rmsBwd N E (row x r) (vec g) (dyOf (row x r) (vec g) (row t r)) l := by
  unfold k0_pay20 k0_pay7
  pointwise
  simp only [pay19_at, pay18_at, pay17_at, rmsBwd]

/-- What 256 rows add to the loss. -/
theorem pay16_at (a : FVec Ideal S1x128 .f32) (j : Fin 128) : k0_pay16 (F := Ideal) (k0_pay19 x) (k0_pay14 g) t a (ix2 0 j)
    = a (ix2 0 j) + H * ∑ r : Fin 256, lossOf (row x r) (vec g) (row t r) := by
  unfold k0_pay16
  pointwise
  simp only [pay15_at, lossOf]

/-- What 256 rows add to the gradient of the last norm's scale. -/
theorem pay22_at (a : FVec Ideal S1x1024 .f32) : k0_pay22 (F := Ideal) (k0_pay21 x (k0_pay19 x) (k0_pay14 g) t) a (ix2 0 l)
    = a (ix2 0 l) + ∑ r : Fin 256, dyOf (row x r) (vec g) (row t r) l * (x (ix2 r l) * rmsScale N E (row x r)) := by
  unfold k0_pay22 k0_pay21
  pointwise
  simp only [pay17_at, pay19_at]

theorem pay23_at (v e d : FVec Ideal S256x1024 .f32) :
    k0_pay23 (F := Ideal) v e d (ix2 r l) = d (ix2 r l) * e (ix2 r l) * v (ix2 r l) * (U - v (ix2 r l)) := by
  unfold k0_pay23
  pointwise

theorem pay24_at (v d : FVec Ideal S256x1024 .f32) : k0_pay24 (F := Ideal) v d (ix2 r l) = d (ix2 r l) * v (ix2 r l) := by
  unfold k0_pay24
  pointwise

end Cert.PleIdeal.Grad
end
-- ==== Proof.PleBlock.lean ====
module

public import proofs.«01_k».proof.Proof.PleRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The five results of the last part of the step as functions of the arrays, and that the kernel writes them. -/

namespace Cert.PleIdeal.Grad

open Cert.PleIdeal Cert.PleIdeal.Gen Cert.Math

/-- The arrays: the stream, the third norm's scale, the embedding's input, the target, the last norm's scale and the two
    weights. -/
structure Arr where
  x : FVec Ideal S8192x1024 .f32
  g3 : FVec Ideal S1x1024 .f32
  p : FVec Ideal S8192x256 .f32
  t : FVec Ideal S8192x1024 .f32
  gf : FVec Ideal S1024 .f32
  wg : FVec Ideal S1024x1024 .f32
  wp : FVec Ideal S256x1024 .f32

namespace Arr
variable (a : Arr) (r : Fin 8192) (l : Fin 1024)

/-- The normed stream of one row. -/
def n3 : EReal := a.x (ix2 r l) * rmsScale N E (fun k : Fin 1024 => a.x (ix2 r k)) * a.g3 (ix2 0 l)
def gate : EReal := gateOf (a.n3 r) a.wg l
def emb : EReal := embOf (fun k => a.p (ix2 r k)) a.wp l
/-- The stream with the gated embedding. -/
def x3 : EReal := x3Of (fun k => a.x (ix2 r k)) (a.n3 r) (fun k => a.p (ix2 r k)) a.wg a.wp l
def g (l : Fin 1024) : EReal := a.gf (ix1 l)
def loss : EReal := lossOf (a.x3 r) a.g (fun k => a.t (ix2 r k))
/-- The gradients at the last norm's output and at the stream. -/
def dy : EReal := dyOf (a.x3 r) a.g (fun k => a.t (ix2 r k)) l
def dx : EReal := rmsBwd N E (a.x3 r) a.g (a.dy r) l

end Arr

/-- Row `r` of the `p`-th block of 512. -/
def at512 (p : Fin 16) (r : Fin 512) : Fin 8192 := ⟨512 * p.val + r.val, by omega⟩
def lo (r : Fin 256) : Fin 512 := ⟨r.val, by omega⟩
def hi (r : Fin 256) : Fin 512 := ⟨256 + r.val, by omega⟩

/-- The five results. -/
def LOSS (a : Arr) : FVec Ideal S1x128 .f32 := fun _ =>
  ∑ p : Fin 16, (H * ∑ r : Fin 256, a.loss (at512 p (lo r)) + H * ∑ r : Fin 256, a.loss (at512 p (hi r)))
def DX (a : Arr) : FVec Ideal S8192x1024 .f32 := fun i => a.dx (i 0) (i 1)
def DGL (a : Arr) : FVec Ideal S8192x1024 .bf16 := fun i =>
  a.dx (i 0) (i 1) * a.emb (i 0) (i 1) * a.gate (i 0) (i 1) * (U - a.gate (i 0) (i 1))
def DPP (a : Arr) : FVec Ideal S8192x1024 .bf16 := fun i => a.dx (i 0) (i 1) * a.gate (i 0) (i 1)
def DGF (a : Arr) : FVec Ideal S1x1024 .f32 := fun i =>
  ∑ r : Fin 8192, a.dy r (i 1) * (a.x3 r (i 1) * rmsScale N E (a.x3 r))

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0]
    ∧ win0_10.index t = ![t.val, 0] ∧ win0_11.index t = ![0, 0] :=
  (by decide +kernel : ∀ t : Fin grid0.N, _)

/-- The arrays one device is launched with. -/
abbrev A (c : Dev nD) : Arr := ⟨m ((c : Thread nD τ).loc main_arg0), m ((c : Thread nD τ).loc main_arg1),
  m ((c : Thread nD τ).loc main_arg2), m ((c : Thread nD τ).loc main_arg3), m ((c : Thread nD τ).loc main_arg4),
  m ((c : Thread nD τ).loc main_arg5), m ((c : Thread nD τ).loc main_arg6)⟩

/-- The normed stream the host prepares. -/
theorem host_n3 (c : Dev nD) (r : Fin 8192) (l : Fin 1024) : V m c main_v12 (ix2 r l) = (A m c).n3 r l := by
  unfold V
  entry_read
  pointwise [Arr.n3, rmsScale, rmsQ]

theorem host_gf (c : Dev nD) (l : Fin 1024) : V m c main_v13 (ix2 0 l) = (A m c).g l := by
  unfold V
  entry_read
  pointwise [Arr.g]

theorem host_wg (c : Dev nD) : V m c main_v14 = (A m c).wg := by
  unfold V
  entry_read
  rfl

theorem host_wp (c : Dev nD) : V m c main_v15 = (A m c).wp := by
  unfold V
  entry_read
  rfl

/-- The row behind row `r` of block `t`. -/
def rowOf (t : Fin cfg0.N) (r : Fin 512) : Fin 8192 := ⟨512 * t.val + r.val, by have : t.val < grid0.N := t.isLt; rw [N_0] at this; omega⟩

variable (c : Dev nD) (t : Fin cfg0.N)

theorem blk0 (r : Fin 512) (l : Fin 1024) : iblk m c 0 t (ix2 r l) = (A m c).x (ix2 (rowOf t r) l) := by
  blk_ext [iblk, V, rowOf, idx t]
theorem blk1 (r : Fin 512) (l : Fin 1024) : iblk m c 1 t (ix2 r l) = (A m c).n3 (rowOf t r) l := by
  rw [← host_n3]
  blk_ext [iblk, rowOf, idx t]
theorem blk2 (r : Fin 512) (l : Fin 256) : iblk m c 2 t (ix2 r l) = (A m c).p (ix2 (rowOf t r) l) := by
  blk_ext [iblk, V, rowOf, idx t]
theorem blk3 (r : Fin 512) (l : Fin 1024) : iblk m c 3 t (ix2 r l) = (A m c).t (ix2 (rowOf t r) l) := by
  blk_ext [iblk, V, rowOf, idx t]
theorem blk4 (l : Fin 1024) : iblk m c 4 t (ix2 0 l) = (A m c).g l := by
  rw [← host_gf]
  blk_ext [iblk, idx t]
theorem blk5 : iblk m c 5 t = (A m c).wg := by
  rw [← host_wg]
  funext i
  idx_vars i
  blk_ext [iblk, idx t]
theorem blk6 : iblk m c 6 t = (A m c).wp := by
  rw [← host_wp]
  funext i
  idx_vars i
  blk_ext [iblk, idx t]

/-- The values of the first 256 rows of a block, row by row. -/
theorem x_lo (r : Fin 256) : row (k0_pay12 (F := Ideal) (iblk m c 5 t) (iblk m c 6 t) (View.ld (iblk m c 1 t) (Rect.unit ![0, 0] ![256, 1024] inb_S512x1024_S256x1024_0_0))
    (View.ld (iblk m c 2 t) (Rect.unit ![0, 0] ![256, 256] inb_S512x256_S256x256_0_0)) (View.ld (iblk m c 0 t) (Rect.unit ![0, 0] ![256, 1024] inb_S512x1024_S256x1024_0_0))) r = (A m c).x3 (rowOf t (lo r)) := by
  funext l
  rw [row, pay12_at, blk5, blk6, Arr.x3]
  congr 1 <;> funext k
  · exact (by pointwise [row, lo] : _ = iblk m c 0 t (ix2 (lo r) k)).trans (blk0 ..)
  · exact (by pointwise [row, lo] : _ = iblk m c 1 t (ix2 (lo r) k)).trans (blk1 ..)
  · exact (by pointwise [row, lo] : _ = iblk m c 2 t (ix2 (lo r) k)).trans (blk2 ..)
theorem t_lo (r : Fin 256) : row (View.ld (iblk m c 3 t) (Rect.unit ![0, 0] ![256, 1024] inb_S512x1024_S256x1024_0_0)) r = fun k => (A m c).t (ix2 (rowOf t (lo r)) k) := by
  funext k
  exact (by pointwise [row, lo] : _ = iblk m c 3 t (ix2 (lo r) k)).trans (blk3 ..)
theorem gate_lo (r : Fin 256) (l : Fin 1024) : k0_pay10 (F := Ideal) (iblk m c 5 t) (View.ld (iblk m c 1 t) (Rect.unit ![0, 0] ![256, 1024] inb_S512x1024_S256x1024_0_0)) (ix2 r l) = (A m c).gate (rowOf t (lo r)) l := by
  rw [pay10_at, blk5, Arr.gate]
  congr 1; funext k
  exact (by pointwise [row, lo] : _ = iblk m c 1 t (ix2 (lo r) k)).trans (blk1 ..)
theorem emb_lo (r : Fin 256) (l : Fin 1024) : k0_pay11 (F := Ideal) (iblk m c 6 t) (View.ld (iblk m c 2 t) (Rect.unit ![0, 0] ![256, 256] inb_S512x256_S256x256_0_0)) (ix2 r l) = (A m c).emb (rowOf t (lo r)) l := by
  rw [pay11_at, blk6, Arr.emb]
  congr 1; funext k
  exact (by pointwise [row, lo] : _ = iblk m c 2 t (ix2 (lo r) k)).trans (blk2 ..)

/-- The values of the second 256 rows of a block, row by row. -/
theorem x_hi (r : Fin 256) : row (k0_pay12 (F := Ideal) (iblk m c 5 t) (iblk m c 6 t) (View.ld (iblk m c 1 t) (Rect.unit ![256, 0] ![256, 1024] inb_S512x1024_S256x1024_256_0))
    (View.ld (iblk m c 2 t) (Rect.unit ![256, 0] ![256, 256] inb_S512x256_S256x256_256_0)) (View.ld (iblk m c 0 t) (Rect.unit ![256, 0] ![256, 1024] inb_S512x1024_S256x1024_256_0))) r = (A m c).x3 (rowOf t (hi r)) := by
  funext l
  rw [row, pay12_at, blk5, blk6, Arr.x3]
  congr 1 <;> funext k
  · exact (by pointwise [row, hi] : _ = iblk m c 0 t (ix2 (hi r) k)).trans (blk0 ..)
  · exact (by pointwise [row, hi] : _ = iblk m c 1 t (ix2 (hi r) k)).trans (blk1 ..)
  · exact (by pointwise [row, hi] : _ = iblk m c 2 t (ix2 (hi r) k)).trans (blk2 ..)
theorem t_hi (r : Fin 256) : row (View.ld (iblk m c 3 t) (Rect.unit ![256, 0] ![256, 1024] inb_S512x1024_S256x1024_256_0)) r = fun k => (A m c).t (ix2 (rowOf t (hi r)) k) := by
  funext k
  exact (by pointwise [row, hi] : _ = iblk m c 3 t (ix2 (hi r) k)).trans (blk3 ..)
theorem gate_hi (r : Fin 256) (l : Fin 1024) : k0_pay10 (F := Ideal) (iblk m c 5 t) (View.ld (iblk m c 1 t) (Rect.unit ![256, 0] ![256, 1024] inb_S512x1024_S256x1024_256_0)) (ix2 r l) = (A m c).gate (rowOf t (hi r)) l := by
  rw [pay10_at, blk5, Arr.gate]
  congr 1; funext k
  exact (by pointwise [row, hi] : _ = iblk m c 1 t (ix2 (hi r) k)).trans (blk1 ..)
theorem emb_hi (r : Fin 256) (l : Fin 1024) : k0_pay11 (F := Ideal) (iblk m c 6 t) (View.ld (iblk m c 2 t) (Rect.unit ![256, 0] ![256, 256] inb_S512x256_S256x256_256_0)) (ix2 r l) = (A m c).emb (rowOf t (hi r)) l := by
  rw [pay11_at, blk6, Arr.emb]
  congr 1; funext k
  exact (by pointwise [row, hi] : _ = iblk m c 2 t (ix2 (hi r) k)).trans (blk2 ..)

theorem vec_g : vec (iblk m c 4 t) = (A m c).g := funext fun l => blk4 m c t l

section
variable (x y : FVec Ideal S256x1024 .f32) (g : FVec Ideal S1x1024 .f32) (wg : FVec Ideal S1024x1024 .f32)
  (wp : FVec Ideal S256x1024 .f32) (n : FVec Ideal S256x1024 .f32) (p : FVec Ideal S256x256 .f32)

/-! The second 256 rows of a block go through the same operations as the first, under other names. -/

theorem first13 : k0_pay13 (F := Ideal) wg wp n p x = k0_pay19 (k0_pay12 (F := Ideal) wg wp n p x) := rfl
theorem second12 : k0_pay27 (F := Ideal) (k0_pay8 (F := Ideal) wg) (k0_pay9 (F := Ideal) wp) n p x = k0_pay12 (F := Ideal) wg wp n p x := rfl
theorem second13 : k0_pay28 (F := Ideal) (k0_pay8 (F := Ideal) wg) (k0_pay9 (F := Ideal) wp) n p x
    = mulf (k0_pay12 (F := Ideal) wg wp n p x) (k0_pay12 (F := Ideal) wg wp n p x) := rfl
theorem second10 : k0_pay25 (F := Ideal) (k0_pay8 (F := Ideal) wg) n = k0_pay10 (F := Ideal) wg n := rfl
theorem second11 : k0_pay26 (F := Ideal) (k0_pay9 (F := Ideal) wp) p = k0_pay11 (F := Ideal) wp p := rfl
theorem second20 : k0_pay1 (F := Ideal) (k0_pay32 x) (k0_pay33 x) (k0_pay34 (k0_pay7 g) x (mulf x x) y) (k0_pay35 (k0_pay7 g) x (mulf x x) y)
    = k0_pay20 (k0_pay7 g) x (k0_pay19 x) (k0_pay14 g) y := rfl
theorem second16 (a : FVec Ideal S1x128 .f32) : k0_pay30 (F := Ideal) (k0_pay7 g) x (mulf x x) y a
    = k0_pay16 (k0_pay19 x) (k0_pay14 g) y a := rfl
theorem second22 (a : FVec Ideal S1x1024 .f32) : k0_pay2 (F := Ideal) (k0_pay31 (k0_pay7 g) x (mulf x x) y) (k0_pay33 x) a
    = k0_pay22 (k0_pay21 x (k0_pay19 x) (k0_pay14 g) y) a := rfl
theorem second23 (v e : FVec Ideal S256x1024 .f32) : k0_pay3 (F := Ideal) v e (k0_pay32 x) (k0_pay33 x) (k0_pay34 (k0_pay7 g) x (mulf x x) y)
    (k0_pay35 (k0_pay7 g) x (mulf x x) y) = k0_pay23 v e (k0_pay20 (k0_pay7 g) x (k0_pay19 x) (k0_pay14 g) y) := rfl
theorem second24 (v : FVec Ideal S256x1024 .f32) : k0_pay4 (F := Ideal) v (k0_pay32 x) (k0_pay33 x) (k0_pay34 (k0_pay7 g) x (mulf x x) y)
    (k0_pay35 (k0_pay7 g) x (mulf x x) y) = k0_pay24 v (k0_pay20 (k0_pay7 g) x (k0_pay19 x) (k0_pay14 g) y) := rfl
end

/-- What the first 256 rows of a block write or add. -/
theorem dx_lo (r : Fin 256) (l : Fin 1024) : (k0_pay20 (F := Ideal) (k0_pay7 (iblk m c 4 t)) (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0))) (k0_pay19 (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0)))) (k0_pay14 (iblk m c 4 t)) (View.ld (iblk m c 3 t) (Rect.unit ![0, 0] ![256, 1024] inb_S512x1024_S256x1024_0_0))) (ix2 r l) = (A m c).dx (rowOf t (lo r)) l := by
  rw [pay20_at, x_lo, t_lo, vec_g]; rfl
theorem dgl_lo (r : Fin 256) (l : Fin 1024) : k0_pay23 (F := Ideal) (k0_pay10 (F := Ideal) (iblk m c 5 t) (View.ld (iblk m c 1 t) (Rect.unit ![0, 0] ![256, 1024] inb_S512x1024_S256x1024_0_0)))
    (k0_pay11 (F := Ideal) (iblk m c 6 t) (View.ld (iblk m c 2 t) (Rect.unit ![0, 0] ![256, 256] inb_S512x256_S256x256_0_0))) (k0_pay20 (F := Ideal) (k0_pay7 (iblk m c 4 t)) (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0))) (k0_pay19 (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0)))) (k0_pay14 (iblk m c 4 t)) (View.ld (iblk m c 3 t) (Rect.unit ![0, 0] ![256, 1024] inb_S512x1024_S256x1024_0_0))) (ix2 r l) = DGL (A m c) (ix2 (rowOf t (lo r)) l) := by
  rw [pay23_at, dx_lo, gate_lo, emb_lo]; rfl
theorem dpp_lo (r : Fin 256) (l : Fin 1024) : k0_pay24 (F := Ideal) (k0_pay10 (F := Ideal) (iblk m c 5 t) (View.ld (iblk m c 1 t) (Rect.unit ![0, 0] ![256, 1024] inb_S512x1024_S256x1024_0_0)))
    (k0_pay20 (F := Ideal) (k0_pay7 (iblk m c 4 t)) (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0))) (k0_pay19 (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0)))) (k0_pay14 (iblk m c 4 t)) (View.ld (iblk m c 3 t) (Rect.unit ![0, 0] ![256, 1024] inb_S512x1024_S256x1024_0_0))) (ix2 r l) = DPP (A m c) (ix2 (rowOf t (lo r)) l) := by
  rw [pay24_at, dx_lo, gate_lo]; rfl
theorem loss_lo (a : FVec Ideal S1x128 .f32) (j : Fin 128) : k0_pay16 (F := Ideal) (k0_pay19 (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0)))) (k0_pay14 (iblk m c 4 t)) (View.ld (iblk m c 3 t) (Rect.unit ![0, 0] ![256, 1024] inb_S512x1024_S256x1024_0_0)) a (ix2 0 j)
    = a (ix2 0 j) + H * ∑ r : Fin 256, (A m c).loss (rowOf t (lo r)) := by
  rw [pay16_at, vec_g]
  simp_rw [x_lo, t_lo]
  rfl
theorem dgf_lo (a : FVec Ideal S1x1024 .f32) (l : Fin 1024) : k0_pay22 (F := Ideal) (k0_pay21 (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0))) (k0_pay19 (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0)))) (k0_pay14 (iblk m c 4 t)) (View.ld (iblk m c 3 t) (Rect.unit ![0, 0] ![256, 1024] inb_S512x1024_S256x1024_0_0))) a (ix2 0 l)
    = a (ix2 0 l) + ∑ r : Fin 256, (A m c).dy (rowOf t (lo r)) l * ((A m c).x3 (rowOf t (lo r)) l * rmsScale N E ((A m c).x3 (rowOf t (lo r)))) := by
  rw [pay22_at, vec_g]
  refine congrArg (a (ix2 0 l) + ·) (Finset.sum_congr rfl fun r _ => ?_)
  rw [t_lo, show (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0))) (ix2 r l) = row (k0_pay12 (F := Ideal) (iblk m c 5 t) (iblk m c 6 t) (View.ld (iblk m c 1 t) (Rect.unit ![0, 0] ![256, 1024] inb_S512x1024_S256x1024_0_0)) (View.ld (iblk m c 2 t) (Rect.unit ![0, 0] ![256, 256] inb_S512x256_S256x256_0_0)) (View.ld (iblk m c 0 t) (Rect.unit ![0, 0] ![256, 1024] inb_S512x1024_S256x1024_0_0))) r l from rfl, x_lo]
  rfl

/-- What the second 256 rows of a block write or add. -/
theorem dx_hi (r : Fin 256) (l : Fin 1024) : (k0_pay20 (F := Ideal) (k0_pay7 (iblk m c 4 t)) (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0))) (k0_pay19 (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0)))) (k0_pay14 (iblk m c 4 t)) (View.ld (iblk m c 3 t) (Rect.unit ![256, 0] ![256, 1024] inb_S512x1024_S256x1024_256_0))) (ix2 r l) = (A m c).dx (rowOf t (hi r)) l := by
  rw [pay20_at, x_hi, t_hi, vec_g]; rfl
theorem dgl_hi (r : Fin 256) (l : Fin 1024) : k0_pay23 (F := Ideal) (k0_pay10 (F := Ideal) (iblk m c 5 t) (View.ld (iblk m c 1 t) (Rect.unit ![256, 0] ![256, 1024] inb_S512x1024_S256x1024_256_0)))
    (k0_pay11 (F := Ideal) (iblk m c 6 t) (View.ld (iblk m c 2 t) (Rect.unit ![256, 0] ![256, 256] inb_S512x256_S256x256_256_0))) (k0_pay20 (F := Ideal) (k0_pay7 (iblk m c 4 t)) (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0))) (k0_pay19 (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0)))) (k0_pay14 (iblk m c 4 t)) (View.ld (iblk m c 3 t) (Rect.unit ![256, 0] ![256, 1024] inb_S512x1024_S256x1024_256_0))) (ix2 r l) = DGL (A m c) (ix2 (rowOf t (hi r)) l) := by
  rw [pay23_at, dx_hi, gate_hi, emb_hi]; rfl
theorem dpp_hi (r : Fin 256) (l : Fin 1024) : k0_pay24 (F := Ideal) (k0_pay10 (F := Ideal) (iblk m c 5 t) (View.ld (iblk m c 1 t) (Rect.unit ![256, 0] ![256, 1024] inb_S512x1024_S256x1024_256_0)))
    (k0_pay20 (F := Ideal) (k0_pay7 (iblk m c 4 t)) (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0))) (k0_pay19 (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0)))) (k0_pay14 (iblk m c 4 t)) (View.ld (iblk m c 3 t) (Rect.unit ![256, 0] ![256, 1024] inb_S512x1024_S256x1024_256_0))) (ix2 r l) = DPP (A m c) (ix2 (rowOf t (hi r)) l) := by
  rw [pay24_at, dx_hi, gate_hi]; rfl
theorem loss_hi (a : FVec Ideal S1x128 .f32) (j : Fin 128) : k0_pay16 (F := Ideal) (k0_pay19 (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0)))) (k0_pay14 (iblk m c 4 t)) (View.ld (iblk m c 3 t) (Rect.unit ![256, 0] ![256, 1024] inb_S512x1024_S256x1024_256_0)) a (ix2 0 j)
    = a (ix2 0 j) + H * ∑ r : Fin 256, (A m c).loss (rowOf t (hi r)) := by
  rw [pay16_at, vec_g]
  simp_rw [x_hi, t_hi]
  rfl
theorem dgf_hi (a : FVec Ideal S1x1024 .f32) (l : Fin 1024) : k0_pay22 (F := Ideal) (k0_pay21 (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0))) (k0_pay19 (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0)))) (k0_pay14 (iblk m c 4 t)) (View.ld (iblk m c 3 t) (Rect.unit ![256, 0] ![256, 1024] inb_S512x1024_S256x1024_256_0))) a (ix2 0 l)
    = a (ix2 0 l) + ∑ r : Fin 256, (A m c).dy (rowOf t (hi r)) l * ((A m c).x3 (rowOf t (hi r)) l * rmsScale N E ((A m c).x3 (rowOf t (hi r)))) := by
  rw [pay22_at, vec_g]
  refine congrArg (a (ix2 0 l) + ·) (Finset.sum_congr rfl fun r _ => ?_)
  rw [t_hi, show (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0))) (ix2 r l) = row (k0_pay12 (F := Ideal) (iblk m c 5 t) (iblk m c 6 t) (View.ld (iblk m c 1 t) (Rect.unit ![256, 0] ![256, 1024] inb_S512x1024_S256x1024_256_0)) (View.ld (iblk m c 2 t) (Rect.unit ![256, 0] ![256, 256] inb_S512x256_S256x256_256_0)) (View.ld (iblk m c 0 t) (Rect.unit ![256, 0] ![256, 1024] inb_S512x1024_S256x1024_256_0))) r l from rfl, x_hi]
  rfl

end Cert.PleIdeal.Grad
end
-- ==== Proof.PleValue.lean ====
module

public import proofs.«01_k».proof.Proof.PleBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The three results of the kernel that are written row by row. -/

namespace Cert.PleIdeal.Grad

open Cert.PleIdeal Cert.PleIdeal.Gen Cert.Math

variable (m : (ℓ : Loc nD τ sig) → Buf (Elt Ideal) ℓ)

/-- Where an entry of a block of the result lies. -/
theorem emb8 (t : Fin cfg0.N) (y : ((cfg0.win 8).xblock (cfg0.grid.coords t)).Idx) (r : Fin 512) (l : Fin 1024)
    (h0 : (y 0).val = r.val) (h1 : (y 1).val = l.val) :
    ((View.whole main_v16_1).slice (win0_8.rect t)).emb y = ix2 (rowOf t r) l := by
  blk_ext [rowOf, idx t]

/-- Where an entry of a block of the result lies. -/
theorem emb9 (t : Fin cfg0.N) (y : ((cfg0.win 9).xblock (cfg0.grid.coords t)).Idx) (r : Fin 512) (l : Fin 1024)
    (h0 : (y 0).val = r.val) (h1 : (y 1).val = l.val) :
    ((View.whole main_v16_2).slice (win0_9.rect t)).emb y = ix2 (rowOf t r) l := by
  blk_ext [rowOf, idx t]

/-- Where an entry of a block of the result lies. -/
theorem emb10 (t : Fin cfg0.N) (y : ((cfg0.win 10).xblock (cfg0.grid.coords t)).Idx) (r : Fin 512) (l : Fin 1024)
    (h0 : (y 0).val = r.val) (h1 : (y 1).val = l.val) :
    ((View.whole main_v16_3).slice (win0_10.rect t)).emb y = ix2 (rowOf t r) l := by
  blk_ext [rowOf, idx t]

set_option maxHeartbeats 3200000 in
theorem final8 (c : Dev nD) : (dats m 0 c).arrAt 8 (cfgs 0).N = DX (A m c) := by
  refine (dats m 0 c).arrAt_eq_of_covers 8 _ (by decide +kernel) fun t _ y => ?_
  blk_simp
  rw [after0_8]
  by_cases h : t.val % 16 = 0
  · rw [outsAt0_A m c t h]
    dsimp only
    frame_out
    clear h
    canon_tiles x h
    · idx_vars x
      rw [emb8 t y (hi x0) x1 h0 h1]
      simp only [first13, second12, second13, second10, second11, second20, second16, second22, second23, second24]
      exact dx_hi m c t x0 x1
    · idx_vars x
      rw [emb8 t y (lo x0) x1 h0 h1]
      simp only [first13, second12, second13, second10, second11, second20, second16, second22, second23, second24]
      exact dx_lo m c t x0 x1
  · rw [outsAt0_B m c t h]
    dsimp only
    frame_out
    clear h
    canon_tiles x h
    · idx_vars x
      rw [emb8 t y (hi x0) x1 h0 h1]
      simp only [first13, second12, second13, second10, second11, second20, second16, second22, second23, second24]
      exact dx_hi m c t x0 x1
    · idx_vars x
      rw [emb8 t y (lo x0) x1 h0 h1]
      simp only [first13, second12, second13, second10, second11, second20, second16, second22, second23, second24]
      exact dx_lo m c t x0 x1

set_option maxHeartbeats 3200000 in
theorem final9 (c : Dev nD) : (dats m 0 c).arrAt 9 (cfgs 0).N = DGL (A m c) := by
  refine (dats m 0 c).arrAt_eq_of_covers 9 _ (by decide +kernel) fun t _ y => ?_
  blk_simp
  rw [after0_9]
  by_cases h : t.val % 16 = 0
  · rw [outsAt0_A m c t h]
    dsimp only
    frame_out
    clear h
    canon_tiles x h
    · idx_vars x
      rw [emb9 t y (hi x0) x1 h0 h1]
      simp only [first13, second12, second13, second10, second11, second20, second16, second22, second23, second24]
      exact dgl_hi m c t x0 x1
    · idx_vars x
      rw [emb9 t y (lo x0) x1 h0 h1]
      simp only [first13, second12, second13, second10, second11, second20, second16, second22, second23, second24]
      exact dgl_lo m c t x0 x1
  · rw [outsAt0_B m c t h]
    dsimp only
    frame_out
    clear h
    canon_tiles x h
    · idx_vars x
      rw [emb9 t y (hi x0) x1 h0 h1]
      simp only [first13, second12, second13, second10, second11, second20, second16, second22, second23, second24]
      exact dgl_hi m c t x0 x1
    · idx_vars x
      rw [emb9 t y (lo x0) x1 h0 h1]
      simp only [first13, second12, second13, second10, second11, second20, second16, second22, second23, second24]
      exact dgl_lo m c t x0 x1

set_option maxHeartbeats 3200000 in
theorem final10 (c : Dev nD) : (dats m 0 c).arrAt 10 (cfgs 0).N = DPP (A m c) := by
  refine (dats m 0 c).arrAt_eq_of_covers 10 _ (by decide +kernel) fun t _ y => ?_
  blk_simp
  rw [after0_10]
  by_cases h : t.val % 16 = 0
  · rw [outsAt0_A m c t h]
    dsimp only
    frame_out
    clear h
    canon_tiles x h
    · idx_vars x
      rw [emb10 t y (hi x0) x1 h0 h1]
      simp only [first13, second12, second13, second10, second11, second20, second16, second22, second23, second24]
      exact dpp_hi m c t x0 x1
    · idx_vars x
      rw [emb10 t y (lo x0) x1 h0 h1]
      simp only [first13, second12, second13, second10, second11, second20, second16, second22, second23, second24]
      exact dpp_lo m c t x0 x1
  · rw [outsAt0_B m c t h]
    dsimp only
    frame_out
    clear h
    canon_tiles x h
    · idx_vars x
      rw [emb10 t y (hi x0) x1 h0 h1]
      simp only [first13, second12, second13, second10, second11, second20, second16, second22, second23, second24]
      exact dpp_hi m c t x0 x1
    · idx_vars x
      rw [emb10 t y (lo x0) x1 h0 h1]
      simp only [first13, second12, second13, second10, second11, second20, second16, second22, second23, second24]
      exact dpp_lo m c t x0 x1

end Cert.PleIdeal.Grad
end
-- ==== Proof.PleSum.lean ====
module

public import proofs.«01_k».proof.Proof.PleBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The two results of the kernel that are added up over the blocks of rows. -/

namespace Cert.PleIdeal.Grad

open Cert.PleIdeal Cert.PleIdeal.Gen Cert.Math

variable (m : (ℓ : Loc nD τ sig) → Buf (Elt Ideal) ℓ)

/-- What one block of 512 rows adds to the result. -/
def part7 (c : Dev nD) (t : Fin cfg0.N) (l : Fin 128) : EReal :=
  H * ∑ r : Fin 256, (A m c).loss (rowOf t (lo r)) + H * ∑ r : Fin 256, (A m c).loss (rowOf t (hi r))

theorem first7 (c : Dev nD) (t : Fin cfg0.N) (h : t.val % 16 = 0) (l : Fin 128) :
    (outsAt0 m c t.val t.isLt).1 (ix2 0 l) = 0 + part7 m c t l := by
  rw [outsAt0_A m c t h]
  dsimp only
  frame_out
  rw [show k0_pay5 (F := Ideal) = fun _ => (0 : EReal) by funext i; unfold k0_pay5; pointwise]
  simp only [first13, second12, second13, second16, second22]
  refine (loss_hi m c t _ l).trans ?_
  refine (congrArg (· + _) (loss_lo m c t _ l)).trans ?_
  exact add_assoc _ _ _

theorem next7 (c : Dev nD) (t : Fin cfg0.N) (h : ¬ t.val % 16 = 0) (l : Fin 128) :
    (outsAt0 m c t.val t.isLt).1 (ix2 0 l) = (outsAt0 m c (t.val - 1) (by omega)).1 (ix2 0 l) + part7 m c t l := by
  rw [outsAt0_B m c t h]
  dsimp only
  frame_out
  simp only [first13, second12, second13, second16, second22]
  refine (loss_hi m c t _ l).trans ?_
  refine (congrArg (· + _) (loss_lo m c t _ l)).trans ?_
  exact add_assoc _ _ _

theorem final7 (c : Dev nD) : (dats m 0 c).arrAt 7 (cfgs 0).N = LOSS (A m c) := by
  refine (dats m 0 c).arrAt_eq_of_after_last 7 t0_15 (by decide +kernel) _ fun j => ?_
  blk_simp
  rw [after0_7]
  idx_vars j
  obtain rfl : j0 = 0 := Subsingleton.elim _ _
  refine (Pipeline.eq_sum_fin_of_reset_step_apply_last (fun n h => (outsAt0 m c n h).1) 16 (fun _ => 0)
    (fun p j => part7 m c p (j 1)) (fun t h j => ?_) (fun t h j => ?_) (le_of_eq N_0) t0_15 rfl (ix2 0 j1)).trans ?_
  · idx_vars j
    obtain rfl : j0 = 0 := Subsingleton.elim _ _
    exact first7 m c t h _
  · idx_vars j
    obtain rfl : j0 = 0 := Subsingleton.elim _ _
    exact next7 m c t h _
  · rw [zero_add]
    exact Fintype.sum_equiv (finCongr N_0) _ _ fun p => rfl

/-- What one block of 512 rows adds to the result. -/
def part11 (c : Dev nD) (t : Fin cfg0.N) (l : Fin 1024) : EReal :=
  ∑ r : Fin 256, (A m c).dy (rowOf t (lo r)) l * ((A m c).x3 (rowOf t (lo r)) l * rmsScale N E ((A m c).x3 (rowOf t (lo r))))
    + ∑ r : Fin 256, (A m c).dy (rowOf t (hi r)) l * ((A m c).x3 (rowOf t (hi r)) l * rmsScale N E ((A m c).x3 (rowOf t (hi r))))

theorem part11_eq (c : Dev nD) (t : Fin cfg0.N) (l : Fin 1024) : part11 m c t l = ∑ r : Fin 512,
    (A m c).dy (rowOf t r) l * ((A m c).x3 (rowOf t r) l * rmsScale N E ((A m c).x3 (rowOf t r))) := by
  rw [Fin.sum_univ_tiles 2 256 rfl, Fin.sum_univ_two, part11]
  refine congrArg₂ (· + ·) ?_ ?_
  · refine Finset.sum_congr rfl fun r _ => ?_
    rw [show lo r = ⟨(0 : Fin 2).val * 256 + r.val, _⟩ from Fin.ext (by simp [lo])]
  · refine Finset.sum_congr rfl fun r _ => ?_
    rw [show hi r = ⟨(1 : Fin 2).val * 256 + r.val, _⟩ from Fin.ext (by simp [hi])]

theorem first11 (c : Dev nD) (t : Fin cfg0.N) (h : t.val % 16 = 0) (l : Fin 1024) :
    (outsAt0 m c t.val t.isLt).2.2.2.2 (ix2 0 l) = 0 + part11 m c t l := by
  rw [outsAt0_A m c t h]
  dsimp only
  frame_out
  rw [show k0_pay6 (F := Ideal) = fun _ => (0 : EReal) by funext i; unfold k0_pay6; pointwise]
  simp only [first13, second12, second13, second16, second22]
  refine (dgf_hi m c t _ l).trans ?_
  refine (congrArg (· + _) (dgf_lo m c t _ l)).trans ?_
  exact add_assoc _ _ _

theorem next11 (c : Dev nD) (t : Fin cfg0.N) (h : ¬ t.val % 16 = 0) (l : Fin 1024) :
    (outsAt0 m c t.val t.isLt).2.2.2.2 (ix2 0 l) = (outsAt0 m c (t.val - 1) (by omega)).2.2.2.2 (ix2 0 l) + part11 m c t l := by
  rw [outsAt0_B m c t h]
  dsimp only
  frame_out
  simp only [first13, second12, second13, second16, second22]
  refine (dgf_hi m c t _ l).trans ?_
  refine (congrArg (· + _) (dgf_lo m c t _ l)).trans ?_
  exact add_assoc _ _ _

theorem final11 (c : Dev nD) : (dats m 0 c).arrAt 11 (cfgs 0).N = DGF (A m c) := by
  refine (dats m 0 c).arrAt_eq_of_after_last 11 t0_15 (by decide +kernel) _ fun j => ?_
  blk_simp
  rw [after0_11]
  idx_vars j
  obtain rfl : j0 = 0 := Subsingleton.elim _ _
  refine (Pipeline.eq_sum_fin_of_reset_step_apply_last (fun n h => (outsAt0 m c n h).2.2.2.2) 16 (fun _ => 0)
    (fun p j => part11 m c p (j 1)) (fun t h j => ?_) (fun t h j => ?_) (le_of_eq N_0) t0_15 rfl (ix2 0 j1)).trans ?_
  · idx_vars j
    obtain rfl : j0 = 0 := Subsingleton.elim _ _
    exact first11 m c t h _
  · idx_vars j
    obtain rfl : j0 = 0 := Subsingleton.elim _ _
    exact next11 m c t h _
  · rw [zero_add]
    refine (Finset.sum_congr rfl fun p _ => part11_eq m c p j1).trans ?_
    refine Fin.sum_mul_add_congr fun p r hl => ?_
    have e : (⟨p.val * 512 + r.val, hl⟩ : Fin 8192) = rowOf p r := Fin.ext (by show p.val * 512 + r.val = 512 * p.val + r.val; omega)
    rw [e]
    rfl

end Cert.PleIdeal.Grad
end
-- ==== Proof.PleRef.lean ====
module

public import proofs.«01_k».proof.Proof.PleBlock
public import proofs.«01_k».proof.Proof.Gen.PleRefIdeal.Read

@[expose] public section

set_option maxRecDepth 16384

noncomputable section

open Idealize.ShloMosaic Idealize.ShloMosaic.TcCoe Idealize.SL.Sem
open Idealize.ShloMosaic.Pipeline (Dat)

/-! The derivative of the last part's forward lines, entry by entry, on finite arrays. -/

namespace Cert.PleClaims

open Cert.PleRefIdeal Cert.PleRefIdeal.Gen Cert.PleRefIdeal.Read Cert.Math
open Cert.PleIdeal.Grad

variable (a : Arr) (r : Fin 8192) (l : Fin 1024)

theorem gate_at : val_main_v19 (F := Ideal) a.x a.g3 a.wg (ix2 r l) = a.gate r l := by
  rw [Arr.gate, gateOf, zero_sub]
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v14, val_main_v15, val_main_cst_2, val_main_v16, val_main_v17, val_main_cst_3, val_main_v18, val_main_v19, Arr.n3, rmsScale, rmsQ]

theorem emb_at : val_main_v13 (F := Ideal) a.p a.wp (ix2 r l) = a.emb r l := by
  pointwise [val_main_v13, Arr.emb, embOf]

theorem x3_at : val_main_v24 (F := Ideal) a.x a.g3 a.p a.wg a.wp (ix2 r l) = a.x3 r l := by
  rw [val_main_v24_apply, val_main_v23_apply, gate_at, emb_at]
  rfl

/-- The error against the target. -/
theorem err_at : val_main_v41 (F := Ideal) a.x a.g3 a.p a.t a.gf a.wg a.wp (ix2 r l) = errOf (a.x3 r) a.g (fun k => a.t (ix2 r k)) l := by
  have h := x3_at a
  simp only [val_main_v25, val_main_cst_5, val_main_v26, val_main_v27, val_main_cst_6, val_main_v28, val_main_v29, val_main_cst_7, val_main_v30, val_main_v31, val_main_v32, val_main_v33, val_main_cst_8, val_main_v34, val_main_v35, val_main_v36, val_main_v37, val_main_v38, val_main_v39, val_main_v40, val_main_v41]
  generalize val_main_v24 (F := Ideal) a.x a.g3 a.p a.wg a.wp = X at h ⊢
  pointwise [errOf, rmsScale, rmsQ, Arr.g]
  simp only [h]

/-- The words of one half, one, two and the row length's inverse. -/
theorem word_H : H = ((1 / 2 : ℝ) : EReal) := by
  simp [H, Ideal.ofBits, Ideal.ieee]; rw [← EReal.coe_mul]; norm_num
theorem word_U : U = ((1 : ℝ) : EReal) := by
  simp [U, Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_D : D = ((1 / 1024 : ℝ) : EReal) := by
  simp [D, Ideal.ofBits, Ideal.ieee]; rw [← EReal.coe_mul]; norm_num

/-- The arrays are finite. -/
structure Finite (a : Arr) : Prop where
  x : ∀ i, IsReal (a.x i)
  g3 : ∀ i, IsReal (a.g3 i)
  p : ∀ i, IsReal (a.p i)
  t : ∀ i, IsReal (a.t i)
  gf : ∀ i, IsReal (a.gf i)
  wg : ∀ i, IsReal (a.wg i)
  wp : ∀ i, IsReal (a.wp i)

variable {a} (h : Finite a)
include h

theorem scale_real {x : Fin 1024 → EReal} (hx : ∀ k, IsReal (x k)) : IsReal (rmsScale N E x) :=
  rmsScale_real ⟨1024, by norm_num, word_1024⟩ word_eps hx

theorem n3_real : IsReal (a.n3 r l) := ((h.x _).mul (scale_real h fun k => h.x _)).mul (h.g3 _)

theorem gate_real : IsReal (a.gate r l) := by
  obtain ⟨s, hs⟩ : IsReal (∑ k, a.n3 r k * a.wg (ix2 k l)) := IsReal.sum fun k => (n3_real r k h).mul (h.wg _)
  rw [Arr.gate, gateOf, hs, zero_sub, ← EReal.coe_neg, exp_real, word_U, ← EReal.coe_add, div_real (by positivity)]
  exact isReal_coe _

theorem x3_real : IsReal (a.x3 r l) :=
  (h.x _).add ((gate_real r l h).mul (IsReal.sum fun k => (h.p _).mul (h.wp _)))

theorem err_real : IsReal (errOf (a.x3 r) a.g (fun k => a.t (ix2 r k)) l) :=
  (((x3_real r l h).mul (scale_real h fun k => x3_real r k h)).mul (h.gf _)).sub (h.t _)

theorem dy_real : IsReal (a.dy r l) := (err_real r l h).mul ⟨_, word_D⟩

theorem loss_real : IsReal (a.loss r) := by
  obtain ⟨s, hs⟩ : IsReal (∑ l, errOf (a.x3 r) a.g (fun k => a.t (ix2 r k)) l * errOf (a.x3 r) a.g (fun k => a.t (ix2 r k)) l) :=
    IsReal.sum fun l => (err_real r l h).mul (err_real r l h)
  rw [Arr.loss, lossOf, hs, show N = _ from word_1024, div_real (by norm_num)]
  exact isReal_coe _

/-- The gradient at the last norm's output. -/
theorem dy_at : val_main_v55 (F := Ideal) a.x a.g3 a.p a.t a.gf a.wg a.wp (ix2 r l) = a.dy r l := by
  have e := err_at a
  obtain ⟨s, hs⟩ := err_real r l h
  simp only [val_main_cst_9, val_main_v43, val_main_v44, val_main_cst_14, val_main_cst_15, val_main_v50, val_main_v51, val_main_cst_16, val_main_v52, val_main_v53, val_main_v54, val_main_v55]
  generalize val_main_v41 (F := Ideal) a.x a.g3 a.p a.t a.gf a.wg a.wp = X at e ⊢
  pointwise
  rw [e, Arr.dy, dyOf, hs, word_two, word_1024, word_D]
  change Ideal.div H _ * _ = _
  rw [word_H, div_real (by norm_num), ← EReal.coe_mul, ← EReal.coe_mul, ← EReal.coe_mul]
  congr 1
  ring

/-- The gradient of the stream. -/
theorem dx_at : val_main_v75 (F := Ideal) a.x a.g3 a.p a.t a.gf a.wg a.wp (ix2 r l) = a.dx r l := by
  have e := x3_at a
  have d := fun r l => dy_at r l h
  rw [Arr.dx, rmsBwd_eq (N := N) (E := E) ⟨1024, by norm_num, word_1024⟩ word_eps word_neg_half (x := a.x3 r) (g := a.g) (dy := a.dy r) (fun k => x3_real r k h) (fun k => h.gf _)
    (fun k => dy_real r k h) l]
  simp only [val_main_v25, val_main_cst_5, val_main_v26, val_main_v27, val_main_cst_6, val_main_v28, val_main_v29, val_main_cst_7, val_main_v30, val_main_v31, val_main_v32, val_main_v33, val_main_cst_8, val_main_v34, val_main_v35, val_main_v36, val_main_v38, val_main_v39, val_main_v59, val_main_v60, val_main_v62, val_main_cst_19, val_main_v63, val_main_v64, val_main_v65, val_main_v66, val_main_v67, val_main_cst_20, val_main_v68, val_main_v69, val_main_cst_21, val_main_v70, val_main_v71, val_main_v72, val_main_v73, val_main_v74, val_main_v75]
  generalize val_main_v24 (F := Ideal) a.x a.g3 a.p a.wg a.wp = X at e ⊢
  generalize val_main_v55 (F := Ideal) a.x a.g3 a.p a.t a.gf a.wg a.wp = Y at d ⊢
  simp only [rmsMeanBack, rmsScale, rmsQ, Arr.g]
  pointwise
  simp only [Fin.sum_univ_one, e, d]

theorem ref_dx : val_main_v75 (F := Ideal) a.x a.g3 a.p a.t a.gf a.wg a.wp = DX a := by
  funext i
  obtain ⟨r, l, rfl⟩ : ∃ r l, i = ix2 r l := ⟨i 0, i 1, eq_ix2 i⟩
  exact dx_at r l h

theorem ref_dgl : val_main_v80 (F := Ideal) a.x a.g3 a.p a.t a.gf a.wg a.wp = DGL a := by
  funext i
  obtain ⟨r, l, rfl⟩ : ∃ r l, i = ix2 r l := ⟨i 0, i 1, eq_ix2 i⟩
  refine (val_main_v80_apply ..).trans ?_
  rw [val_main_v78_apply, val_main_v77_apply, val_main_v22_apply, val_main_v21_apply, dx_at r l h, emb_at, gate_at]
  exact (mul_assoc _ _ _).symm

theorem ref_dpp : val_main_v81 (F := Ideal) a.x a.g3 a.p a.t a.gf a.wg a.wp = DPP a := by
  funext i
  obtain ⟨r, l, rfl⟩ : ∃ r l, i = ix2 r l := ⟨i 0, i 1, eq_ix2 i⟩
  refine (val_main_v81_apply ..).trans ?_
  rw [val_main_v76_apply, dx_at r l h, gate_at]
  exact mul_comm _ _

theorem ref_dgf : val_main_v82 (F := Ideal) a.x a.g3 a.p a.t a.gf a.wg a.wp = DGF a := by
  have e := x3_at a
  have d := fun r l => dy_at r l h
  funext i
  idx_vars i
  obtain rfl : i0 = 0 := Subsingleton.elim _ _
  simp only [val_main_v25, val_main_cst_5, val_main_v26, val_main_v27, val_main_cst_6, val_main_v28, val_main_v29, val_main_cst_7, val_main_v30, val_main_v31, val_main_v32, val_main_v36, val_main_v37, val_main_v56, val_main_cst_17, val_main_v57, val_main_v58, val_main_cst_18, val_main_v61, val_main_v82]
  generalize val_main_v24 (F := Ideal) a.x a.g3 a.p a.wg a.wp = X at e ⊢
  generalize val_main_v55 (F := Ideal) a.x a.g3 a.p a.t a.gf a.wg a.wp = Y at d ⊢
  pointwise [DGF, rmsScale, rmsQ]
  simp only [Fin.sum_univ_one, e, d]
  exact Finset.sum_congr rfl fun _ _ => mul_comm _ _

omit h in
/-- The 8192 rows as 16 blocks of twice 256. -/
theorem sum_rows {M : Type*} [AddCommMonoid M] (f : Fin 8192 → M) :
    ∑ p : Fin 16, (∑ r : Fin 256, f (at512 p (lo r)) + ∑ r : Fin 256, f (at512 p (hi r))) = ∑ r, f r := by
  rw [Fin.sum_univ_tiles 16 512 rfl]
  refine Finset.sum_congr rfl fun p _ => ?_
  rw [Fin.sum_univ_tiles 2 256 rfl, Fin.sum_univ_two]
  refine congrArg₂ (· + ·) (Finset.sum_congr rfl fun r _ => congrArg f (Fin.ext ?_)) (Finset.sum_congr rfl fun r _ => congrArg f (Fin.ext ?_))
  · simp only [at512, lo, Fin.val_zero]; omega
  · simp only [at512, hi, Fin.val_one]; omega

theorem ref_loss : val_main_v79 (F := Ideal) a.x a.g3 a.p a.t a.gf a.wg a.wp = LOSS a := by
  have e := err_at a
  funext i
  idx_vars i
  have hl : val_main_v79 (F := Ideal) a.x a.g3 a.p a.t a.gf a.wg a.wp (ix2 i0 i1) = H * ∑ r, a.loss r := by
    simp only [val_main_v42, val_main_cst_10, val_main_v45, val_main_cst_11, val_main_v46, val_main_v47, val_main_cst_12, val_main_v48, val_main_cst_13, val_main_v49, val_main_v79]
    generalize val_main_v41 (F := Ideal) a.x a.g3 a.p a.t a.gf a.wg a.wp = X at e ⊢
    pointwise [Arr.loss, lossOf]
    simp only [e]
  obtain ⟨f, hf⟩ := exists_reals fun r => loss_real r h
  rw [hl]
  simp only [LOSS, hf, word_H, coe_sum, ← EReal.coe_mul, ← EReal.coe_add]
  congr 1
  simp only [← mul_add, ← Finset.mul_sum]
  rw [sum_rows f]

end Cert.PleClaims
end
-- ==== Proof.Ple.lean ====
module

public import proofs.«01_k».proof.Proof.PleValue
public import proofs.«01_k».proof.Proof.PleSum
public import proofs.«01_k».proof.Proof.PleRef
public import proofs.«01_k».proof.Proof.Finite
public import proofs.«01_k».proof.Proof.Gen.PleRefIdeal.Read
public import proofs.«01_k».proof.Proof.Gen.Pre_finite_ple
public import proofs.«01_k».proof.Defs
public import proofs.«01_k».proof.Proof.Gen.Ple.Frame
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The claims about the kernel of the last part of the step: the loss, the gradients at the stream, the gate's argument,
    the embedding and the last norm's scale. -/

namespace Cert.PleClaims

open Cert.PleRefIdeal Cert.PleRefIdeal.Gen Cert.PleRefIdeal.Read Cert.Math
open Cert.PleIdeal.Grad (A LOSS DX DGL DPP DGF)

/-- The first program's frame. -/
theorem frame_kernel : Cert.quiescent_Ple := fun m ρ _ => Cert.Ple.Gen.frame m ρ

/-- The ideal program's frame, and the same under the precondition. -/
theorem frame_ideal : Cert.quiescent_PleIdeal := fun m ρ _ => Cert.PleIdeal.Gen.frame m ρ

/-- The reference's frame. -/
theorem frame_ref : Cert.quiescent_PleRefIdeal := fun m ρ _ =>
  (θ_run Cert.PleRefIdeal.defs _ _).mono (fun r h => ⟨fun c => (h c).2.2.2.2.2, sem_eq_zero_of_no_sems (by decide) r.2⟩)
    (Cert.PleRefIdeal.Value.run m ρ)

set_option maxHeartbeats 4000000 in
/-- All five results are the derivative's, on finite arrays. -/
theorem algebraic : Cert.algebraic_PleIdeal_PleRefIdeal_pre_finite_ple := by
  intro m g m' g' hpre hag
  refine ⟨fun c => LOSS (A m c), fun c => DX (A m c), fun c => DGL (A m c), fun c => DPP (A m c), fun c => DGF (A m c), ?_, ?_⟩
  · exact (θ_run _ _ _).mono (fun r h c => ⟨(Cert.PleIdeal.Value.post7 m r h c).trans (Cert.PleIdeal.Grad.final7 m c),
      (Cert.PleIdeal.Value.post8 m r h c).trans (Cert.PleIdeal.Grad.final8 m c),
      (Cert.PleIdeal.Value.post9 m r h c).trans (Cert.PleIdeal.Grad.final9 m c),
      (Cert.PleIdeal.Value.post10 m r h c).trans (Cert.PleIdeal.Grad.final10 m c),
      (Cert.PleIdeal.Value.post11 m r h c).trans (Cert.PleIdeal.Grad.final11 m c), Cert.PleIdeal.Value.kept_main_arg0 m r h c,
      Cert.PleIdeal.Value.kept_main_arg1 m r h c, Cert.PleIdeal.Value.kept_main_arg2 m r h c,
      Cert.PleIdeal.Value.kept_main_arg3 m r h c, Cert.PleIdeal.Value.kept_main_arg4 m r h c,
      Cert.PleIdeal.Value.kept_main_arg5 m r h c, Cert.PleIdeal.Value.kept_main_arg6 m r h c⟩)
      (Cert.PleIdeal.Gen.run_main m g)
  · have fin : ∀ c, Finite (A m c) := fun c => by
      obtain ⟨p0, p1, p2, p3, p4, p5, p6⟩ := hpre c
      exact ⟨isReal_of_olt (fun _ => rfl) p0, isReal_of_olt (fun _ => rfl) p1, isReal_of_olt (fun _ => rfl) p2,
        isReal_of_olt (fun _ => rfl) p3, isReal_of_olt (fun _ => rfl) p4, isReal_of_olt (fun _ => rfl) p5,
        isReal_of_olt (fun _ => rfl) p6⟩
    refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.PleRefIdeal.Value.run m' g')
    all_goals obtain ⟨a0, a1, a2, a3, a4, a5, a6⟩ := hag c
    · rw [val_main_v79_eq, a0, a1, a2, a3, a4, a5, a6]
      exact ref_loss (a := A m c) (fin c)
    · rw [val_main_v75_eq, a0, a1, a2, a3, a4, a5, a6]
      exact ref_dx (a := A m c) (fin c)
    · rw [val_main_v80_eq, a0, a1, a2, a3, a4, a5, a6]
      exact ref_dgl (a := A m c) (fin c)
    · rw [val_main_v81_eq, a0, a1, a2, a3, a4, a5, a6]
      exact ref_dpp (a := A m c) (fin c)
    · rw [val_main_v82_eq, a0, a1, a2, a3, a4, a5, a6]
      exact ref_dgf (a := A m c) (fin c)

end Cert.PleClaims

end
-- ==== Proof.QkHost.lean ====
module

public import Idealize.ShloMosaic.Lib.StableHlo.RunRead
public import Idealize.ShloMosaic.Lib.Pipeline.ValueKit
public import proofs.«01_k».proof.Proof.Gen.QkIdeal.Frame

@[expose] public section

set_option maxRecDepth 16384

noncomputable section

open Idealize.ShloMosaic Idealize.ShloMosaic.TcCoe Idealize.SL.Sem
open Idealize.ShloMosaic.Pipeline (Dat)

/-! The rotary embedding's gradient: what it is, and the arrays the host prepares for the region that computes it. -/

namespace Cert.QkIdeal.Grad

open Cert.QkIdeal Cert.QkIdeal.Gen

/-- Lane `d` of head `h`, and the head and the lane of a column. -/
def lane (h : Fin 8) (d : Fin 128) : Fin 1024 := ⟨128 * h.val + d.val, by omega⟩
def hd (i : Fin 1024) : Fin 8 := ⟨i.val / 128, by omega⟩
def ln (i : Fin 1024) : Fin 128 := ⟨i.val % 128, by omega⟩
theorem hd_lane (h d) : hd (lane h d) = h := Fin.ext (by simp only [lane, hd]; omega)
theorem ln_lane (h d) : ln (lane h d) = d := Fin.ext (by simp only [lane, ln]; omega)
theorem lane_eq (i : Fin 1024) : i = lane (hd i) (ln i) := Fin.ext (by simp only [lane, hd, ln]; omega)

/-- One head's lanes of an array of eight heads of 96 lanes, zero from lane 96 on. -/
def padded (x : FVec Ideal S8192x768 .f32) (r : Fin 8192) (h : Fin 8) (d : Fin 128) : EReal :=
  if e : d.val < 96 then x (ix2 r ⟨96 * h.val + d.val, by omega⟩) else 0

/-- The angle of row `r` at frequency `k`. -/
def angle : FVec Ideal S8192x16 .f32 := fun i =>
  FloatOps.sitofp (F := Ideal) .f32 (BitVec.ofNat 32 (i 0).val) * Ideal.pow (Ideal.ofBits .f32 0x461C4000#32)
    (Ideal.div (-(Ideal.ofBits .f32 0x40000000#32 * FloatOps.sitofp (F := Ideal) .f32 (BitVec.ofNat 32 (i 1).val))) (Ideal.ofBits .f32 0x42000000#32))

def cosOf (r : Fin 8192) (k : Fin 16) : EReal := Ideal.cos (angle (ix2 r k))
def sinOf (r : Fin 8192) (k : Fin 16) : EReal := Ideal.sin (angle (ix2 r k))

variable (m : (ℓ : Loc nD τ sig) → Buf (Elt Ideal) ℓ) (c : Dev nD)

theorem host_angle (r : Fin 8192) (k : Fin 16) : (V m c main_v17 (ix2 r k) : EReal) = angle (ix2 r k) := by
  unfold V V0
  generalize (fun b => m (c, b)) = W
  simp (disch := decide) only [StableHlo.readAfter, StableHlo.readUpto, StableHlo.unary_result', StableHlo.nullary_result', StableHlo.binary_result', StableHlo.reshape_result', StableHlo.nary_result']
  pointwise [angle]

/-- The arrays' lanes, with zeros from lane 96 on. -/
def padLanes (x : FVec Ideal S8192x768 .f32) : FVec Ideal S8192x1024 .f32 :=
  shapeCast S8192x1024 (pad S8192x8x128 ![0, 0, 0] ![0, 0, 32] ![0, 0, 0] (shapeCast S8192x8x96 x shapeCasts_S8192x768_S8192x8x96)
    (sitofp (F := Ideal) .f32 (constantI S_ 32 0#32)) pads_S8192x8x96_S8192x8x128_000_000_0320 h_S_) shapeCasts_S8192x8x128_S8192x1024

theorem zero_int : FloatOps.sitofp (F := Ideal) .f32 (0#32) = (0 : EReal) := by
  show (((0#32).toInt : ℝ) : EReal) = 0
  simp

theorem padLanes_apply (x : FVec Ideal S8192x768 .f32) (r : Fin 8192) (h : Fin 8) (d : Fin 128) :
    padLanes x (ix2 r (lane h d)) = padded x r h d := by
  have e1 : (128 * h.val + d.val) / 128 = h.val := by omega
  have e2 : (128 * h.val + d.val) % 128 = d.val := by omega
  unfold padLanes
  pointwise [lane, padded]
  simp only [e1, e2, mul_comm h.val, zero_int]

theorem host_dq (r : Fin 8192) (h : Fin 8) (d : Fin 128) :
    (V m c main_v35 (ix2 r (lane h d)) : EReal) = padded (m ((c : Thread nD τ).loc main_arg0)) r h d := by
  unfold V V0
  refine Eq.trans ?_ (padLanes_apply (m ((c : Thread nD τ).loc main_arg0)) r h d)
  show _ = padLanes ((fun b => m (c, b)) (Proc.devRef .tc main_arg0)) _
  generalize (fun b => m (c, b)) = W
  simp (disch := decide) only [StableHlo.readAfter, StableHlo.readUpto, StableHlo.unary_result', StableHlo.nullary_result', StableHlo.binary_result', StableHlo.reshape_result', StableHlo.nary_result']
  rfl

theorem host_dk (r : Fin 8192) (h : Fin 8) (d : Fin 128) :
    (V m c main_v38 (ix2 r (lane h d)) : EReal) = padded (m ((c : Thread nD τ).loc main_arg1)) r h d := by
  unfold V V0
  refine Eq.trans ?_ (padLanes_apply (m ((c : Thread nD τ).loc main_arg1)) r h d)
  show _ = padLanes ((fun b => m (c, b)) (Proc.devRef .tc main_arg1)) _
  generalize (fun b => m (c, b)) = W
  simp (disch := decide) only [StableHlo.readAfter, StableHlo.readUpto, StableHlo.unary_result', StableHlo.nullary_result', StableHlo.binary_result', StableHlo.reshape_result', StableHlo.nary_result']
  rfl

/-- Four pieces of a row of 128 lanes, of 64, 16, 16 and 32 lanes, side by side. -/
def cat4 (x : FVec Ideal S8192x64 .f32) (y z : FVec Ideal S8192x16 .f32) (w : FVec Ideal S8192x32 .f32) : FVec Ideal S8192x128 .f32 :=
  concatenate S8192x128 1 [⟨S8192x64, x⟩, ⟨S8192x16, y⟩, ⟨S8192x16, z⟩, ⟨S8192x32, w⟩] concatenates_S8192x64_S8192x16_S8192x16_S8192x32_S8192x128_d1

theorem cat4_apply (x : FVec Ideal S8192x64 .f32) (y z : FVec Ideal S8192x16 .f32) (w : FVec Ideal S8192x32 .f32) (r : Fin 8192) (d : Fin 128) :
    cat4 x y z w (ix2 r d) = if e : d.val < 64 then x (ix2 r ⟨d.val, e⟩) else if e : d.val - 64 < 16 then y (ix2 r ⟨d.val - 64, e⟩)
      else if e : d.val - 64 - 16 < 16 then z (ix2 r ⟨d.val - 64 - 16, e⟩) else w (ix2 r ⟨d.val - 64 - 16 - 16, by omega⟩) := by
  unfold cat4
  pointwise

/-- The tables: factors of a lane itself, of the lane 16 below and of the lane 16 above. -/
def tabC (r : Fin 8192) (d : Fin 128) : EReal :=
  if d.val < 64 then 1 else if e : d.val - 64 < 16 then cosOf r ⟨d.val - 64, e⟩
  else if e : d.val - 64 - 16 < 16 then cosOf r ⟨d.val - 64 - 16, e⟩ else 1
def tabA (r : Fin 8192) (d : Fin 128) : EReal :=
  if d.val < 64 then 0 else if e : d.val - 64 < 16 then -sinOf r ⟨d.val - 64, e⟩ else 0
def tabB (r : Fin 8192) (d : Fin 128) : EReal :=
  if d.val < 64 then 0 else if d.val - 64 < 16 then 0 else if e : d.val - 64 - 16 < 16 then sinOf r ⟨d.val - 64 - 16, e⟩ else 0

set_option maxHeartbeats 4000000 in
/-- The host's table, by row and lane. -/
theorem host_tabC (r : Fin 8192) (d : Fin 128) : (V m c main_v25 (ix2 r d) : EReal) = tabC r d := by
  unfold V V0
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1, hostOps0_2, hostOps0_3, hostOps0_4]) W 34 (Proc.devRef .tc main_v21)) (StableHlo.upto (List.flatten [hostOps0, hostOps0_1, hostOps0_2, hostOps0_3, hostOps0_4]) W 34 (Proc.devRef .tc main_v18)) (StableHlo.upto (List.flatten [hostOps0, hostOps0_1, hostOps0_2, hostOps0_3, hostOps0_4]) W 34 (Proc.devRef .tc main_v18)) (StableHlo.upto (List.flatten [hostOps0, hostOps0_1, hostOps0_2, hostOps0_3, hostOps0_4]) W 34 (Proc.devRef .tc main_v24)) r d).trans ?_
  simp (disch := decide) only [StableHlo.readAfter, StableHlo.readUpto, StableHlo.unary_result', StableHlo.nullary_result', StableHlo.binary_result', StableHlo.reshape_result', StableHlo.nary_result']
  simp only [tabC, cosOf]

  pointwise [angle]
  split_ifs <;> rfl

set_option maxHeartbeats 4000000 in
/-- The host's table, by row and lane. -/
theorem host_tabA (r : Fin 8192) (d : Fin 128) : (V m c main_v29 (ix2 r d) : EReal) = tabA r d := by
  unfold V V0
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1, hostOps0_2, hostOps0_3, hostOps0_4]) W 39 (Proc.devRef .tc main_v27)) (StableHlo.upto (List.flatten [hostOps0, hostOps0_1, hostOps0_2, hostOps0_3, hostOps0_4]) W 39 (Proc.devRef .tc main_v28)) (StableHlo.upto (List.flatten [hostOps0, hostOps0_1, hostOps0_2, hostOps0_3, hostOps0_4]) W 39 (Proc.devRef .tc main_v20)) (StableHlo.upto (List.flatten [hostOps0, hostOps0_1, hostOps0_2, hostOps0_3, hostOps0_4]) W 39 (Proc.devRef .tc main_v22)) r d).trans ?_
  simp (disch := decide) only [StableHlo.readAfter, StableHlo.readUpto, StableHlo.unary_result', StableHlo.nullary_result', StableHlo.binary_result', StableHlo.reshape_result', StableHlo.nary_result']
  simp only [tabA, cosOf, sinOf]

  pointwise [angle]
  split_ifs <;> rfl

set_option maxHeartbeats 4000000 in
/-- The host's table, by row and lane. -/
theorem host_tabB (r : Fin 8192) (d : Fin 128) : (V m c main_v32 (ix2 r d) : EReal) = tabB r d := by
  unfold V V0
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1, hostOps0_2, hostOps0_3, hostOps0_4]) W 43 (Proc.devRef .tc main_v31)) (StableHlo.upto (List.flatten [hostOps0, hostOps0_1, hostOps0_2, hostOps0_3, hostOps0_4]) W 43 (Proc.devRef .tc main_v20)) (StableHlo.upto (List.flatten [hostOps0, hostOps0_1, hostOps0_2, hostOps0_3, hostOps0_4]) W 43 (Proc.devRef .tc main_v19)) (StableHlo.upto (List.flatten [hostOps0, hostOps0_1, hostOps0_2, hostOps0_3, hostOps0_4]) W 43 (Proc.devRef .tc main_v22)) r d).trans ?_
  simp (disch := decide) only [StableHlo.readAfter, StableHlo.readUpto, StableHlo.unary_result', StableHlo.nullary_result', StableHlo.binary_result', StableHlo.reshape_result', StableHlo.nary_result']
  simp only [tabB, cosOf, sinOf]

  pointwise [angle]
  split_ifs <;> rfl

end Cert.QkIdeal.Grad
end
-- ==== Proof.QkValue.lean ====
module

public import Idealize.ShloMosaic.Lib.KernelVsHost
public import proofs.«01_k».proof.Proof.QkHost

@[expose] public section

set_option maxRecDepth 16384

noncomputable section

open Idealize.ShloMosaic Idealize.ShloMosaic.TcCoe Idealize.SL.Sem
open Idealize.ShloMosaic.Pipeline (Dat)

/-! What the region computes: every head's lanes turned back by its angles, and the sum over the heads. -/

namespace Cert.QkIdeal.Grad

open Cert.QkIdeal Cert.QkIdeal.Gen

/-- The gradient at the queries before the rotation, one lane of one head. -/
def dqLane (x : FVec Ideal S8192x768 .f32) (r : Fin 8192) (h : Fin 8) (d : Fin 128) : EReal :=
  if e : d.val < 64 then padded x r h d
  else if e : d.val - 64 < 16 then padded x r h d * cosOf r ⟨d.val - 64, e⟩ + padded x r h ⟨d.val + 16, by omega⟩ * sinOf r ⟨d.val - 64, e⟩
  else if e : d.val - 64 - 16 < 16 then
    padded x r h d * cosOf r ⟨d.val - 64 - 16, e⟩ + padded x r h ⟨d.val - 16, by omega⟩ * -sinOf r ⟨d.val - 64 - 16, e⟩
  else 0

/-- The two results: the gradient at the queries, and the keys' rotated parts summed over the heads. -/
def DQ (x : FVec Ideal S8192x768 .f32) : FVec Ideal S8192x1024 .bf16 := fun i => dqLane x (i 0) (hd (i 1)) (ln (i 1))
def DKR (x : FVec Ideal S8192x768 .f32) : FVec Ideal S8192x128 .f32 := fun i => ∑ h : Fin 8, padded x (i 0) h (i 1)

theorem DQ_lane (x : FVec Ideal S8192x768 .f32) (r h d) : DQ x (ix2 r (lane h d)) = dqLane x r h d := by
  show dqLane x r (hd (lane h d)) (ln (lane h d)) = _
  rw [hd_lane, ln_lane]

/-- The lanes that a rotation by 16, and by 112, of 128 lanes brings to lane `d`. -/
def back (d : Fin 128) : Fin 128 := ⟨(d.val + 112) % 128, by omega⟩
def fwd (d : Fin 128) : Fin 128 := ⟨(d.val + 16) % 128, by omega⟩

theorem rot16 (x : FVec Ideal S1024x128 .f32) (r : Fin 1024) (d : Fin 128) :
    dynamicRotate 1 16#32 none x rotates_S1024x128_d1 (ix2 r d) = x (ix2 r (back d)) :=
  dynamicRotate_apply (1 : Fin 2) 16#32 x _ (ix2 r d) (ix2 r (back d)) (fun b => by
    match b with
    | ⟨0, _⟩ => rfl
    | ⟨1, _⟩ => show (d.val + 112) % 128 = (d.val + 128 - 16 % 128) % 128; omega)

theorem rot112 (x : FVec Ideal S1024x128 .f32) (r : Fin 1024) (d : Fin 128) :
    dynamicRotate 1 112#32 none x rotates_S1024x128_d1 (ix2 r d) = x (ix2 r (fwd d)) :=
  dynamicRotate_apply (1 : Fin 2) 112#32 x _ (ix2 r d) (ix2 r (fwd d)) (fun b => by
    match b with
    | ⟨0, _⟩ => rfl
    | ⟨1, _⟩ => show (d.val + 16) % 128 = (d.val + 128 - 112 % 128) % 128; omega)

/-- One head's lanes, turned back: what the kernel stores for it. -/
theorem turned (v0 v2 v4 v7 : Vec Ideal S1024x128 .f32) (r : Fin 1024) (d : Fin 128) :
    k0_pay6 (F := Ideal) v0 v2 v4 v7 (ix2 r d) = v7 (ix2 r d) * v0 (ix2 r d) + v7 (ix2 r (back d)) * v2 (ix2 r (back d))
      + v7 (ix2 r (fwd d)) * v4 (ix2 r (fwd d)) := by
  unfold k0_pay6
  refine (congrArg₂ (· + ·) (congrArg₂ (· + ·) rfl (rot16 _ r d)) (rot112 _ r d)).trans ?_
  pointwise [k0_pay3, k0_pay4, k0_pay5]

section
variable {F : FTy → Type} [FloatOps F]
variable (x0 x1 : Vec F S1024x1024 .f32) (x2 x3 x4 : Vec F S1024x128 .f32) (v : Vec F S1024x128 .f32)

/-! Every head's store is of the same form. -/
theorem form8 : (k0_pay8 : Vec F S1024x128 .f32 → _) = k0_pay6 := rfl
theorem form10 : k0_pay10 (k0_pay19 x0 x1 x2 x3 x4) (k0_pay20 x0 x1 x2 x3 x4) (k0_pay21 x0 x1 x2 x3 x4) v
    = k0_pay6 (View.ld x2 r0_0) (View.ld x3 r0_0) (View.ld x4 r0_0) v := rfl
theorem form11 : k0_pay11 (k0_pay19 x0 x1 x2 x3 x4) (k0_pay20 x0 x1 x2 x3 x4) (k0_pay21 x0 x1 x2 x3 x4) v
    = k0_pay6 (View.ld x2 r0_0) (View.ld x3 r0_0) (View.ld x4 r0_0) v := rfl
theorem form14 : k0_pay14 (k0_pay13 (k0_pay19 x0 x1 x2 x3 x4) (k0_pay20 x0 x1 x2 x3 x4) (k0_pay21 x0 x1 x2 x3 x4) v)
    = k0_pay6 (View.ld x2 r0_0) (View.ld x3 r0_0) (View.ld x4 r0_0) v := rfl
theorem form15 : k0_pay15 (k0_pay19 x0 x1 x2 x3 x4) (k0_pay20 x0 x1 x2 x3 x4) (k0_pay21 x0 x1 x2 x3 x4) v
    = k0_pay6 (View.ld x2 r0_0) (View.ld x3 r0_0) (View.ld x4 r0_0) v := rfl
theorem form16 : k0_pay16 (k0_pay19 x0 x1 x2 x3 x4) (k0_pay20 x0 x1 x2 x3 x4) (k0_pay21 x0 x1 x2 x3 x4) v
    = k0_pay6 (View.ld x2 r0_0) (View.ld x3 r0_0) (View.ld x4 r0_0) v := rfl
theorem form1 : k0_pay1 (k0_pay19 x0 x1 x2 x3 x4) (k0_pay20 x0 x1 x2 x3 x4) (k0_pay21 x0 x1 x2 x3 x4) (k0_pay18 v)
    = k0_pay6 (View.ld x2 r0_0) (View.ld x3 r0_0) (View.ld x4 r0_0) v := rfl
end

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `r` of the `t`-th block of 1024. -/
def rowOf (t : Fin cfg0.N) (r : Fin 1024) : Fin 8192 := ⟨1024 * t.val + r.val, by have : t.val < grid0.N := t.isLt; rw [N_0] at this; omega⟩

theorem blk0 (t : Fin cfg0.N) (r : Fin 1024) (h : Fin 8) (d : Fin 128) :
    iblk m c 0 t (ix2 r (lane h d)) = padded (m ((c : Thread nD τ).loc main_arg0)) (rowOf t r) h d := by
  rw [← host_dq]
  blk_ext [iblk, V, rowOf, idx t]
theorem blk1 (t : Fin cfg0.N) (r : Fin 1024) (h : Fin 8) (d : Fin 128) :
    iblk m c 1 t (ix2 r (lane h d)) = padded (m ((c : Thread nD τ).loc main_arg1)) (rowOf t r) h d := by
  rw [← host_dk]
  blk_ext [iblk, V, rowOf, idx t]
theorem blk2 (t : Fin cfg0.N) (r : Fin 1024) (d : Fin 128) : iblk m c 2 t (ix2 r d) = tabC (rowOf t r) d := by
  rw [← host_tabC m c]
  blk_ext [iblk, V, rowOf, idx t]
theorem blk3 (t : Fin cfg0.N) (r : Fin 1024) (d : Fin 128) : iblk m c 3 t (ix2 r d) = tabA (rowOf t r) d := by
  rw [← host_tabA m c]
  blk_ext [iblk, V, rowOf, idx t]
theorem blk4 (t : Fin cfg0.N) (r : Fin 1024) (d : Fin 128) : iblk m c 4 t (ix2 r d) = tabB (rowOf t r) d := by
  rw [← host_tabB m c]
  blk_ext [iblk, V, rowOf, idx t]

/-- The tables turn one row's lanes as `dqLane` says. -/
theorem turn (x : FVec Ideal S8192x768 .f32) (r : Fin 8192) (h : Fin 8) (d : Fin 128) :
    padded x r h d * tabC r d + padded x r h (back d) * tabA r (back d) + padded x r h (fwd d) * tabB r (fwd d) = dqLane x r h d := by
  have hb : 16 ≤ d.val → (back d).val = d.val - 16 := fun h => by simp only [back]; omega
  have hf : d.val < 112 → (fwd d).val = d.val + 16 := fun h => by simp only [fwd]; omega
  unfold dqLane
  split_ifs with h1 h2 h3
  · have : (back d).val < 64 ∨ 96 ≤ (back d).val := by simp only [back]; omega
    have hA : tabA r (back d) = 0 := by unfold tabA; split_ifs <;> first | rfl | omega
    have hB : tabB r (fwd d) = 0 := by have := hf (by omega); unfold tabB; split_ifs <;> first | rfl | omega
    have hC : tabC r d = 1 := by unfold tabC; rw [if_pos h1]
    rw [hA, hB, hC, mul_one, mul_zero, mul_zero, add_zero, add_zero]
  · have hA : tabA r (back d) = 0 := by have := hb (by omega); unfold tabA; split_ifs <;> first | rfl | omega
    have e : fwd d = ⟨d.val + 16, by omega⟩ := Fin.ext (hf (by omega))
    have hB : tabB r ⟨d.val + 16, by omega⟩ = sinOf r ⟨d.val - 64, h2⟩ := by
      unfold tabB
      rw [if_neg (by dsimp only; omega), if_neg (by dsimp only; omega), dif_pos (by dsimp only; omega)]
      exact congrArg (sinOf r) (Fin.ext (by dsimp only; omega))
    have hC : tabC r d = cosOf r ⟨d.val - 64, h2⟩ := by unfold tabC; rw [if_neg h1, dif_pos h2]
    rw [hA, e, hB, hC, mul_zero, add_zero]
  · have hB : tabB r (fwd d) = 0 := by have := hf (by omega); unfold tabB; split_ifs <;> first | rfl | omega
    have e : back d = ⟨d.val - 16, by omega⟩ := Fin.ext (hb (by omega))
    have hA : tabA r ⟨d.val - 16, by omega⟩ = -sinOf r ⟨d.val - 64 - 16, h3⟩ := by
      unfold tabA
      rw [if_neg (by dsimp only; omega), dif_pos (by dsimp only; omega)]
      exact congrArg (fun k => -sinOf r k) (Fin.ext (by dsimp only; omega))
    have hC : tabC r d = cosOf r ⟨d.val - 64 - 16, h3⟩ := by unfold tabC; rw [if_neg h1, dif_neg h2, dif_pos h3]
    rw [hB, e, hA, hC, mul_zero, add_zero]
  · have hB : tabB r (fwd d) = 0 := by
      unfold tabB; have : (fwd d).val < 80 ∨ 96 ≤ (fwd d).val := by simp only [fwd]; omega
      split_ifs <;> first | rfl | omega
    have hA : tabA r (back d) = 0 := by have := hb (by omega); unfold tabA; split_ifs <;> first | rfl | omega
    have hx : padded x r h d = 0 := by unfold padded; rw [dif_neg (by omega)]
    rw [hB, hA, hx, mul_zero, mul_zero, zero_mul, add_zero, add_zero]

/-- What a grid point stores for one head. -/
theorem head_at (t : Fin cfg0.N) (h : Fin 8) (v : Vec Ideal S1024x128 .f32)
    (hv : ∀ r d, v (ix2 r d) = iblk m c 0 t (ix2 r (lane h d))) (r : Fin 1024) (d : Fin 128) :
    k0_pay6 (F := Ideal) (View.ld (iblk m c 2 t) r0_0) (View.ld (iblk m c 3 t) r0_0) (View.ld (iblk m c 4 t) r0_0) v (ix2 r d)
      = DQ (m ((c : Thread nD τ).loc main_arg0)) (ix2 (rowOf t r) (lane h d)) := by
  have l2 : ∀ r d, View.ld (iblk m c 2 t) r0_0 (ix2 r d) = tabC (rowOf t r) d := fun r d =>
    (by pointwise : View.ld (iblk m c 2 t) r0_0 (ix2 r d) = iblk m c 2 t (ix2 r d)).trans (blk2 m c t r d)
  have l3 : ∀ r d, View.ld (iblk m c 3 t) r0_0 (ix2 r d) = tabA (rowOf t r) d := fun r d =>
    (by pointwise : View.ld (iblk m c 3 t) r0_0 (ix2 r d) = iblk m c 3 t (ix2 r d)).trans (blk3 m c t r d)
  have l4 : ∀ r d, View.ld (iblk m c 4 t) r0_0 (ix2 r d) = tabB (rowOf t r) d := fun r d =>
    (by pointwise : View.ld (iblk m c 4 t) r0_0 (ix2 r d) = iblk m c 4 t (ix2 r d)).trans (blk4 m c t r d)
  rw [turned, DQ_lane, ← turn]
  simp only [hv, blk0, l2, l3, l4]

theorem emb5 (t : Fin cfg0.N) (y : ((cfg0.win 5).xblock (cfg0.grid.coords t)).Idx) (r : Fin 1024) (l : Fin 1024)
    (h0 : (y 0).val = r.val) (h1 : (y 1).val = l.val) :
    ((View.whole main_v39_0).slice (win0_5.rect t)).emb y = ix2 (rowOf t r) l := by
  blk_ext [rowOf, idx t]

theorem emb6 (t : Fin cfg0.N) (y : ((cfg0.win 6).xblock (cfg0.grid.coords t)).Idx) (r : Fin 1024) (l : Fin 128)
    (h0 : (y 0).val = r.val) (h1 : (y 1).val = l.val) :
    ((View.whole main_v39_1).slice (win0_6.rect t)).emb y = ix2 (rowOf t r) l := by
  blk_ext [rowOf, idx t]

set_option maxHeartbeats 3200000 in
/-- The region's first array holds the gradient at the queries. -/
theorem final5 : (dats m 0 c).arrAt 5 (cfgs 0).N = DQ (m ((c : Thread nD τ).loc main_arg0)) := by
  refine (dats m 0 c).arrAt_eq_of_covers 5 _ (by decide +kernel) fun t _ y => ?_
  blk_simp
  rw [after0_5]
  unfold out0_5
  canon_tiles x h
  · idx_vars x
    rw [emb5 t y x0 (lane 7 x1) h0 h1]
    exact head_at m c t 7 _ (fun r d => by pointwise [lane]) x0 x1
  · idx_vars x
    rw [emb5 t y x0 (lane 6 x1) h0 h1]
    exact head_at m c t 6 _ (fun r d => by pointwise [lane]) x0 x1
  · idx_vars x
    rw [emb5 t y x0 (lane 5 x1) h0 h1]
    exact head_at m c t 5 _ (fun r d => by pointwise [lane]) x0 x1
  · idx_vars x
    rw [emb5 t y x0 (lane 4 x1) h0 h1]
    exact head_at m c t 4 _ (fun r d => by pointwise [lane]) x0 x1
  · idx_vars x
    rw [emb5 t y x0 (lane 3 x1) h0 h1]
    exact head_at m c t 3 _ (fun r d => by pointwise [lane]) x0 x1
  · idx_vars x
    rw [emb5 t y x0 (lane 2 x1) h0 h1]
    exact head_at m c t 2 _ (fun r d => by pointwise [lane]) x0 x1
  · idx_vars x
    rw [emb5 t y x0 (lane 1 x1) h0 h1]
    exact head_at m c t 1 _ (fun r d => by pointwise [lane]) x0 x1
  · idx_vars x
    rw [emb5 t y x0 (lane 0 x1) h0 (h1.trans (Nat.zero_add _).symm)]
    exact head_at m c t 0 _ (fun r d => by pointwise [lane]) x0 x1

/-- What a grid point stores of the sum over the heads. -/
theorem sum_at (t : Fin cfg0.N) (r : Fin 1024) (d : Fin 128) :
    k0_pay2 (F := Ideal) (k0_pay17 (k0_pay12 (k0_pay7 (View.ld (iblk m c 1 t) r0_1)) (k0_pay9 (View.ld (iblk m c 1 t) r0_2))
      (View.ld (iblk m c 1 t) r0_3) (View.ld (iblk m c 1 t) r0_4)) (View.ld (iblk m c 1 t) r0_5) (View.ld (iblk m c 1 t) r0_6)
      (View.ld (iblk m c 1 t) r0_7)) (View.ld (iblk m c 1 t) r0_8) (ix2 r d)
      = DKR (m ((c : Thread nD τ).loc main_arg1)) (ix2 (rowOf t r) d) := by
  have l : ∀ (h : Fin 8) (v : Vec Ideal S1024x128 .f32), (∀ r d, v (ix2 r d) = iblk m c 1 t (ix2 r (lane h d))) →
      v (ix2 r d) = padded (m ((c : Thread nD τ).loc main_arg1)) (rowOf t r) h d := fun h v hv => (hv r d).trans (blk1 m c t r h d)
  have l0 := l 0 (View.ld (iblk m c 1 t) r0_1) (fun r d => by pointwise [lane])
  have l1 := l 1 (View.ld (iblk m c 1 t) r0_2) (fun r d => by pointwise [lane])
  have l2 := l 2 (View.ld (iblk m c 1 t) r0_3) (fun r d => by pointwise [lane])
  have l3 := l 3 (View.ld (iblk m c 1 t) r0_4) (fun r d => by pointwise [lane])
  have l4 := l 4 (View.ld (iblk m c 1 t) r0_5) (fun r d => by pointwise [lane])
  have l5 := l 5 (View.ld (iblk m c 1 t) r0_6) (fun r d => by pointwise [lane])
  have l6 := l 6 (View.ld (iblk m c 1 t) r0_7) (fun r d => by pointwise [lane])
  have l7 := l 7 (View.ld (iblk m c 1 t) r0_8) (fun r d => by pointwise [lane])
  generalize View.ld (iblk m c 1 t) r0_1 = v0 at *
  generalize View.ld (iblk m c 1 t) r0_2 = v1 at *
  generalize View.ld (iblk m c 1 t) r0_3 = v2 at *
  generalize View.ld (iblk m c 1 t) r0_4 = v3 at *
  generalize View.ld (iblk m c 1 t) r0_5 = v4 at *
  generalize View.ld (iblk m c 1 t) r0_6 = v5 at *
  generalize View.ld (iblk m c 1 t) r0_7 = v6 at *
  generalize View.ld (iblk m c 1 t) r0_8 = v7 at *
  pointwise [k0_pay2, k0_pay17, k0_pay12, k0_pay7, k0_pay9]
  show _ = ∑ h : Fin 8, padded _ (rowOf t r) h d
  rw [Fin.sum_univ_eight]
  simp only [l0, l1, l2, l3, l4, l5, l6, l7]

/-- The region's second array holds the sum over the heads. -/
theorem final6 : (dats m 0 c).arrAt 6 (cfgs 0).N = DKR (m ((c : Thread nD τ).loc main_arg1)) := by
  refine (dats m 0 c).arrAt_eq_of_covers 6 _ (by decide +kernel) fun t _ y => ?_
  blk_simp
  rw [after0_6]
  unfold out0_6
  canon_tiles x h
  idx_vars x
  rw [emb6 t y x0 x1 h0 h1]
  exact sum_at m c t x0 x1

end Cert.QkIdeal.Grad
end
-- ==== Proof.QkRef.lean ====
module

public import proofs.«01_k».proof.Proof.QkValue
public import proofs.«01_k».proof.Proof.Gen.QkRefIdeal.Read
public import proofs.«01_k».proof.Proof.Finite

@[expose] public section

set_option maxRecDepth 16384

noncomputable section

open Idealize.ShloMosaic Idealize.ShloMosaic.TcCoe Idealize.SL.Sem
open Idealize.ShloMosaic.Pipeline (Dat)

/-! What the reference's two results are, by row, head and lane. -/

namespace Cert.QkClaims

open Cert.QkRefIdeal Cert.QkRefIdeal.Gen Cert.QkRefIdeal.Read
open Cert.QkIdeal.Grad (angle cosOf sinOf padded dqLane DQ DKR lane hd ln hd_lane ln_lane lane_eq zero_int)

theorem zero_word : Ideal.ofBits .f32 0x00000000#32 = 0 := Ideal.ofBits_zero .f32

theorem angle_at (r : Fin 8192) (k : Fin 16) : val_main_v15 (F := Ideal) (ix2 r k) = angle (ix2 r k) := by
  pointwise [val_main_v15, val_main_v14, val_main_v13, val_main_v12, val_main_v11, val_main_v10, val_main_v9, val_main_cst_2, val_main_v8,
    val_main_v7, val_main_cst_1, val_main_v6, val_main_v5, val_main_v4, val_main_cst_0, val_main_v3, val_main_v2, val_main_cst, val_main_v1,
    val_main_v0, angle]

theorem cat_at (r : Fin 8192) (k : Fin 32) : val_main_v16 (F := Ideal) (ix2 r k)
    = if e : k.val < 16 then angle (ix2 r ⟨k.val, e⟩) else angle (ix2 r ⟨k.val - 16, by omega⟩) := by
  simp only [← angle_at]
  unfold val_main_v16
  generalize val_main_v15 (F := Ideal) = y
  pointwise

theorem cos_at (r : Fin 8192) (h : Fin 8) (k : Fin 32) : val_main_v52 (F := Ideal) (ix3 r h k)
    = if e : k.val < 16 then cosOf r ⟨k.val, e⟩ else cosOf r ⟨k.val - 16, by omega⟩ := by
  have := cat_at r k
  pointwise [val_main_v52, val_main_v25, val_main_v17]
  rw [this]
  split_ifs <;> rfl

theorem sin_at (r : Fin 8192) (h : Fin 8) (k : Fin 32) : val_main_v46 (F := Ideal) (ix3 r h k)
    = if e : k.val < 16 then sinOf r ⟨k.val, e⟩ else sinOf r ⟨k.val - 16, by omega⟩ := by
  have := cat_at r k
  pointwise [val_main_v46, val_main_v32, val_main_v18]
  rw [this]
  split_ifs <;> rfl

variable (x : FVec Ideal S8192x768 .f32) (r : Fin 8192) (h : Fin 8)

theorem in_at (k : Fin 96) : val_main_v39 (F := Ideal) x (ix3 r h k) = padded x r h ⟨k.val, by omega⟩ := by
  pointwise [val_main_v39, padded]
  simp only [k.isLt, dite_true, mul_comm h.val]

theorem rot_in (k : Fin 32) : val_main_v42 (F := Ideal) x (ix3 r h k) = padded x r h ⟨k.val + 64, by omega⟩ := by
  refine Eq.trans ?_ (in_at x r h ⟨k.val + 64, by omega⟩)
  unfold val_main_v42
  generalize val_main_v39 (F := Ideal) x = y
  pointwise
  exact congrArg (fun i => y (ix3 r h i)) (Fin.ext (Nat.add_comm _ _))

theorem sined (k : Fin 32) : val_main_v47 (F := Ideal) x (ix3 r h k) = padded x r h ⟨k.val + 64, by omega⟩ *
    (if e : k.val < 16 then sinOf r ⟨k.val, e⟩ else sinOf r ⟨k.val - 16, by omega⟩) := by
  rw [← rot_in, ← sin_at r h k]
  rfl

theorem swapped (k : Fin 32) : val_main_v51 (F := Ideal) x (ix3 r h k) =
    if e : k.val < 16 then val_main_v47 (F := Ideal) x (ix3 r h ⟨k.val + 16, by omega⟩)
    else -val_main_v47 (F := Ideal) x (ix3 r h ⟨k.val - 16, by omega⟩) := by
  unfold val_main_v51 val_main_v50 val_main_v49 val_main_v48
  generalize val_main_v47 (F := Ideal) x = y
  pointwise
  simp only [Nat.add_comm 16]

theorem back_at (k : Fin 32) : val_main_v54 (F := Ideal) x (ix3 r h k) = dqLane x r h ⟨k.val + 64, by omega⟩ := by
  have e : val_main_v54 (F := Ideal) x (ix3 r h k) = val_main_v51 (F := Ideal) x (ix3 r h k)
      + val_main_v42 (F := Ideal) x (ix3 r h k) * val_main_v52 (F := Ideal) (ix3 r h k) := rfl
  rw [e, swapped, rot_in, cos_at]
  simp only [sined]
  unfold dqLane
  by_cases h1 : k.val < 16
  · rw [dif_pos h1, dif_pos h1, dif_neg (by first | omega | (dsimp only; omega)), dif_neg (by first | omega | (dsimp only; omega)), dif_pos (by first | omega | (dsimp only; omega)), add_comm]
    refine congrArg₂ (· + ·) (congrArg₂ (· * ·) rfl (congrArg (cosOf r) (Fin.ext (by first | omega | (dsimp only; omega))))) (congrArg₂ (· * ·) (congrArg (padded x r h) (Fin.ext (Nat.add_right_comm _ _ _))) (congrArg (sinOf r) (Fin.ext (by first | omega | (dsimp only; omega)))))
  · rw [dif_neg h1, dif_neg h1, dif_pos (by first | omega | (dsimp only; omega)), dif_neg (by first | omega | (dsimp only; omega)), dif_neg (by first | omega | (dsimp only; omega)),
      dif_pos (by first | omega | (dsimp only; omega)), add_comm, ← mul_neg]
    refine congrArg₂ (· + ·) (congrArg₂ (· * ·) rfl (congrArg (cosOf r) (Fin.ext (by first | omega | (dsimp only; omega))))) (congrArg₂ (· * ·) (congrArg (padded x r h) (Fin.ext (by first | omega | (dsimp only; omega)))) (congrArg (fun k => -sinOf r k) (Fin.ext (by first | omega | (dsimp only; omega)))))

theorem both_at (k : Fin 96) : val_main_v57 (F := Ideal) x (ix3 r h k) = dqLane x r h ⟨k.val, by omega⟩ := by
  have e : val_main_v57 (F := Ideal) x (ix3 r h k) = val_main_v55 (F := Ideal) x (ix3 r h k) + val_main_v56 (F := Ideal) x (ix3 r h k) := rfl
  have e1 : val_main_v55 (F := Ideal) x (ix3 r h k) = if g : 64 ≤ k.val then val_main_v54 (F := Ideal) x (ix3 r h ⟨k.val - 64, by omega⟩) else 0 := by
    unfold val_main_v55
    generalize val_main_v54 (F := Ideal) x = y
    pointwise [val_main_cst_7]
    by_cases g : 64 ≤ k.val
    · rw [dif_pos ⟨g, by omega⟩, dif_pos g]
    · rw [dif_neg (fun q => g q.1), dif_neg g]
  have e2 : val_main_v56 (F := Ideal) x (ix3 r h k) = if g : k.val < 64 then val_main_v39 (F := Ideal) x (ix3 r h k) else 0 := by
    unfold val_main_v56 val_main_v41
    generalize val_main_v39 (F := Ideal) x = y
    pointwise [val_main_cst_8]
  rw [e, e1, e2]
  by_cases h1 : k.val < 64
  · rw [dif_neg (by omega), dif_pos h1, zero_add, in_at]
    unfold dqLane
    rw [dif_pos h1]
  · rw [dif_pos (by omega), dif_neg h1, add_zero, back_at]
    exact congrArg (dqLane x r h) (Fin.ext (by first | omega | (dsimp only; omega)))

theorem cast_at (k : Fin 96) : val_main_v59 (F := Ideal) x (ix3 r h k) = val_main_v57 (F := Ideal) x (ix3 r h k) := by
  have e1 : (96 * h.val + k.val) / 96 = h.val := by omega
  have e2 : (96 * h.val + k.val) % 96 = k.val := by omega
  unfold val_main_v59 val_main_v58
  generalize val_main_v57 (F := Ideal) x = y
  pointwise

/-- The reference's gradient at the queries is the kernel's. -/
theorem ref_dq : val_main_v62 (F := Ideal) x = DQ x := by
  funext i
  obtain ⟨r, l, rfl⟩ : ∃ r l, i = ix2 r l := ⟨i 0, i 1, eq_ix2 i⟩
  have e : val_main_v62 (F := Ideal) x (ix2 r l) = val_main_v60 (F := Ideal) x (ix3 r (hd l) (ln l)) := by
    unfold val_main_v62 val_main_v61
    generalize val_main_v60 (F := Ideal) x = y
    pointwise [hd, ln]
  have e1 : val_main_v60 (F := Ideal) x (ix3 r (hd l) (ln l)) = if g : (ln l).val < 96 then val_main_v59 (F := Ideal) x (ix3 r (hd l) ⟨(ln l).val, g⟩) else 0 := by
    generalize hd l = h
    generalize ln l = d
    unfold val_main_v60
    generalize val_main_v59 (F := Ideal) x = y
    pointwise [val_main_call0_v0, val_main_c]
    simp only [zero_int]
  rw [e, e1]
  show _ = dqLane x r (hd l) (ln l)
  by_cases h1 : (ln l).val < 96
  · rw [dif_pos h1, cast_at, both_at]
  · rw [dif_neg h1]
    unfold dqLane
    rw [dif_neg (by omega), dif_neg (by omega), dif_neg (by omega)]

/-- The keys' rotated parts, summed over the heads. -/
theorem ref_dk (k : Fin 32) : val_main_v45 (F := Ideal) x (ix2 r k) = DKR x (ix2 r ⟨k.val + 64, by omega⟩) := by
  have l : ∀ h : Fin 8, val_main_v40 (F := Ideal) x (ix3 r h k) = padded x r h ⟨k.val + 64, by omega⟩ := fun h => rot_in x r h k
  show _ = ∑ h : Fin 8, padded x r h ⟨k.val + 64, by omega⟩
  simp only [← l]
  unfold val_main_v45 val_main_v44 val_main_v43
  generalize val_main_v40 (F := Ideal) x = y
  pointwise [val_main_cst_5, val_main_cst_6]
  simp only [zero_word, zero_add, add_zero, Fin.sum_univ_one]

end Cert.QkClaims
end
-- ==== Proof.Qk.lean ====
module

public import proofs.«01_k».proof.Proof.QkRef
public import proofs.«01_k».proof.Defs
public import proofs.«01_k».proof.Proof.Gen.Qk.Frame
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The claims on the rotary embedding's gradient. -/

namespace Cert.QkIdeal.Grad

open Cert.QkIdeal Cert.QkIdeal.Gen

variable (m : (ℓ : Loc nD τ sig) → Buf (Elt Ideal) ℓ) (c : Dev nD)

/-- The 32 rotated lanes of the sum over the heads. -/
def DK (x : FVec Ideal S8192x768 .f32) : FVec Ideal S8192x32 .f32 := fun i => DKR x (ix2 (i 0) ⟨(i 1).val + 64, by have : (i 1).val < 32 := (i 1).isLt; omega⟩)

/-- After the region the host keeps the rotated lanes of its second array. -/
theorem kept_lanes : (Pipeline.afterTail₀ cfgs (dats m) 0 (V0 m) [hostOps1] c main_v40 : FVec Ideal S8192x32 .f32)
    = DK (m ((c : Thread nD τ).loc main_arg1)) := by
  unfold Pipeline.afterTail₀
  have e := Pipeline.withArrays_arr spec0 launch0.win.arr_inj c (V0 m c) (fun w => (dats m 0 c).arrAt w (cfgs 0).N) 6
  rw [final6] at e
  generalize Pipeline.withArrays (cfgs 0).spec c (V0 m c) (fun w => (dats m 0 c).arrAt w (cfgs 0).N) = W at *
  have e' : W (Proc.devRef .tc main_v39_1) = DKR (m ((c : Thread nD τ).loc main_arg1)) := e
  show StableHlo.after (List.flatten [hostOps1]) W (Proc.devRef .tc main_v40) = _
  simp (disch := decide) only [StableHlo.readAfter, StableHlo.readUpto, StableHlo.unary_result']
  rw [e']
  funext i
  obtain ⟨r, l, rfl⟩ : ∃ r l, i = ix2 r l := ⟨i 0, i 1, eq_ix2 i⟩
  show _ = DKR _ (ix2 r ⟨l.val + 64, _⟩)
  generalize DKR (m ((c : Thread nD τ).loc main_arg1)) = y
  pointwise
  exact congrArg (fun k => y (ix2 r k)) (Fin.ext (Nat.add_comm _ _))

end Cert.QkIdeal.Grad

namespace Cert.QkClaims

open Cert.QkRefIdeal Cert.QkRefIdeal.Gen Cert.QkRefIdeal.Read

/-- The first program's frame. -/
theorem frame_kernel : Cert.quiescent_Qk := fun m ρ _ => Cert.Qk.Gen.frame m ρ

/-- The ideal program's frame. -/
theorem frame_ideal : Cert.quiescent_QkIdeal := fun m ρ _ => Cert.QkIdeal.Gen.frame m ρ

/-- The reference's frame. -/
theorem frame_ref : Cert.quiescent_QkRefIdeal := fun m ρ _ =>
  (θ_run Cert.QkRefIdeal.defs _ _).mono (fun r h => ⟨fun c => (h c).2.2, sem_eq_zero_of_no_sems (by decide) r.2⟩)
    (Cert.QkRefIdeal.Value.run m ρ)

/-- Both results are the derivative's, on all arrays. -/
theorem algebraic : Cert.algebraic_QkIdeal_QkRefIdeal := by
  intro m g m' g' hpre hag
  refine ⟨fun c => Cert.QkIdeal.Grad.DQ (m ((c : Thread Cert.QkIdeal.nD Cert.QkIdeal.τ).loc Cert.QkIdeal.main_arg0)),
    fun c => Cert.QkIdeal.Grad.DK (m ((c : Thread Cert.QkIdeal.nD Cert.QkIdeal.τ).loc Cert.QkIdeal.main_arg1)), ?_, ?_⟩
  · exact (θ_run _ _ _).mono (fun r h c => ⟨((h c).1 5).trans (Cert.QkIdeal.Grad.final5 m c),
      ((h c).2 Cert.QkIdeal.main_v40 (Pipeline.mem_restRefs_of Cert.QkIdeal.main_v40 (by decide) (by decide))).trans (Cert.QkIdeal.Grad.kept_lanes m c),
      ((h c).2 Cert.QkIdeal.main_arg0 (Pipeline.mem_restRefs_of Cert.QkIdeal.main_arg0 (by decide) (by decide))).trans (Cert.QkIdeal.Gen.W_main_arg0 m _ c),
      ((h c).2 Cert.QkIdeal.main_arg1 (Pipeline.mem_restRefs_of Cert.QkIdeal.main_arg1 (by decide) (by decide))).trans (Cert.QkIdeal.Gen.W_main_arg1 m _ c)⟩)
      (Cert.QkIdeal.Gen.run_main m g)
  · refine (θ_run _ _ _).mono (fun r h c => ⟨(h c).1.trans ?_, (h c).2.1.trans ?_, (h c).2.2⟩) (Cert.QkRefIdeal.Value.run m' g')
    · obtain ⟨a0, a1⟩ := hag c
      rw [val_main_v62_eq, a0]
      exact ref_dq _
    · obtain ⟨a0, a1⟩ := hag c
      rw [val_main_v45_eq, a1]
      funext i
      obtain ⟨r, l, rfl⟩ : ∃ r l, i = ix2 r l := ⟨i 0, i 1, eq_ix2 i⟩
      exact ref_dk _ r l

end Cert.QkClaims
end
-- ==== Proof.PreHost.lean ====
module

public import Idealize.ShloMosaic.Lib.StableHlo.RunRead
public import proofs.«01_k».proof.Proof.QkValue
public import proofs.«01_k».proof.Proof.Rms
public import proofs.«01_k».proof.Proof.Gen.PreIdeal.Frame

@[expose] public section

set_option maxRecDepth 16384

noncomputable section

open Idealize.ShloMosaic Idealize.ShloMosaic.TcCoe Idealize.SL.Sem
open Idealize.ShloMosaic.Pipeline (Dat)

/-! The mixer's rows before its attention: what they are, row by row, and the arrays the host prepares for the region. -/

namespace Cert.PreIdeal.Rows

open Cert.PreIdeal Cert.PreIdeal.Gen Cert.Math
open Cert.QkIdeal.Grad (tabC tabA tabB cosOf sinOf angle cat4_apply zero_int back fwd)

/-- The arrays: the projection's output, the convolution's taps and the norms' scales. -/
structure Arr where
  z : FVec Ideal S8192x1952 .f32
  w : FVec Ideal S3x512 .f32
  gq : FVec Ideal S1x256 .f32
  gkv : FVec Ideal S1x128 .f32

/-- A column of rows moved one row down, or up, with a zero at the end. -/
def dn (f : Fin 8192 → EReal) (r : Fin 8192) : EReal := if e : 0 < r.val then f ⟨r.val - 1, by omega⟩ else 0
def up (f : Fin 8192 → EReal) (r : Fin 8192) : EReal := if e : r.val < 8191 then f ⟨r.val + 1, by omega⟩ else 0

/-- The words of the two row lengths and of the norms' `eps`. -/
abbrev NQ : EReal := Ideal.ofBits .f32 0x43800000#32
abbrev NK : EReal := Ideal.ofBits .f32 0x43000000#32
abbrev E : EReal := Ideal.ofBits .f32 0x358637BD#32

namespace Arr
variable (a : Arr) (r : Fin 8192)

def xc (l : Fin 512) : EReal := a.z (ix2 r ⟨l.val, by omega⟩)
def bg (l : Fin 512) : EReal := a.z (ix2 r ⟨512 + l.val, by omega⟩)
def cg (l : Fin 512) : EReal := a.z (ix2 r ⟨1024 + l.val, by omega⟩)
def q (l : Fin 256) : EReal := a.z (ix2 r ⟨1536 + l.val, by omega⟩)
def kv (l : Fin 128) : EReal := a.z (ix2 r ⟨1792 + l.val, by omega⟩)

/-- The gated input of the convolution, and the convolution. -/
def mx (l : Fin 512) : EReal := a.cg r l * a.xc r l
def cm (l : Fin 512) : EReal := dn (fun r => a.mx r l) r * a.w (ix2 0 l) + a.mx r l * a.w (ix2 1 l) + up (fun r => a.mx r l) r * a.w (ix2 2 l)

/-- The positional lanes in their place among one head's 128. -/
def kl (d : Fin 128) : EReal :=
  if d.val < 64 then 0 else if e : d.val - 64 < 32 then a.z (ix2 r ⟨1920 + (d.val - 64), by omega⟩) else 0

/-- Those lanes turned by the row's angle. -/
def kr (d : Fin 128) : EReal := a.kl r d * tabC r d + a.kl r (fwd d) * tabA r d + a.kl r (back d) * tabB r d

end Arr

/-- The four results. -/
def YC (a : Arr) : FVec Ideal S8192x512 .bf16 := fun i => a.bg (i 0) (i 1) * a.cm (i 0) (i 1)
def QN (a : Arr) : FVec Ideal S8192x256 .bf16 := fun i => a.q (i 0) (i 1) * rmsScale NQ E (a.q (i 0)) * a.gq (ix2 0 (i 1))
def KVN (a : Arr) : FVec Ideal S8192x128 .bf16 := fun i => a.kv (i 0) (i 1) * rmsScale NK E (a.kv (i 0)) * a.gkv (ix2 0 (i 1))
def KR (a : Arr) : FVec Ideal S8192x128 .f32 := fun i => a.kr (i 0) (i 1)

variable (m : (ℓ : Loc nD τ sig) → Buf (Elt Ideal) ℓ) (c : Dev nD)

/-- The arrays a run starts from. -/
def arr : Arr where
  z := m ((c : Thread nD τ).loc main_arg0)
  w := m ((c : Thread nD τ).loc main_arg1)
  gq := m ((c : Thread nD τ).loc main_arg2)
  gkv := m ((c : Thread nD τ).loc main_arg3)

set_option maxHeartbeats 4000000 in
/-- The host's table, by row and lane. -/
theorem host_tabC (r : Fin 8192) (d : Fin 128) : (V m c main_v25 (ix2 r d) : EReal) = tabC r d := by
  unfold V
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1]) W 34 (Proc.devRef .tc main_v21)) (StableHlo.upto (List.flatten [hostOps0, hostOps0_1]) W 34 (Proc.devRef .tc main_v18)) (StableHlo.upto (List.flatten [hostOps0, hostOps0_1]) W 34 (Proc.devRef .tc main_v18)) (StableHlo.upto (List.flatten [hostOps0, hostOps0_1]) W 34 (Proc.devRef .tc main_v24)) r d).trans ?_
  simp (disch := decide) only [StableHlo.readAfter, StableHlo.readUpto, StableHlo.unary_result', StableHlo.nullary_result', StableHlo.binary_result', StableHlo.reshape_result', StableHlo.nary_result']
  simp only [tabC, cosOf, sinOf]
  pointwise [angle]
  split_ifs <;> rfl

set_option maxHeartbeats 4000000 in
/-- The host's table, by row and lane. -/
theorem host_tabA (r : Fin 8192) (d : Fin 128) : (V m c main_v29 (ix2 r d) : EReal) = tabA r d := by
  unfold V
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1]) W 39 (Proc.devRef .tc main_v27)) (StableHlo.upto (List.flatten [hostOps0, hostOps0_1]) W 39 (Proc.devRef .tc main_v28)) (StableHlo.upto (List.flatten [hostOps0, hostOps0_1]) W 39 (Proc.devRef .tc main_v20)) (StableHlo.upto (List.flatten [hostOps0, hostOps0_1]) W 39 (Proc.devRef .tc main_v22)) r d).trans ?_
  simp (disch := decide) only [StableHlo.readAfter, StableHlo.readUpto, StableHlo.unary_result', StableHlo.nullary_result', StableHlo.binary_result', StableHlo.reshape_result', StableHlo.nary_result']
  simp only [tabA, cosOf, sinOf]
  pointwise [angle]
  split_ifs <;> rfl

set_option maxHeartbeats 4000000 in
/-- The host's table, by row and lane. -/
theorem host_tabB (r : Fin 8192) (d : Fin 128) : (V m c main_v32 (ix2 r d) : EReal) = tabB r d := by
  unfold V
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1]) W 43 (Proc.devRef .tc main_v31)) (StableHlo.upto (List.flatten [hostOps0, hostOps0_1]) W 43 (Proc.devRef .tc main_v20)) (StableHlo.upto (List.flatten [hostOps0, hostOps0_1]) W 43 (Proc.devRef .tc main_v19)) (StableHlo.upto (List.flatten [hostOps0, hostOps0_1]) W 43 (Proc.devRef .tc main_v22)) r d).trans ?_
  simp (disch := decide) only [StableHlo.readAfter, StableHlo.readUpto, StableHlo.unary_result', StableHlo.nullary_result', StableHlo.binary_result', StableHlo.reshape_result', StableHlo.nary_result']
  simp only [tabB, cosOf, sinOf]
  pointwise [angle]
  split_ifs <;> rfl

/-- A row of 2048 lanes of which the first 1920 are the projection's. -/
theorem cat_apply (x : FVec Ideal S8192x1920 .f32) (y : FVec Ideal S8192x64 .f32) (z w : FVec Ideal S8192x32 .f32) (r : Fin 8192) (l : Fin 2048) (e : l.val < 1920) :
    concatenate S8192x2048 1 [⟨S8192x1920, x⟩, ⟨S8192x64, y⟩, ⟨S8192x32, z⟩, ⟨S8192x32, w⟩] concatenates_S8192x1920_S8192x64_S8192x32_S8192x32_S8192x2048_d1 (ix2 r l) = x (ix2 r ⟨l.val, e⟩) := by
  pointwise
  rw [dif_pos e]

set_option maxHeartbeats 4000000 in
theorem host_z (r : Fin 8192) (l : Fin 2048) (e : l.val < 1920) :
    (V m c main_v37 (ix2 r l) : EReal) = (arr m c).z (ix2 r ⟨l.val, by omega⟩) := by
  unfold V arr
  show _ = (fun b => m (c, b)) (Proc.devRef .tc main_arg0) _
  generalize (fun b => m (c, b)) = W
  simp (disch := decide) only [StableHlo.readAfter, StableHlo.readUpto, StableHlo.unary_result', StableHlo.nullary_result', StableHlo.binary_result', StableHlo.reshape_result', StableHlo.nary_result']
  refine (cat_apply (StableHlo.upto (List.flatten [hostOps0, hostOps0_1]) W 50 (Proc.devRef .tc main_v33)) (StableHlo.upto (List.flatten [hostOps0, hostOps0_1]) W 50 (Proc.devRef .tc main_v34)) (StableHlo.upto (List.flatten [hostOps0, hostOps0_1]) W 50 (Proc.devRef .tc main_v35)) (StableHlo.upto (List.flatten [hostOps0, hostOps0_1]) W 50 (Proc.devRef .tc main_v36)) r l e).trans ?_
  simp (disch := decide) only [StableHlo.readAfter, StableHlo.readUpto, StableHlo.unary_result', StableHlo.nullary_result', StableHlo.binary_result', StableHlo.reshape_result', StableHlo.nary_result']
  generalize W (Proc.devRef .tc main_arg0) = y
  pointwise

/-- The last 128 lanes of such a row. -/
theorem tail_apply (x : FVec Ideal S8192x1920 .f32) (y : FVec Ideal S8192x64 .f32) (z w : FVec Ideal S8192x32 .f32) (r : Fin 8192) (d : Fin 128) :
    concatenate S8192x2048 1 [⟨S8192x1920, x⟩, ⟨S8192x64, y⟩, ⟨S8192x32, z⟩, ⟨S8192x32, w⟩] concatenates_S8192x1920_S8192x64_S8192x32_S8192x32_S8192x2048_d1 (ix2 r ⟨1920 + d.val, by omega⟩)
      = if e : d.val < 64 then y (ix2 r ⟨d.val, e⟩) else if e : d.val - 64 < 32 then z (ix2 r ⟨d.val - 64, e⟩) else w (ix2 r ⟨d.val - 64 - 32, by omega⟩) := by
  pointwise

set_option maxHeartbeats 4000000 in
theorem host_kl (r : Fin 8192) (d : Fin 128) :
    (V m c main_v37 (ix2 r ⟨1920 + d.val, by omega⟩) : EReal) = (arr m c).kl r d := by
  unfold V Arr.kl arr
  show _ = if d.val < 64 then (0 : EReal) else if e : d.val - 64 < 32 then (fun b => m (c, b)) (Proc.devRef .tc main_arg0) (ix2 r ⟨1920 + (d.val - 64), by omega⟩) else 0
  generalize (fun b => m (c, b)) = W
  simp (disch := decide) only [StableHlo.readAfter, StableHlo.readUpto, StableHlo.unary_result', StableHlo.nullary_result', StableHlo.binary_result', StableHlo.reshape_result', StableHlo.nary_result']
  refine (tail_apply (StableHlo.upto (List.flatten [hostOps0, hostOps0_1]) W 50 (Proc.devRef .tc main_v33)) (StableHlo.upto (List.flatten [hostOps0, hostOps0_1]) W 50 (Proc.devRef .tc main_v34)) (StableHlo.upto (List.flatten [hostOps0, hostOps0_1]) W 50 (Proc.devRef .tc main_v35)) (StableHlo.upto (List.flatten [hostOps0, hostOps0_1]) W 50 (Proc.devRef .tc main_v36)) r d).trans ?_
  simp (disch := decide) only [StableHlo.readAfter, StableHlo.readUpto, StableHlo.unary_result', StableHlo.nullary_result', StableHlo.binary_result', StableHlo.reshape_result', StableHlo.nary_result']
  generalize W (Proc.devRef .tc main_arg0) = y
  pointwise
  split_ifs <;> rfl

/-- The padded taps' entries. -/
theorem pad_taps (x : FVec Ideal S3x512 .f32) (k : Fin 8) (l : Fin 512) :
    pad S8x512 ![0, 0] ![5, 0] ![0, 0] x (sitofp (F := Ideal) .f32 (constantI S_ 32 0#32)) pads_S3x512_S8x512_050_000 h_S_ (ix2 k l)
      = if e : k.val < 3 then x (ix2 ⟨k.val, e⟩ l) else 0 := by
  pointwise
  simp only [zero_int]

theorem host_taps (k : Fin 8) (l : Fin 512) : (V m c main_v38 (ix2 k l) : EReal)
    = if e : k.val < 3 then (arr m c).w (ix2 ⟨k.val, e⟩ l) else 0 := by
  unfold V
  refine Eq.trans ?_ (pad_taps (arr m c).w k l)
  show _ = pad _ _ _ _ ((fun b => m (c, b)) (Proc.devRef .tc main_arg1)) _ _ _ _
  generalize (fun b => m (c, b)) = W
  simp (disch := decide) only [StableHlo.readAfter, StableHlo.readUpto, StableHlo.unary_result', StableHlo.nullary_result', StableHlo.binary_result', StableHlo.reshape_result', StableHlo.nary_result']
  rfl

end Cert.PreIdeal.Rows
end
-- ==== Proof.PreValue.lean ====
module

public import proofs.«01_k».proof.Proof.PreHost
public import proofs.«01_k».proof.Proof.Gen.PreIdeal.Value
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

/-! The mixer's rows before its attention: the blocks a step reads, and what it stores. -/

namespace Cert.PreIdeal.Rows

open Cert.PreIdeal Cert.PreIdeal.Gen Cert.Math
open Cert.QkIdeal.Grad (tabC tabA tabB back fwd)

variable (m : (ℓ : Loc nD τ sig) → Buf (Elt Ideal) ℓ) (c : Dev nD)

theorem idx : ∀ t : Fin cfg0.N, win0_0.index t = ![t.val, 0] ∧ win0_1.index t = ![128 * t.val - 1, 0] ∧ win0_2.index t = ![min (128 * t.val + 128) 1023, 0]
    ∧ win0_3.index t = ![128 * t.val - 1, 2] ∧ win0_4.index t = ![min (128 * t.val + 128) 1023, 2] ∧ win0_5.index t = ![0, 0]
    ∧ win0_6.index t = ![0, 0] ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- Whether a step is the first, and whether it is the last, as the kernel asks. -/
theorem first : ∀ t : Fin cfg0.N, Scalar.cmpi .sgt (BitVec.ofNat 32 (grid0.coords t 0).val) 0#32 = BitVec.ofBool (decide (0 < t.val)) :=
  (by decide +kernel : ∀ t : Fin grid0.N, _)
theorem last : ∀ t : Fin cfg0.N, Scalar.cmpi .slt (BitVec.ofNat 32 (grid0.coords t 0).val) 7#32 = BitVec.ofBool (decide (t.val < 7)) :=
  (by decide +kernel : ∀ t : Fin grid0.N, _)

theorem steps (t : Fin cfg0.N) : t.val < 8 := lt_of_lt_of_eq t.isLt N_0

variable (t : Fin cfg0.N)

/-- The row of the whole array that row `r` of a step's block is. -/
def rowOf (r : Fin 1024) : Fin 8192 := ⟨1024 * t.val + r.val, by have : t.val < grid0.N := t.isLt; rw [N_0] at this; omega⟩

/-! Entries of the blocks. -/

theorem blk_z (r : Fin 1024) (l : Fin 2048) : (iblk m c 0 t (ix2 r l) : EReal) = V m c main_v37 (ix2 (rowOf t r) l) := by
  blk_ext [iblk, rowOf, idx t]

theorem blk_low (r : Fin 1024) (l : Fin 2048) (e : l.val < 1920) : (iblk m c 0 t (ix2 r l) : EReal) = (arr m c).z (ix2 (rowOf t r) ⟨l.val, by omega⟩) :=
  (blk_z m c t r l).trans (host_z m c _ _ e)

theorem blk_xp (h : 0 < t.val) (l : Fin 512) : (iblk m c 1 t (ix2 7 l) : EReal) = V m c main_v37 (ix2 ⟨1024 * t.val - 1, by have := steps t; omega⟩ ⟨l.val, by omega⟩) := by
  have := steps t
  blk_ext [iblk, idx t]

theorem blk_xn (h : t.val < 7) (l : Fin 512) : (iblk m c 2 t (ix2 0 l) : EReal) = V m c main_v37 (ix2 ⟨1024 * t.val + 1024, by omega⟩ ⟨l.val, by omega⟩) := by
  have e : min (128 * t.val + 128) 1023 = 128 * t.val + 128 := by omega
  blk_ext [iblk, idx t, e]

theorem blk_cp (h : 0 < t.val) (l : Fin 512) : (iblk m c 3 t (ix2 7 l) : EReal) = V m c main_v37 (ix2 ⟨1024 * t.val - 1, by have := steps t; omega⟩ ⟨1024 + l.val, by omega⟩) := by
  have := steps t
  blk_ext [iblk, idx t]

theorem blk_cn (h : t.val < 7) (l : Fin 512) : (iblk m c 4 t (ix2 0 l) : EReal) = V m c main_v37 (ix2 ⟨1024 * t.val + 1024, by omega⟩ ⟨1024 + l.val, by omega⟩) := by
  have e : min (128 * t.val + 128) 1023 = 128 * t.val + 128 := by omega
  blk_ext [iblk, idx t, e]

theorem blk_w (k : Fin 3) (l : Fin 512) : (iblk m c 5 t (ix2 ⟨k.val, by omega⟩ l) : EReal) = (arr m c).w (ix2 k l) := by
  refine Eq.trans ?_ ((host_taps m c ⟨k.val, by omega⟩ l).trans (dif_pos k.isLt))
  blk_ext [iblk, idx t]

theorem blk_gq (l : Fin 256) : (iblk m c 6 t (ix2 0 l) : EReal) = (arr m c).gq (ix2 0 l) := by
  refine Eq.trans ?_ (congrFun (V_main_arg2 m c) (ix2 0 l))
  blk_ext [iblk, idx t]

theorem blk_gkv (l : Fin 128) : (iblk m c 7 t (ix2 0 l) : EReal) = (arr m c).gkv (ix2 0 l) := by
  refine Eq.trans ?_ (congrFun (V_main_arg3 m c) (ix2 0 l))
  blk_ext [iblk, idx t]

theorem blk_c (r : Fin 1024) (d : Fin 128) : (iblk m c 8 t (ix2 r d) : EReal) = tabC (rowOf t r) d := by
  rw [← host_tabC m c]
  blk_ext [iblk, rowOf, idx t]

theorem blk_a (r : Fin 1024) (d : Fin 128) : (iblk m c 9 t (ix2 r d) : EReal) = tabA (rowOf t r) d := by
  rw [← host_tabA m c]
  blk_ext [iblk, rowOf, idx t]

theorem blk_b (r : Fin 1024) (d : Fin 128) : (iblk m c 10 t (ix2 r d) : EReal) = tabB (rowOf t r) d := by
  rw [← host_tabB m c]
  blk_ext [iblk, rowOf, idx t]

/-! The pieces the kernel loads. -/

theorem ld_xc (r : Fin 1024) (l : Fin 512) : (View.ld (iblk m c 0 t) r0_0 (ix2 r l) : EReal) = (arr m c).xc (rowOf t r) l := by
  refine Eq.trans ?_ (blk_low m c t r ⟨l.val, by omega⟩ (by dsimp only; omega))
  pointwise

theorem ld_bg (r : Fin 1024) (l : Fin 512) : (View.ld (iblk m c 0 t) r0_1 (ix2 r l) : EReal) = (arr m c).bg (rowOf t r) l := by
  refine Eq.trans ?_ (blk_low m c t r ⟨512 + l.val, by omega⟩ (by dsimp only; omega))
  pointwise

theorem ld_cg (r : Fin 1024) (l : Fin 512) : (View.ld (iblk m c 0 t) r0_2 (ix2 r l) : EReal) = (arr m c).cg (rowOf t r) l := by
  refine Eq.trans ?_ (blk_low m c t r ⟨1024 + l.val, by omega⟩ (by dsimp only; omega))
  pointwise

theorem ld_q (r : Fin 1024) (l : Fin 256) : (View.ld (iblk m c 0 t) r0_8 (ix2 r l) : EReal) = (arr m c).q (rowOf t r) l := by
  refine Eq.trans ?_ (blk_low m c t r ⟨1536 + l.val, by omega⟩ (by dsimp only; omega))
  pointwise

theorem ld_kv (r : Fin 1024) (l : Fin 128) : (View.ld (iblk m c 0 t) r0_11 (ix2 r l) : EReal) = (arr m c).kv (rowOf t r) l := by
  refine Eq.trans ?_ (blk_low m c t r ⟨1792 + l.val, by omega⟩ (by dsimp only; omega))
  pointwise

theorem ld_kl (r : Fin 1024) (d : Fin 128) : (View.ld (iblk m c 0 t) r0_14 (ix2 r d) : EReal) = (arr m c).kl (rowOf t r) d := by
  refine Eq.trans ?_ ((blk_z m c t r ⟨1920 + d.val, by omega⟩).trans (host_kl m c _ d))
  pointwise

theorem ld_w0 (l : Fin 512) : (View.ld (iblk m c 5 t) r0_4 (ix2 0 l) : EReal) = (arr m c).w (ix2 0 l) := by
  refine Eq.trans ?_ (blk_w m c t 0 l)
  pointwise

theorem ld_w1 (l : Fin 512) : (View.ld (iblk m c 5 t) r0_5 (ix2 0 l) : EReal) = (arr m c).w (ix2 1 l) := by
  refine Eq.trans ?_ (blk_w m c t 1 l)
  pointwise

theorem ld_w2 (l : Fin 512) : (View.ld (iblk m c 5 t) r0_6 (ix2 0 l) : EReal) = (arr m c).w (ix2 2 l) := by
  refine Eq.trans ?_ (blk_w m c t 2 l)
  pointwise

/-! Turning a block by one row. -/

theorem rot1 (x : FVec Ideal S1024x512 .f32) (r : Fin 1024) (l : Fin 512) :
    dynamicRotate 0 1#32 none x rotates_S1024x512_d0 (ix2 r l) = x (ix2 ⟨(r.val + 1023) % 1024, by omega⟩ l) :=
  dynamicRotate_apply (0 : Fin 2) 1#32 x _ (ix2 r l) _ (fun b => by
    match b with
    | ⟨0, _⟩ => show (r.val + 1023) % 1024 = (r.val + 1024 - 1 % 1024) % 1024; omega
    | ⟨1, _⟩ => rfl)

theorem rot1023 (x : FVec Ideal S1024x512 .f32) (r : Fin 1024) (l : Fin 512) :
    dynamicRotate 0 1023#32 none x rotates_S1024x512_d0 (ix2 r l) = x (ix2 ⟨(r.val + 1) % 1024, by omega⟩ l) :=
  dynamicRotate_apply (0 : Fin 2) 1023#32 x _ (ix2 r l) _ (fun b => by
    match b with
    | ⟨0, _⟩ => show (r.val + 1) % 1024 = (r.val + 1024 - 1023 % 1024) % 1024; omega
    | ⟨1, _⟩ => rfl)

/-- The gated input of the convolution. -/
abbrev pm : FVec Ideal S1024x512 .f32 := k0_pay4 (F := Ideal) (View.ld (iblk m c 0 t) r0_0) (View.ld (iblk m c 0 t) r0_2)

theorem pay_mx (r : Fin 1024) (l : Fin 512) : (pm m c t (ix2 r l) : EReal) = (arr m c).mx (rowOf t r) l := by
  refine Eq.trans ?_ (congrArg₂ (· * ·) (ld_cg m c t r l) (ld_xc m c t r l))
  pointwise [pm, k0_pay4]

/-- The row before the block's first, and the row after its last. -/
theorem edge_up (l : Fin 512) : (k0_pay5 (F := Ideal) (grid0.coords t) (View.ld (iblk m c 2 t) r0_4) (View.ld (iblk m c 4 t) r0_4) (ix2 0 l) : EReal)
    = up (fun r => (arr m c).mx r l) (rowOf t 1023) := by
  have ht := steps t
  have e := last t
  unfold k0_pay5
  rw [e]
  unfold up
  by_cases h : t.val < 7
  · rw [dif_pos (by unfold rowOf; dsimp only; omega), decide_eq_true h]
    have a : (iblk m c 2 t (ix2 0 l) : EReal) = _ := (blk_xn m c t h l).trans (host_z m c _ _ (by dsimp only; omega))
    have b : (iblk m c 4 t (ix2 0 l) : EReal) = _ := (blk_cn m c t h l).trans (host_z m c _ _ (by dsimp only; omega))
    refine Eq.trans ?_ ((congrArg₂ (fun p q : EReal => p * q) a b).trans ((mul_comm (G := EReal) _ _).trans ?_))
    · pointwise
    · unfold Arr.mx Arr.cg Arr.xc rowOf
      rfl
  · rw [dif_neg (by unfold rowOf; dsimp only; omega), decide_eq_false h]
    pointwise
    rfl

/-- The two halves of the row before the block's first. -/
abbrev xp : FVec Ideal S1x512 .f32 := View.ld (iblk m c 1 t) r0_3
abbrev cp : FVec Ideal S1x512 .f32 := View.ld (iblk m c 3 t) r0_3

theorem edge_dn (l : Fin 512) : (Scalar.select (Scalar.cmpi .sgt (BitVec.ofNat 32 (grid0.coords t 0).val) 0#32)
      ((xp m c t (ix2 0 l) : EReal) * (cp m c t (ix2 0 l) : EReal)) 0 : EReal)
    = dn (fun r => (arr m c).mx r l) (rowOf t 0) := by
  have ht := steps t
  have e := first t
  rw [e]
  unfold dn
  by_cases h : 0 < t.val
  · rw [dif_pos (by unfold rowOf; dsimp only; omega), decide_eq_true h]
    have a : (iblk m c 1 t (ix2 7 l) : EReal) = _ := (blk_xp m c t h l).trans (host_z m c _ _ (by dsimp only; omega))
    have b : (iblk m c 3 t (ix2 7 l) : EReal) = _ := (blk_cp m c t h l).trans (host_z m c _ _ (by dsimp only; omega))
    refine Eq.trans ?_ ((congrArg₂ (fun p q : EReal => p * q) a b).trans ((mul_comm (G := EReal) _ _).trans ?_))
    · unfold xp cp
      pointwise
    · unfold Arr.mx Arr.cg Arr.xc rowOf
      rfl
  · rw [dif_neg (by unfold rowOf; dsimp only; omega), decide_eq_false h]
    rfl

/-- The rows one above, with the row before the block's first in the first's place, times the first tap. -/
theorem pay6_at (i : grid0.Coords) (v0 v4 : Vec Ideal S1024x512 .f32) (v8 v10 v30 : Vec Ideal S1x512 .f32) (r : Fin 1024) (l : Fin 512) :
    (k0_pay6 (F := Ideal) i v0 v4 v8 v10 v30 (ix2 r l) : EReal) = (if r.val = 0 then
      Scalar.select (Scalar.cmpi .sgt (BitVec.ofNat 32 (i 0).val) 0#32) ((v8 (ix2 0 l) : EReal) * (v10 (ix2 0 l) : EReal)) 0
      else (k0_pay4 (F := Ideal) v0 v4 (ix2 ⟨(r.val + 1023) % 1024, by omega⟩ l) : EReal)) * (v30 (ix2 0 l) : EReal) := by
  rw [← rot1 (k0_pay4 v0 v4) r l]
  unfold k0_pay6
  generalize k0_pay4 (F := Ideal) v0 v4 = y
  generalize dynamicRotate 0 1#32 none y rotates_S1024x512_d0 = y'
  generalize Scalar.cmpi .sgt (BitVec.ofNat 32 (i 0).val) 0#32 = b
  have e : IntOp.cmpi .eq (BitVec.ofNat 32 r.val) 0#32 = BitVec.ofBool (decide (r.val = 0)) := WordCmp.cmpi_eq_ofNat (by omega) (by omega)
  pointwise
  rw [e, WordCmp.select_decide]

/-- What is stored for the convolution. -/
theorem pay7_at (v3 v6 v33 : FVec Ideal S1024x512 .f32) (v22 v34 v46 : Vec Ideal S1x512 .f32) (r : Fin 1024) (l : Fin 512) :
    (k0_pay7 (F := Ideal) v3 v6 v22 v33 v34 v46 (ix2 r l) : EReal) = v3 (ix2 r l) * (v33 (ix2 r l) + v6 (ix2 r l) * v34 (ix2 0 l)
      + (if r.val = 1023 then v22 (ix2 0 l) else v6 (ix2 ⟨(r.val + 1) % 1024, by omega⟩ l)) * v46 (ix2 0 l)) := by
  rw [← rot1023 v6 r l]
  unfold k0_pay7
  generalize dynamicRotate 0 1023#32 none v6 rotates_S1024x512_d0 = y'
  have e : IntOp.cmpi .eq (BitVec.ofNat 32 r.val) 1023#32 = BitVec.ofBool (decide (r.val = 1023)) := WordCmp.cmpi_eq_ofNat (by omega) (by omega)
  pointwise
  rw [e, WordCmp.select_decide]

theorem yc_at (r : Fin 1024) (l : Fin 512) : (k0_pay7 (F := Ideal) (k0_pay3 (View.ld (iblk m c 0 t) r0_1)) (pm m c t)
      (k0_pay5 (grid0.coords t) (View.ld (iblk m c 2 t) r0_4) (View.ld (iblk m c 4 t) r0_4))
      (k0_pay6 (grid0.coords t) (View.ld (iblk m c 0 t) r0_0) (View.ld (iblk m c 0 t) r0_2) (xp m c t) (cp m c t) (View.ld (iblk m c 5 t) r0_4))
      (View.ld (iblk m c 5 t) r0_5) (View.ld (iblk m c 5 t) r0_6) (ix2 r l) : EReal) = YC (arr m c) (ix2 (rowOf t r) l) := by
  have ht := steps t
  have hb : (k0_pay3 (F := Ideal) (View.ld (iblk m c 0 t) r0_1) (ix2 r l) : EReal) = (arr m c).bg (rowOf t r) l := by
    rw [← ld_bg m c t r l]
    pointwise [k0_pay3]
  have hdn : (if r.val = 0 then Scalar.select (Scalar.cmpi .sgt (BitVec.ofNat 32 (grid0.coords t 0).val) 0#32) ((xp m c t (ix2 0 l) : EReal) * (cp m c t (ix2 0 l) : EReal)) 0
      else (k0_pay4 (F := Ideal) (View.ld (iblk m c 0 t) r0_0) (View.ld (iblk m c 0 t) r0_2) (ix2 ⟨(r.val + 1023) % 1024, by omega⟩ l) : EReal))
      = dn (fun r => (arr m c).mx r l) (rowOf t r) := by
    by_cases e : r.val = 0
    · rw [if_pos e, edge_dn, show r = 0 from Fin.ext e]
    · rw [if_neg e]
      refine (pay_mx m c t _ l).trans ?_
      unfold dn
      rw [dif_pos (by unfold rowOf; dsimp only; omega)]
      exact congrArg (fun r => (arr m c).mx r l) (Fin.ext (by unfold rowOf; dsimp only; omega))
  have hup : (if r.val = 1023 then (k0_pay5 (F := Ideal) (grid0.coords t) (View.ld (iblk m c 2 t) r0_4) (View.ld (iblk m c 4 t) r0_4) (ix2 0 l) : EReal)
      else (pm m c t (ix2 ⟨(r.val + 1) % 1024, by omega⟩ l) : EReal)) = up (fun r => (arr m c).mx r l) (rowOf t r) := by
    by_cases e : r.val = 1023
    · rw [if_pos e, edge_up, show r = 1023 from Fin.ext e]
    · rw [if_neg e, pay_mx]
      unfold up
      rw [dif_pos (by unfold rowOf; dsimp only; omega)]
      exact congrArg (fun r => (arr m c).mx r l) (Fin.ext (by unfold rowOf; dsimp only; omega))
  rw [pay7_at, pay6_at, hb, hdn, hup, pay_mx, ld_w0, ld_w1, ld_w2]
  rfl

/-- The queries' normed rows. -/
theorem qn_at (r : Fin 1024) (l : Fin 256) : (k0_pay8 (F := Ideal) (View.ld (iblk m c 0 t) r0_8) (View.ld (iblk m c 6 t) r0_9) (ix2 r l) : EReal)
    = QN (arr m c) (ix2 (rowOf t r) l) := by
  have h := ld_q m c t r
  have g : (View.ld (iblk m c 6 t) r0_9 (ix2 0 l) : EReal) = _ := Eq.trans (by pointwise) (blk_gq m c t l)
  unfold k0_pay8
  generalize View.ld (iblk m c 0 t) r0_8 = y at *
  generalize View.ld (iblk m c 6 t) r0_9 = y' at *
  pointwise [QN, rmsScale, rmsQ]
  simp only [h, g]

/-- The keys' and values' normed rows. -/
theorem kvn_at (r : Fin 1024) (l : Fin 128) : (k0_pay1 (F := Ideal) (k0_pay9 (View.ld (iblk m c 0 t) r0_11)) (k0_pay10 (View.ld (iblk m c 0 t) r0_11)) (View.ld (iblk m c 7 t) r0_12) (ix2 r l) : EReal)
    = KVN (arr m c) (ix2 (rowOf t r) l) := by
  have h := ld_kv m c t r
  have g : (View.ld (iblk m c 7 t) r0_12 (ix2 0 l) : EReal) = _ := Eq.trans (by pointwise) (blk_gkv m c t l)
  unfold k0_pay1 k0_pay10 k0_pay9
  generalize View.ld (iblk m c 0 t) r0_11 = y at *
  generalize View.ld (iblk m c 7 t) r0_12 = y' at *
  pointwise [KVN, rmsScale, rmsQ]
  simp only [h, g]

theorem rot16 (x : FVec Ideal S1024x128 .f32) (r : Fin 1024) (d : Fin 128) :
    dynamicRotate 1 16#32 none x rotates_S1024x128_d1 (ix2 r d) = x (ix2 r (back d)) := Cert.QkIdeal.Grad.rot16 x r d
theorem rot112 (x : FVec Ideal S1024x128 .f32) (r : Fin 1024) (d : Fin 128) :
    dynamicRotate 1 112#32 none x rotates_S1024x128_d1 (ix2 r d) = x (ix2 r (fwd d)) := Cert.QkIdeal.Grad.rot112 x r d

theorem pay2_at (x y z w : FVec Ideal S1024x128 .f32) (r : Fin 1024) (d : Fin 128) : (k0_pay2 (F := Ideal) x y z w (ix2 r d) : EReal)
    = x (ix2 r d) * y (ix2 r d) + x (ix2 r (fwd d)) * z (ix2 r d) + x (ix2 r (back d)) * w (ix2 r d) := by
  refine Eq.trans ?_ (congrArg₂ (fun p q : EReal => x (ix2 r d) * y (ix2 r d) + p * z (ix2 r d) + q * w (ix2 r d)) (rot112 x r d) (rot16 x r d))
  have e : shapeCast S1024x128 x shapeCasts_S1024x128_S1024x128 = x := by
    funext i
    idx_vars i
    pointwise
  unfold k0_pay2
  rw [e]
  dsimp only
  generalize dynamicRotate 1 112#32 none x rotates_S1024x128_d1 = x1
  generalize dynamicRotate 1 16#32 none x rotates_S1024x128_d1 = x2
  pointwise

/-- The turned positional lanes. -/
theorem kr_at (r : Fin 1024) (d : Fin 128) : (k0_pay2 (F := Ideal) (View.ld (iblk m c 0 t) r0_14) (View.ld (iblk m c 8 t) r0_13) (View.ld (iblk m c 9 t) r0_13) (View.ld (iblk m c 10 t) r0_13) (ix2 r d) : EReal)
    = KR (arr m c) (ix2 (rowOf t r) d) := by
  have h1 : (View.ld (iblk m c 8 t) r0_13 (ix2 r d) : EReal) = _ := Eq.trans (by pointwise) (blk_c m c t r d)
  have h2 : (View.ld (iblk m c 9 t) r0_13 (ix2 r d) : EReal) = _ := Eq.trans (by pointwise) (blk_a m c t r d)
  have h3 : (View.ld (iblk m c 10 t) r0_13 (ix2 r d) : EReal) = _ := Eq.trans (by pointwise) (blk_b m c t r d)
  rw [pay2_at, h1, h2, h3, ld_kl, ld_kl, ld_kl]
  rfl

/-! The four results as the kernel leaves them. -/

theorem emb11 (y : ((cfg0.win 11).xblock (cfg0.grid.coords t)).Idx) (r : Fin 1024) (l : Fin 512) (h0 : (y 0).val = r.val) (h1 : (y 1).val = l.val) :
    ((View.whole main_v39_0).slice (win0_11.rect t)).emb y = ix2 (rowOf t r) l := by
  blk_ext [rowOf, idx t]

theorem final11 : (dats m 0 c).arrAt 11 (cfgs 0).N = YC (arr m c) := by
  refine (dats m 0 c).arrAt_eq_of_covers 11 _ (by decide +kernel) fun t _ y => ?_
  blk_simp
  rw [after0_11]
  unfold out0_11
  canon_tiles x h
  idx_vars x
  rw [emb11 t y x0 x1 h0 h1]
  exact yc_at m c t x0 x1

theorem emb12 (y : ((cfg0.win 12).xblock (cfg0.grid.coords t)).Idx) (r : Fin 1024) (l : Fin 256) (h0 : (y 0).val = r.val) (h1 : (y 1).val = l.val) :
    ((View.whole main_v39_1).slice (win0_12.rect t)).emb y = ix2 (rowOf t r) l := by
  blk_ext [rowOf, idx t]

theorem final12 : (dats m 0 c).arrAt 12 (cfgs 0).N = QN (arr m c) := by
  refine (dats m 0 c).arrAt_eq_of_covers 12 _ (by decide +kernel) fun t _ y => ?_
  blk_simp
  rw [after0_12]
  unfold out0_12
  canon_tiles x h
  idx_vars x
  rw [emb12 t y x0 x1 h0 h1]
  exact qn_at m c t x0 x1

theorem emb13 (y : ((cfg0.win 13).xblock (cfg0.grid.coords t)).Idx) (r : Fin 1024) (l : Fin 128) (h0 : (y 0).val = r.val) (h1 : (y 1).val = l.val) :
    ((View.whole main_v39_2).slice (win0_13.rect t)).emb y = ix2 (rowOf t r) l := by
  blk_ext [rowOf, idx t]

theorem final13 : (dats m 0 c).arrAt 13 (cfgs 0).N = KVN (arr m c) := by
  refine (dats m 0 c).arrAt_eq_of_covers 13 _ (by decide +kernel) fun t _ y => ?_
  blk_simp
  rw [after0_13]
  unfold out0_13
  canon_tiles x h
  idx_vars x
  rw [emb13 t y x0 x1 h0 h1]
  exact kvn_at m c t x0 x1

theorem emb14 (y : ((cfg0.win 14).xblock (cfg0.grid.coords t)).Idx) (r : Fin 1024) (l : Fin 128) (h0 : (y 0).val = r.val) (h1 : (y 1).val = l.val) :
    ((View.whole main_v39_3).slice (win0_14.rect t)).emb y = ix2 (rowOf t r) l := by
  blk_ext [rowOf, idx t]

theorem final14 : (dats m 0 c).arrAt 14 (cfgs 0).N = KR (arr m c) := by
  refine (dats m 0 c).arrAt_eq_of_covers 14 _ (by decide +kernel) fun t _ y => ?_
  blk_simp
  rw [after0_14]
  unfold out0_14
  canon_tiles x h
  idx_vars x
  rw [emb14 t y x0 x1 h0 h1]
  exact kr_at m c t x0 x1

end Cert.PreIdeal.Rows
end
-- ==== Proof.PreRef.lean ====
module

public import proofs.«01_k».proof.Proof.PreHost
public import proofs.«01_k».proof.Proof.Gen.PreRefIdeal.Read

@[expose] public section

set_option maxRecDepth 16384

noncomputable section

open Idealize.ShloMosaic Idealize.ShloMosaic.TcCoe Idealize.SL.Sem
open Idealize.ShloMosaic.Pipeline (Dat)

/-! The mixer's rows before its attention: the reference's values, row by row. -/

namespace Cert.PreClaims

open Cert.PreRefIdeal Cert.PreRefIdeal.Gen Cert.PreRefIdeal.Read Cert.Math
open Cert.QkIdeal.Grad (tabC tabA tabB cosOf sinOf angle zero_int back fwd)
open Cert.PreIdeal.Rows (Arr dn up YC QN KVN KR NQ NK E)

theorem angle_at (r : Fin 8192) (k : Fin 16) : val_main_v15 (F := Ideal) (ix2 r k) = angle (ix2 r k) := by
  pointwise [val_main_v15, val_main_v14, val_main_v13, val_main_v12, val_main_v11, val_main_v10, val_main_v9, val_main_cst_2, val_main_v8,
    val_main_v7, val_main_cst_1, val_main_v6, val_main_v5, val_main_v4, val_main_cst_0, val_main_v3, val_main_v2, val_main_cst, val_main_v1,
    val_main_v0, angle]

theorem cat_at (r : Fin 8192) (k : Fin 32) : val_main_v16 (F := Ideal) (ix2 r k)
    = if e : k.val < 16 then angle (ix2 r ⟨k.val, e⟩) else angle (ix2 r ⟨k.val - 16, by omega⟩) := by
  simp only [← angle_at]
  unfold val_main_v16
  generalize val_main_v15 (F := Ideal) = y
  pointwise

theorem cos_at (r : Fin 8192) (k : Fin 32) : val_main_v17 (F := Ideal) (ix2 r k)
    = if e : k.val < 16 then cosOf r ⟨k.val, e⟩ else cosOf r ⟨k.val - 16, by omega⟩ := by
  have := cat_at r k
  pointwise [val_main_v17]
  rw [this]
  split_ifs <;> rfl

theorem sin_at (r : Fin 8192) (k : Fin 32) : val_main_v18 (F := Ideal) (ix2 r k)
    = if e : k.val < 16 then sinOf r ⟨k.val, e⟩ else sinOf r ⟨k.val - 16, by omega⟩ := by
  have := cat_at r k
  pointwise [val_main_v18]
  rw [this]
  split_ifs <;> rfl

variable (x0 : FVec Ideal S8192x1952 .f32) (x1 : FVec Ideal S3x512 .f32) (x2 : FVec Ideal S1x256 .f32) (x3 : FVec Ideal S1x128 .f32)

/-- The four arguments as one. -/
abbrev A : Arr := ⟨x0, x1, x2, x3⟩

theorem mx_at (r : Fin 8192) (l : Fin 512) : (val_main_v25 (F := Ideal) x0 (ix2 r l) : EReal) = (A x0 x1 x2 x3).mx r l := by
  pointwise [val_main_v25, val_main_v21, val_main_v19, Arr.mx, Arr.cg, Arr.xc]

/-- The rows with a zero row before and after. -/
theorem halo_at (r : Fin 8194) (l : Fin 512) : (val_main_v27 (F := Ideal) x0 (ix2 r l) : EReal)
    = if r.val < 1 then 0 else if e : r.val - 1 < 8192 then (A x0 x1 x2 x3).mx ⟨r.val - 1, e⟩ l else 0 := by
  simp only [← mx_at]
  unfold val_main_v27
  generalize val_main_v25 (F := Ideal) x0 = y
  pointwise [val_main_v26, val_main_cst_3]
  split_ifs <;> rfl

theorem above (r : Fin 8192) (l : Fin 512) : (val_main_v28 (F := Ideal) x0 (ix2 r l) : EReal) = dn (fun r => (A x0 x1 x2 x3).mx r l) r := by
  have h := halo_at x0 x1 x2 x3 ⟨r.val, by omega⟩ l
  unfold val_main_v28
  generalize val_main_v27 (F := Ideal) x0 = y at *
  pointwise
  rw [h, dn]
  by_cases g : 0 < r.val
  · rw [dif_pos g, if_neg (by dsimp only; omega), dif_pos (by dsimp only; omega)]
  · rw [dif_neg g, if_pos (by dsimp only; omega)]

theorem same (r : Fin 8192) (l : Fin 512) : (val_main_v34 (F := Ideal) x0 (ix2 r l) : EReal) = (A x0 x1 x2 x3).mx r l := by
  have h := halo_at x0 x1 x2 x3 ⟨1 + r.val, by omega⟩ l
  unfold val_main_v34
  generalize val_main_v27 (F := Ideal) x0 = y at *
  pointwise
  rw [h, if_neg (by dsimp only; omega), dif_pos (by dsimp only; omega)]
  exact congrArg (fun r => (A x0 x1 x2 x3).mx r l) (Fin.ext (Nat.add_sub_cancel_left 1 r.val))

theorem below (r : Fin 8192) (l : Fin 512) : (val_main_v41 (F := Ideal) x0 (ix2 r l) : EReal) = up (fun r => (A x0 x1 x2 x3).mx r l) r := by
  have h := halo_at x0 x1 x2 x3 ⟨2 + r.val, by omega⟩ l
  unfold val_main_v41
  generalize val_main_v27 (F := Ideal) x0 = y at *
  pointwise
  rw [h, up, if_neg (by dsimp only; omega)]
  by_cases g : r.val < 8191
  · rw [dif_pos g, dif_pos (by dsimp only; omega)]
    exact congrArg (fun r => (A x0 x1 x2 x3).mx r l) (Fin.ext (by dsimp only; omega))
  · rw [dif_neg g, dif_neg (by dsimp only; omega)]

/-- The gated convolution. -/
theorem ref_yc : val_main_v57 (F := Ideal) x0 x1 = YC (A x0 x1 x2 x3) := by
  funext i
  idx_vars i
  have h1 := above x0 x1 x2 x3 i0 i1
  have h2 := same x0 x1 x2 x3 i0 i1
  have h3 := below x0 x1 x2 x3 i0 i1
  unfold val_main_v57 val_main_v48 val_main_v47 val_main_v46 val_main_v40 val_main_v39 val_main_v33
  generalize val_main_v28 (F := Ideal) x0 = y1 at *
  generalize val_main_v34 (F := Ideal) x0 = y2 at *
  generalize val_main_v41 (F := Ideal) x0 = y3 at *
  pointwise [YC, Arr.bg, Arr.cm, val_main_v20, val_main_v45, val_main_v44, val_main_v43, val_main_v42, val_main_v38, val_main_v37, val_main_v36,
    val_main_v35, val_main_v32, val_main_v31, val_main_v30, val_main_v29]
  rw [h1, h2, h3]

/-- The queries' normed rows. -/
theorem ref_qn : val_main_v70 (F := Ideal) x0 x2 = QN (A x0 x1 x2 x3) := by
  funext i
  idx_vars i
  pointwise [val_main_v58, val_main_v59, val_main_v60, val_main_v61, val_main_v62, val_main_v63, val_main_v64, val_main_v65, val_main_v66, val_main_v67, val_main_v68, val_main_v69, val_main_v70, val_main_v22, val_main_cst_4, val_main_cst_5, val_main_cst_6, QN, Arr.q, rmsScale, rmsQ]

/-- The keys' and values' normed rows. -/
theorem ref_kvn : val_main_v83 (F := Ideal) x0 x3 = KVN (A x0 x1 x2 x3) := by
  funext i
  idx_vars i
  pointwise [val_main_v71, val_main_v72, val_main_v73, val_main_v74, val_main_v75, val_main_v76, val_main_v77, val_main_v78, val_main_v79, val_main_v80, val_main_v81, val_main_v82, val_main_v83, val_main_v23, val_main_cst_7, val_main_cst_8, val_main_cst_9, KVN, Arr.kv, rmsScale, rmsQ]

/-- The positional lanes, and the same with the halves exchanged. -/
theorem pos_at (r : Fin 8192) (k : Fin 32) : (val_main_v24 (F := Ideal) x0 (ix2 r k) : EReal) = x0 (ix2 r ⟨1920 + k.val, by omega⟩) := by
  pointwise [val_main_v24]

theorem swap_at (r : Fin 8192) (k : Fin 32) : (val_main_v53 (F := Ideal) x0 (ix2 r k) : EReal)
    = if e : k.val < 16 then -x0 (ix2 r ⟨1920 + (k.val + 16), by omega⟩) else x0 (ix2 r ⟨1920 + (k.val - 16), by omega⟩) := by
  simp only [← pos_at x0 r ⟨k.val - 16, by omega⟩]
  unfold val_main_v53 val_main_v52 val_main_v51 val_main_v50
  by_cases e : k.val < 16
  · rw [dif_pos e, ← pos_at x0 r ⟨k.val + 16, by omega⟩]
    generalize val_main_v24 (F := Ideal) x0 = y
    pointwise
    rw [dif_pos e]
    simp only [Nat.add_comm 16]
  · rw [dif_neg e]
    generalize val_main_v24 (F := Ideal) x0 = y
    pointwise
    rw [dif_neg e]

theorem kl_in (r : Fin 8192) (k : Nat) (e : k < 32) : (A x0 x1 x2 x3).kl r ⟨k + 64, by omega⟩ = x0 (ix2 r ⟨1920 + k, by omega⟩) := by
  unfold Arr.kl
  rw [if_neg (by dsimp only; omega), dif_pos (by dsimp only; omega)]
  exact congrArg (fun k => x0 (ix2 r k)) (Fin.ext (by dsimp only; omega))

theorem turned_at (r : Fin 8192) (k : Fin 32) : (val_main_v55 (F := Ideal) x0 (ix2 r k) : EReal) = (A x0 x1 x2 x3).kr r ⟨k.val + 64, by omega⟩ := by
  have e : (val_main_v55 (F := Ideal) x0 (ix2 r k) : EReal) = val_main_v24 (F := Ideal) x0 (ix2 r k) * val_main_v17 (F := Ideal) (ix2 r k)
      + val_main_v53 (F := Ideal) x0 (ix2 r k) * val_main_v18 (F := Ideal) (ix2 r k) := rfl
  rw [e, pos_at, swap_at, cos_at, sin_at]
  unfold Arr.kr
  by_cases h1 : k.val < 16
  · simp only [dif_pos h1]
    have hB : tabB r ⟨k.val + 64, by omega⟩ = 0 := by
      unfold tabB
      rw [if_neg (by dsimp only; omega), if_pos (by dsimp only; omega)]
    have hA : tabA r ⟨k.val + 64, by omega⟩ = -sinOf r ⟨k.val, h1⟩ := by
      unfold tabA
      rw [if_neg (by dsimp only; omega), dif_pos (by dsimp only; omega)]
      exact congrArg (fun k => -sinOf r k) (Fin.ext (Nat.add_sub_cancel k.val 64))
    have hC : tabC r ⟨k.val + 64, by omega⟩ = cosOf r ⟨k.val, h1⟩ := by
      unfold tabC
      rw [if_neg (by dsimp only; omega), dif_pos (by dsimp only; omega)]
      exact congrArg (cosOf r) (Fin.ext (Nat.add_sub_cancel k.val 64))
    have hf : fwd ⟨k.val + 64, by omega⟩ = ⟨k.val + 16 + 64, by omega⟩ := Fin.ext (by unfold fwd; dsimp only; omega)
    rw [hA, hB, hC, hf, mul_zero, add_zero, kl_in x0 x1 x2 x3 r k.val (by omega), kl_in x0 x1 x2 x3 r (k.val + 16) (by omega), neg_mul, mul_neg]
  · simp only [dif_neg h1]
    have hB : tabB r ⟨k.val + 64, by omega⟩ = sinOf r ⟨k.val - 16, by omega⟩ := by
      unfold tabB
      rw [if_neg (by dsimp only; omega), if_neg (by dsimp only; omega), dif_pos (by dsimp only; omega)]
      exact congrArg (sinOf r) (Fin.ext (by dsimp only; omega))
    have hA : tabA r ⟨k.val + 64, by omega⟩ = 0 := by
      unfold tabA
      rw [if_neg (by dsimp only; omega), dif_neg (by dsimp only; omega)]
    have hC : tabC r ⟨k.val + 64, by omega⟩ = cosOf r ⟨k.val - 16, by omega⟩ := by
      unfold tabC
      rw [if_neg (by dsimp only; omega), dif_neg (by dsimp only; omega), dif_pos (by dsimp only; omega)]
      exact congrArg (cosOf r) (Fin.ext (by dsimp only; omega))
    have hb : back ⟨k.val + 64, by omega⟩ = ⟨k.val - 16 + 64, by omega⟩ := Fin.ext (by unfold back; dsimp only; omega)
    rw [hA, hB, hC, hb, mul_zero, add_zero, kl_in x0 x1 x2 x3 r k.val (by omega), kl_in x0 x1 x2 x3 r (k.val - 16) (by omega)]

/-- The turned positional lanes in their place. -/
theorem ref_kr : val_main_v56 (F := Ideal) x0 = KR (A x0 x1 x2 x3) := by
  funext i
  idx_vars i
  have h := turned_at x0 x1 x2 x3 i0
  unfold val_main_v56 val_main_call0_v0 val_main_c
  generalize val_main_v55 (F := Ideal) x0 = y at *
  pointwise [KR]
  by_cases g : 64 ≤ i1.val ∧ i1.val - 64 < 32
  · rw [dif_pos g, h]
    exact congrArg ((A x0 x1 x2 x3).kr i0) (Fin.ext (by dsimp only; omega))
  · have hK : (A x0 x1 x2 x3).kl i0 i1 = 0 := by
      unfold Arr.kl
      split_ifs <;> first | rfl | omega
    have hA : tabA i0 i1 = 0 := by
      unfold tabA
      split_ifs <;> first | rfl | omega
    have hB : tabB i0 i1 = 0 := by
      unfold tabB
      split_ifs <;> first | rfl | omega
    rw [dif_neg g, zero_int]
    unfold Arr.kr
    rw [hK, hA, hB, zero_mul, mul_zero, mul_zero, add_zero, add_zero]

end Cert.PreClaims
end
-- ==== Proof.Pre.lean ====
module

public import proofs.«01_k».proof.Proof.PreValue
public import proofs.«01_k».proof.Proof.PreRef
public import proofs.«01_k».proof.Proof.Gen.Pre.Frame
public import proofs.«01_k».proof.Proof.Gen.PreRefIdeal.Run
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The mixer's rows before its attention: the claims. -/

namespace Cert.PreClaims

open Cert.PreIdeal.Rows (arr YC QN KVN KR)

/-- The first program's frame. -/
theorem frame_kernel : Cert.quiescent_Pre := fun m ρ _ => Cert.Pre.Gen.frame m ρ

/-- The ideal program's frame. -/
theorem frame_ideal : Cert.quiescent_PreIdeal := fun m ρ _ => Cert.PreIdeal.Gen.frame m ρ

/-- The reference's frame. -/
theorem frame_ref : Cert.quiescent_PreRefIdeal := fun m ρ _ =>
  (θ_run Cert.PreRefIdeal.defs _ _).mono (fun r h => ⟨fun c => (h c).2.2.2.2, sem_eq_zero_of_no_sems (by decide) r.2⟩)
    (Cert.PreRefIdeal.Value.run m ρ)

/-- All four results are the reference's. -/
theorem algebraic : Cert.algebraic_PreIdeal_PreRefIdeal := by
  intro m g m' g' _ hag
  refine ⟨fun c => YC (arr m c), fun c => QN (arr m c), fun c => KVN (arr m c), fun c => KR (arr m c), ?_, ?_⟩
  · exact (θ_run _ _ _).mono (fun r h c => ⟨(Cert.PreIdeal.Value.post11 m r h c).trans (Cert.PreIdeal.Rows.final11 m c),
      (Cert.PreIdeal.Value.post12 m r h c).trans (Cert.PreIdeal.Rows.final12 m c), (Cert.PreIdeal.Value.post13 m r h c).trans (Cert.PreIdeal.Rows.final13 m c),
      (Cert.PreIdeal.Value.post14 m r h c).trans (Cert.PreIdeal.Rows.final14 m c), Cert.PreIdeal.Value.kept_main_arg0 m r h c,
      Cert.PreIdeal.Value.kept_main_arg1 m r h c, Cert.PreIdeal.Value.kept_main_arg2 m r h c,
      Cert.PreIdeal.Value.kept_main_arg3 m r h c⟩) (Cert.PreIdeal.Gen.run_main m g)
  · refine (θ_run _ _ _).mono (fun r h c => ⟨(h c).1.trans ?_, (h c).2.1.trans ?_, (h c).2.2.1.trans ?_, (h c).2.2.2.1.trans ?_, (h c).2.2.2.2⟩)
      (Cert.PreRefIdeal.Value.run m' g')
    · obtain ⟨a0, a1, a2, a3⟩ := hag c
      rw [Cert.PreRefIdeal.Read.val_main_v57_eq, a0, a1]
      exact ref_yc _ _ _ _
    · obtain ⟨a0, a1, a2, a3⟩ := hag c
      rw [Cert.PreRefIdeal.Read.val_main_v70_eq, a0, a2]
      exact ref_qn _ _ _ _
    · obtain ⟨a0, a1, a2, a3⟩ := hag c
      rw [Cert.PreRefIdeal.Read.val_main_v83_eq, a0, a3]
      exact ref_kvn _ _ _ _
    · obtain ⟨a0, a1, a2, a3⟩ := hag c
      rw [Cert.PreRefIdeal.Read.val_main_v56_eq, a0]
      exact ref_kr _ _ _ _

end Cert.PreClaims
end
-- ==== Proof.In.lean ====
module

public import Idealize.ShloMosaic.Lib.StableHlo.RunRead
public import proofs.«01_k».proof.Proof.Rms
public import proofs.«01_k».proof.Proof.Gen.In.Frame
public import proofs.«01_k».proof.Proof.Gen.InIdeal.Value
public import proofs.«01_k».proof.Proof.Gen.InRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The mixer's first product with the norm before it: the normed rows, and their product with the weight
whose last lanes the kernel lays out with gaps. -/

namespace Cert.InClaims

open Cert.InIdeal Cert.InIdeal.Gen Cert.Math

/-- The words of the row length and of the norm's `eps`. -/
abbrev N : EReal := Ideal.ofBits .f32 0x44800000#32
abbrev E : EReal := Ideal.ofBits .f32 0x358637BD#32

/-- The normed row. -/
def nrm (x : FVec Ideal S8192x1024 .f32) (g : FVec Ideal S1x1024 .f32) (r : Fin 8192) (k : Fin 1024) : EReal :=
  x (ix2 r k) * rmsScale N E (fun k => x (ix2 r k)) * g (ix2 0 k)

/-- The weight with its gaps: 1920 lanes, 64 of zeros, the last 32, 32 of zeros. -/
def wide (w : FVec Ideal S1024x1952 .f32) (k : Fin 1024) (l : Fin 2048) : EReal :=
  if e : l.val < 1920 then w (ix2 k ⟨l.val, by omega⟩) else if l.val - 1920 < 64 then 0
  else if e : l.val - 1920 - 64 < 32 then w (ix2 k ⟨1920 + (l.val - 1920 - 64), by omega⟩) else 0

/-- The two results. -/
def H (x : FVec Ideal S8192x1024 .f32) (g : FVec Ideal S1x1024 .f32) : FVec Ideal S8192x1024 .bf16 := fun i => nrm x g (i 0) (i 1)
def Z (x : FVec Ideal S8192x1024 .f32) (g : FVec Ideal S1x1024 .f32) (w : FVec Ideal S1024x1952 .f32) : FVec Ideal S8192x2048 .f32 :=
  fun i => ∑ k : Fin 1024, nrm x g (i 0) k * wide w k (i 1)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

abbrev Hm := H (m ((c : Thread nD τ).loc main_arg0)) (m ((c : Thread nD τ).loc main_arg1))
abbrev Zm := Z (m ((c : Thread nD τ).loc main_arg0)) (m ((c : Thread nD τ).loc main_arg1)) (m ((c : Thread nD τ).loc main_arg2))

set_option maxHeartbeats 1600000 in
/-- A row of 2048 lanes in four pieces. -/
theorem four (x : FVec Ideal S1024x1920 .bf16) (y : FVec Ideal S1024x64 .bf16) (z w : FVec Ideal S1024x32 .bf16) (k : Fin 1024) (l : Fin 2048) :
    concatenate S1024x2048 1 [⟨S1024x1920, x⟩, ⟨S1024x64, y⟩, ⟨S1024x32, z⟩, ⟨S1024x32, w⟩] concatenates_S1024x1920_S1024x64_S1024x32_S1024x32_S1024x2048_d1 (ix2 k l)
      = if e : l.val < 1920 then x (ix2 k ⟨l.val, e⟩) else if e : l.val - 1920 < 64 then y (ix2 k ⟨l.val - 1920, e⟩)
        else if e : l.val - 1920 - 64 < 32 then z (ix2 k ⟨l.val - 1920 - 64, e⟩) else w (ix2 k ⟨l.val - 1920 - 64 - 32, by omega⟩) := by
  pointwise

set_option maxHeartbeats 4000000 in
/-- The weight as the kernel's window reads it. -/
theorem host_wide (k : Fin 1024) (l : Fin 2048) : (V m c main_v5 (ix2 k l) : EReal) = wide (m ((c : Thread nD τ).loc main_arg2)) k l := by
  unfold V
  show _ = wide ((fun b => m (c, b)) (Proc.devRef .tc main_arg2)) k l
  generalize (fun b => m (c, b)) = W
  simp (disch := decide) only [StableHlo.readAfter, StableHlo.readUpto, StableHlo.unary_result', StableHlo.nullary_result', StableHlo.binary_result', StableHlo.reshape_result', StableHlo.nary_result']
  refine (four (StableHlo.upto hostOps0 W 7 (Proc.devRef .tc main_v3)) (StableHlo.upto hostOps0 W 7 (Proc.devRef .tc main_v1)) (StableHlo.upto hostOps0 W 7 (Proc.devRef .tc main_v4)) (StableHlo.upto hostOps0 W 7 (Proc.devRef .tc main_v2)) k l).trans ?_
  simp (disch := decide) only [StableHlo.readAfter, StableHlo.readUpto, StableHlo.unary_result', StableHlo.nullary_result', StableHlo.binary_result', StableHlo.reshape_result', StableHlo.nary_result']
  generalize W (Proc.devRef .tc main_arg2) = y
  unfold wide
  pointwise
  split_ifs <;> rfl

set_option maxHeartbeats 1600000 in
/-- The normed rows as the kernel leaves them. -/
theorem final3 : (dats m 0 c).arrAt 3 (cfgs 0).N = Hm m c := by
  refine (dats m 0 c).arrAt_eq_of_covers 3 _ (by decide +kernel) fun t _ y => ?_
  blk_simp
  rw [after0_3]
  unfold out0_3
  canon_tiles x h
  all_goals
    open_payloads
    pointwise [Hm, H, nrm, rmsScale, rmsQ]
    blk_point [iblk, V, idx t]

/-- The product of the normed rows with a weight of 2048 lanes. -/
def ZW (x : FVec Ideal S8192x1024 .f32) (g : FVec Ideal S1x1024 .f32) (w : FVec Ideal S1024x2048 .bf16) : FVec Ideal S8192x2048 .f32 :=
  fun i => ∑ k : Fin 1024, nrm x g (i 0) k * (w (ix2 k (i 1)) : EReal)

set_option maxHeartbeats 3200000 in
/-- The product as the kernel leaves it. -/
theorem product : (dats m 0 c).arrAt 4 (cfgs 0).N = ZW (V m c main_arg0) (V m c main_arg1) (V m c main_v5) := by
  refine (dats m 0 c).arrAt_eq_of_covers 4 _ (by decide +kernel) fun t _ y => ?_
  blk_simp
  rw [after0_4]
  unfold out0_4 k0_pay10
  canon_tiles x h
  all_goals
    open_payloads
    pointwise [ZW, nrm, rmsScale, rmsQ]
    blk_point [iblk, idx t]

theorem final4 : (dats m 0 c).arrAt 4 (cfgs 0).N = Zm m c := by
  rw [product, V_main_arg0, V_main_arg1]
  funext i
  exact Finset.sum_congr rfl fun k _ => congrArg (nrm _ _ (i 0) k * ·) (host_wide m c k (i 1))

/-- The reference's normed rows. -/
theorem ref_nrm (x : FVec Ideal S8192x1024 .f32) (g : FVec Ideal S1x1024 .f32) (r : Fin 8192) (k : Fin 1024) :
    (Cert.InRefIdeal.Read.val_main_v11 (F := Ideal) x g (ix2 r k) : EReal) = nrm x g r k := by
  pointwise [nrm, rmsScale, rmsQ, Cert.InRefIdeal.Read.val_main_v0, Cert.InRefIdeal.Read.val_main_v1, Cert.InRefIdeal.Read.val_main_v2, Cert.InRefIdeal.Read.val_main_v3, Cert.InRefIdeal.Read.val_main_v4, Cert.InRefIdeal.Read.val_main_v5, Cert.InRefIdeal.Read.val_main_v6, Cert.InRefIdeal.Read.val_main_v7, Cert.InRefIdeal.Read.val_main_v8, Cert.InRefIdeal.Read.val_main_v9, Cert.InRefIdeal.Read.val_main_v10, Cert.InRefIdeal.Read.val_main_v11, Cert.InRefIdeal.Read.val_main_cst, Cert.InRefIdeal.Read.val_main_cst_0, Cert.InRefIdeal.Read.val_main_cst_1]

/-- The reference's first result. -/
theorem ref_h (x : FVec Ideal S8192x1024 .f32) (g : FVec Ideal S1x1024 .f32) : Cert.InRefIdeal.Read.val_main_v18 (F := Ideal) x g = H x g := by
  funext i
  idx_vars i
  pointwise [Cert.InRefIdeal.Read.val_main_v18, H]
  exact ref_nrm x g _ _

/-- The reference's product, before its lanes are laid out. -/
theorem ref_dot (x : FVec Ideal S8192x1024 .f32) (g : FVec Ideal S1x1024 .f32) (w : FVec Ideal S1024x1952 .f32) (r : Fin 8192) (l : Fin 1952) :
    (Cert.InRefIdeal.Read.val_main_v12 (F := Ideal) x g w (ix2 r l) : EReal) = ∑ k : Fin 1024, nrm x g r k * w (ix2 k l) := by
  simp only [← ref_nrm]
  unfold Cert.InRefIdeal.Read.val_main_v12
  generalize Cert.InRefIdeal.Read.val_main_v11 (F := Ideal) x g = y
  pointwise

/-- The reference's second result. -/
theorem ref_z (x : FVec Ideal S8192x1024 .f32) (g : FVec Ideal S1x1024 .f32) (w : FVec Ideal S1024x1952 .f32) : Cert.InRefIdeal.Read.val_main_v17 (F := Ideal) x g w = Z x g w := by
  funext i
  idx_vars i
  have d := ref_dot x g w
  unfold Cert.InRefIdeal.Read.val_main_v17 Cert.InRefIdeal.Read.val_main_v16 Cert.InRefIdeal.Read.val_main_v15 Cert.InRefIdeal.Read.val_main_v14 Cert.InRefIdeal.Read.val_main_v13
  generalize Cert.InRefIdeal.Read.val_main_v12 (F := Ideal) x g w = y at *
  pointwise [Cert.InRefIdeal.Read.val_main_cst_2, Cert.InRefIdeal.Read.val_main_cst_3, Z, wide]
  split_ifs <;> first
    | exact d _ _
    | exact (Finset.sum_eq_zero fun k _ => mul_zero (M₀ := EReal) _).symm
    | exact absurd rfl ‹_›

/-- The first program's frame. -/
theorem frame_kernel : Cert.quiescent_In := fun m ρ _ => Cert.In.Gen.frame m ρ

/-- The ideal program's frame. -/
theorem frame_ideal : Cert.quiescent_InIdeal := fun m ρ _ => Cert.InIdeal.Gen.frame m ρ

/-- The reference's frame. -/
theorem frame_ref : Cert.quiescent_InRefIdeal := fun m ρ _ =>
  (θ_run Cert.InRefIdeal.defs _ _).mono (fun r h => ⟨fun c => (h c).2.2, sem_eq_zero_of_no_sems (by decide) r.2⟩)
    (Cert.InRefIdeal.Value.run m ρ)

/-- Both results are the reference's. -/
theorem algebraic : Cert.algebraic_InIdeal_InRefIdeal := by
  intro m g m' g' _ hag
  refine ⟨fun c => Hm m c, fun c => Zm m c, ?_, ?_⟩
  · exact (θ_run _ _ _).mono (fun r h c => ⟨(Cert.InIdeal.Value.post3 m r h c).trans (final3 m c),
      (Cert.InIdeal.Value.post4 m r h c).trans (final4 m c), Cert.InIdeal.Value.kept_main_arg0 m r h c,
      Cert.InIdeal.Value.kept_main_arg1 m r h c, Cert.InIdeal.Value.kept_main_arg2 m r h c⟩) (Cert.InIdeal.Gen.run_main m g)
  · refine (θ_run _ _ _).mono (fun r h c => ⟨(h c).1.trans ?_, (h c).2.1.trans ?_, (h c).2.2⟩) (Cert.InRefIdeal.Value.run m' g')
    · obtain ⟨a0, a1, a2⟩ := hag c
      rw [Cert.InRefIdeal.Read.val_main_v18_eq, a0, a1]
      exact ref_h _ _
    · obtain ⟨a0, a1, a2⟩ := hag c
      rw [Cert.InRefIdeal.Read.val_main_v17_eq, a0, a1, a2]
      exact ref_z _ _ _

end Cert.InClaims
end
-- ==== Proof.Down.lean ====
module

public import proofs.«01_k».proof.Proof.Rms
public import proofs.«01_k».proof.Proof.Gen.Down.Frame
public import proofs.«01_k».proof.Proof.Gen.DownIdeal.Value
public import proofs.«01_k».proof.Proof.Gen.DownRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The feed-forward block's product with the residual and the norm after it: the stream and its normed rows. -/

namespace Cert.DownClaims

open Cert.DownIdeal Cert.DownIdeal.Gen Cert.Math

/-- The words of the row length and of the norm's `eps`. -/
abbrev N : EReal := Ideal.ofBits .f32 0x44800000#32
abbrev E : EReal := Ideal.ofBits .f32 0x358637BD#32

/-- The stream after the block: the product and what passes beside it. -/
def str (x : FVec Ideal S8192x1024 .f32) (a : FVec Ideal S8192x2816 .f32) (w : FVec Ideal S2816x1024 .f32) (r : Fin 8192) (l : Fin 1024) : EReal :=
  (∑ k : Fin 2816, a (ix2 r k) * w (ix2 k l)) + x (ix2 r l)

/-- The two results: the stream, and its normed rows. -/
def X2 (x : FVec Ideal S8192x1024 .f32) (a : FVec Ideal S8192x2816 .f32) (w : FVec Ideal S2816x1024 .f32) : FVec Ideal S8192x1024 .f32 :=
  fun i => str x a w (i 0) (i 1)
def N3 (x : FVec Ideal S8192x1024 .f32) (a : FVec Ideal S8192x2816 .f32) (w : FVec Ideal S2816x1024 .f32) (g : FVec Ideal S1x1024 .f32) : FVec Ideal S8192x1024 .bf16 :=
  fun i => str x a w (i 0) (i 1) * rmsScale N E (str x a w (i 0)) * g (ix2 0 (i 1))

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

abbrev X2m := X2 (m ((c : Thread nD τ).loc main_arg0)) (m ((c : Thread nD τ).loc main_arg1)) (m ((c : Thread nD τ).loc main_arg2))
abbrev N3m := N3 (m ((c : Thread nD τ).loc main_arg0)) (m ((c : Thread nD τ).loc main_arg1)) (m ((c : Thread nD τ).loc main_arg2)) (m ((c : Thread nD τ).loc main_arg3))

set_option maxHeartbeats 1600000 in
/-- The stream as the kernel leaves it. -/
theorem final4 : (dats m 0 c).arrAt 4 (cfgs 0).N = X2m m c := by
  refine (dats m 0 c).arrAt_eq_of_covers 4 _ (by decide +kernel) fun t _ y => ?_
  blk_simp
  rw [after0_4]
  unfold out0_4
  canon_tiles x h
  all_goals
    open_payloads
    pointwise [X2m, X2, str]
    blk_point [iblk, V, idx t]

set_option maxHeartbeats 1600000 in
/-- The normed rows as the kernel leaves them. -/
theorem final5 : (dats m 0 c).arrAt 5 (cfgs 0).N = N3m m c := by
  refine (dats m 0 c).arrAt_eq_of_covers 5 _ (by decide +kernel) fun t _ y => ?_
  blk_simp
  rw [after0_5]
  unfold out0_5
  canon_tiles x h
  all_goals
    open_payloads
    pointwise [N3m, N3, str, rmsScale, rmsQ]
    blk_point [iblk, V, idx t]

/-- The reference's stream. -/
theorem ref_x2 (x : FVec Ideal S8192x1024 .f32) (a : FVec Ideal S8192x2816 .f32) (w : FVec Ideal S2816x1024 .f32) :
    Cert.DownRefIdeal.Read.val_main_v1 (F := Ideal) x a w = X2 x a w := by
  funext i
  idx_vars i
  pointwise [X2, str, Cert.DownRefIdeal.Read.val_main_v0, Cert.DownRefIdeal.Read.val_main_v1]
  exact add_comm (G := EReal) _ _

/-- The reference's normed rows. -/
theorem ref_n3 (x : FVec Ideal S8192x1024 .f32) (a : FVec Ideal S8192x2816 .f32) (w : FVec Ideal S2816x1024 .f32) (g : FVec Ideal S1x1024 .f32) :
    Cert.DownRefIdeal.Read.val_main_v14 (F := Ideal) x a w g = N3 x a w g := by
  funext i
  idx_vars i
  have e := ref_x2 x a w
  unfold Cert.DownRefIdeal.Read.val_main_v14 Cert.DownRefIdeal.Read.val_main_v13 Cert.DownRefIdeal.Read.val_main_v12 Cert.DownRefIdeal.Read.val_main_v11 Cert.DownRefIdeal.Read.val_main_v10 Cert.DownRefIdeal.Read.val_main_v9 Cert.DownRefIdeal.Read.val_main_v8 Cert.DownRefIdeal.Read.val_main_v7 Cert.DownRefIdeal.Read.val_main_v6 Cert.DownRefIdeal.Read.val_main_v5 Cert.DownRefIdeal.Read.val_main_v4 Cert.DownRefIdeal.Read.val_main_v3 Cert.DownRefIdeal.Read.val_main_v2
  rw [e]
  pointwise [N3, X2, rmsScale, rmsQ, Cert.DownRefIdeal.Read.val_main_cst, Cert.DownRefIdeal.Read.val_main_cst_0, Cert.DownRefIdeal.Read.val_main_cst_1]

/-- The first program's frame. -/
theorem frame_kernel : Cert.quiescent_Down := fun m ρ _ => Cert.Down.Gen.frame m ρ

/-- The ideal program's frame. -/
theorem frame_ideal : Cert.quiescent_DownIdeal := fun m ρ _ => Cert.DownIdeal.Gen.frame m ρ

/-- The reference's frame. -/
theorem frame_ref : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run m ρ)

/-- Both results are the reference's. -/
theorem algebraic : Cert.algebraic_DownIdeal_DownRefIdeal := by
  intro m g m' g' _ hag
  refine ⟨fun c => X2m m c, fun c => N3m m c, ?_, ?_⟩
  · exact (θ_run _ _ _).mono (fun r h c => ⟨(Cert.DownIdeal.Value.post4 m r h c).trans (final4 m c),
      (Cert.DownIdeal.Value.post5 m r h c).trans (final5 m c), Cert.DownIdeal.Value.kept_main_arg0 m r h c,
      Cert.DownIdeal.Value.kept_main_arg1 m r h c, Cert.DownIdeal.Value.kept_main_arg2 m r h c,
      Cert.DownIdeal.Value.kept_main_arg3 m r h c⟩) (Cert.DownIdeal.Gen.run_main m g)
  · refine (θ_run _ _ _).mono (fun r h c => ⟨(h c).1.trans ?_, (h c).2.1.trans ?_, (h c).2.2⟩) (Cert.DownRefIdeal.Value.run m' g')
    · obtain ⟨a0, a1, a2, a3⟩ := hag c
      rw [Cert.DownRefIdeal.Read.val_main_v1_eq, a0, a1, a2]
      exact ref_x2 _ _ _
    · obtain ⟨a0, a1, a2, a3⟩ := hag c
      rw [Cert.DownRefIdeal.Read.val_main_v14_eq, a0, a1, a2, a3]
      exact ref_n3 _ _ _ _

end Cert.DownClaims
end
-- ==== Proof.Mo.lean ====
module

public import Idealize.ShloMosaic.Lib.StableHlo.RunRead
public import proofs.«01_k».proof.Proof.Rms
public import proofs.«01_k».proof.Proof.Gen.Mo.Frame
public import proofs.«01_k».proof.Proof.Gen.MoIdeal.Value
public import proofs.«01_k».proof.Proof.Gen.MoRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The mixer's last product with the residual and the norm after it. The kernel adds two products, one of them
over heads padded with zeros to 128 lanes; the reference multiplies the two inputs side by side by the whole weight. -/

namespace Cert.MoClaims

open Cert.MoIdeal Cert.MoIdeal.Gen Cert.Math

/-- The words of the row length and of the norm's `eps`. -/
abbrev N : EReal := Ideal.ofBits .f32 0x44800000#32
abbrev E : EReal := Ideal.ofBits .f32 0x358637BD#32

/-- The stream after the mixer: what passes beside it and the product of the two inputs with the two parts of the weight. -/
def str (x : FVec Ideal S8192x1024 .f32) (p q : FVec Ideal S8192x512 .f32) (w : FVec Ideal S1024x1024 .f32) (r : Fin 8192) (l : Fin 1024) : EReal :=
  x (ix2 r l) + ((∑ k : Fin 512, p (ix2 r k) * w (ix2 ⟨k.val, by omega⟩ l)) + ∑ k : Fin 512, q (ix2 r k) * w (ix2 ⟨512 + k.val, by omega⟩ l))

/-- The two results: the stream, and its normed rows. -/
def X1 (x : FVec Ideal S8192x1024 .f32) (p q : FVec Ideal S8192x512 .f32) (w : FVec Ideal S1024x1024 .f32) : FVec Ideal S8192x1024 .f32 :=
  fun i => str x p q w (i 0) (i 1)
def HF (x : FVec Ideal S8192x1024 .f32) (p q : FVec Ideal S8192x512 .f32) (w : FVec Ideal S1024x1024 .f32) (g : FVec Ideal S1x1024 .f32) : FVec Ideal S8192x1024 .bf16 :=
  fun i => str x p q w (i 0) (i 1) * rmsScale N E (str x p q w (i 0)) * g (ix2 0 (i 1))

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] :=
  (by decide +kernel : ∀ t : Fin grid0.N, _)

/-- The stream from the arrays the kernel's windows read. -/
def strW (a : FVec Ideal S8192x1024 .bf16) (w : FVec Ideal S1024x1024 .bf16) (b : FVec Ideal S8192x512 .bf16) (v : FVec Ideal S512x1024 .bf16)
    (x : FVec Ideal S8192x1024 .f32) (r : Fin 8192) (l : Fin 1024) : EReal :=
  (∑ k : Fin 1024, (a (ix2 r k) : EReal) * (w (ix2 k l) : EReal)) + (∑ k : Fin 512, (b (ix2 r k) : EReal) * (v (ix2 k l) : EReal)) + (x (ix2 r l) : EReal)
def XW (a : FVec Ideal S8192x1024 .bf16) (w : FVec Ideal S1024x1024 .bf16) (b : FVec Ideal S8192x512 .bf16) (v : FVec Ideal S512x1024 .bf16)
    (x : FVec Ideal S8192x1024 .f32) : FVec Ideal S8192x1024 .f32 := fun i => strW a w b v x (i 0) (i 1)
def HW (a : FVec Ideal S8192x1024 .bf16) (w : FVec Ideal S1024x1024 .bf16) (b : FVec Ideal S8192x512 .bf16) (v : FVec Ideal S512x1024 .bf16)
    (x : FVec Ideal S8192x1024 .f32) (g : FVec Ideal S1x1024 .f32) : FVec Ideal S8192x1024 .bf16 :=
  fun i => strW a w b v x (i 0) (i 1) * rmsScale N E (strW a w b v x (i 0)) * (g (ix2 0 (i 1)) : EReal)

set_option maxHeartbeats 3200000 in
theorem left6 : (dats m 0 c).arrAt 6 (cfgs 0).N = XW (V m c main_v3) (V m c main_v8) (V m c main_v9) (V m c main_v11) (V m c main_arg0) := by
  refine (dats m 0 c).arrAt_eq_of_covers 6 _ (by decide +kernel) fun t _ y => ?_
  blk_simp
  rw [after0_6]
  unfold out0_6 k0_pay15 k0_pay14 k0_pay13
  canon_tiles x h
  all_goals
    open_payloads
    pointwise [XW, strW]
    blk_point [iblk, idx t]

set_option maxHeartbeats 3200000 in
theorem left7 : (dats m 0 c).arrAt 7 (cfgs 0).N = HW (V m c main_v3) (V m c main_v8) (V m c main_v9) (V m c main_v11) (V m c main_arg0) (V m c main_arg4) := by
  refine (dats m 0 c).arrAt_eq_of_covers 7 _ (by decide +kernel) fun t _ y => ?_
  blk_simp
  rw [after0_7]
  unfold out0_7 k0_pay15 k0_pay14 k0_pay13
  canon_tiles x h
  all_goals
    open_payloads
    pointwise [HW, strW, rmsScale, rmsQ]
    blk_point [iblk, idx t]

/-- The heads' lanes, with zeros from lane 64 on. -/
def padLanes (q : FVec Ideal S8192x512 .f32) : FVec Ideal S8192x1024 .f32 :=
  shapeCast S8192x1024 (pad S8192x8x128 ![0, 0, 0] ![0, 0, 64] ![0, 0, 0] (shapeCast S8192x8x64 q shapeCasts_S8192x512_S8192x8x64)
    (sitofp (F := Ideal) .f32 (constantI S_ 32 0#32)) pads_S8192x8x64_S8192x8x128_000_000_0640 h_S_) shapeCasts_S8192x8x128_S8192x1024

/-- The last rows of the weight, head by head, with rows of zeros from row 64 of a head on. -/
def padRows (w : FVec Ideal S1024x1024 .f32) : FVec Ideal S1024x1024 .f32 :=
  shapeCast S1024x1024 (pad S8x128x1024 ![0, 0, 0] ![0, 64, 0] ![0, 0, 0]
    (shapeCast S8x64x1024 (extractStridedSlice S512x1024 ![512, 0] w slices_S1024x1024_S512x1024_512_0) shapeCasts_S512x1024_S8x64x1024)
    (sitofp (F := Ideal) .f32 (constantI S_ 32 0#32)) pads_S8x64x1024_S8x128x1024_000_0640_000 h_S_) shapeCasts_S8x128x1024_S1024x1024

theorem zero_int : FloatOps.sitofp (F := Ideal) .f32 (0#32) = (0 : EReal) := by
  show (((0#32).toInt : ℝ) : EReal) = 0
  simp

theorem padLanes_apply (q : FVec Ideal S8192x512 .f32) (r : Fin 8192) (k : Fin 1024) :
    (padLanes q (ix2 r k) : EReal) = if e : k.val % 128 < 64 then q (ix2 r ⟨64 * (k.val / 128) + k.val % 128, by omega⟩) else 0 := by
  unfold padLanes
  pointwise
  simp only [mul_comm (k.val / 128), zero_int, show k.val / 128 < 8 from by omega, true_and]

theorem padRows_apply (w : FVec Ideal S1024x1024 .f32) (k l : Fin 1024) :
    (padRows w (ix2 k l) : EReal) = if e : k.val % 128 < 64 then w (ix2 ⟨512 + (64 * (k.val / 128) + k.val % 128), by omega⟩ l) else 0 := by
  unfold padRows
  pointwise
  simp only [mul_comm (k.val / 128), zero_int, show k.val / 128 < 8 from by omega, true_and]

/-- What the windows read, entry by entry. -/
theorem host_lanes (r : Fin 8192) (k : Fin 1024) : (V m c main_v3 (ix2 r k) : EReal) = padLanes (m ((c : Thread nD τ).loc main_arg2)) (ix2 r k) := by
  unfold V
  show _ = padLanes ((fun b => m (c, b)) (Proc.devRef .tc main_arg2)) _
  generalize (fun b => m (c, b)) = W
  simp (disch := decide) only [StableHlo.readAfter, StableHlo.readUpto, StableHlo.unary_result', StableHlo.nullary_result', StableHlo.binary_result', StableHlo.reshape_result', StableHlo.nary_result']
  rfl

theorem host_rows (k l : Fin 1024) : (V m c main_v8 (ix2 k l) : EReal) = padRows (m ((c : Thread nD τ).loc main_arg3)) (ix2 k l) := by
  unfold V
  show _ = padRows ((fun b => m (c, b)) (Proc.devRef .tc main_arg3)) _
  generalize (fun b => m (c, b)) = W
  simp (disch := decide) only [StableHlo.readAfter, StableHlo.readUpto, StableHlo.unary_result', StableHlo.nullary_result', StableHlo.binary_result', StableHlo.reshape_result', StableHlo.nary_result']
  rfl

theorem host_conv (r : Fin 8192) (k : Fin 512) : (V m c main_v9 (ix2 r k) : EReal) = m ((c : Thread nD τ).loc main_arg1) (ix2 r k) := by
  unfold V
  show _ = (fun b => m (c, b)) (Proc.devRef .tc main_arg1) _
  generalize (fun b => m (c, b)) = W
  simp (disch := decide) only [StableHlo.readAfter, StableHlo.readUpto, StableHlo.unary_result', StableHlo.nullary_result', StableHlo.binary_result', StableHlo.reshape_result', StableHlo.nary_result']
  rfl

theorem host_top (k : Fin 512) (l : Fin 1024) : (V m c main_v11 (ix2 k l) : EReal) = m ((c : Thread nD τ).loc main_arg3) (ix2 ⟨k.val, by omega⟩ l) := by
  unfold V
  show _ = (fun b => m (c, b)) (Proc.devRef .tc main_arg3) _
  generalize (fun b => m (c, b)) = W
  simp (disch := decide) only [StableHlo.readAfter, StableHlo.readUpto, StableHlo.unary_result', StableHlo.nullary_result', StableHlo.binary_result', StableHlo.reshape_result', StableHlo.nary_result']
  generalize W (Proc.devRef .tc main_arg3) = y
  pointwise

/-- A sum over 8 heads of 128 lanes of which the last 64 count for nothing. -/
theorem sum_lanes (f : Fin 512 → EReal) :
    (∑ k : Fin 1024, if e : k.val % 128 < 64 then f ⟨64 * (k.val / 128) + k.val % 128, by omega⟩ else 0) = ∑ j : Fin 512, f j := by
  symm
  refine Finset.sum_of_injOn (fun j : Fin 512 => (⟨128 * (j.val / 64) + j.val % 64, by omega⟩ : Fin 1024)) ?_ (fun _ _ => Finset.mem_coe.2 (Finset.mem_univ _)) ?_ ?_
  · intro a _ b _ h
    have h' := congrArg Fin.val h
    ext
    simp only at h'
    omega
  · intro k _ h
    refine dif_neg fun e => h ⟨⟨64 * (k.val / 128) + k.val % 128, by omega⟩, Finset.mem_coe.2 (Finset.mem_univ _), ?_⟩
    ext
    simp only
    omega
  · intro j _
    have e : (128 * (j.val / 64) + j.val % 64) % 128 < 64 := by omega
    simp only [e, dite_true]
    congr 1
    ext
    simp only
    omega

/-- The stream with the second product over the padded lanes. -/
theorem str_pad (x : FVec Ideal S8192x1024 .f32) (p q : FVec Ideal S8192x512 .f32) (w : FVec Ideal S1024x1024 .f32) (r : Fin 8192) (l : Fin 1024) :
    str x p q w r l = (x (ix2 r l) : EReal) + ((∑ k : Fin 512, (p (ix2 r k) : EReal) * (w (ix2 ⟨k.val, by omega⟩ l) : EReal))
      + ∑ k : Fin 1024, if e : k.val % 128 < 64 then (q (ix2 r ⟨64 * (k.val / 128) + k.val % 128, by omega⟩) : EReal)
          * (w (ix2 ⟨512 + (64 * (k.val / 128) + k.val % 128), by omega⟩ l) : EReal) else 0) := by
  unfold str
  rw [← sum_lanes fun j => (q (ix2 r j) : EReal) * (w (ix2 ⟨512 + j.val, by omega⟩ l) : EReal)]

/-- The stream from the windows' arrays is the stream. -/
theorem str_eq (r : Fin 8192) (l : Fin 1024) :
    strW (V m c main_v3) (V m c main_v8) (V m c main_v9) (V m c main_v11) (V m c main_arg0) r l
      = str (m ((c : Thread nD τ).loc main_arg0)) (m ((c : Thread nD τ).loc main_arg1)) (m ((c : Thread nD τ).loc main_arg2)) (m ((c : Thread nD τ).loc main_arg3)) r l := by
  refine Eq.trans ?_ (str_pad _ _ _ _ r l).symm
  unfold strW
  rw [V_main_arg0]
  refine (add_comm (G := EReal) _ _).trans (congrArg₂ (fun a b : EReal => a + b) rfl ((add_comm (G := EReal) _ _).trans (congrArg₂ (fun a b : EReal => a + b) ?_ ?_)))
  · exact Finset.sum_congr rfl fun k _ => congrArg₂ (fun a b : EReal => a * b) (host_conv m c r k) (host_top m c k l)
  · refine Finset.sum_congr rfl fun k _ => (congrArg₂ (fun a b : EReal => a * b) ((host_lanes m c r k).trans (padLanes_apply _ r k)) ((host_rows m c k l).trans (padRows_apply _ k l))).trans ?_
    split_ifs
    · rfl
    · exact mul_zero (M₀ := EReal) _

abbrev X1m := X1 (m ((c : Thread nD τ).loc main_arg0)) (m ((c : Thread nD τ).loc main_arg1)) (m ((c : Thread nD τ).loc main_arg2)) (m ((c : Thread nD τ).loc main_arg3))
abbrev HFm := HF (m ((c : Thread nD τ).loc main_arg0)) (m ((c : Thread nD τ).loc main_arg1)) (m ((c : Thread nD τ).loc main_arg2)) (m ((c : Thread nD τ).loc main_arg3)) (m ((c : Thread nD τ).loc main_arg4))

/-- The stream as the kernel leaves it. -/
theorem final6 : (dats m 0 c).arrAt 6 (cfgs 0).N = X1m m c :=
  (left6 m c).trans (funext fun i => str_eq m c (i 0) (i 1))

/-- The normed rows as the kernel leaves them. -/
theorem final7 : (dats m 0 c).arrAt 7 (cfgs 0).N = HFm m c := by
  refine (left7 m c).trans (funext fun i => ?_)
  have e : strW (V m c main_v3) (V m c main_v8) (V m c main_v9) (V m c main_v11) (V m c main_arg0) (i 0)
      = str (m ((c : Thread nD τ).loc main_arg0)) (m ((c : Thread nD τ).loc main_arg1)) (m ((c : Thread nD τ).loc main_arg2)) (m ((c : Thread nD τ).loc main_arg3)) (i 0) :=
    funext fun l => str_eq m c (i 0) l
  unfold HW
  rw [e, V_main_arg4]
  rfl

/-- The reference's stream. -/
theorem ref_x1 (x : FVec Ideal S8192x1024 .f32) (p q : FVec Ideal S8192x512 .f32) (w : FVec Ideal S1024x1024 .f32) :
    Cert.MoRefIdeal.Read.val_main_v2 (F := Ideal) x p q w = X1 x p q w := by
  funext i
  idx_vars i
  pointwise [X1, str, Cert.MoRefIdeal.Read.val_main_v0, Cert.MoRefIdeal.Read.val_main_v1, Cert.MoRefIdeal.Read.val_main_v2]

/-- The reference's normed rows. -/
theorem ref_hf (x : FVec Ideal S8192x1024 .f32) (p q : FVec Ideal S8192x512 .f32) (w : FVec Ideal S1024x1024 .f32) (g : FVec Ideal S1x1024 .f32) :
    Cert.MoRefIdeal.Read.val_main_v15 (F := Ideal) x p q w g = HF x p q w g := by
  funext i
  idx_vars i
  have e := ref_x1 x p q w
  unfold Cert.MoRefIdeal.Read.val_main_v15 Cert.MoRefIdeal.Read.val_main_v14 Cert.MoRefIdeal.Read.val_main_v13 Cert.MoRefIdeal.Read.val_main_v12 Cert.MoRefIdeal.Read.val_main_v11 Cert.MoRefIdeal.Read.val_main_v10 Cert.MoRefIdeal.Read.val_main_v9 Cert.MoRefIdeal.Read.val_main_v8 Cert.MoRefIdeal.Read.val_main_v7 Cert.MoRefIdeal.Read.val_main_v6 Cert.MoRefIdeal.Read.val_main_v5 Cert.MoRefIdeal.Read.val_main_v4 Cert.MoRefIdeal.Read.val_main_v3
  rw [e]
  pointwise [HF, X1, rmsScale, rmsQ, Cert.MoRefIdeal.Read.val_main_cst, Cert.MoRefIdeal.Read.val_main_cst_0, Cert.MoRefIdeal.Read.val_main_cst_1]

/-- The first program's frame. -/
theorem frame_kernel : Cert.quiescent_Mo := fun m ρ _ => Cert.Mo.Gen.frame m ρ

/-- The ideal program's frame. -/
theorem frame_ideal : Cert.quiescent_MoIdeal := fun m ρ _ => Cert.MoIdeal.Gen.frame m ρ

/-- The reference's frame. -/
theorem frame_ref : Cert.quiescent_MoRefIdeal := fun m ρ _ =>
  (θ_run Cert.MoRefIdeal.defs _ _).mono (fun r h => ⟨fun c => (h c).2.2, sem_eq_zero_of_no_sems (by decide) r.2⟩)
    (Cert.MoRefIdeal.Value.run m ρ)

/-- Both results are the reference's. -/
theorem algebraic : Cert.algebraic_MoIdeal_MoRefIdeal := by
  intro m g m' g' _ hag
  refine ⟨fun c => X1m m c, fun c => HFm m c, ?_, ?_⟩
  · exact (θ_run _ _ _).mono (fun r h c => ⟨(Cert.MoIdeal.Value.post6 m r h c).trans (final6 m c),
      (Cert.MoIdeal.Value.post7 m r h c).trans (final7 m c), Cert.MoIdeal.Value.kept_main_arg0 m r h c,
      Cert.MoIdeal.Value.kept_main_arg1 m r h c, Cert.MoIdeal.Value.kept_main_arg2 m r h c,
      Cert.MoIdeal.Value.kept_main_arg3 m r h c, Cert.MoIdeal.Value.kept_main_arg4 m r h c⟩) (Cert.MoIdeal.Gen.run_main m g)
  · refine (θ_run _ _ _).mono (fun r h c => ⟨(h c).1.trans ?_, (h c).2.1.trans ?_, (h c).2.2⟩) (Cert.MoRefIdeal.Value.run m' g')
    · obtain ⟨a0, a1, a2, a3, a4⟩ := hag c
      rw [Cert.MoRefIdeal.Read.val_main_v2_eq, a0, a1, a2, a3]
      exact ref_x1 _ _ _ _
    · obtain ⟨a0, a1, a2, a3, a4⟩ := hag c
      rw [Cert.MoRefIdeal.Read.val_main_v15_eq, a0, a1, a2, a3, a4]
      exact ref_hf _ _ _ _ _

end Cert.MoClaims
end
-- ==== Proof.QkvHost.lean ====
module

public import Idealize.ShloMosaic.Lib.StableHlo.RunRead
public import proofs.«01_k».proof.Proof.QkValue
public import proofs.«01_k».proof.Proof.Gen.QkvIdeal.Value

@[expose] public section

set_option maxRecDepth 16384

noncomputable section

open Idealize.ShloMosaic Idealize.ShloMosaic.TcCoe Idealize.SL.Sem
open Idealize.ShloMosaic.Pipeline (Dat)

/-! The query, the key and the value of the attention: what they are, lane by lane of their heads, and the arrays
the kernel's windows read, entry by entry. -/

namespace Cert.QkvIdeal.Heads

open Cert.QkvIdeal Cert.QkvIdeal.Gen
open Cert.QkIdeal.Grad (tabC tabA tabB cosOf sinOf angle cat4_apply zero_int hd ln lane hd_lane ln_lane back fwd)

/-- The arrays: the normed latents, the shared key's turned lanes, and the two weights. -/
structure Arr where
  q : FVec Ideal S8192x256 .f32
  kv : FVec Ideal S8192x128 .f32
  kr : FVec Ideal S8192x32 .f32
  wq : FVec Ideal S256x768 .f32
  wkv : FVec Ideal S128x1024 .f32

/-- The word of the scores' scale. -/
abbrev SM : EReal := Ideal.ofBits .f32 0x3DD105EC#32

/-- The columns of the weights as the kernel lays them out: the query's 96 lanes of a head, and the 64 of the key's and of the value's, before zeros. -/
def colQ (w : FVec Ideal S256x768 .f32) (k : Fin 256) (h : Fin 8) (d : Fin 128) : EReal :=
  if e : d.val < 96 then w (ix2 k ⟨96 * h.val + d.val, by omega⟩) else 0
def colK (w : FVec Ideal S128x1024 .f32) (k : Fin 128) (h : Fin 8) (d : Fin 128) : EReal :=
  if e : d.val < 64 then w (ix2 k ⟨128 * h.val + d.val, by omega⟩) else 0
def colV (w : FVec Ideal S128x1024 .f32) (k : Fin 128) (h : Fin 8) (d : Fin 128) : EReal :=
  if e : d.val < 64 then w (ix2 k ⟨128 * h.val + (64 + d.val), by omega⟩) else 0

namespace Arr
variable (a : Arr) (r : Fin 8192) (h : Fin 8) (d : Fin 128)

/-- The products. -/
def zq : EReal := ∑ k : Fin 256, a.q (ix2 r k) * colQ a.wq k h d
def zk : EReal := ∑ k : Fin 128, a.kv (ix2 r k) * colK a.wkv k h d
def zv : EReal := ∑ k : Fin 128, a.kv (ix2 r k) * colV a.wkv k h d

/-- The shared key's lanes in their place among one head's 128. -/
def kl : EReal := if d.val < 64 then 0 else if e : d.val - 64 < 32 then a.kr (ix2 r ⟨d.val - 64, e⟩) else 0

/-- One head's query, turned by the row's angle and scaled; its key; its value with a lane of ones. -/
def qh : EReal := (a.zq r h d * tabC r d + a.zq r h (fwd d) * tabA r d + a.zq r h (back d) * tabB r d) * SM
def kh : EReal := a.zk r h d + a.kl r d
def vh : EReal := a.zv r h d + if d.val = 64 then 1 else 0
end Arr

/-- The four results. -/
def Q (a : Arr) : FVec Ideal S8192x1024 .bf16 := fun i => a.qh (i 0) (hd (i 1)) (ln (i 1))
def K (a : Arr) : FVec Ideal S8192x1024 .bf16 := fun i => a.kh (i 0) (hd (i 1)) (ln (i 1))
def U (a : Arr) : FVec Ideal S8192x1024 .bf16 := fun i => a.vh (i 0) (hd (i 1)) (ln (i 1))
def QT (a : Arr) : FVec Ideal S1024x8192 .bf16 := fun i => a.qh (i 1) (hd (i 0)) (ln (i 0))

variable (m : (ℓ : Loc nD τ sig) → Buf (Elt Ideal) ℓ) (c : Dev nD)

/-- The arrays a run starts from. -/
def arr : Arr where
  q := m ((c : Thread nD τ).loc main_arg0)
  kv := m ((c : Thread nD τ).loc main_arg1)
  kr := m ((c : Thread nD τ).loc main_arg2)
  wq := m ((c : Thread nD τ).loc main_arg3)
  wkv := m ((c : Thread nD τ).loc main_arg4)

set_option maxHeartbeats 4000000 in
/-- The host's table, by row and lane. -/
theorem host_tabC (r : Fin 8192) (d : Fin 128) : (V m c main_v25 (ix2 r d) : EReal) = tabC r d := by
  unfold V
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1, hostOps0_2, hostOps0_3, hostOps0_4, hostOps0_5, hostOps0_6, hostOps0_7, hostOps0_8]) W 34 (Proc.devRef .tc main_v21)) (StableHlo.upto (List.flatten [hostOps0, hostOps0_1, hostOps0_2, hostOps0_3, hostOps0_4, hostOps0_5, hostOps0_6, hostOps0_7, hostOps0_8]) W 34 (Proc.devRef .tc main_v18)) (StableHlo.upto (List.flatten [hostOps0, hostOps0_1, hostOps0_2, hostOps0_3, hostOps0_4, hostOps0_5, hostOps0_6, hostOps0_7, hostOps0_8]) W 34 (Proc.devRef .tc main_v18)) (StableHlo.upto (List.flatten [hostOps0, hostOps0_1, hostOps0_2, hostOps0_3, hostOps0_4, hostOps0_5, hostOps0_6, hostOps0_7, hostOps0_8]) W 34 (Proc.devRef .tc main_v24)) r d).trans ?_
  simp (disch := decide) only [StableHlo.readAfter, StableHlo.readUpto, StableHlo.unary_result', StableHlo.nullary_result', StableHlo.binary_result', StableHlo.reshape_result', StableHlo.nary_result']
  simp only [tabC, cosOf, sinOf]
  pointwise [angle]
  split_ifs <;> rfl

set_option maxHeartbeats 4000000 in
/-- The host's table, by row and lane. -/
theorem host_tabA (r : Fin 8192) (d : Fin 128) : (V m c main_v29 (ix2 r d) : EReal) = tabA r d := by
  unfold V
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1, hostOps0_2, hostOps0_3, hostOps0_4, hostOps0_5, hostOps0_6, hostOps0_7, hostOps0_8]) W 39 (Proc.devRef .tc main_v27)) (StableHlo.upto (List.flatten [hostOps0, hostOps0_1, hostOps0_2, hostOps0_3, hostOps0_4, hostOps0_5, hostOps0_6, hostOps0_7, hostOps0_8]) W 39 (Proc.devRef .tc main_v28)) (StableHlo.upto (List.flatten [hostOps0, hostOps0_1, hostOps0_2, hostOps0_3, hostOps0_4, hostOps0_5, hostOps0_6, hostOps0_7, hostOps0_8]) W 39 (Proc.devRef .tc main_v20)) (StableHlo.upto (List.flatten [hostOps0, hostOps0_1, hostOps0_2, hostOps0_3, hostOps0_4, hostOps0_5, hostOps0_6, hostOps0_7, hostOps0_8]) W 39 (Proc.devRef .tc main_v22)) r d).trans ?_
  simp (disch := decide) only [StableHlo.readAfter, StableHlo.readUpto, StableHlo.unary_result', StableHlo.nullary_result', StableHlo.binary_result', StableHlo.reshape_result', StableHlo.nary_result']
  simp only [tabA, cosOf, sinOf]
  pointwise [angle]
  split_ifs <;> rfl

set_option maxHeartbeats 4000000 in
/-- The host's table, by row and lane. -/
theorem host_tabB (r : Fin 8192) (d : Fin 128) : (V m c main_v32 (ix2 r d) : EReal) = tabB r d := by
  unfold V
  generalize (fun b => m (c, b)) = W
  simp (disch := decide) only [StableHlo.readAfter, StableHlo.readUpto, StableHlo.unary_result', StableHlo.nullary_result', StableHlo.binary_result', StableHlo.reshape_result', StableHlo.nary_result']
  refine (cat4_apply (StableHlo.upto (List.flatten [hostOps0, hostOps0_1, hostOps0_2, hostOps0_3, hostOps0_4, hostOps0_5, hostOps0_6, hostOps0_7, hostOps0_8]) W 43 (Proc.devRef .tc main_v31)) (StableHlo.upto (List.flatten [hostOps0, hostOps0_1, hostOps0_2, hostOps0_3, hostOps0_4, hostOps0_5, hostOps0_6, hostOps0_7, hostOps0_8]) W 43 (Proc.devRef .tc main_v20)) (StableHlo.upto (List.flatten [hostOps0, hostOps0_1, hostOps0_2, hostOps0_3, hostOps0_4, hostOps0_5, hostOps0_6, hostOps0_7, hostOps0_8]) W 43 (Proc.devRef .tc main_v19)) (StableHlo.upto (List.flatten [hostOps0, hostOps0_1, hostOps0_2, hostOps0_3, hostOps0_4, hostOps0_5, hostOps0_6, hostOps0_7, hostOps0_8]) W 43 (Proc.devRef .tc main_v22)) r d).trans ?_
  simp (disch := decide) only [StableHlo.readAfter, StableHlo.readUpto, StableHlo.unary_result', StableHlo.nullary_result', StableHlo.binary_result', StableHlo.reshape_result', StableHlo.nary_result']
  simp only [tabB, cosOf, sinOf]
  pointwise [angle]
  split_ifs <;> rfl

/-- The shared key's lanes padded to one head's. -/
def padK (x : FVec Ideal S8192x32 .f32) : FVec Ideal S8192x128 .f32 :=
  pad S8192x128 ![0, 64] ![0, 32] ![0, 0] x (sitofp (F := Ideal) .f32 (constantI S_ 32 0#32)) pads_S8192x32_S8192x128_000_64320 h_S_

/-- The query's weight with the heads padded to 128 columns. -/
def padQ (w : FVec Ideal S256x768 .f32) : FVec Ideal S256x1024 .f32 :=
  shapeCast S256x1024 (pad S256x8x128 ![0, 0, 0] ![0, 0, 32] ![0, 0, 0] (shapeCast S256x8x96 w shapeCasts_S256x768_S256x8x96)
    (sitofp (F := Ideal) .f32 (constantI S_ 32 0#32)) pads_S256x8x96_S256x8x128_000_000_0320 h_S_) shapeCasts_S256x8x128_S256x1024

/-- Heads of 64 columns padded to 128. -/
def padH (w : FVec Ideal S128x512 .f32) : FVec Ideal S128x1024 .f32 :=
  shapeCast S128x1024 (pad S128x8x128 ![0, 0, 0] ![0, 0, 64] ![0, 0, 0] (shapeCast S128x8x64 w shapeCasts_S128x512_S128x8x64)
    (sitofp (F := Ideal) .f32 (constantI S_ 32 0#32)) pads_S128x8x64_S128x8x128_000_000_0640 h_S_) shapeCasts_S128x8x128_S128x1024

/-- The first, and the last, 64 columns of every head. -/
def firstH (w : FVec Ideal S128x1024 .f32) : FVec Ideal S128x512 .f32 :=
  shapeCast S128x512 (extractStridedSlice S128x8x64 ![0, 0, 0] (shapeCast S128x8x128 w shapeCasts_S128x1024_S128x8x128) slices_S128x8x128_S128x8x64_0_0_0) shapeCasts_S128x8x64_S128x512
def lastH (w : FVec Ideal S128x1024 .f32) : FVec Ideal S128x512 .f32 :=
  shapeCast S128x512 (extractStridedSlice S128x8x64 ![0, 0, 64] (shapeCast S128x8x128 w shapeCasts_S128x1024_S128x8x128) slices_S128x8x128_S128x8x64_0_0_64) shapeCasts_S128x8x64_S128x512

/-- Keys' columns, then values'. -/
def both (a b : FVec Ideal S128x1024 .f32) : FVec Ideal S128x2048 .f32 :=
  concatenate S128x2048 1 [⟨S128x1024, a⟩, ⟨S128x1024, b⟩] concatenates_S128x1024_S128x1024_S128x2048_d1
def padKV (w : FVec Ideal S128x1024 .f32) : FVec Ideal S128x2048 .f32 := both (padH (firstH w)) (padH (lastH w))

/-- Lane `d` of head `h` of the keys, and of the values, among both. -/
def klane (h : Fin 8) (d : Fin 128) : Fin 2048 := ⟨128 * h.val + d.val, by omega⟩
def vlane (h : Fin 8) (d : Fin 128) : Fin 2048 := ⟨1024 + (128 * h.val + d.val), by omega⟩

theorem padK_apply (x : FVec Ideal S8192x32 .f32) (r : Fin 8192) (d : Fin 128) : (padK x (ix2 r d) : EReal)
    = if d.val < 64 then 0 else if e : d.val - 64 < 32 then x (ix2 r ⟨d.val - 64, e⟩) else 0 := by
  unfold padK
  pointwise
  by_cases h1 : d.val < 64
  · rw [dif_neg (fun g => by omega), if_pos h1, zero_int]
  · by_cases h2 : d.val - 64 < 32
    · rw [dif_pos ⟨by omega, h2⟩, if_neg h1, dif_pos h2]
    · rw [dif_neg (fun g => h2 g.2), if_neg h1, dif_neg h2, zero_int]

theorem padQ_apply (w : FVec Ideal S256x768 .f32) (k : Fin 256) (h : Fin 8) (d : Fin 128) : (padQ w (ix2 k (lane h d)) : EReal) = colQ w k h d := by
  have e1 : (128 * h.val + d.val) / 128 = h.val := by omega
  have e2 : (128 * h.val + d.val) % 128 = d.val := by omega
  unfold padQ
  pointwise [lane, colQ]
  simp only [e1, e2, mul_comm h.val, zero_int]

theorem padH_apply (w : FVec Ideal S128x512 .f32) (k : Fin 128) (h : Fin 8) (d : Fin 128) : (padH w (ix2 k (lane h d)) : EReal)
    = if e : d.val < 64 then w (ix2 k ⟨64 * h.val + d.val, by omega⟩) else 0 := by
  have e1 : (128 * h.val + d.val) / 128 = h.val := by omega
  have e2 : (128 * h.val + d.val) % 128 = d.val := by omega
  unfold padH
  pointwise [lane]
  simp only [e1, e2, mul_comm h.val, zero_int]

theorem firstH_apply (w : FVec Ideal S128x1024 .f32) (k : Fin 128) (h : Fin 8) (d : Nat) (e : d < 64) :
    (firstH w (ix2 k ⟨64 * h.val + d, by omega⟩) : EReal) = w (ix2 k ⟨128 * h.val + d, by omega⟩) := by
  have e1 : (64 * h.val + d) / 64 = h.val := by omega
  have e2 : (64 * h.val + d) % 64 = d := by omega
  unfold firstH
  pointwise
  simp only [e1, e2, mul_comm h.val]

theorem lastH_apply (w : FVec Ideal S128x1024 .f32) (k : Fin 128) (h : Fin 8) (d : Nat) (e : d < 64) :
    (lastH w (ix2 k ⟨64 * h.val + d, by omega⟩) : EReal) = w (ix2 k ⟨128 * h.val + (64 + d), by omega⟩) := by
  have e1 : (64 * h.val + d) / 64 = h.val := by omega
  have e2 : (64 * h.val + d) % 64 = d := by omega
  unfold lastH
  pointwise
  simp only [e1, e2, mul_comm h.val]

theorem both_key (a b : FVec Ideal S128x1024 .f32) (k : Fin 128) (h : Fin 8) (d : Fin 128) : (both a b (ix2 k (klane h d)) : EReal) = a (ix2 k (lane h d)) := by
  unfold both
  pointwise [klane, lane]
  rw [dif_pos (by omega)]

theorem both_val (a b : FVec Ideal S128x1024 .f32) (k : Fin 128) (h : Fin 8) (d : Fin 128) : (both a b (ix2 k (vlane h d)) : EReal) = b (ix2 k (lane h d)) := by
  unfold both
  pointwise [vlane, lane]

theorem padKV_key (w : FVec Ideal S128x1024 .f32) (k : Fin 128) (h : Fin 8) (d : Fin 128) : (padKV w (ix2 k (klane h d)) : EReal) = colK w k h d := by
  refine (both_key _ _ k h d).trans ((padH_apply _ k h d).trans ?_)
  unfold colK
  by_cases e : d.val < 64
  · rw [dif_pos e, dif_pos e]
    exact firstH_apply w k h d.val e
  · rw [dif_neg e, dif_neg e]

theorem padKV_val (w : FVec Ideal S128x1024 .f32) (k : Fin 128) (h : Fin 8) (d : Fin 128) : (padKV w (ix2 k (vlane h d)) : EReal) = colV w k h d := by
  refine (both_val _ _ k h d).trans ((padH_apply _ k h d).trans ?_)
  unfold colV
  by_cases e : d.val < 64
  · rw [dif_pos e, dif_pos e]
    exact lastH_apply w k h d.val e
  · rw [dif_neg e, dif_neg e]

/-! What the windows read. -/

set_option maxHeartbeats 1600000 in
theorem host_q (r : Fin 8192) (k : Fin 256) : (V m c main_v46 (ix2 r k) : EReal) = m ((c : Thread nD τ).loc main_arg0) (ix2 r k) := by
  unfold V
  show _ = (fun b => m (c, b)) (Proc.devRef .tc main_arg0) _
  generalize (fun b => m (c, b)) = W
  simp (disch := decide) only [StableHlo.readAfter, StableHlo.readUpto, StableHlo.unary_result', StableHlo.nullary_result', StableHlo.binary_result', StableHlo.reshape_result', StableHlo.nary_result']
  rfl

set_option maxHeartbeats 1600000 in
theorem host_kv (r : Fin 8192) (k : Fin 128) : (V m c main_v47 (ix2 r k) : EReal) = m ((c : Thread nD τ).loc main_arg1) (ix2 r k) := by
  unfold V
  show _ = (fun b => m (c, b)) (Proc.devRef .tc main_arg1) _
  generalize (fun b => m (c, b)) = W
  simp (disch := decide) only [StableHlo.readAfter, StableHlo.readUpto, StableHlo.unary_result', StableHlo.nullary_result', StableHlo.binary_result', StableHlo.reshape_result', StableHlo.nary_result']
  rfl

set_option maxHeartbeats 1600000 in
theorem host_kr (r : Fin 8192) (d : Fin 128) : (V m c main_v33 (ix2 r d) : EReal) = padK (m ((c : Thread nD τ).loc main_arg2)) (ix2 r d) := by
  unfold V
  show _ = padK ((fun b => m (c, b)) (Proc.devRef .tc main_arg2)) _
  generalize (fun b => m (c, b)) = W
  simp (disch := decide) only [StableHlo.readAfter, StableHlo.readUpto, StableHlo.unary_result', StableHlo.nullary_result', StableHlo.binary_result', StableHlo.reshape_result', StableHlo.nary_result']
  rfl

set_option maxHeartbeats 1600000 in
theorem host_wq (k : Fin 256) (l : Fin 1024) : (V m c main_v51 (ix2 k l) : EReal) = padQ (m ((c : Thread nD τ).loc main_arg3)) (ix2 k l) := by
  unfold V
  show _ = padQ ((fun b => m (c, b)) (Proc.devRef .tc main_arg3)) _
  generalize (fun b => m (c, b)) = W
  simp (disch := decide) only [StableHlo.readAfter, StableHlo.readUpto, StableHlo.unary_result', StableHlo.nullary_result', StableHlo.binary_result', StableHlo.reshape_result', StableHlo.nary_result']
  rfl

set_option maxHeartbeats 1600000 in
theorem host_wkv (k : Fin 128) (l : Fin 2048) : (V m c main_v52 (ix2 k l) : EReal) = padKV (m ((c : Thread nD τ).loc main_arg4)) (ix2 k l) := by
  unfold V
  show _ = padKV ((fun b => m (c, b)) (Proc.devRef .tc main_arg4)) _
  generalize (fun b => m (c, b)) = W
  simp (disch := decide) only [StableHlo.readAfter, StableHlo.readUpto, StableHlo.unary_result', StableHlo.nullary_result', StableHlo.binary_result', StableHlo.reshape_result', StableHlo.nary_result']
  rfl

end Cert.QkvIdeal.Heads
end
-- ==== Proof.QkvHead.lean ====
module

public import proofs.«01_k».proof.Proof.QkvHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The query, the key and the value as the kernel leaves them. Each head is a piece of 128 columns of a result;
the pieces are of one form. -/

namespace Cert.QkvIdeal.Heads

open Cert.QkvIdeal Cert.QkvIdeal.Gen
open Cert.QkIdeal.Grad (tabC tabA tabB hd ln lane hd_lane ln_lane back fwd)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, t.val] :=
  (by decide +kernel : ∀ t : Fin grid0.N, _)

/-- Row `r` of the `t`-th block of 1024. -/
def rowOf (t : Fin cfg0.N) (r : Fin 1024) : Fin 8192 := ⟨1024 * t.val + r.val, by have : t.val < grid0.N := t.isLt; rw [N_0] at this; omega⟩

variable (t : Fin cfg0.N)

theorem blk0 (r : Fin 1024) (k : Fin 256) : (iblk m c 0 t (ix2 r k) : EReal) = (arr m c).q (ix2 (rowOf t r) k) := by
  refine Eq.trans ?_ (host_q m c (rowOf t r) k)
  blk_ext [iblk, rowOf, idx t]
theorem blk1 (r : Fin 1024) (k : Fin 128) : (iblk m c 1 t (ix2 r k) : EReal) = (arr m c).kv (ix2 (rowOf t r) k) := by
  refine Eq.trans ?_ (host_kv m c (rowOf t r) k)
  blk_ext [iblk, rowOf, idx t]
theorem blk2 (r : Fin 1024) (d : Fin 128) : (iblk m c 2 t (ix2 r d) : EReal) = (arr m c).kl (rowOf t r) d := by
  refine Eq.trans ?_ ((host_kr m c (rowOf t r) d).trans (padK_apply _ _ _))
  blk_ext [iblk, rowOf, idx t]
theorem blk3 (k : Fin 256) (h : Fin 8) (d : Fin 128) : (iblk m c 3 t (ix2 k (lane h d)) : EReal) = colQ (arr m c).wq k h d := by
  refine Eq.trans ?_ ((host_wq m c k (lane h d)).trans (padQ_apply _ _ _ _))
  blk_ext [iblk, idx t]
theorem blk4k (k : Fin 128) (h : Fin 8) (d : Fin 128) : (iblk m c 4 t (ix2 k (klane h d)) : EReal) = colK (arr m c).wkv k h d := by
  refine Eq.trans ?_ ((host_wkv m c k (klane h d)).trans (padKV_key _ _ _ _))
  blk_ext [iblk, idx t]
theorem blk4v (k : Fin 128) (h : Fin 8) (d : Fin 128) : (iblk m c 4 t (ix2 k (vlane h d)) : EReal) = colV (arr m c).wkv k h d := by
  refine Eq.trans ?_ ((host_wkv m c k (vlane h d)).trans (padKV_val _ _ _ _))
  blk_ext [iblk, idx t]
theorem blk5 (r : Fin 1024) (d : Fin 128) : (iblk m c 5 t (ix2 r d) : EReal) = tabC (rowOf t r) d := by
  refine Eq.trans ?_ (host_tabC m c (rowOf t r) d)
  blk_ext [iblk, rowOf, idx t]
theorem blk6 (r : Fin 1024) (d : Fin 128) : (iblk m c 6 t (ix2 r d) : EReal) = tabA (rowOf t r) d := by
  refine Eq.trans ?_ (host_tabA m c (rowOf t r) d)
  blk_ext [iblk, rowOf, idx t]
theorem blk7 (r : Fin 1024) (d : Fin 128) : (iblk m c 7 t (ix2 r d) : EReal) = tabB (rowOf t r) d := by
  refine Eq.trans ?_ (host_tabB m c (rowOf t r) d)
  blk_ext [iblk, rowOf, idx t]

/-- The two products of a grid point. -/
abbrev PQ : FVec Ideal S1024x1024 .f32 := k0_pay4 (View.ld (iblk m c 0 t) r0_1) (View.ld (iblk m c 3 t) r0_2)
abbrev PKV : FVec Ideal S1024x2048 .f32 := k0_pay5 (View.ld (iblk m c 1 t) r0_0) (View.ld (iblk m c 4 t) r0_3)

theorem pay4_at (x : Vec Ideal S1024x256 .bf16) (w : Vec Ideal S256x1024 .bf16) (r : Fin 1024) (l : Fin 1024) :
    (k0_pay4 (F := Ideal) x w (ix2 r l) : EReal) = ∑ k : Fin 256, (x (ix2 r k) : EReal) * (w (ix2 k l) : EReal) := by
  unfold k0_pay4
  pointwise
theorem pay5_at (x : Vec Ideal S1024x128 .bf16) (w : Vec Ideal S128x2048 .bf16) (r : Fin 1024) (l : Fin 2048) :
    (k0_pay5 (F := Ideal) x w (ix2 r l) : EReal) = ∑ k : Fin 128, (x (ix2 r k) : EReal) * (w (ix2 k l) : EReal) := by
  unfold k0_pay5
  pointwise

theorem PQ_at (r : Fin 1024) (h : Fin 8) (d : Fin 128) : (PQ m c t (ix2 r (lane h d)) : EReal) = (arr m c).zq (rowOf t r) h d :=
  (pay4_at _ _ r (lane h d)).trans (Finset.sum_congr rfl fun k _ => congrArg₂ (fun a b : EReal => a * b)
    ((by pointwise : (View.ld (iblk m c 0 t) r0_1 (ix2 r k) : EReal) = iblk m c 0 t (ix2 r k)).trans (blk0 m c t r k))
    ((by pointwise : (View.ld (iblk m c 3 t) r0_2 (ix2 k (lane h d)) : EReal) = iblk m c 3 t (ix2 k (lane h d))).trans (blk3 m c t k h d)))

theorem PK_at (r : Fin 1024) (h : Fin 8) (d : Fin 128) : (PKV m c t (ix2 r (klane h d)) : EReal) = (arr m c).zk (rowOf t r) h d :=
  (pay5_at _ _ r (klane h d)).trans (Finset.sum_congr rfl fun k _ => congrArg₂ (fun a b : EReal => a * b)
    ((by pointwise : (View.ld (iblk m c 1 t) r0_0 (ix2 r k) : EReal) = iblk m c 1 t (ix2 r k)).trans (blk1 m c t r k))
    ((by pointwise : (View.ld (iblk m c 4 t) r0_3 (ix2 k (klane h d)) : EReal) = iblk m c 4 t (ix2 k (klane h d))).trans (blk4k m c t k h d)))

theorem PV_at (r : Fin 1024) (h : Fin 8) (d : Fin 128) : (PKV m c t (ix2 r (vlane h d)) : EReal) = (arr m c).zv (rowOf t r) h d :=
  (pay5_at _ _ r (vlane h d)).trans (Finset.sum_congr rfl fun k _ => congrArg₂ (fun a b : EReal => a * b)
    ((by pointwise : (View.ld (iblk m c 1 t) r0_0 (ix2 r k) : EReal) = iblk m c 1 t (ix2 r k)).trans (blk1 m c t r k))
    ((by pointwise : (View.ld (iblk m c 4 t) r0_3 (ix2 k (vlane h d)) : EReal) = iblk m c 4 t (ix2 k (vlane h d))).trans (blk4v m c t k h d)))

/-- One head's query from its 128 columns `s` of the product and the three tables. -/
def turn (v1 v3 v5 s : FVec Ideal S1024x128 .f32) : FVec Ideal S1024x128 .f32 :=
  mulf (addf (addf (mulf s v1) (mulf (dynamicRotate 1 112#32 none s rotates_S1024x128_d1) v3))
    (mulf (dynamicRotate 1 16#32 none s rotates_S1024x128_d1) v5)) (broadcast S1024x128 (Scalar.ofBits .f32 0x3DD105EC#32))
def headQ (v1 v3 v5 s : FVec Ideal S1024x128 .f32) : FVec Ideal S1024x128 .bf16 := truncf .bf16 (turn v1 v3 v5 s) bitsLt_bf16_f32
def headT (v1 v3 v5 s : FVec Ideal S1024x128 .f32) : FVec Ideal S128x1024 .bf16 :=
  truncf .bf16 (transpose S128x1024 [1, 0] (turn v1 v3 v5 s) transposes_S1024x128_p1_0_S128x1024) bitsLt_bf16_f32

/-- One head's key, and its value, from their columns. -/
def headK (s v : FVec Ideal S1024x128 .f32) : FVec Ideal S1024x128 .bf16 := truncf .bf16 (addf s v) bitsLt_bf16_f32
def headV (s : FVec Ideal S1024x128 .f32) (v : FVec Ideal S1x128 .f32) : FVec Ideal S1024x128 .bf16 :=
  truncf .bf16 (addf s (broadcastTo S1024x128 v broadcasts_S1x128_S1024x128)) bitsLt_bf16_f32

theorem tab1 (r : Fin 1024) (d : Fin 128) : (k0_pay1 (F := Ideal) (View.ld (iblk m c 5 t) r0_0) (ix2 r d) : EReal) = tabC (rowOf t r) d :=
  Eq.trans (by pointwise [k0_pay1]) (blk5 m c t r d)
theorem tab2 (r : Fin 1024) (d : Fin 128) : (k0_pay2 (F := Ideal) (View.ld (iblk m c 6 t) r0_0) (ix2 r d) : EReal) = tabA (rowOf t r) d :=
  Eq.trans (by pointwise [k0_pay2]) (blk6 m c t r d)
theorem tab3 (r : Fin 1024) (d : Fin 128) : (k0_pay3 (F := Ideal) (View.ld (iblk m c 7 t) r0_0) (ix2 r d) : EReal) = tabB (rowOf t r) d :=
  Eq.trans (by pointwise [k0_pay3]) (blk7 m c t r d)
theorem tab6 (r : Fin 1024) (d : Fin 128) : (k0_pay6 (F := Ideal) (View.ld (iblk m c 2 t) r0_0) (ix2 r d) : EReal) = (arr m c).kl (rowOf t r) d :=
  Eq.trans (by pointwise [k0_pay6]) (blk2 m c t r d)

theorem one_int : FloatOps.sitofp (F := Ideal) .f32 (1#32) = (1 : EReal) := by
  show (((1#32).toInt : ℝ) : EReal) = 1
  rw [show (1#32).toInt = 1 from by decide]
  simp

/-- The lane of ones. -/
theorem one_at (d : Fin 128) : (k0_pay7 (F := Ideal) (ix2 0 d) : EReal) = if d.val = 64 then 1 else 0 := by
  pointwise [k0_pay7]
  rw [WordCmp.cmpi_eq_ofNat (by omega) (by omega)]
  split_ifs <;> simp_all [one_int, Cert.QkIdeal.Grad.zero_int]

variable (v1 v3 v5 s : FVec Ideal S1024x128 .f32) (v10 : FVec Ideal S1024x1024 .f32) (v15 : FVec Ideal S1024x2048 .f32) (h : Fin 8)

theorem turn_at (e1 : ∀ r d, (v1 (ix2 r d) : EReal) = tabC (rowOf t r) d) (e3 : ∀ r d, (v3 (ix2 r d) : EReal) = tabA (rowOf t r) d)
    (e5 : ∀ r d, (v5 (ix2 r d) : EReal) = tabB (rowOf t r) d) (e : ∀ r h d, (v10 (ix2 r (lane h d)) : EReal) = (arr m c).zq (rowOf t r) h d)
    (hs : ∀ r d, s (ix2 r d) = v10 (ix2 r (lane h d))) (r : Fin 1024) (d : Fin 128) :
    (turn v1 v3 v5 s (ix2 r d) : EReal) = (arr m c).qh (rowOf t r) h d := by
  have f : (turn v1 v3 v5 s (ix2 r d) : EReal) = (s (ix2 r d) * v1 (ix2 r d)
      + dynamicRotate 1 112#32 none s rotates_S1024x128_d1 (ix2 r d) * v3 (ix2 r d)
      + dynamicRotate 1 16#32 none s rotates_S1024x128_d1 (ix2 r d) * v5 (ix2 r d)) * SM := rfl
  rw [f, e1, e3, e5, Cert.QkIdeal.Grad.rot112, Cert.QkIdeal.Grad.rot16, hs, hs, hs, e, e, e]
  rfl

/-- One head's piece of each result. -/
theorem q_at (e1 : ∀ r d, (v1 (ix2 r d) : EReal) = tabC (rowOf t r) d) (e3 : ∀ r d, (v3 (ix2 r d) : EReal) = tabA (rowOf t r) d)
    (e5 : ∀ r d, (v5 (ix2 r d) : EReal) = tabB (rowOf t r) d) (e : ∀ r h d, (v10 (ix2 r (lane h d)) : EReal) = (arr m c).zq (rowOf t r) h d)
    (hs : ∀ r d, s (ix2 r d) = v10 (ix2 r (lane h d))) (r : Fin 1024) (d : Fin 128) :
    headQ v1 v3 v5 s (ix2 r d) = Q (arr m c) (ix2 (rowOf t r) (lane h d)) := by
  refine (turn_at m c t v1 v3 v5 s v10 h e1 e3 e5 e hs r d).trans ?_
  show _ = (arr m c).qh (rowOf t r) (hd (lane h d)) (ln (lane h d))
  rw [hd_lane, ln_lane]

theorem qt_at (e1 : ∀ r d, (v1 (ix2 r d) : EReal) = tabC (rowOf t r) d) (e3 : ∀ r d, (v3 (ix2 r d) : EReal) = tabA (rowOf t r) d)
    (e5 : ∀ r d, (v5 (ix2 r d) : EReal) = tabB (rowOf t r) d) (e : ∀ r h d, (v10 (ix2 r (lane h d)) : EReal) = (arr m c).zq (rowOf t r) h d)
    (hs : ∀ r d, s (ix2 r d) = v10 (ix2 r (lane h d))) (d : Fin 128) (r : Fin 1024) :
    headT v1 v3 v5 s (ix2 d r) = QT (arr m c) (ix2 (lane h d) (rowOf t r)) := by
  have f : (headT v1 v3 v5 s (ix2 d r) : EReal) = turn v1 v3 v5 s (ix2 r d) := by
    unfold headT
    generalize turn v1 v3 v5 s = y
    pointwise
  refine (f.trans (turn_at m c t v1 v3 v5 s v10 h e1 e3 e5 e hs r d)).trans ?_
  show _ = (arr m c).qh (rowOf t r) (hd (lane h d)) (ln (lane h d))
  rw [hd_lane, ln_lane]

theorem k_at (e : ∀ r h d, (v15 (ix2 r (klane h d)) : EReal) = (arr m c).zk (rowOf t r) h d) (e1 : ∀ r d, (v1 (ix2 r d) : EReal) = (arr m c).kl (rowOf t r) d)
    (hs : ∀ r d, s (ix2 r d) = v15 (ix2 r (klane h d))) (r : Fin 1024) (d : Fin 128) :
    headK s v1 (ix2 r d) = K (arr m c) (ix2 (rowOf t r) (lane h d)) := by
  have f : (headK s v1 (ix2 r d) : EReal) = s (ix2 r d) + v1 (ix2 r d) := rfl
  refine f.trans ?_
  rw [e1, hs, e]
  show _ = (arr m c).kh (rowOf t r) (hd (lane h d)) (ln (lane h d))
  rw [hd_lane, ln_lane]
  rfl

theorem v_at (v : FVec Ideal S1x128 .f32) (e : ∀ r h d, (v15 (ix2 r (vlane h d)) : EReal) = (arr m c).zv (rowOf t r) h d)
    (e1 : ∀ d : Fin 128, (v (ix2 0 d) : EReal) = if d.val = 64 then 1 else 0)
    (hs : ∀ r d, s (ix2 r d) = v15 (ix2 r (vlane h d))) (r : Fin 1024) (d : Fin 128) :
    headV s v (ix2 r d) = U (arr m c) (ix2 (rowOf t r) (lane h d)) := by
  have f : (headV s v (ix2 r d) : EReal) = s (ix2 r d) + v (ix2 0 d) := by
    unfold headV
    pointwise
  refine f.trans ?_
  rw [e1, hs, e]
  show _ = (arr m c).vh (rowOf t r) (hd (lane h d)) (ln (lane h d))
  rw [hd_lane, ln_lane]
  rfl

/-! Every piece is of that form, its columns cut out of the product. -/

variable (v17 : FVec Ideal S1024x128 .f32) (v22 : FVec Ideal S1x128 .f32)

def cutQ0 : FVec Ideal S1024x128 .f32 := extractStridedSlice S1024x128 ![0, 0] v10 slices_S1024x1024_o0_0_S1024x128
def cutK0 : FVec Ideal S1024x128 .f32 := extractStridedSlice S1024x128 ![0, 0] v15 slices_S1024x2048_o0_0_S1024x128
def cutV0 : FVec Ideal S1024x128 .f32 := extractStridedSlice S1024x128 ![0, 1024] v15 slices_S1024x2048_o0_1024_S1024x128
theorem cutQ0_at (r : Fin 1024) (d : Fin 128) : cutQ0 v10 (ix2 r d) = v10 (ix2 r (lane 0 d)) := by unfold cutQ0; pointwise [lane]
theorem cutK0_at (r : Fin 1024) (d : Fin 128) : cutK0 v15 (ix2 r d) = v15 (ix2 r (klane 0 d)) := by unfold cutK0; pointwise [klane]
theorem cutV0_at (r : Fin 1024) (d : Fin 128) : cutV0 v15 (ix2 r d) = v15 (ix2 r (vlane 0 d)) := by unfold cutV0; pointwise [vlane]
theorem k0 : k0_pay11 (F := Ideal) v15 v17 = headK (cutK0 v15) v17 := rfl
theorem v0' : k0_pay12 (F := Ideal) v15 v22 = headV (cutV0 v15) v22 := rfl
theorem q0 (v0 v2 v4 : Vec Ideal S1024x128 .f32) (v6 : Vec Ideal S1024x256 .bf16) (v8 : Vec Ideal S256x1024 .bf16) :
    k0_pay9 (F := Ideal) v0 v2 v4 v6 v8 = headQ (k0_pay1 v0) (k0_pay2 v2) (k0_pay3 v4) (cutQ0 (k0_pay4 v6 v8)) := rfl
theorem t0 (v0 v2 v4 : Vec Ideal S1024x128 .f32) (v6 : Vec Ideal S1024x256 .bf16) (v8 : Vec Ideal S256x1024 .bf16) :
    k0_pay10 (F := Ideal) (k0_pay8 v0 v2 v4 v6 v8) = headT (k0_pay1 v0) (k0_pay2 v2) (k0_pay3 v4) (cutQ0 (k0_pay4 v6 v8)) := rfl
def cutQ1 : FVec Ideal S1024x128 .f32 := extractStridedSlice S1024x128 ![0, 128] v10 slices_S1024x1024_o0_128_S1024x128
def cutK1 : FVec Ideal S1024x128 .f32 := extractStridedSlice S1024x128 ![0, 128] v15 slices_S1024x2048_o0_128_S1024x128
def cutV1 : FVec Ideal S1024x128 .f32 := extractStridedSlice S1024x128 ![0, 1152] v15 slices_S1024x2048_o0_1152_S1024x128
theorem cutQ1_at (r : Fin 1024) (d : Fin 128) : cutQ1 v10 (ix2 r d) = v10 (ix2 r (lane 1 d)) := by unfold cutQ1; pointwise [lane]
theorem cutK1_at (r : Fin 1024) (d : Fin 128) : cutK1 v15 (ix2 r d) = v15 (ix2 r (klane 1 d)) := by unfold cutK1; pointwise [klane]
theorem cutV1_at (r : Fin 1024) (d : Fin 128) : cutV1 v15 (ix2 r d) = v15 (ix2 r (vlane 1 d)) := by unfold cutV1; pointwise [vlane]; exact congrArg (fun k => v15 (ix2 r k)) (Fin.ext (by dsimp only; omega))
theorem k1 : k0_pay16 (F := Ideal) v15 v17 = headK (cutK1 v15) v17 := rfl
theorem v1' : k0_pay17 (F := Ideal) v15 v22 = headV (cutV1 v15) v22 := rfl
theorem q1 : k0_pay14 (F := Ideal) v1 v3 v5 v10 = headQ v1 v3 v5 (cutQ1 v10) := rfl
theorem t1 : k0_pay15 (F := Ideal) v1 v3 v5 v10 = headT v1 v3 v5 (cutQ1 v10) := rfl
def cutQ2 : FVec Ideal S1024x128 .f32 := extractStridedSlice S1024x128 ![0, 256] v10 slices_S1024x1024_o0_256_S1024x128
def cutK2 : FVec Ideal S1024x128 .f32 := extractStridedSlice S1024x128 ![0, 256] v15 slices_S1024x2048_o0_256_S1024x128
def cutV2 : FVec Ideal S1024x128 .f32 := extractStridedSlice S1024x128 ![0, 1280] v15 slices_S1024x2048_o0_1280_S1024x128
theorem cutQ2_at (r : Fin 1024) (d : Fin 128) : cutQ2 v10 (ix2 r d) = v10 (ix2 r (lane 2 d)) := by unfold cutQ2; pointwise [lane]
theorem cutK2_at (r : Fin 1024) (d : Fin 128) : cutK2 v15 (ix2 r d) = v15 (ix2 r (klane 2 d)) := by unfold cutK2; pointwise [klane]
theorem cutV2_at (r : Fin 1024) (d : Fin 128) : cutV2 v15 (ix2 r d) = v15 (ix2 r (vlane 2 d)) := by unfold cutV2; pointwise [vlane]; exact congrArg (fun k => v15 (ix2 r k)) (Fin.ext (by dsimp only; omega))
theorem k2 : k0_pay21 (F := Ideal) v15 v17 = headK (cutK2 v15) v17 := rfl
theorem v2' : k0_pay22 (F := Ideal) v15 v22 = headV (cutV2 v15) v22 := rfl
theorem q2 : k0_pay19 (F := Ideal) v1 v3 v5 v10 = headQ v1 v3 v5 (cutQ2 v10) := rfl
theorem t2 : k0_pay20 (F := Ideal) v1 v3 v5 v10 = headT v1 v3 v5 (cutQ2 v10) := rfl
def cutQ3 : FVec Ideal S1024x128 .f32 := extractStridedSlice S1024x128 ![0, 384] v10 slices_S1024x1024_o0_384_S1024x128
def cutK3 : FVec Ideal S1024x128 .f32 := extractStridedSlice S1024x128 ![0, 384] v15 slices_S1024x2048_o0_384_S1024x128
def cutV3 : FVec Ideal S1024x128 .f32 := extractStridedSlice S1024x128 ![0, 1408] v15 slices_S1024x2048_o0_1408_S1024x128
theorem cutQ3_at (r : Fin 1024) (d : Fin 128) : cutQ3 v10 (ix2 r d) = v10 (ix2 r (lane 3 d)) := by unfold cutQ3; pointwise [lane]
theorem cutK3_at (r : Fin 1024) (d : Fin 128) : cutK3 v15 (ix2 r d) = v15 (ix2 r (klane 3 d)) := by unfold cutK3; pointwise [klane]
theorem cutV3_at (r : Fin 1024) (d : Fin 128) : cutV3 v15 (ix2 r d) = v15 (ix2 r (vlane 3 d)) := by unfold cutV3; pointwise [vlane]; exact congrArg (fun k => v15 (ix2 r k)) (Fin.ext (by dsimp only; omega))
theorem k3 : k0_pay26 (F := Ideal) v15 v17 = headK (cutK3 v15) v17 := rfl
theorem v3' : k0_pay27 (F := Ideal) v15 v22 = headV (cutV3 v15) v22 := rfl
theorem q3 : k0_pay24 (F := Ideal) v1 v3 v5 v10 = headQ v1 v3 v5 (cutQ3 v10) := rfl
theorem t3 : k0_pay25 (F := Ideal) v1 v3 v5 v10 = headT v1 v3 v5 (cutQ3 v10) := rfl
def cutQ4 : FVec Ideal S1024x128 .f32 := extractStridedSlice S1024x128 ![0, 512] v10 slices_S1024x1024_o0_512_S1024x128
def cutK4 : FVec Ideal S1024x128 .f32 := extractStridedSlice S1024x128 ![0, 512] v15 slices_S1024x2048_o0_512_S1024x128
def cutV4 : FVec Ideal S1024x128 .f32 := extractStridedSlice S1024x128 ![0, 1536] v15 slices_S1024x2048_o0_1536_S1024x128
theorem cutQ4_at (r : Fin 1024) (d : Fin 128) : cutQ4 v10 (ix2 r d) = v10 (ix2 r (lane 4 d)) := by unfold cutQ4; pointwise [lane]
theorem cutK4_at (r : Fin 1024) (d : Fin 128) : cutK4 v15 (ix2 r d) = v15 (ix2 r (klane 4 d)) := by unfold cutK4; pointwise [klane]
theorem cutV4_at (r : Fin 1024) (d : Fin 128) : cutV4 v15 (ix2 r d) = v15 (ix2 r (vlane 4 d)) := by unfold cutV4; pointwise [vlane]; exact congrArg (fun k => v15 (ix2 r k)) (Fin.ext (by dsimp only; omega))
theorem k4 : k0_pay31 (F := Ideal) v15 v17 = headK (cutK4 v15) v17 := rfl
theorem v4' : k0_pay32 (F := Ideal) v15 v22 = headV (cutV4 v15) v22 := rfl
theorem q4 : k0_pay29 (F := Ideal) v1 v3 v5 v10 = headQ v1 v3 v5 (cutQ4 v10) := rfl
theorem t4 : k0_pay30 (F := Ideal) v1 v3 v5 v10 = headT v1 v3 v5 (cutQ4 v10) := rfl
def cutQ5 : FVec Ideal S1024x128 .f32 := extractStridedSlice S1024x128 ![0, 640] v10 slices_S1024x1024_o0_640_S1024x128
def cutK5 : FVec Ideal S1024x128 .f32 := extractStridedSlice S1024x128 ![0, 640] v15 slices_S1024x2048_o0_640_S1024x128
def cutV5 : FVec Ideal S1024x128 .f32 := extractStridedSlice S1024x128 ![0, 1664] v15 slices_S1024x2048_o0_1664_S1024x128
theorem cutQ5_at (r : Fin 1024) (d : Fin 128) : cutQ5 v10 (ix2 r d) = v10 (ix2 r (lane 5 d)) := by unfold cutQ5; pointwise [lane]
theorem cutK5_at (r : Fin 1024) (d : Fin 128) : cutK5 v15 (ix2 r d) = v15 (ix2 r (klane 5 d)) := by unfold cutK5; pointwise [klane]
theorem cutV5_at (r : Fin 1024) (d : Fin 128) : cutV5 v15 (ix2 r d) = v15 (ix2 r (vlane 5 d)) := by unfold cutV5; pointwise [vlane]; exact congrArg (fun k => v15 (ix2 r k)) (Fin.ext (by dsimp only; omega))
theorem k5 : k0_pay38 (F := Ideal) v15 v17 = headK (cutK5 v15) v17 := rfl
theorem v5' : k0_pay39 (F := Ideal) v15 v22 = headV (cutV5 v15) v22 := rfl
theorem q5 : k0_pay36 (F := Ideal) v3 v5 (k0_pay33 v10) (k0_pay34 v1 v10) = headQ v1 v3 v5 (cutQ5 v10) := rfl
theorem t5 : k0_pay37 (F := Ideal) v3 v5 (k0_pay33 v10) (k0_pay34 v1 v10) = headT v1 v3 v5 (cutQ5 v10) := rfl
def cutQ6 : FVec Ideal S1024x128 .f32 := extractStridedSlice S1024x128 ![0, 768] v10 slices_S1024x1024_o0_768_S1024x128
def cutK6 : FVec Ideal S1024x128 .f32 := extractStridedSlice S1024x128 ![0, 768] v15 slices_S1024x2048_o0_768_S1024x128
def cutV6 : FVec Ideal S1024x128 .f32 := extractStridedSlice S1024x128 ![0, 1792] v15 slices_S1024x2048_o0_1792_S1024x128
theorem cutQ6_at (r : Fin 1024) (d : Fin 128) : cutQ6 v10 (ix2 r d) = v10 (ix2 r (lane 6 d)) := by unfold cutQ6; pointwise [lane]
theorem cutK6_at (r : Fin 1024) (d : Fin 128) : cutK6 v15 (ix2 r d) = v15 (ix2 r (klane 6 d)) := by unfold cutK6; pointwise [klane]
theorem cutV6_at (r : Fin 1024) (d : Fin 128) : cutV6 v15 (ix2 r d) = v15 (ix2 r (vlane 6 d)) := by unfold cutV6; pointwise [vlane]; exact congrArg (fun k => v15 (ix2 r k)) (Fin.ext (by dsimp only; omega))
theorem k6 : k0_pay43 (F := Ideal) v15 v17 = headK (cutK6 v15) v17 := rfl
theorem v6' : k0_pay44 (F := Ideal) v15 v22 = headV (cutV6 v15) v22 := rfl
theorem q6 : k0_pay41 (F := Ideal) v1 v3 v5 v10 = headQ v1 v3 v5 (cutQ6 v10) := rfl
theorem t6 : k0_pay42 (F := Ideal) v1 v3 v5 v10 = headT v1 v3 v5 (cutQ6 v10) := rfl
def cutQ7 : FVec Ideal S1024x128 .f32 := extractStridedSlice S1024x128 ![0, 896] v10 slices_S1024x1024_o0_896_S1024x128
def cutK7 : FVec Ideal S1024x128 .f32 := extractStridedSlice S1024x128 ![0, 896] v15 slices_S1024x2048_o0_896_S1024x128
def cutV7 : FVec Ideal S1024x128 .f32 := extractStridedSlice S1024x128 ![0, 1920] v15 slices_S1024x2048_o0_1920_S1024x128
theorem cutQ7_at (r : Fin 1024) (d : Fin 128) : cutQ7 v10 (ix2 r d) = v10 (ix2 r (lane 7 d)) := by unfold cutQ7; pointwise [lane]
theorem cutK7_at (r : Fin 1024) (d : Fin 128) : cutK7 v15 (ix2 r d) = v15 (ix2 r (klane 7 d)) := by unfold cutK7; pointwise [klane]
theorem cutV7_at (r : Fin 1024) (d : Fin 128) : cutV7 v15 (ix2 r d) = v15 (ix2 r (vlane 7 d)) := by unfold cutV7; pointwise [vlane]; exact congrArg (fun k => v15 (ix2 r k)) (Fin.ext (by dsimp only; omega))
theorem k7 : k0_pay48 (F := Ideal) v15 v17 = headK (cutK7 v15) v17 := rfl
theorem v7' : k0_pay49 (F := Ideal) v15 v22 = headV (cutV7 v15) v22 := rfl
theorem q7 : k0_pay46 (F := Ideal) v1 v3 v5 v10 = headQ v1 v3 v5 (cutQ7 v10) := rfl
theorem t7 : k0_pay47 (F := Ideal) v1 v3 v5 v10 = headT v1 v3 v5 (cutQ7 v10) := rfl
end Cert.QkvIdeal.Heads
end
-- ==== Proof.QkvValue.lean ====
module

public import proofs.«01_k».proof.Proof.QkvHead

@[expose] public section

set_option maxRecDepth 16384

noncomputable section

open Idealize.ShloMosaic Idealize.ShloMosaic.TcCoe Idealize.SL.Sem
open Idealize.ShloMosaic.Pipeline (Dat)

/-! The results, put together from the heads' pieces. -/

namespace Cert.QkvIdeal.Heads

open Cert.QkvIdeal Cert.QkvIdeal.Gen
open Cert.QkIdeal.Grad (lane hd ln)

variable (m : (ℓ : Loc nD τ sig) → Buf (Elt Ideal) ℓ) (c : Dev nD) (t : Fin cfg0.N)

theorem emb8 (y : ((cfg0.win 8).xblock (cfg0.grid.coords t)).Idx) (r : Fin 1024) (l : Fin 1024) (h0 : (y 0).val = r.val) (h1 : (y 1).val = l.val) :
    ((View.whole main_v53_0).slice (win0_8.rect t)).emb y = ix2 (rowOf t r) l := by
  blk_ext [rowOf, idx t]

set_option maxHeartbeats 3200000 in
theorem final8 : (dats m 0 c).arrAt 8 (cfgs 0).N = Q (arr m c) := by
  refine (dats m 0 c).arrAt_eq_of_covers 8 _ (by decide +kernel) fun t _ y => ?_
  blk_simp
  rw [after0_8]
  unfold out0_8 k0_pay58 k0_pay57 k0_pay53 k0_pay52 k0_pay51 k0_pay50
  canon_tiles x h
  · idx_vars x
    rw [emb8 t y x0 (lane 7 x1) h0 h1, q7]
    exact q_at m c t _ _ _ (cutQ7 _) _ 7 (tab1 m c t) (tab2 m c t) (tab3 m c t) (PQ_at m c t) (cutQ7_at _) x0 x1
  · idx_vars x
    rw [emb8 t y x0 (lane 6 x1) h0 h1, q6]
    exact q_at m c t _ _ _ (cutQ6 _) _ 6 (tab1 m c t) (tab2 m c t) (tab3 m c t) (PQ_at m c t) (cutQ6_at _) x0 x1
  · idx_vars x
    rw [emb8 t y x0 (lane 5 x1) h0 h1, q5]
    exact q_at m c t _ _ _ (cutQ5 _) _ 5 (tab1 m c t) (tab2 m c t) (tab3 m c t) (PQ_at m c t) (cutQ5_at _) x0 x1
  · idx_vars x
    rw [emb8 t y x0 (lane 4 x1) h0 h1, q4]
    exact q_at m c t _ _ _ (cutQ4 _) _ 4 (tab1 m c t) (tab2 m c t) (tab3 m c t) (PQ_at m c t) (cutQ4_at _) x0 x1
  · idx_vars x
    rw [emb8 t y x0 (lane 3 x1) h0 h1, q3]
    exact q_at m c t _ _ _ (cutQ3 _) _ 3 (tab1 m c t) (tab2 m c t) (tab3 m c t) (PQ_at m c t) (cutQ3_at _) x0 x1
  · idx_vars x
    rw [emb8 t y x0 (lane 2 x1) h0 h1, q2]
    exact q_at m c t _ _ _ (cutQ2 _) _ 2 (tab1 m c t) (tab2 m c t) (tab3 m c t) (PQ_at m c t) (cutQ2_at _) x0 x1
  · idx_vars x
    rw [emb8 t y x0 (lane 1 x1) h0 h1, q1]
    exact q_at m c t _ _ _ (cutQ1 _) _ 1 (tab1 m c t) (tab2 m c t) (tab3 m c t) (PQ_at m c t) (cutQ1_at _) x0 x1
  · idx_vars x
    rw [emb8 t y x0 (lane 0 x1) h0 (h1.trans (Nat.zero_add _).symm), q0]
    exact q_at m c t _ _ _ (cutQ0 _) _ 0 (tab1 m c t) (tab2 m c t) (tab3 m c t) (PQ_at m c t) (cutQ0_at _) x0 x1

theorem emb9 (y : ((cfg0.win 9).xblock (cfg0.grid.coords t)).Idx) (r : Fin 1024) (l : Fin 1024) (h0 : (y 0).val = r.val) (h1 : (y 1).val = l.val) :
    ((View.whole main_v53_1).slice (win0_9.rect t)).emb y = ix2 (rowOf t r) l := by
  blk_ext [rowOf, idx t]

set_option maxHeartbeats 3200000 in
theorem final9 : (dats m 0 c).arrAt 9 (cfgs 0).N = K (arr m c) := by
  refine (dats m 0 c).arrAt_eq_of_covers 9 _ (by decide +kernel) fun t _ y => ?_
  blk_simp
  rw [after0_9]
  unfold out0_9 k0_pay55 k0_pay54
  canon_tiles x h
  · idx_vars x
    rw [emb9 t y x0 (lane 7 x1) h0 h1, k7]
    exact k_at m c t _ (cutK7 _) _ 7 (PK_at m c t) (tab6 m c t) (cutK7_at _) x0 x1
  · idx_vars x
    rw [emb9 t y x0 (lane 6 x1) h0 h1, k6]
    exact k_at m c t _ (cutK6 _) _ 6 (PK_at m c t) (tab6 m c t) (cutK6_at _) x0 x1
  · idx_vars x
    rw [emb9 t y x0 (lane 5 x1) h0 h1, k5]
    exact k_at m c t _ (cutK5 _) _ 5 (PK_at m c t) (tab6 m c t) (cutK5_at _) x0 x1
  · idx_vars x
    rw [emb9 t y x0 (lane 4 x1) h0 h1, k4]
    exact k_at m c t _ (cutK4 _) _ 4 (PK_at m c t) (tab6 m c t) (cutK4_at _) x0 x1
  · idx_vars x
    rw [emb9 t y x0 (lane 3 x1) h0 h1, k3]
    exact k_at m c t _ (cutK3 _) _ 3 (PK_at m c t) (tab6 m c t) (cutK3_at _) x0 x1
  · idx_vars x
    rw [emb9 t y x0 (lane 2 x1) h0 h1, k2]
    exact k_at m c t _ (cutK2 _) _ 2 (PK_at m c t) (tab6 m c t) (cutK2_at _) x0 x1
  · idx_vars x
    rw [emb9 t y x0 (lane 1 x1) h0 h1, k1]
    exact k_at m c t _ (cutK1 _) _ 1 (PK_at m c t) (tab6 m c t) (cutK1_at _) x0 x1
  · idx_vars x
    rw [emb9 t y x0 (lane 0 x1) h0 (h1.trans (Nat.zero_add _).symm), k0]
    exact k_at m c t _ (cutK0 _) _ 0 (PK_at m c t) (tab6 m c t) (cutK0_at _) x0 x1

theorem emb10 (y : ((cfg0.win 10).xblock (cfg0.grid.coords t)).Idx) (r : Fin 1024) (l : Fin 1024) (h0 : (y 0).val = r.val) (h1 : (y 1).val = l.val) :
    ((View.whole main_v53_2).slice (win0_10.rect t)).emb y = ix2 (rowOf t r) l := by
  blk_ext [rowOf, idx t]

set_option maxHeartbeats 3200000 in
theorem final10 : (dats m 0 c).arrAt 10 (cfgs 0).N = U (arr m c) := by
  refine (dats m 0 c).arrAt_eq_of_covers 10 _ (by decide +kernel) fun t _ y => ?_
  blk_simp
  rw [after0_10]
  unfold out0_10 k0_pay56 k0_pay54
  canon_tiles x h
  · idx_vars x
    rw [emb10 t y x0 (lane 7 x1) h0 h1, v7']
    exact v_at m c t (cutV7 _) _ 7 _ (PV_at m c t) one_at (cutV7_at _) x0 x1
  · idx_vars x
    rw [emb10 t y x0 (lane 6 x1) h0 h1, v6']
    exact v_at m c t (cutV6 _) _ 6 _ (PV_at m c t) one_at (cutV6_at _) x0 x1
  · idx_vars x
    rw [emb10 t y x0 (lane 5 x1) h0 h1, v5']
    exact v_at m c t (cutV5 _) _ 5 _ (PV_at m c t) one_at (cutV5_at _) x0 x1
  · idx_vars x
    rw [emb10 t y x0 (lane 4 x1) h0 h1, v4']
    exact v_at m c t (cutV4 _) _ 4 _ (PV_at m c t) one_at (cutV4_at _) x0 x1
  · idx_vars x
    rw [emb10 t y x0 (lane 3 x1) h0 h1, v3']
    exact v_at m c t (cutV3 _) _ 3 _ (PV_at m c t) one_at (cutV3_at _) x0 x1
  · idx_vars x
    rw [emb10 t y x0 (lane 2 x1) h0 h1, v2']
    exact v_at m c t (cutV2 _) _ 2 _ (PV_at m c t) one_at (cutV2_at _) x0 x1
  · idx_vars x
    rw [emb10 t y x0 (lane 1 x1) h0 h1, v1']
    exact v_at m c t (cutV1 _) _ 1 _ (PV_at m c t) one_at (cutV1_at _) x0 x1
  · idx_vars x
    rw [emb10 t y x0 (lane 0 x1) h0 (h1.trans (Nat.zero_add _).symm), v0']
    exact v_at m c t (cutV0 _) _ 0 _ (PV_at m c t) one_at (cutV0_at _) x0 x1

theorem emb11 (y : ((cfg0.win 11).xblock (cfg0.grid.coords t)).Idx) (l : Fin 1024) (r : Fin 1024) (h0 : (y 0).val = l.val) (h1 : (y 1).val = r.val) :
    ((View.whole main_v53_3).slice (win0_11.rect t)).emb y = ix2 l (rowOf t r) := by
  blk_ext [rowOf, idx t]

set_option maxHeartbeats 3200000 in
theorem final11 : (dats m 0 c).arrAt 11 (cfgs 0).N = QT (arr m c) := by
  refine (dats m 0 c).arrAt_eq_of_covers 11 _ (by decide +kernel) fun t _ y => ?_
  blk_simp
  rw [after0_11]
  unfold out0_11 k0_pay58 k0_pay57 k0_pay53 k0_pay52 k0_pay51 k0_pay50
  canon_tiles x h
  · idx_vars x
    rw [emb11 t y (lane 7 x0) x1 h0 h1, t7]
    exact qt_at m c t _ _ _ (cutQ7 _) _ 7 (tab1 m c t) (tab2 m c t) (tab3 m c t) (PQ_at m c t) (cutQ7_at _) x0 x1
  · idx_vars x
    rw [emb11 t y (lane 6 x0) x1 h0 h1, t6]
    exact qt_at m c t _ _ _ (cutQ6 _) _ 6 (tab1 m c t) (tab2 m c t) (tab3 m c t) (PQ_at m c t) (cutQ6_at _) x0 x1
  · idx_vars x
    rw [emb11 t y (lane 5 x0) x1 h0 h1, t5]
    exact qt_at m c t _ _ _ (cutQ5 _) _ 5 (tab1 m c t) (tab2 m c t) (tab3 m c t) (PQ_at m c t) (cutQ5_at _) x0 x1
  · idx_vars x
    rw [emb11 t y (lane 4 x0) x1 h0 h1, t4]
    exact qt_at m c t _ _ _ (cutQ4 _) _ 4 (tab1 m c t) (tab2 m c t) (tab3 m c t) (PQ_at m c t) (cutQ4_at _) x0 x1
  · idx_vars x
    rw [emb11 t y (lane 3 x0) x1 h0 h1, t3]
    exact qt_at m c t _ _ _ (cutQ3 _) _ 3 (tab1 m c t) (tab2 m c t) (tab3 m c t) (PQ_at m c t) (cutQ3_at _) x0 x1
  · idx_vars x
    rw [emb11 t y (lane 2 x0) x1 h0 h1, t2]
    exact qt_at m c t _ _ _ (cutQ2 _) _ 2 (tab1 m c t) (tab2 m c t) (tab3 m c t) (PQ_at m c t) (cutQ2_at _) x0 x1
  · idx_vars x
    rw [emb11 t y (lane 1 x0) x1 h0 h1, t1]
    exact qt_at m c t _ _ _ (cutQ1 _) _ 1 (tab1 m c t) (tab2 m c t) (tab3 m c t) (PQ_at m c t) (cutQ1_at _) x0 x1
  · idx_vars x
    rw [emb11 t y (lane 0 x0) x1 (h0.trans (Nat.zero_add _).symm) h1, t0]
    exact qt_at m c t _ _ _ (cutQ0 _) _ 0 (tab1 m c t) (tab2 m c t) (tab3 m c t) (PQ_at m c t) (cutQ0_at _) x0 x1

end Cert.QkvIdeal.Heads
end
-- ==== Proof.QkvRef.lean ====
module

public import proofs.«01_k».proof.Proof.QkvHost
public import proofs.«01_k».proof.Proof.Gen.QkvRefIdeal.Read

@[expose] public section

set_option maxRecDepth 16384

noncomputable section

open Idealize.ShloMosaic Idealize.ShloMosaic.TcCoe Idealize.SL.Sem
open Idealize.ShloMosaic.Pipeline (Dat)

/-! The reference's query, key and value, lane by lane of their heads. -/

namespace Cert.QkvClaims

open Cert.QkvRefIdeal Cert.QkvRefIdeal.Gen Cert.QkvRefIdeal.Read
open Cert.QkIdeal.Grad (tabC tabA tabB cosOf sinOf angle hd ln lane hd_lane ln_lane back fwd)
open Cert.QkvIdeal.Heads (Arr colQ colK colV SM Q K U QT)

theorem angle_at (r : Fin 8192) (k : Fin 16) : val_main_v15 (F := Ideal) (ix2 r k) = angle (ix2 r k) := by
  pointwise [val_main_v15, val_main_v14, val_main_v13, val_main_v12, val_main_v11, val_main_v10, val_main_v9, val_main_cst_2, val_main_v8,
    val_main_v7, val_main_cst_1, val_main_v6, val_main_v5, val_main_v4, val_main_cst_0, val_main_v3, val_main_v2, val_main_cst, val_main_v1,
    val_main_v0, angle]

theorem cat_at (r : Fin 8192) (k : Fin 32) : val_main_v16 (F := Ideal) (ix2 r k)
    = if e : k.val < 16 then angle (ix2 r ⟨k.val, e⟩) else angle (ix2 r ⟨k.val - 16, by omega⟩) := by
  simp only [← angle_at]
  unfold val_main_v16
  generalize val_main_v15 (F := Ideal) = y
  pointwise

theorem cos_at (r : Fin 8192) (h : Fin 8) (k : Fin 32) : val_main_v25 (F := Ideal) (ix3 r h k)
    = if e : k.val < 16 then cosOf r ⟨k.val, e⟩ else cosOf r ⟨k.val - 16, by omega⟩ := by
  have := cat_at r k
  pointwise [val_main_v25, val_main_v24, val_main_v17]
  rw [this]
  split_ifs <;> rfl

theorem sin_at (r : Fin 8192) (h : Fin 8) (k : Fin 32) : val_main_v33 (F := Ideal) (ix3 r h k)
    = if e : k.val < 16 then sinOf r ⟨k.val, e⟩ else sinOf r ⟨k.val - 16, by omega⟩ := by
  have := cat_at r k
  pointwise [val_main_v33, val_main_v32, val_main_v18]
  rw [this]
  split_ifs <;> rfl

variable (x0 : FVec Ideal S8192x256 .f32) (x1 : FVec Ideal S8192x128 .f32) (x2 : FVec Ideal S8192x32 .f32) (x3 : FVec Ideal S256x768 .f32)
  (x4 : FVec Ideal S128x1024 .f32)

/-- The five arguments as one. -/
abbrev A : Arr := ⟨x0, x1, x2, x3, x4⟩

variable (r : Fin 8192) (h : Fin 8)

/-- The products, head by head. -/
theorem q_in (k : Fin 96) : (val_main_v20 (F := Ideal) x0 x3 (ix3 r h k) : EReal) = (A x0 x1 x2 x3 x4).zq r h ⟨k.val, by omega⟩ := by
  have e : ∀ l : Fin 768, (val_main_v19 (F := Ideal) x0 x3 (ix2 r l) : EReal) = ∑ k : Fin 256, x0 (ix2 r k) * x3 (ix2 k l) := fun l => by
    pointwise [val_main_v19]
  unfold val_main_v20
  generalize val_main_v19 (F := Ideal) x0 x3 = y at *
  pointwise
  rw [e]
  unfold Arr.zq colQ
  refine Finset.sum_congr rfl fun j _ => ?_
  rw [dif_pos (show k.val < 96 from k.isLt)]
  simp only [mul_comm h.val]

theorem kv_in (k : Fin 128) : (val_main_v22 (F := Ideal) x1 x4 (ix3 r h k) : EReal) = ∑ j : Fin 128, x1 (ix2 r j) * x4 (ix2 j ⟨128 * h.val + k.val, by omega⟩) := by
  have e : ∀ l : Fin 1024, (val_main_v21 (F := Ideal) x1 x4 (ix2 r l) : EReal) = ∑ k : Fin 128, x1 (ix2 r k) * x4 (ix2 k l) := fun l => by
    pointwise [val_main_v21]
  unfold val_main_v22
  generalize val_main_v21 (F := Ideal) x1 x4 = y at *
  pointwise
  rw [e]
  simp only [mul_comm h.val]

theorem zq_out (d : Fin 128) (e : ¬ d.val < 96) : (A x0 x1 x2 x3 x4).zq r h d = 0 := by
  unfold Arr.zq colQ
  refine Finset.sum_eq_zero fun k _ => ?_
  rw [dif_neg e, mul_zero]

/-- The lanes to be turned, and the same with the halves exchanged. -/
theorem pos_at (k : Fin 32) : (val_main_v23 (F := Ideal) x0 x3 (ix3 r h k) : EReal) = (A x0 x1 x2 x3 x4).zq r h ⟨k.val + 64, by omega⟩ := by
  refine Eq.trans ?_ (q_in x0 x1 x2 x3 x4 r h ⟨k.val + 64, by omega⟩)
  unfold val_main_v23
  generalize val_main_v20 (F := Ideal) x0 x3 = y
  pointwise
  exact congrArg (fun i => y (ix3 r h i)) (Fin.ext (Nat.add_comm _ _))

theorem swap_at (k : Fin 32) : (val_main_v31 (F := Ideal) x0 x3 (ix3 r h k) : EReal)
    = if e : k.val < 16 then -(A x0 x1 x2 x3 x4).zq r h ⟨k.val + 16 + 64, by omega⟩ else (A x0 x1 x2 x3 x4).zq r h ⟨k.val - 16 + 64, by omega⟩ := by
  have p : ∀ k : Fin 32, (val_main_v27 (F := Ideal) x0 x3 (ix3 r h k) : EReal) = _ := fun k => pos_at x0 x1 x2 x3 x4 r h k
  unfold val_main_v31 val_main_v30 val_main_v29 val_main_v28
  generalize val_main_v27 (F := Ideal) x0 x3 = y at *
  by_cases e : k.val < 16
  · rw [dif_pos e]
    refine Eq.trans ?_ (congrArg (fun z : EReal => -z) (p ⟨k.val + 16, by omega⟩))
    pointwise
    rw [dif_pos e]
    simp only [Nat.add_comm 16]
  · rw [dif_neg e]
    refine Eq.trans ?_ (p ⟨k.val - 16, by omega⟩)
    pointwise
    rw [dif_neg e]

/-- The query before its scale. -/
abbrev turned (d : Fin 128) : EReal := (A x0 x1 x2 x3 x4).zq r h d * tabC r d + (A x0 x1 x2 x3 x4).zq r h (fwd d) * tabA r d + (A x0 x1 x2 x3 x4).zq r h (back d) * tabB r d

theorem turned_at (k : Fin 32) : (val_main_v35 (F := Ideal) x0 x3 (ix3 r h k) : EReal) = turned x0 x1 x2 x3 x4 r h ⟨k.val + 64, by omega⟩ := by
  have e : (val_main_v35 (F := Ideal) x0 x3 (ix3 r h k) : EReal) = val_main_v23 (F := Ideal) x0 x3 (ix3 r h k) * val_main_v25 (F := Ideal) (ix3 r h k)
      + val_main_v31 (F := Ideal) x0 x3 (ix3 r h k) * val_main_v33 (F := Ideal) (ix3 r h k) := rfl
  rw [e, pos_at x0 x1 x2 x3 x4, swap_at x0 x1 x2 x3 x4, cos_at, sin_at]
  by_cases h1 : k.val < 16
  · simp only [dif_pos h1]
    have hB : tabB r ⟨k.val + 64, by omega⟩ = 0 := by
      unfold tabB
      rw [if_neg (by dsimp only; omega), if_pos (by dsimp only; omega)]
    have hA : tabA r ⟨k.val + 64, by omega⟩ = -sinOf r ⟨k.val, h1⟩ := by
      unfold tabA
      rw [if_neg (by dsimp only; omega), dif_pos (by dsimp only; omega)]
      exact congrArg (fun k => -sinOf r k) (Fin.ext (Nat.add_sub_cancel k.val 64))
    have hC : tabC r ⟨k.val + 64, by omega⟩ = cosOf r ⟨k.val, h1⟩ := by
      unfold tabC
      rw [if_neg (by dsimp only; omega), dif_pos (by dsimp only; omega)]
      exact congrArg (cosOf r) (Fin.ext (Nat.add_sub_cancel k.val 64))
    have hf : fwd ⟨k.val + 64, by omega⟩ = ⟨k.val + 16 + 64, by omega⟩ := Fin.ext (by unfold fwd; dsimp only; omega)
    rw [turned, hA, hB, hC, hf, mul_zero, add_zero, neg_mul, mul_neg]
  · simp only [dif_neg h1]
    have hB : tabB r ⟨k.val + 64, by omega⟩ = sinOf r ⟨k.val - 16, by omega⟩ := by
      unfold tabB
      rw [if_neg (by dsimp only; omega), if_neg (by dsimp only; omega), dif_pos (by dsimp only; omega)]
      exact congrArg (sinOf r) (Fin.ext (by dsimp only; omega))
    have hA : tabA r ⟨k.val + 64, by omega⟩ = 0 := by
      unfold tabA
      rw [if_neg (by dsimp only; omega), dif_neg (by dsimp only; omega)]
    have hC : tabC r ⟨k.val + 64, by omega⟩ = cosOf r ⟨k.val - 16, by omega⟩ := by
      unfold tabC
      rw [if_neg (by dsimp only; omega), dif_neg (by dsimp only; omega), dif_pos (by dsimp only; omega)]
      exact congrArg (cosOf r) (Fin.ext (by dsimp only; omega))
    have hb : back ⟨k.val + 64, by omega⟩ = ⟨k.val - 16 + 64, by omega⟩ := Fin.ext (by unfold back; dsimp only; omega)
    rw [turned, hA, hB, hC, hb, mul_zero, add_zero]

/-- A head's 128 lanes in three pieces. -/
def three (x : FVec Ideal S8192x8x64 .f32) (y z : FVec Ideal S8192x8x32 .f32) : FVec Ideal S8192x8x128 .f32 :=
  concatenate S8192x8x128 2 [⟨S8192x8x64, x⟩, ⟨S8192x8x32, y⟩, ⟨S8192x8x32, z⟩] concatenates_S8192x8x64_S8192x8x32_S8192x8x32_S8192x8x128_d2
theorem three_apply (x : FVec Ideal S8192x8x64 .f32) (y z : FVec Ideal S8192x8x32 .f32) (d : Fin 128) : three x y z (ix3 r h d)
    = if e : d.val < 64 then x (ix3 r h ⟨d.val, e⟩) else if e : d.val - 64 < 32 then y (ix3 r h ⟨d.val - 64, e⟩) else z (ix3 r h ⟨d.val - 64 - 32, by omega⟩) := by
  unfold three
  pointwise
def ones (x : FVec Ideal S8192x8x64 .f32) (y : FVec Ideal S8192x8x1 .f32) (z : FVec Ideal S8192x8x63 .f32) : FVec Ideal S8192x8x128 .f32 :=
  concatenate S8192x8x128 2 [⟨S8192x8x64, x⟩, ⟨S8192x8x1, y⟩, ⟨S8192x8x63, z⟩] concatenates_S8192x8x64_S8192x8x1_S8192x8x63_S8192x8x128_d2
theorem ones_apply (x : FVec Ideal S8192x8x64 .f32) (y : FVec Ideal S8192x8x1 .f32) (z : FVec Ideal S8192x8x63 .f32) (d : Fin 128) : ones x y z (ix3 r h d)
    = if e : d.val < 64 then x (ix3 r h ⟨d.val, e⟩) else if e : d.val - 64 < 1 then y (ix3 r h ⟨d.val - 64, e⟩) else z (ix3 r h ⟨d.val - 64 - 1, by omega⟩) := by
  unfold ones
  pointwise

theorem zeros_at (k : Fin 32) : (val_main_v36 (F := Ideal) (ix3 r h k) : EReal) = 0 := by
  pointwise [val_main_v36, val_main_cst_3]

/-- The whole head's query. -/
theorem q_lane (d : Fin 128) : (val_main_v40 (F := Ideal) x0 x3 (ix3 r h d) : EReal) = turned x0 x1 x2 x3 x4 r h d := by
  have p : ∀ k : Fin 64, (val_main_v39 (F := Ideal) x0 x3 (ix3 r h k) : EReal) = (A x0 x1 x2 x3 x4).zq r h ⟨k.val, by omega⟩ := fun k => by
    refine Eq.trans ?_ (q_in x0 x1 x2 x3 x4 r h ⟨k.val, by omega⟩)
    unfold val_main_v39
    generalize val_main_v20 (F := Ideal) x0 x3 = y
    pointwise
  refine (three_apply r h (val_main_v39 (F := Ideal) x0 x3) (val_main_v35 (F := Ideal) x0 x3) (val_main_v36 (F := Ideal)) d).trans ?_
  by_cases h1 : d.val < 64
  · rw [dif_pos h1, p]
    have hA : tabA r d = 0 := by unfold tabA; rw [if_pos h1]
    have hB : tabB r d = 0 := by unfold tabB; rw [if_pos h1]
    have hC : tabC r d = 1 := by unfold tabC; rw [if_pos h1]
    rw [turned, hA, hB, hC, mul_one, mul_zero, mul_zero, add_zero, add_zero]
  · by_cases h2 : d.val - 64 < 32
    · rw [dif_neg h1, dif_pos h2, turned_at x0 x1 x2 x3 x4]
      exact congrArg (turned x0 x1 x2 x3 x4 r h) (Fin.ext (by dsimp only; omega))
    · rw [dif_neg h1, dif_neg h2, zeros_at]
      have hA : tabA r d = 0 := by
        unfold tabA
        split_ifs <;> first | rfl | omega
      have hB : tabB r d = 0 := by
        unfold tabB
        split_ifs <;> first | rfl | omega
      rw [turned, hA, hB, zq_out x0 x1 x2 x3 x4 r h d (by omega), zero_mul, mul_zero, mul_zero, add_zero, add_zero]

/-- An array of heads as an array of columns. -/
theorem flat (y : FVec Ideal S8192x8x128 .f32) (l : Fin 1024) : shapeCast S8192x1024 y shapeCasts_S8192x8x128_S8192x1024 (ix2 r l) = y (ix3 r (hd l) (ln l)) := by
  pointwise [hd, ln]

/-- The query. -/
theorem q_entry (l : Fin 1024) : (val_main_v44 (F := Ideal) x0 x3 (ix2 r l) : EReal) = (A x0 x1 x2 x3 x4).qh r (hd l) (ln l) := by
  have e : (val_main_v44 (F := Ideal) x0 x3 (ix2 r l) : EReal) = val_main_v42 (F := Ideal) x0 x3 (ix3 r (hd l) (ln l)) := flat r (val_main_v42 (F := Ideal) x0 x3) l
  have e1 : (val_main_v42 (F := Ideal) x0 x3 (ix3 r (hd l) (ln l)) : EReal) = val_main_v40 (F := Ideal) x0 x3 (ix3 r (hd l) (ln l)) * SM := rfl
  rw [e, e1, q_lane x0 x1 x2 x3 x4]
  rfl

theorem ref_q : val_main_v44 (F := Ideal) x0 x3 = Q (A x0 x1 x2 x3 x4) := by
  funext i
  obtain ⟨r, l, rfl⟩ : ∃ r l, i = ix2 r l := ⟨i 0, i 1, eq_ix2 i⟩
  exact q_entry x0 x1 x2 x3 x4 r l

theorem ref_qt : val_main_v55 (F := Ideal) x0 x3 = QT (A x0 x1 x2 x3 x4) := by
  funext i
  obtain ⟨l, r, rfl⟩ : ∃ l r, i = ix2 l r := ⟨i 0, i 1, eq_ix2 i⟩
  refine Eq.trans ?_ (q_entry x0 x1 x2 x3 x4 r l)
  unfold val_main_v55
  generalize val_main_v44 (F := Ideal) x0 x3 = y
  pointwise

/-- The key. -/
theorem ref_k : val_main_v53 (F := Ideal) x1 x2 x4 = K (A x0 x1 x2 x3 x4) := by
  funext i
  obtain ⟨r, l, rfl⟩ : ∃ r l, i = ix2 r l := ⟨i 0, i 1, eq_ix2 i⟩
  have e : (val_main_v53 (F := Ideal) x1 x2 x4 (ix2 r l) : EReal) = val_main_v48 (F := Ideal) x1 x2 x4 (ix3 r (hd l) (ln l)) := flat r (val_main_v48 (F := Ideal) x1 x2 x4) l
  have p : ∀ (h : Fin 8) (k : Fin 64), (val_main_v45 (F := Ideal) x1 x4 (ix3 r h k) : EReal) = val_main_v22 (F := Ideal) x1 x4 (ix3 r h ⟨k.val, by omega⟩) := fun h k => by
    unfold val_main_v45
    generalize val_main_v22 (F := Ideal) x1 x4 = y
    pointwise
  have s : ∀ (h : Fin 8) (k : Fin 32), (val_main_v47 (F := Ideal) x2 (ix3 r h k) : EReal) = x2 (ix2 r k) := fun h k => by
    pointwise [val_main_v47, val_main_v46]
  refine e.trans ((three_apply r (hd l) (val_main_v45 (F := Ideal) x1 x4) (val_main_v47 (F := Ideal) x2) (val_main_v36 (F := Ideal)) (ln l)).trans ?_)
  show _ = (A x0 x1 x2 x3 x4).zk r (hd l) (ln l) + (A x0 x1 x2 x3 x4).kl r (ln l)
  generalize hd l = h
  generalize ln l = d
  unfold Arr.zk Arr.kl colK
  by_cases h1 : d.val < 64
  · simp only [dif_pos h1, if_pos h1]
    rw [p, kv_in, add_zero]
  · simp only [dif_neg h1, if_neg h1, mul_zero, Finset.sum_const_zero, zero_add]
    by_cases h2 : d.val - 64 < 32
    · rw [dif_pos h2, dif_pos h2, s]
    · rw [dif_neg h2, dif_neg h2, zeros_at]

/-- The value. -/
theorem ref_v : val_main_v54 (F := Ideal) x1 x4 = U (A x0 x1 x2 x3 x4) := by
  funext i
  obtain ⟨r, l, rfl⟩ : ∃ r l, i = ix2 r l := ⟨i 0, i 1, eq_ix2 i⟩
  have e : (val_main_v54 (F := Ideal) x1 x4 (ix2 r l) : EReal) = val_main_v51 (F := Ideal) x1 x4 (ix3 r (hd l) (ln l)) := flat r (val_main_v51 (F := Ideal) x1 x4) l
  have p : ∀ (h : Fin 8) (k : Fin 64), (val_main_v50 (F := Ideal) x1 x4 (ix3 r h k) : EReal) = val_main_v22 (F := Ideal) x1 x4 (ix3 r h ⟨64 + k.val, by omega⟩) := fun h k => by
    unfold val_main_v50
    generalize val_main_v22 (F := Ideal) x1 x4 = y
    pointwise
  have s1 : ∀ (h : Fin 8) (k : Fin 1), (val_main_v37 (F := Ideal) (ix3 r h k) : EReal) = 1 := fun h k => by
    pointwise [val_main_v37, val_main_cst_4]
  have s0 : ∀ (h : Fin 8) (k : Fin 63), (val_main_v38 (F := Ideal) (ix3 r h k) : EReal) = 0 := fun h k => by
    pointwise [val_main_v38, val_main_cst_5]
  refine e.trans ((ones_apply r (hd l) (val_main_v50 (F := Ideal) x1 x4) (val_main_v37 (F := Ideal)) (val_main_v38 (F := Ideal)) (ln l)).trans ?_)
  show _ = (A x0 x1 x2 x3 x4).zv r (hd l) (ln l) + if (ln l).val = 64 then 1 else 0
  generalize hd l = h
  generalize ln l = d
  unfold Arr.zv colV
  by_cases h1 : d.val < 64
  · simp only [dif_pos h1]
    rw [p, kv_in, if_neg (by omega), add_zero]
  · simp only [dif_neg h1, mul_zero, Finset.sum_const_zero, zero_add]
    by_cases h2 : d.val - 64 < 1
    · rw [dif_pos h2, s1, if_pos (by omega)]
    · rw [dif_neg h2, s0, if_neg (by omega)]

end Cert.QkvClaims
end
-- ==== Proof.Qkv.lean ====
module

public import proofs.«01_k».proof.Proof.QkvValue
public import proofs.«01_k».proof.Proof.QkvRef
public import proofs.«01_k».proof.Proof.Gen.Qkv.Frame
public import proofs.«01_k».proof.Proof.Gen.QkvRefIdeal.Run
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The claims about the query, the key and the value of the attention. -/

namespace Cert.QkvClaims

open Cert.QkvIdeal.Heads (arr Q K U QT final8 final9 final10 final11)

/-- The first program's frame. -/
theorem frame_kernel : Cert.quiescent_Qkv := fun m ρ _ => Cert.Qkv.Gen.frame m ρ

/-- The ideal program's frame. -/
theorem frame_ideal : Cert.quiescent_QkvIdeal := fun m ρ _ => Cert.QkvIdeal.Gen.frame m ρ

/-- The reference's frame. -/
theorem frame_ref : Cert.quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run m ρ)

/-- All four results are the reference's. -/
theorem algebraic : Cert.algebraic_QkvIdeal_QkvRefIdeal := by
  intro m g m' g' _ hag
  refine ⟨fun c => Q (arr m c), fun c => K (arr m c), fun c => U (arr m c), fun c => QT (arr m c), ?_, ?_⟩
  · exact (θ_run _ _ _).mono (fun r h c => ⟨(Cert.QkvIdeal.Value.post8 m r h c).trans (final8 m c),
      (Cert.QkvIdeal.Value.post9 m r h c).trans (final9 m c), (Cert.QkvIdeal.Value.post10 m r h c).trans (final10 m c),
      (Cert.QkvIdeal.Value.post11 m r h c).trans (final11 m c), Cert.QkvIdeal.Value.kept_main_arg0 m r h c,
      Cert.QkvIdeal.Value.kept_main_arg1 m r h c, Cert.QkvIdeal.Value.kept_main_arg2 m r h c,
      Cert.QkvIdeal.Value.kept_main_arg3 m r h c, Cert.QkvIdeal.Value.kept_main_arg4 m r h c⟩) (Cert.QkvIdeal.Gen.run_main m g)
  · refine (θ_run _ _ _).mono (fun r h c => ⟨(h c).1.trans ?_, (h c).2.1.trans ?_, (h c).2.2.1.trans ?_, (h c).2.2.2.1.trans ?_, (h c).2.2.2.2⟩)
      (Cert.QkvRefIdeal.Value.run m' g')
    · obtain ⟨a0, a1, a2, a3, a4⟩ := hag c
      rw [Cert.QkvRefIdeal.Read.val_main_v44_eq, a0, a3]
      exact ref_q _ (arr m c).kv (arr m c).kr _ (arr m c).wkv
    · obtain ⟨a0, a1, a2, a3, a4⟩ := hag c
      rw [Cert.QkvRefIdeal.Read.val_main_v53_eq, a1, a2, a4]
      exact ref_k (arr m c).q _ _ (arr m c).wq _
    · obtain ⟨a0, a1, a2, a3, a4⟩ := hag c
      rw [Cert.QkvRefIdeal.Read.val_main_v54_eq, a1, a4]
      exact ref_v (arr m c).q _ (arr m c).kr (arr m c).wq _
    · obtain ⟨a0, a1, a2, a3, a4⟩ := hag c
      rw [Cert.QkvRefIdeal.Read.val_main_v55_eq, a0, a3]
      exact ref_qt _ (arr m c).kv (arr m c).kr _ (arr m c).wkv

end Cert.QkvClaims
end
-- ==== Proof.lean ====
module

public import proofs.«01_k».proof.Proof.Dn3
public import proofs.«01_k».proof.Proof.Att
public import proofs.«01_k».proof.Proof.Dhf
public import proofs.«01_k».proof.Proof.Ple
public import proofs.«01_k».proof.Proof.Qk
public import proofs.«01_k».proof.Proof.Pre
public import proofs.«01_k».proof.Proof.In
public import proofs.«01_k».proof.Proof.Down
public import proofs.«01_k».proof.Proof.Mo
public import proofs.«01_k».proof.Proof.Qkv
public import proofs.«01_k».proof.Defs
public import proofs.«01_k».proof.Proof.Gen.Dn3
public import proofs.«01_k».proof.Proof.Gen.Dn3Ideal
public import proofs.«01_k».proof.Proof.Gen.Dn3RefIdeal
public import proofs.«01_k».proof.Proof.Gen.Att
public import proofs.«01_k».proof.Proof.Gen.AttIdeal
public import proofs.«01_k».proof.Proof.Gen.AttRefIdeal
public import proofs.«01_k».proof.Proof.Gen.Dhf
public import proofs.«01_k».proof.Proof.Gen.DhfIdeal
public import proofs.«01_k».proof.Proof.Gen.DhfRefIdeal
public import proofs.«01_k».proof.Proof.Gen.Ple
public import proofs.«01_k».proof.Proof.Gen.PleIdeal
public import proofs.«01_k».proof.Proof.Gen.PleRefIdeal
public import proofs.«01_k».proof.Proof.Gen.Qk
public import proofs.«01_k».proof.Proof.Gen.QkIdeal
public import proofs.«01_k».proof.Proof.Gen.QkRefIdeal
public import proofs.«01_k».proof.Proof.Gen.Pre
public import proofs.«01_k».proof.Proof.Gen.PreIdeal
public import proofs.«01_k».proof.Proof.Gen.PreRefIdeal
public import proofs.«01_k».proof.Proof.Gen.In
public import proofs.«01_k».proof.Proof.Gen.InIdeal
public import proofs.«01_k».proof.Proof.Gen.InRefIdeal
public import proofs.«01_k».proof.Proof.Gen.Down
public import proofs.«01_k».proof.Proof.Gen.DownIdeal
public import proofs.«01_k».proof.Proof.Gen.DownRefIdeal
public import proofs.«01_k».proof.Proof.Gen.Mo
public import proofs.«01_k».proof.Proof.Gen.MoIdeal
public import proofs.«01_k».proof.Proof.Gen.MoRefIdeal
public import proofs.«01_k».proof.Proof.Gen.Qkv
public import proofs.«01_k».proof.Proof.Gen.QkvIdeal
public import proofs.«01_k».proof.Proof.Gen.QkvRefIdeal
public import proofs.«01_k».proof.Proof.Gen.Pre_finite_dn3
public import proofs.«01_k».proof.Proof.Gen.Pre_finite_att
public import proofs.«01_k».proof.Proof.Gen.Pre_finite_dhf
public import proofs.«01_k».proof.Proof.Gen.Pre_finite_ple

@[expose] public section

noncomputable section

namespace Cert.Proof

open Idealize.ShloMosaic Idealize.SL.Sem

/-- Everything the certificate claims. -/
theorem claim : Cert.Claim :=
  ⟨Cert.Dn3.Gen.facts,
    Cert.Dn3Ideal.Gen.facts,
    Cert.Dn3RefIdeal.Gen.facts,
    Cert.Att.Gen.facts,
    Cert.AttIdeal.Gen.facts,
    Cert.AttRefIdeal.Gen.facts,
    Cert.Dhf.Gen.facts,
    Cert.DhfIdeal.Gen.facts,
    Cert.DhfRefIdeal.Gen.facts,
    Cert.Ple.Gen.facts,
    Cert.PleIdeal.Gen.facts,
    Cert.PleRefIdeal.Gen.facts,
    Cert.Qk.Gen.facts,
    Cert.QkIdeal.Gen.facts,
    Cert.QkRefIdeal.Gen.facts,
    Cert.Pre.Gen.facts,
    Cert.PreIdeal.Gen.facts,
    Cert.PreRefIdeal.Gen.facts,
    Cert.In.Gen.facts,
    Cert.InIdeal.Gen.facts,
    Cert.InRefIdeal.Gen.facts,
    Cert.Down.Gen.facts,
    Cert.DownIdeal.Gen.facts,
    Cert.DownRefIdeal.Gen.facts,
    Cert.Mo.Gen.facts,
    Cert.MoIdeal.Gen.facts,
    Cert.MoRefIdeal.Gen.facts,
    Cert.Qkv.Gen.facts,
    Cert.QkvIdeal.Gen.facts,
    Cert.QkvRefIdeal.Gen.facts,
    Cert.Pre_finite_dn3.Gen.facts,
    Cert.Pre_finite_att.Gen.facts,
    Cert.Pre_finite_dhf.Gen.facts,
    Cert.Pre_finite_ple.Gen.facts,
    Cert.Dn3Claims.frame_kernel,
    Cert.Dn3Claims.frame_ideal,
    (fun m g _ => Cert.Dn3Claims.frame_ideal m g trivial),
    Cert.Dn3Claims.frame_ref,
    (fun m g _ => Cert.Dn3Claims.frame_ref m g trivial),
    Cert.AttClaims.frame_kernel,
    Cert.AttClaims.frame_ideal,
    (fun m g _ => Cert.AttClaims.frame_ideal m g trivial),
    Cert.AttClaims.frame_ref,
    (fun m g _ => Cert.AttClaims.frame_ref m g trivial),
    Cert.DhfClaims.frame_kernel,
    Cert.DhfClaims.frame_ideal,
    (fun m g _ => Cert.DhfClaims.frame_ideal m g trivial),
    Cert.DhfClaims.frame_ref,
    (fun m g _ => Cert.DhfClaims.frame_ref m g trivial),
    Cert.PleClaims.frame_kernel,
    Cert.PleClaims.frame_ideal,
    (fun m g _ => Cert.PleClaims.frame_ideal m g trivial),
    Cert.PleClaims.frame_ref,
    (fun m g _ => Cert.PleClaims.frame_ref m g trivial),
    Cert.QkClaims.frame_kernel,
    Cert.QkClaims.frame_ideal,
    Cert.QkClaims.frame_ref,
    Cert.PreClaims.frame_kernel,
    Cert.PreClaims.frame_ideal,
    Cert.PreClaims.frame_ref,
    Cert.InClaims.frame_kernel,
    Cert.InClaims.frame_ideal,
    Cert.InClaims.frame_ref,
    Cert.DownClaims.frame_kernel,
    Cert.DownClaims.frame_ideal,
    Cert.DownClaims.frame_ref,
    Cert.MoClaims.frame_kernel,
    Cert.MoClaims.frame_ideal,
    Cert.MoClaims.frame_ref,
    Cert.QkvClaims.frame_kernel,
    Cert.QkvClaims.frame_ideal,
    Cert.QkvClaims.frame_ref,
    trivial,
    Cert.Dn3Claims.algebraic,
    trivial,
    Cert.AttClaims.algebraic,
    trivial,
    Cert.DhfClaims.algebraic,
    trivial,
    Cert.PleClaims.algebraic,
    trivial,
    Cert.QkClaims.algebraic,
    trivial,
    Cert.PreClaims.algebraic,
    trivial,
    Cert.InClaims.algebraic,
    trivial,
    Cert.DownClaims.algebraic,
    trivial,
    Cert.MoClaims.algebraic,
    trivial,
    Cert.QkvClaims.algebraic⟩

end Cert.Proof

end
